-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_Experts [hPre_experts_exist : Cert.Pre_experts_exist.Facts] (m : (ℓ : Loc Cert.Experts.nD Cert.Experts.τ Cert.Experts.sig) → Buf (Elt Bits) ℓ) : Prop :=
  ∀ c : Dev Cert.Experts.nD,
    (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_experts_exist.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_experts_exist : Cert.Pre_experts_exist.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_experts_exist.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_exist [hPre_experts_exist : Cert.Pre_experts_exist.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_exist.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).1 = (fun _ => 1#1)
    ∧ (Cert.Pre_experts_exist.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2 = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsRefIdeal (m : (ℓ : Loc Cert.HeadsRefIdeal.nD Cert.HeadsRefIdeal.τ Cert.HeadsRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_finite_prompt [hPre_finite_prompt : Cert.Pre_finite_prompt.Facts] (m : (ℓ : Loc Cert.PromptIdeal.nD Cert.PromptIdeal.τ Cert.PromptIdeal.sig) → Buf (Elt Ideal) ℓ) : Prop :=
  ∀ c : Dev Cert.PromptIdeal.nD,
    (Cert.Pre_finite_prompt.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5))).1 = (fun _ => 1#1)
    ∧ (Cert.Pre_finite_prompt.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5))).2 = (fun _ => 1#1)

def Pre_PromptRefIdeal (m : (ℓ : Loc Cert.PromptRefIdeal.nD Cert.PromptRefIdeal.τ Cert.PromptRefIdeal.sig) → Buf (Elt Ideal) ℓ) : Prop :=
  True

def Pre_PromptRefIdeal_finite_prompt [hPre_finite_prompt : Cert.Pre_finite_prompt.Facts] (m : (ℓ : Loc Cert.PromptRefIdeal.nD Cert.PromptRefIdeal.τ Cert.PromptRefIdeal.sig) → Buf (Elt Ideal) ℓ) : Prop :=
  ∀ c : Dev Cert.PromptRefIdeal.nD,
    (Cert.Pre_finite_prompt.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5))).1 = (fun _ => 1#1)
    ∧ (Cert.Pre_finite_prompt.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Experts [hExperts : Cert.Experts.Facts] [hPre_experts_exist : Cert.Pre_experts_exist.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_experts_exist [hExpertsRefIdeal : Cert.ExpertsRefIdeal.Facts] [hPre_experts_exist : Cert.Pre_experts_exist.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_exist m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6)
      ∧ r.2.mem ((c.tc : Thread Cert.Heads.nD Cert.Heads.τ).loc Cert.Heads.main_arg7) = m ((c.tc : Thread Cert.Heads.nD Cert.Heads.τ).loc Cert.Heads.main_arg7)
      ∧ r.2.mem ((c.tc : Thread Cert.Heads.nD Cert.Heads.τ).loc Cert.Heads.main_arg8) = m ((c.tc : Thread Cert.Heads.nD Cert.Heads.τ).loc Cert.Heads.main_arg8)
      ∧ r.2.mem ((c.tc : Thread Cert.Heads.nD Cert.Heads.τ).loc Cert.Heads.main_arg9) = m ((c.tc : Thread Cert.Heads.nD Cert.Heads.τ).loc Cert.Heads.main_arg9)
      ∧ r.2.mem ((c.tc : Thread Cert.Heads.nD Cert.Heads.τ).loc Cert.Heads.main_arg10) = m ((c.tc : Thread Cert.Heads.nD Cert.Heads.τ).loc Cert.Heads.main_arg10)
      ∧ r.2.mem ((c.tc : Thread Cert.Heads.nD Cert.Heads.τ).loc Cert.Heads.main_arg11) = m ((c.tc : Thread Cert.Heads.nD Cert.Heads.τ).loc Cert.Heads.main_arg11)
      ∧ r.2.mem ((c.tc : Thread Cert.Heads.nD Cert.Heads.τ).loc Cert.Heads.main_arg12) = m ((c.tc : Thread Cert.Heads.nD Cert.Heads.τ).loc Cert.Heads.main_arg12))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
      ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8)
      ∧ r.2.mem ((c.tc : Thread Cert.HeadsIdeal.nD Cert.HeadsIdeal.τ).loc Cert.HeadsIdeal.main_arg9) = m ((c.tc : Thread Cert.HeadsIdeal.nD Cert.HeadsIdeal.τ).loc Cert.HeadsIdeal.main_arg9)
      ∧ r.2.mem ((c.tc : Thread Cert.HeadsIdeal.nD Cert.HeadsIdeal.τ).loc Cert.HeadsIdeal.main_arg10) = m ((c.tc : Thread Cert.HeadsIdeal.nD Cert.HeadsIdeal.τ).loc Cert.HeadsIdeal.main_arg10)
      ∧ r.2.mem ((c.tc : Thread Cert.HeadsIdeal.nD Cert.HeadsIdeal.τ).loc Cert.HeadsIdeal.main_arg11) = m ((c.tc : Thread Cert.HeadsIdeal.nD Cert.HeadsIdeal.τ).loc Cert.HeadsIdeal.main_arg11)
      ∧ r.2.mem ((c.tc : Thread Cert.HeadsIdeal.nD Cert.HeadsIdeal.τ).loc Cert.HeadsIdeal.main_arg12) = m ((c.tc : Thread Cert.HeadsIdeal.nD Cert.HeadsIdeal.τ).loc Cert.HeadsIdeal.main_arg12))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1)
      ∧ r.2.mem ((c.tc : Thread Cert.HeadsRefIdeal.nD Cert.HeadsRefIdeal.τ).loc Cert.HeadsRefIdeal.main_arg2) = m ((c.tc : Thread Cert.HeadsRefIdeal.nD Cert.HeadsRefIdeal.τ).loc Cert.HeadsRefIdeal.main_arg2)
      ∧ r.2.mem ((c.tc : Thread Cert.HeadsRefIdeal.nD Cert.HeadsRefIdeal.τ).loc Cert.HeadsRefIdeal.main_arg3) = m ((c.tc : Thread Cert.HeadsRefIdeal.nD Cert.HeadsRefIdeal.τ).loc Cert.HeadsRefIdeal.main_arg3)
      ∧ r.2.mem ((c.tc : Thread Cert.HeadsRefIdeal.nD Cert.HeadsRefIdeal.τ).loc Cert.HeadsRefIdeal.main_arg4) = m ((c.tc : Thread Cert.HeadsRefIdeal.nD Cert.HeadsRefIdeal.τ).loc Cert.HeadsRefIdeal.main_arg4)
      ∧ r.2.mem ((c.tc : Thread Cert.HeadsRefIdeal.nD Cert.HeadsRefIdeal.τ).loc Cert.HeadsRefIdeal.main_arg5) = m ((c.tc : Thread Cert.HeadsRefIdeal.nD Cert.HeadsRefIdeal.τ).loc Cert.HeadsRefIdeal.main_arg5)
      ∧ r.2.mem ((c.tc : Thread Cert.HeadsRefIdeal.nD Cert.HeadsRefIdeal.τ).loc Cert.HeadsRefIdeal.main_arg6) = m ((c.tc : Thread Cert.HeadsRefIdeal.nD Cert.HeadsRefIdeal.τ).loc Cert.HeadsRefIdeal.main_arg6)
      ∧ r.2.mem ((c.tc : Thread Cert.HeadsRefIdeal.nD Cert.HeadsRefIdeal.τ).loc Cert.HeadsRefIdeal.main_arg7) = m ((c.tc : Thread Cert.HeadsRefIdeal.nD Cert.HeadsRefIdeal.τ).loc Cert.HeadsRefIdeal.main_arg7)
      ∧ r.2.mem ((c.tc : Thread Cert.HeadsRefIdeal.nD Cert.HeadsRefIdeal.τ).loc Cert.HeadsRefIdeal.main_arg8) = m ((c.tc : Thread Cert.HeadsRefIdeal.nD Cert.HeadsRefIdeal.τ).loc Cert.HeadsRefIdeal.main_arg8)
      ∧ r.2.mem ((c.tc : Thread Cert.HeadsRefIdeal.nD Cert.HeadsRefIdeal.τ).loc Cert.HeadsRefIdeal.main_arg9) = m ((c.tc : Thread Cert.HeadsRefIdeal.nD Cert.HeadsRefIdeal.τ).loc Cert.HeadsRefIdeal.main_arg9)
      ∧ r.2.mem ((c.tc : Thread Cert.HeadsRefIdeal.nD Cert.HeadsRefIdeal.τ).loc Cert.HeadsRefIdeal.main_arg10) = m ((c.tc : Thread Cert.HeadsRefIdeal.nD Cert.HeadsRefIdeal.τ).loc Cert.HeadsRefIdeal.main_arg10)
      ∧ r.2.mem ((c.tc : Thread Cert.HeadsRefIdeal.nD Cert.HeadsRefIdeal.τ).loc Cert.HeadsRefIdeal.main_arg11) = m ((c.tc : Thread Cert.HeadsRefIdeal.nD Cert.HeadsRefIdeal.τ).loc Cert.HeadsRefIdeal.main_arg11)
      ∧ r.2.mem ((c.tc : Thread Cert.HeadsRefIdeal.nD Cert.HeadsRefIdeal.τ).loc Cert.HeadsRefIdeal.main_arg12) = m ((c.tc : Thread Cert.HeadsRefIdeal.nD Cert.HeadsRefIdeal.τ).loc Cert.HeadsRefIdeal.main_arg12))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5))
      ∧ r.2.sem = fun _ => 0)

def quiescent_PromptIdeal_pre_finite_prompt [hPromptIdeal : Cert.PromptIdeal.Facts] [hPre_finite_prompt : Cert.Pre_finite_prompt.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_finite_prompt m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5))
      ∧ r.2.sem = fun _ => 0)

def quiescent_PromptRefIdeal_pre_finite_prompt [hPromptRefIdeal : Cert.PromptRefIdeal.Facts] [hPre_finite_prompt : Cert.Pre_finite_prompt.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal_finite_prompt m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_exist : Cert.Pre_experts_exist.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v28) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v20) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v7_0)) (v1 : (c : Dev Cert.MergeIdeal.nD) → Buf (Elt Ideal) ((c.tc : Thread Cert.MergeIdeal.nD Cert.MergeIdeal.τ).loc Cert.MergeIdeal.main_v7_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7_0) = v0 c
          ∧ r.2.mem ((c.tc : Thread Cert.MergeIdeal.nD Cert.MergeIdeal.τ).loc Cert.MergeIdeal.main_v7_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v80) = v0 c
          ∧ r.2.mem ((c.tc : Thread Cert.MergeRefIdeal.nD Cert.MergeRefIdeal.τ).loc Cert.MergeRefIdeal.main_v98) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Heads_HeadsIdeal : Prop :=
  IdealRules.named_const.Statement Cert.HeadsIdeal.κ "qk_scale" .f32 0x3E16C740#32 (((Real.log 2)⁻¹ * (Real.sqrt 96)⁻¹ : ℝ) : EReal)
  ∧ IdealRules.named_const.Statement Cert.HeadsIdeal.κ "inv_d_qk" .f32 0x3C2AAAAB#32 ((96⁻¹ : ℝ) : EReal)

def algebraic_HeadsIdeal_HeadsRefIdeal [hHeadsIdeal : Cert.HeadsIdeal.Facts] [hHeadsRefIdeal : Cert.HeadsRefIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)
      ∧ m' ((c.tc : Thread Cert.HeadsRefIdeal.nD Cert.HeadsRefIdeal.τ).loc Cert.HeadsRefIdeal.main_arg2) = m ((c.tc : Thread Cert.HeadsIdeal.nD Cert.HeadsIdeal.τ).loc Cert.HeadsIdeal.main_arg2)
      ∧ m' ((c.tc : Thread Cert.HeadsRefIdeal.nD Cert.HeadsRefIdeal.τ).loc Cert.HeadsRefIdeal.main_arg3) = m ((c.tc : Thread Cert.HeadsIdeal.nD Cert.HeadsIdeal.τ).loc Cert.HeadsIdeal.main_arg3)
      ∧ m' ((c.tc : Thread Cert.HeadsRefIdeal.nD Cert.HeadsRefIdeal.τ).loc Cert.HeadsRefIdeal.main_arg4) = m ((c.tc : Thread Cert.HeadsIdeal.nD Cert.HeadsIdeal.τ).loc Cert.HeadsIdeal.main_arg4)
      ∧ m' ((c.tc : Thread Cert.HeadsRefIdeal.nD Cert.HeadsRefIdeal.τ).loc Cert.HeadsRefIdeal.main_arg5) = m ((c.tc : Thread Cert.HeadsIdeal.nD Cert.HeadsIdeal.τ).loc Cert.HeadsIdeal.main_arg5)
      ∧ m' ((c.tc : Thread Cert.HeadsRefIdeal.nD Cert.HeadsRefIdeal.τ).loc Cert.HeadsRefIdeal.main_arg6) = m ((c.tc : Thread Cert.HeadsIdeal.nD Cert.HeadsIdeal.τ).loc Cert.HeadsIdeal.main_arg6)
      ∧ m' ((c.tc : Thread Cert.HeadsRefIdeal.nD Cert.HeadsRefIdeal.τ).loc Cert.HeadsRefIdeal.main_arg7) = m ((c.tc : Thread Cert.HeadsIdeal.nD Cert.HeadsIdeal.τ).loc Cert.HeadsIdeal.main_arg7)
      ∧ m' ((c.tc : Thread Cert.HeadsRefIdeal.nD Cert.HeadsRefIdeal.τ).loc Cert.HeadsRefIdeal.main_arg8) = m ((c.tc : Thread Cert.HeadsIdeal.nD Cert.HeadsIdeal.τ).loc Cert.HeadsIdeal.main_arg8)
      ∧ m' ((c.tc : Thread Cert.HeadsRefIdeal.nD Cert.HeadsRefIdeal.τ).loc Cert.HeadsRefIdeal.main_arg9) = m ((c.tc : Thread Cert.HeadsIdeal.nD Cert.HeadsIdeal.τ).loc Cert.HeadsIdeal.main_arg9)
      ∧ m' ((c.tc : Thread Cert.HeadsRefIdeal.nD Cert.HeadsRefIdeal.τ).loc Cert.HeadsRefIdeal.main_arg10) = m ((c.tc : Thread Cert.HeadsIdeal.nD Cert.HeadsIdeal.τ).loc Cert.HeadsIdeal.main_arg10)
      ∧ m' ((c.tc : Thread Cert.HeadsRefIdeal.nD Cert.HeadsRefIdeal.τ).loc Cert.HeadsRefIdeal.main_arg11) = m ((c.tc : Thread Cert.HeadsIdeal.nD Cert.HeadsIdeal.τ).loc Cert.HeadsIdeal.main_arg11)
      ∧ m' ((c.tc : Thread Cert.HeadsRefIdeal.nD Cert.HeadsRefIdeal.τ).loc Cert.HeadsRefIdeal.main_arg12) = m ((c.tc : Thread Cert.HeadsIdeal.nD Cert.HeadsIdeal.τ).loc Cert.HeadsIdeal.main_arg12)) →
    ∃ (v0 : (c : Dev Cert.HeadsIdeal.nD) → Buf (Elt Ideal) ((c.tc : Thread Cert.HeadsIdeal.nD Cert.HeadsIdeal.τ).loc Cert.HeadsIdeal.main_v68_0)) (v1 : (c : Dev Cert.HeadsIdeal.nD) → Buf (Elt Ideal) ((c.tc : Thread Cert.HeadsIdeal.nD Cert.HeadsIdeal.τ).loc Cert.HeadsIdeal.main_v68_1)) (v2 : (c : Dev Cert.HeadsIdeal.nD) → Buf (Elt Ideal) ((c.tc : Thread Cert.HeadsIdeal.nD Cert.HeadsIdeal.τ).loc Cert.HeadsIdeal.main_v68_2)) (v3 : (c : Dev Cert.HeadsIdeal.nD) → Buf (Elt Ideal) ((c.tc : Thread Cert.HeadsIdeal.nD Cert.HeadsIdeal.τ).loc Cert.HeadsIdeal.main_v68_3)) (v4 : (c : Dev Cert.HeadsIdeal.nD) → Buf (Elt Ideal) ((c.tc : Thread Cert.HeadsIdeal.nD Cert.HeadsIdeal.τ).loc Cert.HeadsIdeal.main_v68_4)) (v5 : (c : Dev Cert.HeadsIdeal.nD) → Buf (Elt Ideal) ((c.tc : Thread Cert.HeadsIdeal.nD Cert.HeadsIdeal.τ).loc Cert.HeadsIdeal.main_v68_5)) (v6 : (c : Dev Cert.HeadsIdeal.nD) → Buf (Elt Ideal) ((c.tc : Thread Cert.HeadsIdeal.nD Cert.HeadsIdeal.τ).loc Cert.HeadsIdeal.main_v68_6)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v68_0) = v0 c
          ∧ r.2.mem ((c.tc : Thread Cert.HeadsIdeal.nD Cert.HeadsIdeal.τ).loc Cert.HeadsIdeal.main_v68_1) = v1 c
          ∧ r.2.mem ((c.tc : Thread Cert.HeadsIdeal.nD Cert.HeadsIdeal.τ).loc Cert.HeadsIdeal.main_v68_2) = v2 c
          ∧ r.2.mem ((c.tc : Thread Cert.HeadsIdeal.nD Cert.HeadsIdeal.τ).loc Cert.HeadsIdeal.main_v68_3) = v3 c
          ∧ r.2.mem ((c.tc : Thread Cert.HeadsIdeal.nD Cert.HeadsIdeal.τ).loc Cert.HeadsIdeal.main_v68_4) = v4 c
          ∧ r.2.mem ((c.tc : Thread Cert.HeadsIdeal.nD Cert.HeadsIdeal.τ).loc Cert.HeadsIdeal.main_v68_5) = v5 c
          ∧ r.2.mem ((c.tc : Thread Cert.HeadsIdeal.nD Cert.HeadsIdeal.τ).loc Cert.HeadsIdeal.main_v68_6) = v6 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
          ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8)
          ∧ r.2.mem ((c.tc : Thread Cert.HeadsIdeal.nD Cert.HeadsIdeal.τ).loc Cert.HeadsIdeal.main_arg9) = m ((c.tc : Thread Cert.HeadsIdeal.nD Cert.HeadsIdeal.τ).loc Cert.HeadsIdeal.main_arg9)
          ∧ r.2.mem ((c.tc : Thread Cert.HeadsIdeal.nD Cert.HeadsIdeal.τ).loc Cert.HeadsIdeal.main_arg10) = m ((c.tc : Thread Cert.HeadsIdeal.nD Cert.HeadsIdeal.τ).loc Cert.HeadsIdeal.main_arg10)
          ∧ r.2.mem ((c.tc : Thread Cert.HeadsIdeal.nD Cert.HeadsIdeal.τ).loc Cert.HeadsIdeal.main_arg11) = m ((c.tc : Thread Cert.HeadsIdeal.nD Cert.HeadsIdeal.τ).loc Cert.HeadsIdeal.main_arg11)
          ∧ r.2.mem ((c.tc : Thread Cert.HeadsIdeal.nD Cert.HeadsIdeal.τ).loc Cert.HeadsIdeal.main_arg12) = m ((c.tc : Thread Cert.HeadsIdeal.nD Cert.HeadsIdeal.τ).loc Cert.HeadsIdeal.main_arg12))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v34) = v0 c
          ∧ r.2.mem ((c.tc : Thread Cert.HeadsRefIdeal.nD Cert.HeadsRefIdeal.τ).loc Cert.HeadsRefIdeal.main_v38) = v1 c
          ∧ r.2.mem ((c.tc : Thread Cert.HeadsRefIdeal.nD Cert.HeadsRefIdeal.τ).loc Cert.HeadsRefIdeal.main_v51) = v2 c
          ∧ r.2.mem ((c.tc : Thread Cert.HeadsRefIdeal.nD Cert.HeadsRefIdeal.τ).loc Cert.HeadsRefIdeal.main_v162) = v3 c
          ∧ r.2.mem ((c.tc : Thread Cert.HeadsRefIdeal.nD Cert.HeadsRefIdeal.τ).loc Cert.HeadsRefIdeal.main_v167) = v4 c
          ∧ r.2.mem ((c.tc : Thread Cert.HeadsRefIdeal.nD Cert.HeadsRefIdeal.τ).loc Cert.HeadsRefIdeal.main_v170) = v5 c
          ∧ r.2.mem ((c.tc : Thread Cert.HeadsRefIdeal.nD Cert.HeadsRefIdeal.τ).loc Cert.HeadsRefIdeal.main_v171) = v6 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1)
          ∧ r.2.mem ((c.tc : Thread Cert.HeadsRefIdeal.nD Cert.HeadsRefIdeal.τ).loc Cert.HeadsRefIdeal.main_arg2) = m' ((c.tc : Thread Cert.HeadsRefIdeal.nD Cert.HeadsRefIdeal.τ).loc Cert.HeadsRefIdeal.main_arg2)
          ∧ r.2.mem ((c.tc : Thread Cert.HeadsRefIdeal.nD Cert.HeadsRefIdeal.τ).loc Cert.HeadsRefIdeal.main_arg3) = m' ((c.tc : Thread Cert.HeadsRefIdeal.nD Cert.HeadsRefIdeal.τ).loc Cert.HeadsRefIdeal.main_arg3)
          ∧ r.2.mem ((c.tc : Thread Cert.HeadsRefIdeal.nD Cert.HeadsRefIdeal.τ).loc Cert.HeadsRefIdeal.main_arg4) = m' ((c.tc : Thread Cert.HeadsRefIdeal.nD Cert.HeadsRefIdeal.τ).loc Cert.HeadsRefIdeal.main_arg4)
          ∧ r.2.mem ((c.tc : Thread Cert.HeadsRefIdeal.nD Cert.HeadsRefIdeal.τ).loc Cert.HeadsRefIdeal.main_arg5) = m' ((c.tc : Thread Cert.HeadsRefIdeal.nD Cert.HeadsRefIdeal.τ).loc Cert.HeadsRefIdeal.main_arg5)
          ∧ r.2.mem ((c.tc : Thread Cert.HeadsRefIdeal.nD Cert.HeadsRefIdeal.τ).loc Cert.HeadsRefIdeal.main_arg6) = m' ((c.tc : Thread Cert.HeadsRefIdeal.nD Cert.HeadsRefIdeal.τ).loc Cert.HeadsRefIdeal.main_arg6)
          ∧ r.2.mem ((c.tc : Thread Cert.HeadsRefIdeal.nD Cert.HeadsRefIdeal.τ).loc Cert.HeadsRefIdeal.main_arg7) = m' ((c.tc : Thread Cert.HeadsRefIdeal.nD Cert.HeadsRefIdeal.τ).loc Cert.HeadsRefIdeal.main_arg7)
          ∧ r.2.mem ((c.tc : Thread Cert.HeadsRefIdeal.nD Cert.HeadsRefIdeal.τ).loc Cert.HeadsRefIdeal.main_arg8) = m' ((c.tc : Thread Cert.HeadsRefIdeal.nD Cert.HeadsRefIdeal.τ).loc Cert.HeadsRefIdeal.main_arg8)
          ∧ r.2.mem ((c.tc : Thread Cert.HeadsRefIdeal.nD Cert.HeadsRefIdeal.τ).loc Cert.HeadsRefIdeal.main_arg9) = m' ((c.tc : Thread Cert.HeadsRefIdeal.nD Cert.HeadsRefIdeal.τ).loc Cert.HeadsRefIdeal.main_arg9)
          ∧ r.2.mem ((c.tc : Thread Cert.HeadsRefIdeal.nD Cert.HeadsRefIdeal.τ).loc Cert.HeadsRefIdeal.main_arg10) = m' ((c.tc : Thread Cert.HeadsRefIdeal.nD Cert.HeadsRefIdeal.τ).loc Cert.HeadsRefIdeal.main_arg10)
          ∧ r.2.mem ((c.tc : Thread Cert.HeadsRefIdeal.nD Cert.HeadsRefIdeal.τ).loc Cert.HeadsRefIdeal.main_arg11) = m' ((c.tc : Thread Cert.HeadsRefIdeal.nD Cert.HeadsRefIdeal.τ).loc Cert.HeadsRefIdeal.main_arg11)
          ∧ r.2.mem ((c.tc : Thread Cert.HeadsRefIdeal.nD Cert.HeadsRefIdeal.τ).loc Cert.HeadsRefIdeal.main_arg12) = m' ((c.tc : Thread Cert.HeadsRefIdeal.nD Cert.HeadsRefIdeal.τ).loc Cert.HeadsRefIdeal.main_arg12))

def preserves_Prompt_PromptIdeal : Prop :=
  True

def algebraic_PromptIdeal_PromptRefIdeal_pre_finite_prompt [hPromptIdeal : Cert.PromptIdeal.Facts] [hPromptRefIdeal : Cert.PromptRefIdeal.Facts] [hPre_finite_prompt : Cert.Pre_finite_prompt.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal_finite_prompt m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)) →
    ∃ (v0 : (c : Dev Cert.PromptIdeal.nD) → Buf (Elt Ideal) ((c.tc : Thread Cert.PromptIdeal.nD Cert.PromptIdeal.τ).loc Cert.PromptIdeal.main_v24)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v24) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v18) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hDense : Cert.Dense.Facts) (hDenseIdeal : Cert.DenseIdeal.Facts) (hDenseRefIdeal : Cert.DenseRefIdeal.Facts) (hMerge : Cert.Merge.Facts) (hMergeIdeal : Cert.MergeIdeal.Facts) (hMergeRefIdeal : Cert.MergeRefIdeal.Facts) (hHeads : Cert.Heads.Facts) (hHeadsIdeal : Cert.HeadsIdeal.Facts) (hHeadsRefIdeal : Cert.HeadsRefIdeal.Facts) (hPrompt : Cert.Prompt.Facts) (hPromptIdeal : Cert.PromptIdeal.Facts) (hPromptRefIdeal : Cert.PromptRefIdeal.Facts) (hPre_finite_scores : Cert.Pre_finite_scores.Facts) (hPre_experts_exist : Cert.Pre_experts_exist.Facts) (hPre_finite_prompt : Cert.Pre_finite_prompt.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_experts_exist := hPre_experts_exist)
    ∧ quiescent_ExpertsIdeal (hExpertsIdeal := hExpertsIdeal) (hPre_experts_exist := hPre_experts_exist)
    ∧ quiescent_ExpertsRefIdeal (hExpertsRefIdeal := hExpertsRefIdeal)
    ∧ quiescent_ExpertsRefIdeal_pre_experts_exist (hExpertsRefIdeal := hExpertsRefIdeal) (hPre_experts_exist := hPre_experts_exist)
    ∧ quiescent_Dense (hDense := hDense)
    ∧ quiescent_DenseIdeal (hDenseIdeal := hDenseIdeal)
    ∧ quiescent_DenseRefIdeal (hDenseRefIdeal := hDenseRefIdeal)
    ∧ quiescent_Merge (hMerge := hMerge)
    ∧ quiescent_MergeIdeal (hMergeIdeal := hMergeIdeal)
    ∧ quiescent_MergeRefIdeal (hMergeRefIdeal := hMergeRefIdeal)
    ∧ quiescent_Heads (hHeads := hHeads)
    ∧ quiescent_HeadsIdeal (hHeadsIdeal := hHeadsIdeal)
    ∧ quiescent_HeadsRefIdeal (hHeadsRefIdeal := hHeadsRefIdeal)
    ∧ quiescent_Prompt (hPrompt := hPrompt)
    ∧ quiescent_PromptIdeal (hPromptIdeal := hPromptIdeal)
    ∧ quiescent_PromptIdeal_pre_finite_prompt (hPromptIdeal := hPromptIdeal) (hPre_finite_prompt := hPre_finite_prompt)
    ∧ quiescent_PromptRefIdeal (hPromptRefIdeal := hPromptRefIdeal)
    ∧ quiescent_PromptRefIdeal_pre_finite_prompt (hPromptRefIdeal := hPromptRefIdeal) (hPre_finite_prompt := hPre_finite_prompt)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsRefIdeal (hExpertsIdeal := hExpertsIdeal) (hExpertsRefIdeal := hExpertsRefIdeal) (hPre_experts_exist := hPre_experts_exist)
    ∧ preserves_Dense_DenseIdeal
    ∧ algebraic_DenseIdeal_DenseRefIdeal (hDenseIdeal := hDenseIdeal) (hDenseRefIdeal := hDenseRefIdeal)
    ∧ preserves_Merge_MergeIdeal
    ∧ algebraic_MergeIdeal_MergeRefIdeal (hMergeIdeal := hMergeIdeal) (hMergeRefIdeal := hMergeRefIdeal)
    ∧ preserves_Heads_HeadsIdeal
    ∧ algebraic_HeadsIdeal_HeadsRefIdeal (hHeadsIdeal := hHeadsIdeal) (hHeadsRefIdeal := hHeadsRefIdeal)
    ∧ preserves_Prompt_PromptIdeal
    ∧ algebraic_PromptIdeal_PromptRefIdeal_pre_finite_prompt (hPromptIdeal := hPromptIdeal) (hPromptRefIdeal := hPromptRefIdeal) (hPre_finite_prompt := hPre_finite_prompt)
-- ==== Pre_experts_exist.lean ====
abbrev S136 : Shape := ⟨1, ![136]⟩
abbrev S1 : Shape := ⟨1, ![1]⟩
abbrev S34816x1024 : Shape := ⟨2, ![34816, 1024]⟩
abbrev S8x1024x1408 : Shape := ⟨3, ![8, 1024, 1408]⟩
abbrev S8x1408x1024 : Shape := ⟨3, ![8, 1408, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S1 32) (main_arg2 : FVec F S34816x1024 .f32) (main_arg3 : FVec F S8x1024x1408 .f32) (main_arg4 : FVec F S8x1024x1408 .f32) (main_arg5 : FVec F S8x1408x1024 .f32) : IVec S136 1 × IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  (main_v1, main_v3)
-- ==== Pre_finite_prompt.lean ====
abbrev S32x256x8x96 : Shape := ⟨4, ![32, 256, 8, 96]⟩
abbrev S32x256x8x64 : Shape := ⟨4, ![32, 256, 8, 64]⟩
abbrev S2x4096x8x96 : Shape := ⟨4, ![2, 4096, 8, 96]⟩
abbrev S2x4096x8x64 : Shape := ⟨4, ![2, 4096, 8, 64]⟩
abbrev S_ : Shape := ⟨0, ![]⟩

class Facts : Prop where
  bcast_S_S32x256x8x96 : S_.BroadcastsInDim S32x256x8x96 (![] : Fin 0 → Fin S32x256x8x96.rank)

variable [Facts]

def fn {F : FTy → Type} [FloatOps F] (main_arg0 : FVec F S32x256x8x96 .f32) (main_arg1 : FVec F S32x256x8x96 .f32) (main_arg2 : FVec F S32x256x8x64 .f32) (main_arg3 : FVec F S2x4096x8x96 .f32) (main_arg4 : FVec F S2x4096x8x96 .f32) (main_arg5 : FVec F S2x4096x8x64 .f32) : IVec S32x256x8x96 1 × IVec S32x256x8x96 1 :=
  let main_v0 : FVec F S32x256x8x96 .f32 := Host.absf main_arg0
  let main_cst : FVec F S_ .f32 := constant S_ .f32 0x7F800000#32
  let main_v1 : FVec F S32x256x8x96 .f32 := broadcastInDim S32x256x8x96 ![] bcast_S_S32x256x8x96 main_cst
  let main_v2 : IVec S32x256x8x96 1 := cmpf .olt main_v0 main_v1
  let main_v3 : FVec F S32x256x8x96 .f32 := Host.absf main_arg1
  let main_cst_0 : FVec F S_ .f32 := constant S_ .f32 0x7F800000#32
  let main_v4 : FVec F S32x256x8x96 .f32 := broadcastInDim S32x256x8x96 ![] bcast_S_S32x256x8x96 main_cst_0
  let main_v5 : IVec S32x256x8x96 1 := cmpf .olt main_v3 main_v4
  (main_v2, main_v5)
-- ==== Pre_finite_scores.lean ====
abbrev S32x256x8x96 : Shape := ⟨4, ![32, 256, 8, 96]⟩
abbrev S32x256x8x64 : Shape := ⟨4, ![32, 256, 8, 64]⟩
abbrev S2x4096x8x96 : Shape := ⟨4, ![2, 4096, 8, 96]⟩
abbrev S2x4096x8x64 : Shape := ⟨4, ![2, 4096, 8, 64]⟩
abbrev S2x512x8x96 : Shape := ⟨4, ![2, 512, 8, 96]⟩
abbrev S2x512x8x64 : Shape := ⟨4, ![2, 512, 8, 64]⟩
abbrev S_ : Shape := ⟨0, ![]⟩

class Facts : Prop where
  bcast_S_S2x4096x8x96 : S_.BroadcastsInDim S2x4096x8x96 (![] : Fin 0 → Fin S2x4096x8x96.rank)
  bcast_S_S2x512x8x96 : S_.BroadcastsInDim S2x512x8x96 (![] : Fin 0 → Fin S2x512x8x96.rank)

variable [Facts]

def fn {F : FTy → Type} [FloatOps F] (main_arg0 : FVec F S32x256x8x96 .f32) (main_arg1 : FVec F S32x256x8x96 .f32) (main_arg2 : FVec F S32x256x8x64 .f32) (main_arg3 : FVec F S2x4096x8x96 .f32) (main_arg4 : FVec F S2x4096x8x96 .f32) (main_arg5 : FVec F S2x4096x8x64 .f32) (main_arg6 : FVec F S2x512x8x96 .f32) (main_arg7 : FVec F S2x512x8x64 .f32) : IVec S2x4096x8x96 1 × IVec S2x4096x8x96 1 × IVec S2x512x8x96 1 :=
  let main_v0 : FVec F S2x4096x8x96 .f32 := Host.absf main_arg3
  let main_cst : FVec F S_ .f32 := constant S_ .f32 0x7F800000#32
  let main_v1 : FVec F S2x4096x8x96 .f32 := broadcastInDim S2x4096x8x96 ![] bcast_S_S2x4096x8x96 main_cst
  let main_v2 : IVec S2x4096x8x96 1 := cmpf .olt main_v0 main_v1
  let main_v3 : FVec F S2x4096x8x96 .f32 := Host.absf main_arg4
  let main_cst_0 : FVec F S_ .f32 := constant S_ .f32 0x7F800000#32
  let main_v4 : FVec F S2x4096x8x96 .f32 := broadcastInDim S2x4096x8x96 ![] bcast_S_S2x4096x8x96 main_cst_0
  let main_v5 : IVec S2x4096x8x96 1 := cmpf .olt main_v3 main_v4
  let main_v6 : FVec F S2x512x8x96 .f32 := Host.absf main_arg6
  let main_cst_1 : FVec F S_ .f32 := constant S_ .f32 0x7F800000#32
  let main_v7 : FVec F S2x512x8x96 .f32 := broadcastInDim S2x512x8x96 ![] bcast_S_S2x512x8x96 main_cst_1
  let main_v8 : IVec S2x512x8x96 1 := cmpf .olt main_v6 main_v7
  (main_v2, main_v5, main_v8)
-- ==== Kernel.lean ====
abbrev S32x256x8x96 : Shape := ⟨4, ![32, 256, 8, 96]⟩
abbrev S32x256x8x64 : Shape := ⟨4, ![32, 256, 8, 64]⟩
abbrev S2x4096x8x96 : Shape := ⟨4, ![2, 4096, 8, 96]⟩
abbrev S2x4096x8x64 : Shape := ⟨4, ![2, 4096, 8, 64]⟩
abbrev S2x512x8x96 : Shape := ⟨4, ![2, 512, 8, 96]⟩
abbrev S2x512x8x64 : Shape := ⟨4, ![2, 512, 8, 64]⟩
abbrev S_ : Shape := ⟨0, ![]⟩
abbrev S8192x8x96 : Shape := ⟨3, ![8192, 8, 96]⟩
abbrev S16384x8x96 : Shape := ⟨3, ![16384, 8, 96]⟩
abbrev S16384x8x128 : Shape := ⟨3, ![16384, 8, 128]⟩
abbrev S16384x1024 : Shape := ⟨2, ![16384, 1024]⟩
abbrev S8192x512 : Shape := ⟨2, ![8192, 512]⟩
abbrev S16384x512 : Shape := ⟨2, ![16384, 512]⟩
abbrev S1024x8x96 : Shape := ⟨3, ![1024, 8, 96]⟩
abbrev S1024x8x128 : Shape := ⟨3, ![1024, 8, 128]⟩
abbrev S1024x1024 : Shape := ⟨2, ![1024, 1024]⟩
abbrev S1024x512 : Shape := ⟨2, ![1024, 512]⟩
abbrev S256x512 : Shape := ⟨2, ![256, 512]⟩
abbrev S4096x512 : Shape := ⟨2, ![4096, 512]⟩
abbrev S512x512 : Shape := ⟨2, ![512, 512]⟩
abbrev S4096x256 : Shape := ⟨2, ![4096, 256]⟩
abbrev S512x256 : Shape := ⟨2, ![512, 256]⟩
abbrev S256x256 : Shape := ⟨2, ![256, 256]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S512x128 : Shape := ⟨2, ![512, 128]⟩

abbrev nBuf : Space → Nat
  | .hbm => 45
  | .vmem => 12
  | .smem => 0
  | _ => 0

abbrev bufTy : (tb : Table) → Fin (tcTables nBuf tb) → BufTy
  | .hbm, ⟨0, _⟩ => ⟨S32x256x8x96, .f32⟩
  | .hbm, ⟨1, _⟩ => ⟨S32x256x8x96, .f32⟩
  | .hbm, ⟨2, _⟩ => ⟨S32x256x8x64, .f32⟩
  | .hbm, ⟨3, _⟩ => ⟨S2x4096x8x96, .f32⟩
  | .hbm, ⟨4, _⟩ => ⟨S2x4096x8x96, .f32⟩
  | .hbm, ⟨5, _⟩ => ⟨S2x4096x8x64, .f32⟩
  | .hbm, ⟨6, _⟩ => ⟨S2x512x8x96, .f32⟩
  | .hbm, ⟨7, _⟩ => ⟨S2x512x8x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32x256x8x96, .f32⟩
  | .hbm, ⟨16, _⟩ => ⟨S32x256x8x96, .f32⟩
  | .hbm, ⟨17, _⟩ => ⟨S2x4096x8x96, .f32⟩
  | .hbm, ⟨18, _⟩ => ⟨S2x4096x8x96, .f32⟩
  | .hbm, ⟨19, _⟩ => ⟨S8192x8x96, .f32⟩
  | .hbm, ⟨20, _⟩ => ⟨S8192x8x96, .f32⟩
  | .hbm, ⟨21, _⟩ => ⟨S16384x8x96, .f32⟩
  | .hbm, ⟨22, _⟩ => ⟨S_, .f32⟩
  | .hbm, ⟨23, _⟩ => ⟨S16384x8x128, .f32⟩
  | .hbm, ⟨24, _⟩ => ⟨S16384x1024, .f32⟩
  | .hbm, ⟨25, _⟩ => ⟨S16384x1024, .bf16⟩
  | .hbm, ⟨26, _⟩ => ⟨S8192x8x96, .f32⟩
  | .hbm, ⟨27, _⟩ => ⟨S8192x8x96, .f32⟩
  | .hbm, ⟨28, _⟩ => ⟨S16384x8x96, .f32⟩
  | .hbm, ⟨29, _⟩ => ⟨S_, .f32⟩
  | .hbm, ⟨30, _⟩ => ⟨S16384x8x128, .f32⟩
  | .hbm, ⟨31, _⟩ => ⟨S16384x1024, .f32⟩
  | .hbm, ⟨32, _⟩ => ⟨S16384x1024, .bf16⟩
  | .hbm, ⟨33, _⟩ => ⟨S8192x512, .f32⟩
  | .hbm, ⟨34, _⟩ => ⟨S8192x512, .f32⟩
  | .hbm, ⟨35, _⟩ => ⟨S16384x512, .f32⟩
  | .hbm, ⟨36, _⟩ => ⟨S16384x512, .bf16⟩
  | .hbm, ⟨37, _⟩ => ⟨S1024x8x96, .f32⟩
  | .hbm, ⟨38, _⟩ => ⟨S_, .f32⟩
  | .hbm, ⟨39, _⟩ => ⟨S1024x8x128, .f32⟩
  | .hbm, ⟨40, _⟩ => ⟨S1024x1024, .f32⟩
  | .hbm, ⟨41, _⟩ => ⟨S1024x1024, .bf16⟩
  | .hbm, ⟨42, _⟩ => ⟨S1024x512, .f32⟩
  | .hbm, ⟨43, _⟩ => ⟨S1024x512, .bf16⟩
  | .hbm, ⟨44, _⟩ => ⟨S8192x512, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | .local _ .vmem, ⟨6, _⟩ => ⟨S4096x256, .bf16⟩
  | .local _ .vmem, ⟨7, _⟩ => ⟨S4096x256, .bf16⟩
  | .local _ .vmem, ⟨8, _⟩ => ⟨S512x256, .bf16⟩
  | .local _ .vmem, ⟨9, _⟩ => ⟨S512x256, .bf16⟩
  | .local _ .vmem, ⟨10, _⟩ => ⟨S256x256, .bf16⟩
  | .local _ .vmem, ⟨11, _⟩ => ⟨S256x256, .bf16⟩
  | _, _ => ⟨S32x256x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32x256x8x96 : Shape := ⟨4, ![32, 256, 8, 96]⟩
abbrev S32x256x8x64 : Shape := ⟨4, ![32, 256, 8, 64]⟩
abbrev S2x4096x8x96 : Shape := ⟨4, ![2, 4096, 8, 96]⟩
abbrev S2x4096x8x64 : Shape := ⟨4, ![2, 4096, 8, 64]⟩
abbrev S2x512x8x96 : Shape := ⟨4, ![2, 512, 8, 96]⟩
abbrev S2x512x8x64 : Shape := ⟨4, ![2, 512, 8, 64]⟩
abbrev S2x4608x8x96 : Shape := ⟨4, ![2, 4608, 8, 96]⟩
abbrev S2x4608x8x64 : Shape := ⟨4, ![2, 4608, 8, 64]⟩
abbrev S2x8x4096x4608 : Shape := ⟨4, ![2, 8, 4096, 4608]⟩
abbrev S_ : Shape := ⟨0, ![]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S8192x512 : Shape := ⟨2, ![8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S32x256x8x96, .f32⟩
  | .hbm, ⟨1, _⟩ => ⟨S32x256x8x96, .f32⟩
  | .hbm, ⟨2, _⟩ => ⟨S32x256x8x64, .f32⟩
  | .hbm, ⟨3, _⟩ => ⟨S2x4096x8x96, .f32⟩
  | .hbm, ⟨4, _⟩ => ⟨S2x4096x8x96, .f32⟩
  | .hbm, ⟨5, _⟩ => ⟨S2x4096x8x64, .f32⟩
  | .hbm, ⟨6, _⟩ => ⟨S2x512x8x96, .f32⟩
  | .hbm, ⟨7, _⟩ => ⟨S2x512x8x64, .f32⟩
  | .hbm, ⟨8, _⟩ => ⟨S2x4608x8x96, .f32⟩
  | .hbm, ⟨9, _⟩ => ⟨S2x4608x8x64, .f32⟩
  | .hbm, ⟨10, _⟩ => ⟨S2x8x4096x4608, .f32⟩
  | .hbm, ⟨11, _⟩ => ⟨S_, .f32⟩
  | .hbm, ⟨12, _⟩ => ⟨S_, .f32⟩
  | .hbm, ⟨13, _⟩ => ⟨S2x8x4096x4608, .f32⟩
  | .hbm, ⟨14, _⟩ => ⟨S2x8x4096x4608, .f32⟩
  | .hbm, ⟨15, _⟩ => ⟨S_, .f32⟩
  | .hbm, ⟨16, _⟩ => ⟨S2x8x4096, .f32⟩
  | .hbm, ⟨17, _⟩ => ⟨S_, .f32⟩
  | .hbm, ⟨18, _⟩ => ⟨S2x8x4096, .f32⟩
  | .hbm, ⟨19, _⟩ => ⟨S2x8x4096, .f32⟩
  | .hbm, ⟨20, _⟩ => ⟨S2x8x4096x1, .f32⟩
  | .hbm, ⟨21, _⟩ => ⟨S2x8x4096x4608, .f32⟩
  | .hbm, ⟨22, _⟩ => ⟨S2x8x4096x4608, .f32⟩
  | .hbm, ⟨23, _⟩ => ⟨S2x8x4096x4608, .f32⟩
  | .hbm, ⟨24, _⟩ => ⟨S_, .f32⟩
  | .hbm, ⟨25, _⟩ => ⟨S2x8x4096, .f32⟩
  | .hbm, ⟨26, _⟩ => ⟨S2x8x4096x1, .f32⟩
  | .hbm, ⟨27, _⟩ => ⟨S2x8x4096x4608, .f32⟩
  | .hbm, ⟨28, _⟩ => ⟨S2x8x4096x4608, .f32⟩
  | .hbm, ⟨29, _⟩ => ⟨S2x8x64x4096, .f32⟩
  | .hbm, ⟨30, _⟩ => ⟨S2x4096x8x64, .f32⟩
  | .hbm, ⟨31, _⟩ => ⟨S8192x512, .f32⟩
  | .hbm, ⟨32, _⟩ => ⟨S8192x512, .bf16⟩
  | _, _ => ⟨S32x256x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Experts.lean ====
abbrev S136 : Shape := ⟨1, ![136]⟩
abbrev S1 : Shape := ⟨1, ![1]⟩
abbrev S34816x1024 : Shape := ⟨2, ![34816, 1024]⟩
abbrev S8x1024x1408 : Shape := ⟨3, ![8, 1024, 1408]⟩
abbrev S8x1408x1024 : Shape := ⟨3, ![8, 1408, 1024]⟩
abbrev S278528x128 : Shape := ⟨2, ![278528, 128]⟩
abbrev S2048x128 : Shape := ⟨2, ![2048, 128]⟩
abbrev S1x1024x1408 : Shape := ⟨3, ![1, 1024, 1408]⟩
abbrev S1x1408x1024 : Shape := ⟨3, ![1, 1408, 1024]⟩
abbrev S256x128 : Shape := ⟨2, ![256, 128]⟩
abbrev S256x1024 : Shape := ⟨2, ![256, 1024]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 10
  | .vmem => 10
  | .smem => 2
  | _ => 0

abbrev bufTy : (tb : Table) → Fin (tcTables nBuf tb) → BufTy
  | .hbm, ⟨0, _⟩ => ⟨S34816x1024, .f32⟩
  | .hbm, ⟨1, _⟩ => ⟨S8x1024x1408, .f32⟩
  | .hbm, ⟨2, _⟩ => ⟨S8x1024x1408, .f32⟩
  | .hbm, ⟨3, _⟩ => ⟨S8x1408x1024, .f32⟩
  | .hbm, ⟨4, _⟩ => ⟨S278528x128, .f32⟩
  | .hbm, ⟨5, _⟩ => ⟨S8x1024x1408, .bf16⟩
  | .hbm, ⟨6, _⟩ => ⟨S8x1024x1408, .bf16⟩
  | .hbm, ⟨7, _⟩ => ⟨S8x1408x1024, .bf16⟩
  | .hbm, ⟨8, _⟩ => ⟨S278528x128, .f32⟩
  | .hbm, ⟨9, _⟩ => ⟨S34816x1024, .f32⟩
  | .local _ .vmem, ⟨0, _⟩ => ⟨S2048x128, .f32⟩
  | .local _ .vmem, ⟨1, _⟩ => ⟨S2048x128, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S2048x128, .f32⟩
  | .local _ .vmem, ⟨9, _⟩ => ⟨S2048x128, .f32⟩
  | .local _ .smem, ⟨0, _⟩ => ⟨S136, .i32⟩
  | .local _ .smem, ⟨1, _⟩ => ⟨S1, .i32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S136 : Shape := ⟨1, ![136]⟩
abbrev S1 : Shape := ⟨1, ![1]⟩
abbrev S34816x1024 : Shape := ⟨2, ![34816, 1024]⟩
abbrev S8x1024x1408 : Shape := ⟨3, ![8, 1024, 1408]⟩
abbrev S8x1408x1024 : Shape := ⟨3, ![8, 1408, 1024]⟩
abbrev S_ : Shape := ⟨0, ![]⟩
abbrev S136x256 : Shape := ⟨2, ![136, 256]⟩
abbrev S34816x1 : Shape := ⟨2, ![34816, 1]⟩
abbrev S1x8 : Shape := ⟨2, ![1, 8]⟩
abbrev S34816x8 : Shape := ⟨2, ![34816, 8]⟩
abbrev S8x1408x34816 : Shape := ⟨3, ![8, 1408, 34816]⟩
abbrev S8x34816x1408 : Shape := ⟨3, ![8, 34816, 1408]⟩
abbrev S8x34816x1024 : Shape := ⟨3, ![8, 34816, 1024]⟩
abbrev S8x34816 : Shape := ⟨2, ![8, 34816]⟩
abbrev S8x34816x1 : Shape := ⟨3, ![8, 34816, 1]⟩

abbrev nBuf : Space → Nat
  | .hbm => 41
  | .vmem => 0
  | .smem => 0
  | _ => 0

abbrev bufTy : (tb : Table) → Fin (tcTables nBuf tb) → BufTy
  | .hbm, ⟨0, _⟩ => ⟨S136, .i32⟩
  | .hbm, ⟨1, _⟩ => ⟨S1, .i32⟩
  | .hbm, ⟨2, _⟩ => ⟨S34816x1024, .f32⟩
  | .hbm, ⟨3, _⟩ => ⟨S8x1024x1408, .f32⟩
  | .hbm, ⟨4, _⟩ => ⟨S8x1024x1408, .f32⟩
  | .hbm, ⟨5, _⟩ => ⟨S8x1408x1024, .f32⟩
  | .hbm, ⟨6, _⟩ => ⟨S136, .i32⟩
  | .hbm, ⟨7, _⟩ => ⟨S136, .i32⟩
  | .hbm, ⟨8, _⟩ => ⟨S136, .i1⟩
  | .hbm, ⟨9, _⟩ => ⟨S_, .i32⟩
  | .hbm, ⟨10, _⟩ => ⟨S_, .i32⟩
  | .hbm, ⟨11, _⟩ => ⟨S136, .i32⟩
  | .hbm, ⟨12, _⟩ => ⟨S136, .i32⟩
  | .hbm, ⟨13, _⟩ => ⟨S136x256, .i32⟩
  | .hbm, ⟨14, _⟩ => ⟨S34816x1, .i32⟩
  | .hbm, ⟨15, _⟩ => ⟨S1x8, .i32⟩
  | .hbm, ⟨16, _⟩ => ⟨S34816x8, .i32⟩
  | .hbm, ⟨17, _⟩ => ⟨S34816x8, .i32⟩
  | .hbm, ⟨18, _⟩ => ⟨S34816x8, .i1⟩
  | .hbm, ⟨19, _⟩ => ⟨S34816x8, .f32⟩
  | .hbm, ⟨20, _⟩ => ⟨S8x1408x34816, .f32⟩
  | .hbm, ⟨21, _⟩ => ⟨S8x34816x1408, .f32⟩
  | .hbm, ⟨22, _⟩ => ⟨S8x34816x1408, .f32⟩
  | .hbm, ⟨23, _⟩ => ⟨S8x34816x1408, .f32⟩
  | .hbm, ⟨24, _⟩ => ⟨S_, .f32⟩
  | .hbm, ⟨25, _⟩ => ⟨S8x34816x1408, .f32⟩
  | .hbm, ⟨26, _⟩ => ⟨S8x34816x1408, .f32⟩
  | .hbm, ⟨27, _⟩ => ⟨S_, .f32⟩
  | .hbm, ⟨28, _⟩ => ⟨S8x34816x1408, .f32⟩
  | .hbm, ⟨29, _⟩ => ⟨S8x34816x1408, .f32⟩
  | .hbm, ⟨30, _⟩ => ⟨S8x34816x1408, .f32⟩
  | .hbm, ⟨31, _⟩ => ⟨S8x1408x34816, .f32⟩
  | .hbm, ⟨32, _⟩ => ⟨S8x34816x1408, .f32⟩
  | .hbm, ⟨33, _⟩ => ⟨S8x34816x1408, .f32⟩
  | .hbm, ⟨34, _⟩ => ⟨S8x34816x1024, .f32⟩
  | .hbm, ⟨35, _⟩ => ⟨S8x34816, .f32⟩
  | .hbm, ⟨36, _⟩ => ⟨S8x34816x1, .f32⟩
  | .hbm, ⟨37, _⟩ => ⟨S8x34816x1024, .f32⟩
  | .hbm, ⟨38, _⟩ => ⟨S8x34816x1024, .f32⟩
  | .hbm, ⟨39, _⟩ => ⟨S_, .f32⟩
  | .hbm, ⟨40, _⟩ => ⟨S34816x1024, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Dense.lean ====
abbrev S16384x1024 : Shape := ⟨2, ![16384, 1024]⟩
abbrev S8x8x1024 : Shape := ⟨3, ![8, 8, 1024]⟩
abbrev S1024x2816 : Shape := ⟨2, ![1024, 2816]⟩
abbrev S2816x1024 : Shape := ⟨2, ![2816, 1024]⟩
abbrev S512x1024 : Shape := ⟨2, ![512, 1024]⟩
abbrev S1x8x1024 : Shape := ⟨3, ![1, 8, 1024]⟩
abbrev S512x2816 : Shape := ⟨2, ![512, 2816]⟩
abbrev S1x1x1024 : Shape := ⟨3, ![1, 1, 1024]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x8x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_15 : BitVec 32 := 0#32
  let v27 : BitVec 1 := Scalar.cmpi .eq arg1 c0_i32_15
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DenseRefIdeal.lean ====
abbrev S16384x1024 : Shape := ⟨2, ![16384, 1024]⟩
abbrev S8x8x1024 : Shape := ⟨3, ![8, 8, 1024]⟩
abbrev S1024x2816 : Shape := ⟨2, ![1024, 2816]⟩
abbrev S2816x1024 : Shape := ⟨2, ![2816, 1024]⟩
abbrev S1x1x1024 : Shape := ⟨3, ![1, 1, 1024]⟩
abbrev S1024 : Shape := ⟨1, ![1024]⟩
abbrev S8192x1024 : Shape := ⟨2, ![8192, 1024]⟩
abbrev S2x1x1024 : Shape := ⟨3, ![2, 1, 1024]⟩
abbrev S2x1024 : Shape := ⟨2, ![2, 1024]⟩
abbrev S2x4096x1024 : Shape := ⟨3, ![2, 4096, 1024]⟩
abbrev S16384x2816 : Shape := ⟨2, ![16384, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x8x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1x1024, .f32⟩
  | .hbm, ⟨7, _⟩ => ⟨S1024, .f32⟩
  | .hbm, ⟨8, _⟩ => ⟨S8192x1024, .f32⟩
  | .hbm, ⟨9, _⟩ => ⟨S2x1x1024, .f32⟩
  | .hbm, ⟨10, _⟩ => ⟨S2x1024, .f32⟩
  | .hbm, ⟨11, _⟩ => ⟨S2x4096x1024, .f32⟩
  | .hbm, ⟨12, _⟩ => ⟨S8192x1024, .f32⟩
  | .hbm, ⟨13, _⟩ => ⟨S16384x1024, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x1024, .f32⟩
  | .hbm, ⟨27, _⟩ => ⟨S16384x1024, .f32⟩
  | .hbm, ⟨28, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Merge.lean ====
abbrev S16384x1024 : Shape := ⟨2, ![16384, 1024]⟩
abbrev S8x8x1024 : Shape := ⟨3, ![8, 8, 1024]⟩
abbrev S1024 : Shape := ⟨1, ![1024]⟩
abbrev S1024x3072 : Shape := ⟨2, ![1024, 3072]⟩
abbrev S8192x512 : Shape := ⟨2, ![8192, 512]⟩
abbrev S512x1024 : Shape := ⟨2, ![512, 1024]⟩
abbrev S1024x1024 : Shape := ⟨2, ![1024, 1024]⟩
abbrev S1x1024 : Shape := ⟨2, ![1, 1024]⟩
abbrev S1x8x1024 : Shape := ⟨3, ![1, 8, 1024]⟩
abbrev S512x512 : Shape := ⟨2, ![512, 512]⟩
abbrev S512 : Shape := ⟨1, ![512]⟩
abbrev S512x1 : Shape := ⟨2, ![512, 1]⟩
abbrev S1x1x1024 : Shape := ⟨3, ![1, 1, 1024]⟩

abbrev nBuf : Space → Nat
  | .hbm => 24
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S8x8x1024, .f32⟩
  | .hbm, ⟨2, _⟩ => ⟨S1024, .f32⟩
  | .hbm, ⟨3, _⟩ => ⟨S1024x3072, .f32⟩
  | .hbm, ⟨4, _⟩ => ⟨S8192x512, .f32⟩
  | .hbm, ⟨5, _⟩ => ⟨S8192x512, .f32⟩
  | .hbm, ⟨6, _⟩ => ⟨S8192x512, .bf16⟩
  | .hbm, ⟨7, _⟩ => ⟨S8192x512, .bf16⟩
  | .hbm, ⟨8, _⟩ => ⟨S8192x512, .f32⟩
  | .hbm, ⟨9, _⟩ => ⟨S8192x512, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1024, .f32⟩
  | .hbm, ⟨15, _⟩ => ⟨S1x1024, .f32⟩
  | .hbm, ⟨16, _⟩ => ⟨S1024x3072, .bf16⟩
  | .hbm, ⟨17, _⟩ => ⟨S512x1024, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S16384x1024, .f32⟩
  | .hbm, ⟨23, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x3072, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S16384x1024 : Shape := ⟨2, ![16384, 1024]⟩
abbrev S8x8x1024 : Shape := ⟨3, ![8, 8, 1024]⟩
abbrev S1024 : Shape := ⟨1, ![1024]⟩
abbrev S1024x3072 : Shape := ⟨2, ![1024, 3072]⟩
abbrev S8192x512 : Shape := ⟨2, ![8192, 512]⟩
abbrev S512x1024 : Shape := ⟨2, ![512, 1024]⟩
abbrev S1024x1024 : Shape := ⟨2, ![1024, 1024]⟩
abbrev S1x1x1024 : Shape := ⟨3, ![1, 1, 1024]⟩
abbrev S8192x1024 : Shape := ⟨2, ![8192, 1024]⟩
abbrev S2x1x1024 : Shape := ⟨3, ![2, 1, 1024]⟩
abbrev S2x1024 : Shape := ⟨2, ![2, 1024]⟩
abbrev S2x4096x1024 : Shape := ⟨3, ![2, 4096, 1024]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 124
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x8x1024, .f32⟩
  | .hbm, ⟨2, _⟩ => ⟨S1024, .f32⟩
  | .hbm, ⟨3, _⟩ => ⟨S1024x3072, .f32⟩
  | .hbm, ⟨4, _⟩ => ⟨S8192x512, .f32⟩
  | .hbm, ⟨5, _⟩ => ⟨S8192x512, .f32⟩
  | .hbm, ⟨6, _⟩ => ⟨S8192x512, .bf16⟩
  | .hbm, ⟨7, _⟩ => ⟨S8192x512, .bf16⟩
  | .hbm, ⟨8, _⟩ => ⟨S8192x512, .f32⟩
  | .hbm, ⟨9, _⟩ => ⟨S8192x512, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S8192x1024, .f32⟩
  | .hbm, ⟨18, _⟩ => ⟨S2x1x1024, .f32⟩
  | .hbm, ⟨19, _⟩ => ⟨S2x1024, .f32⟩
  | .hbm, ⟨20, _⟩ => ⟨S2x4096x1024, .f32⟩
  | .hbm, ⟨21, _⟩ => ⟨S8192x1024, .f32⟩
  | .hbm, ⟨22, _⟩ => ⟨S16384x1024, .f32⟩
  | .hbm, ⟨23, _⟩ => ⟨S1x1x1024, .f32⟩
  | .hbm, ⟨24, _⟩ => ⟨S1024, .f32⟩
  | .hbm, ⟨25, _⟩ => ⟨S8192x1024, .f32⟩
  | .hbm, ⟨26, _⟩ => ⟨S2x1x1024, .f32⟩
  | .hbm, ⟨27, _⟩ => ⟨S2x1024, .f32⟩
  | .hbm, ⟨28, _⟩ => ⟨S2x4096x1024, .f32⟩
  | .hbm, ⟨29, _⟩ => ⟨S8192x1024, .f32⟩
  | .hbm, ⟨30, _⟩ => ⟨S16384x1024, .f32⟩
  | .hbm, ⟨31, _⟩ => ⟨S1x1x1024, .f32⟩
  | .hbm, ⟨32, _⟩ => ⟨S1024, .f32⟩
  | .hbm, ⟨33, _⟩ => ⟨S8192x1024, .f32⟩
  | .hbm, ⟨34, _⟩ => ⟨S2x1x1024, .f32⟩
  | .hbm, ⟨35, _⟩ => ⟨S2x1024, .f32⟩
  | .hbm, ⟨36, _⟩ => ⟨S2x4096x1024, .f32⟩
  | .hbm, ⟨37, _⟩ => ⟨S8192x1024, .f32⟩
  | .hbm, ⟨38, _⟩ => ⟨S16384x1024, .f32⟩
  | .hbm, ⟨39, _⟩ => ⟨S1x1x1024, .f32⟩
  | .hbm, ⟨40, _⟩ => ⟨S1024, .f32⟩
  | .hbm, ⟨41, _⟩ => ⟨S8192x1024, .f32⟩
  | .hbm, ⟨42, _⟩ => ⟨S2x1x1024, .f32⟩
  | .hbm, ⟨43, _⟩ => ⟨S2x1024, .f32⟩
  | .hbm, ⟨44, _⟩ => ⟨S2x4096x1024, .f32⟩
  | .hbm, ⟨45, _⟩ => ⟨S8192x1024, .f32⟩
  | .hbm, ⟨46, _⟩ => ⟨S16384x1024, .f32⟩
  | .hbm, ⟨47, _⟩ => ⟨S1x1x1024, .f32⟩
  | .hbm, ⟨48, _⟩ => ⟨S1024, .f32⟩
  | .hbm, ⟨49, _⟩ => ⟨S8192x1024, .f32⟩
  | .hbm, ⟨50, _⟩ => ⟨S2x1x1024, .f32⟩
  | .hbm, ⟨51, _⟩ => ⟨S2x1024, .f32⟩
  | .hbm, ⟨52, _⟩ => ⟨S2x4096x1024, .f32⟩
  | .hbm, ⟨53, _⟩ => ⟨S8192x1024, .f32⟩
  | .hbm, ⟨54, _⟩ => ⟨S16384x1024, .f32⟩
  | .hbm, ⟨55, _⟩ => ⟨S16384x512, .f32⟩
  | .hbm, ⟨56, _⟩ => ⟨S16384x512, .bf16⟩
  | .hbm, ⟨57, _⟩ => ⟨S16384x512, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x3072, .f32⟩
  | .hbm, ⟨80, _⟩ => ⟨S16384x3072, .f32⟩
  | .hbm, ⟨81, _⟩ => ⟨S16384x3072, .f32⟩
  | .hbm, ⟨82, _⟩ => ⟨S_, .f32⟩
  | .hbm, ⟨83, _⟩ => ⟨S16384x3072, .f32⟩
  | .hbm, ⟨84, _⟩ => ⟨S16384x3072, .f32⟩
  | .hbm, ⟨85, _⟩ => ⟨S_, .f32⟩
  | .hbm, ⟨86, _⟩ => ⟨S16384x3072, .f32⟩
  | .hbm, ⟨87, _⟩ => ⟨S16384x3072, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S_, .f32⟩
  | .hbm, ⟨104, _⟩ => ⟨S16384, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S16384x1, .f32⟩
  | .hbm, ⟨113, _⟩ => ⟨S16384x1024, .f32⟩
  | .hbm, ⟨114, _⟩ => ⟨S16384x1024, .f32⟩
  | .hbm, ⟨115, _⟩ => ⟨S1x1024, .f32⟩
  | .hbm, ⟨116, _⟩ => ⟨S16384x1024, .f32⟩
  | .hbm, ⟨117, _⟩ => ⟨S16384x1024, .f32⟩
  | .hbm, ⟨118, _⟩ => ⟨S_, .f32⟩
  | .hbm, ⟨119, _⟩ => ⟨S16384x1024, .f32⟩
  | .hbm, ⟨120, _⟩ => ⟨S16384x1024, .f32⟩
  | .hbm, ⟨121, _⟩ => ⟨S16384x1024, .f32⟩
  | .hbm, ⟨122, _⟩ => ⟨S16384x1024, .f32⟩
  | .hbm, ⟨123, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst : Ref sig .tc := ⟨.hbm, 59, rfl⟩
abbrev main_v44 : Ref sig .tc := ⟨.hbm, 60, rfl⟩
abbrev main_v45 : Ref sig .tc := ⟨.hbm, 61, rfl⟩
abbrev main_cst_0 : Ref sig .tc := ⟨.hbm, 62, rfl⟩
abbrev main_v46 : Ref sig .tc := ⟨.hbm, 63, rfl⟩
abbrev main_v47 : Ref sig .tc := ⟨.hbm, 64, rfl⟩
abbrev main_cst_1 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_2 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_3 : Ref sig .tc := ⟨.hbm, 82, rfl⟩
abbrev main_v63 : Ref sig .tc := ⟨.hbm, 83, rfl⟩
abbrev main_v64 : Ref sig .tc := ⟨.hbm, 84, rfl⟩
abbrev main_cst_4 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_5 : Ref sig .tc := ⟨.hbm, 103, rfl⟩
abbrev main_v82 : Ref sig .tc := ⟨.hbm, 104, rfl⟩
abbrev main_v83 : Ref sig .tc := ⟨.hbm, 105, rfl⟩
abbrev main_cst_6 : Ref sig .tc := ⟨.hbm, 106, rfl⟩
abbrev main_v84 : Ref sig .tc := ⟨.hbm, 107, rfl⟩
abbrev main_v85 : Ref sig .tc := ⟨.hbm, 108, rfl⟩
abbrev main_cst_7 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_8 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩

abbrev nD : Nat := 1
abbrev τ : Topo := Topo.v7x

variable {F : FTy → Type} [FloatOps F]
-- ==== Heads.lean ====
abbrev S16384x1024 : Shape := ⟨2, ![16384, 1024]⟩
abbrev S8x8x1024 : Shape := ⟨3, ![8, 8, 1024]⟩
abbrev S1024 : Shape := ⟨1, ![1024]⟩
abbrev S1024x2464 : Shape := ⟨2, ![1024, 2464]⟩
abbrev S128 : Shape := ⟨1, ![128]⟩
abbrev S256 : Shape := ⟨1, ![256]⟩
abbrev S256x8x96 : Shape := ⟨3, ![256, 8, 96]⟩
abbrev S128x8x64 : Shape := ⟨3, ![128, 8, 64]⟩
abbrev S96 : Shape := ⟨1, ![96]⟩
abbrev S4096x16 : Shape := ⟨2, ![4096, 16]⟩
abbrev S_ : Shape := ⟨0, ![]⟩
abbrev S1024x64 : Shape := ⟨2, ![1024, 64]⟩
abbrev S1024x32 : Shape := ⟨2, ![1024, 32]⟩
abbrev S1024x96 : Shape := ⟨2, ![1024, 96]⟩
abbrev S1024x896 : Shape := ⟨2, ![1024, 896]⟩
abbrev S1024x128 : Shape := ⟨2, ![1024, 128]⟩
abbrev S1024x16x2 : Shape := ⟨3, ![1024, 16, 2]⟩
abbrev S1024x1536 : Shape := ⟨2, ![1024, 1536]⟩
abbrev S1024x2688 : Shape := ⟨2, ![1024, 2688]⟩
abbrev S256x8x128 : Shape := ⟨3, ![256, 8, 128]⟩
abbrev S256x1024 : Shape := ⟨2, ![256, 1024]⟩
abbrev S256x8x64 : Shape := ⟨3, ![256, 8, 64]⟩
abbrev S256x8x32 : Shape := ⟨3, ![256, 8, 32]⟩
abbrev S256x8x16x2 : Shape := ⟨4, ![256, 8, 16, 2]⟩
abbrev S128x8x128 : Shape := ⟨3, ![128, 8, 128]⟩
abbrev S128x1024 : Shape := ⟨2, ![128, 1024]⟩
abbrev S128x512 : Shape := ⟨2, ![128, 512]⟩
abbrev S4096x16x2 : Shape := ⟨3, ![4096, 16, 2]⟩
abbrev S4096x32 : Shape := ⟨2, ![4096, 32]⟩
abbrev S4096x16x1 : Shape := ⟨3, ![4096, 16, 1]⟩
abbrev S4096x128 : Shape := ⟨2, ![4096, 128]⟩
abbrev S512x128 : Shape := ⟨2, ![512, 128]⟩
abbrev S4608x128 : Shape := ⟨2, ![4608, 128]⟩
abbrev S1x1024 : Shape := ⟨2, ![1, 1024]⟩
abbrev S1x128 : Shape := ⟨2, ![1, 128]⟩
abbrev S1x256 : Shape := ⟨2, ![1, 256]⟩
abbrev S64 : Shape := ⟨1, ![64]⟩
abbrev S32 : Shape := ⟨1, ![32]⟩
abbrev S16x2 : Shape := ⟨2, ![16, 2]⟩
abbrev S1x96 : Shape := ⟨2, ![1, 96]⟩
abbrev S2x96 : Shape := ⟨2, ![2, 96]⟩
abbrev S8x128 : Shape := ⟨2, ![8, 128]⟩
abbrev S16384x512 : Shape := ⟨2, ![16384, 512]⟩
abbrev S16384x1536 : Shape := ⟨2, ![16384, 1536]⟩
abbrev S16384x128 : Shape := ⟨2, ![16384, 128]⟩
abbrev S512x1024 : Shape := ⟨2, ![512, 1024]⟩
abbrev S1x8x1024 : Shape := ⟨3, ![1, 8, 1024]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S1024x256 : Shape := ⟨2, ![1024, 256]⟩
abbrev S512x256 : Shape := ⟨2, ![512, 256]⟩
abbrev S256x256 : Shape := ⟨2, ![256, 256]⟩
abbrev S128x256 : Shape := ⟨2, ![128, 256]⟩

abbrev nBuf : Space → Nat
  | .hbm => 109
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S8x8x1024, .f32⟩
  | .hbm, ⟨2, _⟩ => ⟨S1024, .f32⟩
  | .hbm, ⟨3, _⟩ => ⟨S1024x2464, .f32⟩
  | .hbm, ⟨4, _⟩ => ⟨S128, .f32⟩
  | .hbm, ⟨5, _⟩ => ⟨S256, .f32⟩
  | .hbm, ⟨6, _⟩ => ⟨S256x8x96, .f32⟩
  | .hbm, ⟨7, _⟩ => ⟨S128x8x64, .f32⟩
  | .hbm, ⟨8, _⟩ => ⟨S128x8x64, .f32⟩
  | .hbm, ⟨9, _⟩ => ⟨S96, .f32⟩
  | .hbm, ⟨10, _⟩ => ⟨S96, .f32⟩
  | .hbm, ⟨11, _⟩ => ⟨S4096x16, .f32⟩
  | .hbm, ⟨12, _⟩ => ⟨S4096x16, .f32⟩
  | .hbm, ⟨13, _⟩ => ⟨S_, .f32⟩
  | .hbm, ⟨14, _⟩ => ⟨S1024x64, .f32⟩
  | .hbm, ⟨15, _⟩ => ⟨S1024x32, .f32⟩
  | .hbm, ⟨16, _⟩ => ⟨S1024x96, .f32⟩
  | .hbm, ⟨17, _⟩ => ⟨S1024x896, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x64, .f32⟩
  | .hbm, ⟨22, _⟩ => ⟨S1024x32, .f32⟩
  | .hbm, ⟨23, _⟩ => ⟨S1024x16x2, .f32⟩
  | .hbm, ⟨24, _⟩ => ⟨S1024x16x2, .f32⟩
  | .hbm, ⟨25, _⟩ => ⟨S1024x32, .f32⟩
  | .hbm, ⟨26, _⟩ => ⟨S1024x96, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x1536, .f32⟩
  | .hbm, ⟨31, _⟩ => ⟨S1024x2688, .f32⟩
  | .hbm, ⟨32, _⟩ => ⟨S1024x2688, .bf16⟩
  | .hbm, ⟨33, _⟩ => ⟨S_, .i32⟩
  | .hbm, ⟨34, _⟩ => ⟨S_, .f32⟩
  | .hbm, ⟨35, _⟩ => ⟨S256x8x128, .f32⟩
  | .hbm, ⟨36, _⟩ => ⟨S256x1024, .f32⟩
  | .hbm, ⟨37, _⟩ => ⟨S256x1024, .bf16⟩
  | .hbm, ⟨38, _⟩ => ⟨S256x8x64, .f32⟩
  | .hbm, ⟨39, _⟩ => ⟨S256x8x32, .f32⟩
  | .hbm, ⟨40, _⟩ => ⟨S256x8x16x2, .f32⟩
  | .hbm, ⟨41, _⟩ => ⟨S256x8x16x2, .f32⟩
  | .hbm, ⟨42, _⟩ => ⟨S256x8x32, .f32⟩
  | .hbm, ⟨43, _⟩ => ⟨S256x8x96, .f32⟩
  | .hbm, ⟨44, _⟩ => ⟨S_, .i32⟩
  | .hbm, ⟨45, _⟩ => ⟨S_, .f32⟩
  | .hbm, ⟨46, _⟩ => ⟨S256x8x128, .f32⟩
  | .hbm, ⟨47, _⟩ => ⟨S256x1024, .f32⟩
  | .hbm, ⟨48, _⟩ => ⟨S256x1024, .bf16⟩
  | .hbm, ⟨49, _⟩ => ⟨S_, .i32⟩
  | .hbm, ⟨50, _⟩ => ⟨S_, .f32⟩
  | .hbm, ⟨51, _⟩ => ⟨S128x8x128, .f32⟩
  | .hbm, ⟨52, _⟩ => ⟨S128x1024, .f32⟩
  | .hbm, ⟨53, _⟩ => ⟨S128x1024, .bf16⟩
  | .hbm, ⟨54, _⟩ => ⟨S128x512, .f32⟩
  | .hbm, ⟨55, _⟩ => ⟨S128x512, .bf16⟩
  | .hbm, ⟨56, _⟩ => ⟨S4096x16x2, .f32⟩
  | .hbm, ⟨57, _⟩ => ⟨S4096x32, .f32⟩
  | .hbm, ⟨58, _⟩ => ⟨S4096x16, .f32⟩
  | .hbm, ⟨59, _⟩ => ⟨S4096x16x1, .f32⟩
  | .hbm, ⟨60, _⟩ => ⟨S4096x16x1, .f32⟩
  | .hbm, ⟨61, _⟩ => ⟨S4096x16x2, .f32⟩
  | .hbm, ⟨62, _⟩ => ⟨S4096x32, .f32⟩
  | .hbm, ⟨63, _⟩ => ⟨S_, .f32⟩
  | .hbm, ⟨64, _⟩ => ⟨S_, .f32⟩
  | .hbm, ⟨65, _⟩ => ⟨S4096x128, .f32⟩
  | .hbm, ⟨66, _⟩ => ⟨S_, .i32⟩
  | .hbm, ⟨67, _⟩ => ⟨S_, .f32⟩
  | .hbm, ⟨68, _⟩ => ⟨S4096x128, .f32⟩
  | .hbm, ⟨69, _⟩ => ⟨S_, .f32⟩
  | .hbm, ⟨70, _⟩ => ⟨S512x128, .f32⟩
  | .hbm, ⟨71, _⟩ => ⟨S4608x128, .f32⟩
  | .hbm, ⟨72, _⟩ => ⟨S_, .f32⟩
  | .hbm, ⟨73, _⟩ => ⟨S512x128, .f32⟩
  | .hbm, ⟨74, _⟩ => ⟨S4608x128, .f32⟩
  | .hbm, ⟨75, _⟩ => ⟨S1x1024, .f32⟩
  | .hbm, ⟨76, _⟩ => ⟨S1x128, .f32⟩
  | .hbm, ⟨77, _⟩ => ⟨S1x256, .f32⟩
  | .hbm, ⟨78, _⟩ => ⟨S64, .f32⟩
  | .hbm, ⟨79, _⟩ => ⟨S32, .f32⟩
  | .hbm, ⟨80, _⟩ => ⟨S16x2, .f32⟩
  | .hbm, ⟨81, _⟩ => ⟨S16x2, .f32⟩
  | .hbm, ⟨82, _⟩ => ⟨S32, .f32⟩
  | .hbm, ⟨83, _⟩ => ⟨S96, .f32⟩
  | .hbm, ⟨84, _⟩ => ⟨S1x96, .f32⟩
  | .hbm, ⟨85, _⟩ => ⟨S1x96, .f32⟩
  | .hbm, ⟨86, _⟩ => ⟨S2x96, .f32⟩
  | .hbm, ⟨87, _⟩ => ⟨S_, .i32⟩
  | .hbm, ⟨88, _⟩ => ⟨S_, .f32⟩
  | .hbm, ⟨89, _⟩ => ⟨S8x128, .f32⟩
  | .hbm, ⟨90, _⟩ => ⟨S64, .f32⟩
  | .hbm, ⟨91, _⟩ => ⟨S32, .f32⟩
  | .hbm, ⟨92, _⟩ => ⟨S16x2, .f32⟩
  | .hbm, ⟨93, _⟩ => ⟨S16x2, .f32⟩
  | .hbm, ⟨94, _⟩ => ⟨S32, .f32⟩
  | .hbm, ⟨95, _⟩ => ⟨S96, .f32⟩
  | .hbm, ⟨96, _⟩ => ⟨S1x96, .f32⟩
  | .hbm, ⟨97, _⟩ => ⟨S1x96, .f32⟩
  | .hbm, ⟨98, _⟩ => ⟨S2x96, .f32⟩
  | .hbm, ⟨99, _⟩ => ⟨S_, .i32⟩
  | .hbm, ⟨100, _⟩ => ⟨S_, .f32⟩
  | .hbm, ⟨101, _⟩ => ⟨S8x128, .f32⟩
  | .hbm, ⟨102, _⟩ => ⟨S16384x512, .f32⟩
  | .hbm, ⟨103, _⟩ => ⟨S16384x1536, .f32⟩
  | .hbm, ⟨104, _⟩ => ⟨S16384x128, .f32⟩
  | .hbm, ⟨105, _⟩ => ⟨S16384x128, .f32⟩
  | .hbm, ⟨106, _⟩ => ⟨S16384x1024, .bf16⟩
  | .hbm, ⟨107, _⟩ => ⟨S16384x1024, .bf16⟩
  | .hbm, ⟨108, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x2688, .bf16⟩
  | .local _ .vmem, ⟨6, _⟩ => ⟨S1x128, .f32⟩
  | .local _ .vmem, ⟨7, _⟩ => ⟨S1x256, .f32⟩
  | .local _ .vmem, ⟨8, _⟩ => ⟨S256x1024, .bf16⟩
  | .local _ .vmem, ⟨9, _⟩ => ⟨S256x1024, .bf16⟩
  | .local _ .vmem, ⟨10, _⟩ => ⟨S8x128, .f32⟩
  | .local _ .vmem, ⟨11, _⟩ => ⟨S128x1024, .bf16⟩
  | .local _ .vmem, ⟨12, _⟩ => ⟨S8x128, .f32⟩
  | .local _ .vmem, ⟨13, _⟩ => ⟨S128x512, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .f32⟩
  | .local _ .vmem, ⟨19, _⟩ => ⟨S512x512, .f32⟩
  | .local _ .vmem, ⟨20, _⟩ => ⟨S512x1536, .f32⟩
  | .local _ .vmem, ⟨21, _⟩ => ⟨S512x1536, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x512, .bf16⟩
  | .local _ .vmem, ⟨31, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_call2_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_call4_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_call5_v0 : Ref sig .tc := ⟨.hbm, 64, rfl⟩
abbrev main_v39 : Ref sig .tc := ⟨.hbm, 65, rfl⟩
abbrev main_c_5 : Ref sig .tc := ⟨.hbm, 66, rfl⟩
abbrev main_call6_v0 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_8 : Ref sig .tc := ⟨.hbm, 87, rfl⟩
abbrev main_call7_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_9 : Ref sig .tc := ⟨.hbm, 99, rfl⟩
abbrev main_call8_v0 : Ref sig .tc := ⟨.hbm, 100, rfl⟩
abbrev main_v67 : Ref sig .tc := ⟨.hbm, 101, rfl⟩
abbrev main_v68_0 : Ref sig .tc := ⟨.hbm, 102, rfl⟩
abbrev main_v68_1 : Ref sig .tc := ⟨.hbm, 103, rfl⟩
abbrev main_v68_2 : Ref sig .tc := ⟨.hbm, 104, rfl⟩
abbrev main_v68_3 : Ref sig .tc := ⟨.hbm, 105, rfl⟩
abbrev main_v68_4 : Ref sig .tc := ⟨.hbm, 106, rfl⟩
abbrev main_v68_5 : Ref sig .tc := ⟨.hbm, 107, rfl⟩
abbrev main_v68_6 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_13 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== HeadsIdeal.lean ====
variable {F : FTy → Type} [FloatOps F] [Named F]
def κ : String → Option EReal := fun
  | "inv_d_qk" => some ((96⁻¹ : ℝ) : EReal)
  | "qk_scale" => some (((Real.log 2)⁻¹ * (Real.sqrt 96)⁻¹ : ℝ) : EReal)
  | _ => none
-- ==== HeadsRefIdeal.lean ====
abbrev S16384x1024 : Shape := ⟨2, ![16384, 1024]⟩
abbrev S8x8x1024 : Shape := ⟨3, ![8, 8, 1024]⟩
abbrev S1024 : Shape := ⟨1, ![1024]⟩
abbrev S1024x2464 : Shape := ⟨2, ![1024, 2464]⟩
abbrev S128 : Shape := ⟨1, ![128]⟩
abbrev S256 : Shape := ⟨1, ![256]⟩
abbrev S256x8x96 : Shape := ⟨3, ![256, 8, 96]⟩
abbrev S128x8x64 : Shape := ⟨3, ![128, 8, 64]⟩
abbrev S96 : Shape := ⟨1, ![96]⟩
abbrev S4096x16 : Shape := ⟨2, ![4096, 16]⟩
abbrev S1x1x1024 : Shape := ⟨3, ![1, 1, 1024]⟩
abbrev S8192x1024 : Shape := ⟨2, ![8192, 1024]⟩
abbrev S2x1x1024 : Shape := ⟨3, ![2, 1, 1024]⟩
abbrev S2x1024 : Shape := ⟨2, ![2, 1024]⟩
abbrev S2x4096x1024 : Shape := ⟨3, ![2, 4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2464 : Shape := ⟨2, ![16384, 2464]⟩
abbrev S16384x512 : Shape := ⟨2, ![16384, 512]⟩
abbrev S16384x256 : Shape := ⟨2, ![16384, 256]⟩
abbrev S16384x128 : Shape := ⟨2, ![16384, 128]⟩
abbrev S16384x32 : Shape := ⟨2, ![16384, 32]⟩
abbrev S16384x1536 : Shape := ⟨2, ![16384, 1536]⟩
abbrev S1x128 : Shape := ⟨2, ![1, 128]⟩
abbrev S1x256 : Shape := ⟨2, ![1, 256]⟩
abbrev S16384x8x96 : Shape := ⟨3, ![16384, 8, 96]⟩
abbrev S16384x8 : Shape := ⟨2, ![16384, 8]⟩
abbrev S16384x8x1 : Shape := ⟨3, ![16384, 8, 1]⟩
abbrev S1x1x96 : Shape := ⟨3, ![1, 1, 96]⟩
abbrev S8192x8x96 : Shape := ⟨3, ![8192, 8, 96]⟩
abbrev S2x4096x8x96 : Shape := ⟨4, ![2, 4096, 8, 96]⟩
abbrev S2x4096x8x64 : Shape := ⟨4, ![2, 4096, 8, 64]⟩
abbrev S2x4096x8x32 : Shape := ⟨4, ![2, 4096, 8, 32]⟩
abbrev S4096x1x16 : Shape := ⟨3, ![4096, 1, 16]⟩
abbrev S2x4096x8x16 : Shape := ⟨4, ![2, 4096, 8, 16]⟩
abbrev S1x4096x1x16 : Shape := ⟨4, ![1, 4096, 1, 16]⟩
abbrev S2x4096x8x16x1 : Shape := ⟨5, ![2, 4096, 8, 16, 1]⟩
abbrev S2x4096x8x16x2 : Shape := ⟨5, ![2, 4096, 8, 16, 2]⟩
abbrev S16384x1x32 : Shape := ⟨3, ![16384, 1, 32]⟩
abbrev S16384x8x32 : Shape := ⟨3, ![16384, 8, 32]⟩
abbrev S16384x8x64 : Shape := ⟨3, ![16384, 8, 64]⟩
abbrev S16384x8x128 : Shape := ⟨3, ![16384, 8, 128]⟩

abbrev nBuf : Space → Nat
  | .hbm => 210
  | .vmem => 0
  | .smem => 0
  | _ => 0

abbrev hbmTy0_0 (i : Nat) : BufTy := match i % 128 with
  | 0 => ⟨S16384x1024, .f32⟩
  | 1 => ⟨S8x8x1024, .f32⟩
  | 2 => ⟨S1024, .f32⟩
  | 3 => ⟨S1024x2464, .f32⟩
  | 4 => ⟨S128, .f32⟩
  | 5 => ⟨S256, .f32⟩
  | 6 => ⟨S256x8x96, .f32⟩
  | 7 => ⟨S128x8x64, .f32⟩
  | 8 => ⟨S128x8x64, .f32⟩
  | 9 => ⟨S96, .f32⟩
  | 10 => ⟨S96, .f32⟩
  | 11 => ⟨S4096x16, .f32⟩
  | 12 => ⟨S4096x16, .f32⟩
  | 13 => ⟨S1x1x1024, .f32⟩
  | 14 => ⟨S1024, .f32⟩
  | 15 => ⟨S8192x1024, .f32⟩
  | 16 => ⟨S2x1x1024, .f32⟩
  | 17 => ⟨S2x1024, .f32⟩
  | 18 => ⟨S2x4096x1024, .f32⟩
  | 19 => ⟨S8192x1024, .f32⟩
  | 20 => ⟨S16384x1024, .f32⟩
  | 21 => ⟨S1x1x1024, .f32⟩
  | 22 => ⟨S1024, .f32⟩
  | 23 => ⟨S8192x1024, .f32⟩
  | 24 => ⟨S2x1x1024, .f32⟩
  | 25 => ⟨S2x1024, .f32⟩
  | 26 => ⟨S2x4096x1024, .f32⟩
  | 27 => ⟨S8192x1024, .f32⟩
  | 28 => ⟨S16384x1024, .f32⟩
  | 29 => ⟨S16384x1024, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x1024, .f32⟩
  | 41 => ⟨S16384x1024, .f32⟩
  | 42 => ⟨S1x1024, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S16384x1024, .f32⟩
  | 49 => ⟨S16384x1024, .f32⟩
  | 50 => ⟨S16384x2464, .f32⟩
  | 51 => ⟨S16384x512, .f32⟩
  | 52 => ⟨S16384x256, .f32⟩
  | 53 => ⟨S16384x128, .f32⟩
  | 54 => ⟨S16384x32, .f32⟩
  | 55 => ⟨S16384x1536, .f32⟩
  | 56 => ⟨S16384x128, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x1, .f32⟩
  | 67 => ⟨S16384x128, .f32⟩
  | 68 => ⟨S16384x128, .f32⟩
  | 69 => ⟨S1x128, .f32⟩
  | 70 => ⟨S16384x128, .f32⟩
  | 71 => ⟨S16384x128, .f32⟩
  | 72 => ⟨S16384x256, .f32⟩
  | 73 => ⟨S_, .f32⟩
  | 74 => ⟨S16384, .f32⟩
  | 75 => ⟨S16384x1, .f32⟩
  | 76 => ⟨S_, .f32⟩
  | 77 => ⟨S16384x1, .f32⟩
  | 78 => ⟨S16384x1, .f32⟩
  | 79 => ⟨S_, .f32⟩
  | 80 => ⟨S16384x1, .f32⟩
  | 81 => ⟨S16384x1, .f32⟩
  | 82 => ⟨S16384x1, .f32⟩
  | 83 => ⟨S16384x256, .f32⟩
  | 84 => ⟨S16384x256, .f32⟩
  | 85 => ⟨S1x256, .f32⟩
  | 86 => ⟨S16384x256, .f32⟩
  | 87 => ⟨S16384x256, .f32⟩
  | 88 => ⟨S16384x8x96, .f32⟩
  | 89 => ⟨S16384x8x96, .f32⟩
  | 90 => ⟨S_, .f32⟩
  | 91 => ⟨S16384x8, .f32⟩
  | 92 => ⟨S16384x8x1, .f32⟩
  | 93 => ⟨S_, .f32⟩
  | 94 => ⟨S16384x8x1, .f32⟩
  | 95 => ⟨S16384x8x1, .f32⟩
  | 96 => ⟨S_, .f32⟩
  | 97 => ⟨S16384x8x1, .f32⟩
  | 98 => ⟨S16384x8x1, .f32⟩
  | 99 => ⟨S16384x8x1, .f32⟩
  | 100 => ⟨S16384x8x96, .f32⟩
  | 101 => ⟨S16384x8x96, .f32⟩
  | 102 => ⟨S1x1x96, .f32⟩
  | 103 => ⟨S16384x8x96, .f32⟩
  | 104 => ⟨S16384x8x96, .f32⟩
  | 105 => ⟨S8192x8x96, .f32⟩
  | 106 => ⟨S2x4096x8x96, .f32⟩
  | 107 => ⟨S2x4096x8x64, .f32⟩
  | 108 => ⟨S2x4096x8x32, .f32⟩
  | 109 => ⟨S4096x1x16, .f32⟩
  | 110 => ⟨S4096x1x16, .f32⟩
  | 111 => ⟨S2x4096x8x16, .f32⟩
  | 112 => ⟨S2x4096x8x16, .f32⟩
  | 113 => ⟨S1x4096x1x16, .f32⟩
  | 114 => ⟨S2x4096x8x16, .f32⟩
  | 115 => ⟨S2x4096x8x16, .f32⟩
  | 116 => ⟨S1x4096x1x16, .f32⟩
  | 117 => ⟨S2x4096x8x16, .f32⟩
  | 118 => ⟨S2x4096x8x16, .f32⟩
  | 119 => ⟨S2x4096x8x16, .f32⟩
  | 120 => ⟨S1x4096x1x16, .f32⟩
  | 121 => ⟨S2x4096x8x16, .f32⟩
  | 122 => ⟨S2x4096x8x16, .f32⟩
  | 123 => ⟨S1x4096x1x16, .f32⟩
  | 124 => ⟨S2x4096x8x16, .f32⟩
  | 125 => ⟨S2x4096x8x16, .f32⟩
  | 126 => ⟨S2x4096x8x16, .f32⟩
  | 127 => ⟨S2x4096x8x16x1, .f32⟩
  | _ => ⟨S16384x1024, .f32⟩

abbrev hbmTy0_1 (i : Nat) : BufTy := match i % 128 with
  | 0 => ⟨S2x4096x8x16x1, .f32⟩
  | 1 => ⟨S2x4096x8x16x2, .f32⟩
  | 2 => ⟨S2x4096x8x32, .f32⟩
  | 3 => ⟨S2x4096x8x96, .f32⟩
  | 4 => ⟨S8192x8x96, .f32⟩
  | 5 => ⟨S8192x8x96, .f32⟩
  | 6 => ⟨S16384x8x96, .f32⟩
  | 7 => ⟨S16384x1x32, .f32⟩
  | 8 => ⟨S16384x8x32, .f32⟩
  | 9 => ⟨S16384x8x64, .f32⟩
  | 10 => ⟨S16384x8x96, .f32⟩
  | 11 => ⟨S16384x8x96, .f32⟩
  | 12 => ⟨S_, .f32⟩
  | 13 => ⟨S16384x8, .f32⟩
  | 14 => ⟨S16384x8x1, .f32⟩
  | 15 => ⟨S_, .f32⟩
  | 16 => ⟨S16384x8x1, .f32⟩
  | 17 => ⟨S16384x8x1, .f32⟩
  | 18 => ⟨S_, .f32⟩
  | 19 => ⟨S16384x8x1, .f32⟩
  | 20 => ⟨S16384x8x1, .f32⟩
  | 21 => ⟨S16384x8x1, .f32⟩
  | 22 => ⟨S16384x8x96, .f32⟩
  | 23 => ⟨S16384x8x96, .f32⟩
  | 24 => ⟨S1x1x96, .f32⟩
  | 25 => ⟨S16384x8x96, .f32⟩
  | 26 => ⟨S16384x8x96, .f32⟩
  | 27 => ⟨S8192x8x96, .f32⟩
  | 28 => ⟨S2x4096x8x96, .f32⟩
  | 29 => ⟨S2x4096x8x64, .f32⟩
  | 30 => ⟨S2x4096x8x32, .f32⟩
  | 31 => ⟨S4096x1x16, .f32⟩
  | 32 => ⟨S4096x1x16, .f32⟩
  | 33 => ⟨S2x4096x8x16, .f32⟩
  | 34 => ⟨S2x4096x8x16, .f32⟩
  | 35 => ⟨S1x4096x1x16, .f32⟩
  | 36 => ⟨S2x4096x8x16, .f32⟩
  | 37 => ⟨S2x4096x8x16, .f32⟩
  | 38 => ⟨S1x4096x1x16, .f32⟩
  | 39 => ⟨S2x4096x8x16, .f32⟩
  | 40 => ⟨S2x4096x8x16, .f32⟩
  | 41 => ⟨S2x4096x8x16, .f32⟩
  | 42 => ⟨S1x4096x1x16, .f32⟩
  | 43 => ⟨S2x4096x8x16, .f32⟩
  | 44 => ⟨S2x4096x8x16, .f32⟩
  | 45 => ⟨S1x4096x1x16, .f32⟩
  | 46 => ⟨S2x4096x8x16, .f32⟩
  | 47 => ⟨S2x4096x8x16, .f32⟩
  | 48 => ⟨S2x4096x8x16, .f32⟩
  | 49 => ⟨S2x4096x8x16x1, .f32⟩
  | 50 => ⟨S2x4096x8x16x1, .f32⟩
  | 51 => ⟨S2x4096x8x16x2, .f32⟩
  | 52 => ⟨S2x4096x8x32, .f32⟩
  | 53 => ⟨S2x4096x8x96, .f32⟩
  | 54 => ⟨S8192x8x96, .f32⟩
  | 55 => ⟨S8192x8x96, .f32⟩
  | 56 => ⟨S16384x8x96, .f32⟩
  | 57 => ⟨S16384x8x64, .f32⟩
  | 58 => ⟨S16384x512, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .i32⟩
  | 67 => ⟨S_, .f32⟩
  | 68 => ⟨S16384x128, .f32⟩
  | 69 => ⟨S16384x8x96, .f32⟩
  | 70 => ⟨S16384x8x96, .f32⟩
  | 71 => ⟨S_, .i32⟩
  | 72 => ⟨S_, .f32⟩
  | 73 => ⟨S16384x8x128, .f32⟩
  | 74 => ⟨S16384x1024, .f32⟩
  | 75 => ⟨S16384x1024, .bf16⟩
  | 76 => ⟨S_, .i32⟩
  | 77 => ⟨S_, .f32⟩
  | 78 => ⟨S16384x8x128, .f32⟩
  | 79 => ⟨S16384x1024, .f32⟩
  | 80 => ⟨S16384x1024, .bf16⟩
  | 81 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_12 : Ref sig .tc := ⟨.hbm, 140, rfl⟩
abbrev main_v114 : Ref sig .tc := ⟨.hbm, 141, rfl⟩
abbrev main_v115 : Ref sig .tc := ⟨.hbm, 142, rfl⟩
abbrev main_cst_13 : Ref sig .tc := ⟨.hbm, 143, rfl⟩
abbrev main_v116 : Ref sig .tc := ⟨.hbm, 144, rfl⟩
abbrev main_v117 : Ref sig .tc := ⟨.hbm, 145, rfl⟩
abbrev main_cst_14 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_cst_15 : Ref sig .tc := ⟨.hbm, 187, rfl⟩
abbrev main_v158 : Ref sig .tc := ⟨.hbm, 188, rfl⟩
abbrev main_cst_16 : Ref sig .tc := ⟨.hbm, 189, rfl⟩
abbrev main_v159 : Ref sig .tc := ⟨.hbm, 190, rfl⟩
abbrev main_v160 : Ref sig .tc := ⟨.hbm, 191, rfl⟩
abbrev main_cst_17 : Ref sig .tc := ⟨.hbm, 192, rfl⟩
abbrev main_v161 : Ref sig .tc := ⟨.hbm, 193, rfl⟩
abbrev main_c : Ref sig .tc := ⟨.hbm, 194, rfl⟩
abbrev main_call0_v0 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_c_18 : Ref sig .tc := ⟨.hbm, 199, rfl⟩
abbrev main_call1_v0 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_c_19 : Ref sig .tc := ⟨.hbm, 204, rfl⟩
abbrev main_call2_v0 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩

abbrev nD : Nat := 1
abbrev τ : Topo := Topo.v7x

variable {F : FTy → Type} [FloatOps F]
-- ==== Prompt.lean ====
abbrev S32x256x8x96 : Shape := ⟨4, ![32, 256, 8, 96]⟩
abbrev S32x256x8x64 : Shape := ⟨4, ![32, 256, 8, 64]⟩
abbrev S2x4096x8x96 : Shape := ⟨4, ![2, 4096, 8, 96]⟩
abbrev S2x4096x8x64 : Shape := ⟨4, ![2, 4096, 8, 64]⟩
abbrev S_ : Shape := ⟨0, ![]⟩
abbrev S8192x8x96 : Shape := ⟨3, ![8192, 8, 96]⟩
abbrev S16384x8x96 : Shape := ⟨3, ![16384, 8, 96]⟩
abbrev S16384x8x128 : Shape := ⟨3, ![16384, 8, 128]⟩
abbrev S16384x1024 : Shape := ⟨2, ![16384, 1024]⟩
abbrev S8192x512 : Shape := ⟨2, ![8192, 512]⟩
abbrev S16384x512 : Shape := ⟨2, ![16384, 512]⟩
abbrev S256x1024 : Shape := ⟨2, ![256, 1024]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 36
  | .vmem => 8
  | .smem => 0
  | _ => 0

abbrev bufTy : (tb : Table) → Fin (tcTables nBuf tb) → BufTy
  | .hbm, ⟨0, _⟩ => ⟨S32x256x8x96, .f32⟩
  | .hbm, ⟨1, _⟩ => ⟨S32x256x8x96, .f32⟩
  | .hbm, ⟨2, _⟩ => ⟨S32x256x8x64, .f32⟩
  | .hbm, ⟨3, _⟩ => ⟨S2x4096x8x96, .f32⟩
  | .hbm, ⟨4, _⟩ => ⟨S2x4096x8x96, .f32⟩
  | .hbm, ⟨5, _⟩ => ⟨S2x4096x8x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x256x8x96, .f32⟩
  | .hbm, ⟨14, _⟩ => ⟨S32x256x8x96, .f32⟩
  | .hbm, ⟨15, _⟩ => ⟨S2x4096x8x96, .f32⟩
  | .hbm, ⟨16, _⟩ => ⟨S2x4096x8x96, .f32⟩
  | .hbm, ⟨17, _⟩ => ⟨S8192x8x96, .f32⟩
  | .hbm, ⟨18, _⟩ => ⟨S8192x8x96, .f32⟩
  | .hbm, ⟨19, _⟩ => ⟨S16384x8x96, .f32⟩
  | .hbm, ⟨20, _⟩ => ⟨S_, .f32⟩
  | .hbm, ⟨21, _⟩ => ⟨S16384x8x128, .f32⟩
  | .hbm, ⟨22, _⟩ => ⟨S16384x1024, .f32⟩
  | .hbm, ⟨23, _⟩ => ⟨S16384x1024, .bf16⟩
  | .hbm, ⟨24, _⟩ => ⟨S8192x8x96, .f32⟩
  | .hbm, ⟨25, _⟩ => ⟨S8192x8x96, .f32⟩
  | .hbm, ⟨26, _⟩ => ⟨S16384x8x96, .f32⟩
  | .hbm, ⟨27, _⟩ => ⟨S_, .f32⟩
  | .hbm, ⟨28, _⟩ => ⟨S16384x8x128, .f32⟩
  | .hbm, ⟨29, _⟩ => ⟨S16384x1024, .f32⟩
  | .hbm, ⟨30, _⟩ => ⟨S16384x1024, .bf16⟩
  | .hbm, ⟨31, _⟩ => ⟨S8192x512, .f32⟩
  | .hbm, ⟨32, _⟩ => ⟨S8192x512, .f32⟩
  | .hbm, ⟨33, _⟩ => ⟨S16384x512, .f32⟩
  | .hbm, ⟨34, _⟩ => ⟨S16384x512, .bf16⟩
  | .hbm, ⟨35, _⟩ => ⟨S8192x512, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | _, _ => ⟨S32x256x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PromptRefIdeal.lean ====
abbrev S32x256x8x96 : Shape := ⟨4, ![32, 256, 8, 96]⟩
abbrev S32x256x8x64 : Shape := ⟨4, ![32, 256, 8, 64]⟩
abbrev S2x4096x8x96 : Shape := ⟨4, ![2, 4096, 8, 96]⟩
abbrev S2x4096x8x64 : Shape := ⟨4, ![2, 4096, 8, 64]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S32x8x64x256 : Shape := ⟨4, ![32, 8, 64, 256]⟩
abbrev S8192x512 : Shape := ⟨2, ![8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S32x256x8x96, .f32⟩
  | .hbm, ⟨1, _⟩ => ⟨S32x256x8x96, .f32⟩
  | .hbm, ⟨2, _⟩ => ⟨S32x256x8x64, .f32⟩
  | .hbm, ⟨3, _⟩ => ⟨S2x4096x8x96, .f32⟩
  | .hbm, ⟨4, _⟩ => ⟨S2x4096x8x96, .f32⟩
  | .hbm, ⟨5, _⟩ => ⟨S2x4096x8x64, .f32⟩
  | .hbm, ⟨6, _⟩ => ⟨S32x8x256x256, .f32⟩
  | .hbm, ⟨7, _⟩ => ⟨S_, .f32⟩
  | .hbm, ⟨8, _⟩ => ⟨S_, .f32⟩
  | .hbm, ⟨9, _⟩ => ⟨S32x8x256x256, .f32⟩
  | .hbm, ⟨10, _⟩ => ⟨S32x8x256x256, .f32⟩
  | .hbm, ⟨11, _⟩ => ⟨S_, .f32⟩
  | .hbm, ⟨12, _⟩ => ⟨S32x8x256, .f32⟩
  | .hbm, ⟨13, _⟩ => ⟨S_, .f32⟩
  | .hbm, ⟨14, _⟩ => ⟨S32x8x256, .f32⟩
  | .hbm, ⟨15, _⟩ => ⟨S32x8x256, .f32⟩
  | .hbm, ⟨16, _⟩ => ⟨S32x8x256x1, .f32⟩
  | .hbm, ⟨17, _⟩ => ⟨S32x8x256x256, .f32⟩
  | .hbm, ⟨18, _⟩ => ⟨S32x8x256x256, .f32⟩
  | .hbm, ⟨19, _⟩ => ⟨S32x8x256x256, .f32⟩
  | .hbm, ⟨20, _⟩ => ⟨S_, .f32⟩
  | .hbm, ⟨21, _⟩ => ⟨S32x8x256, .f32⟩
  | .hbm, ⟨22, _⟩ => ⟨S32x8x256x1, .f32⟩
  | .hbm, ⟨23, _⟩ => ⟨S32x8x256x256, .f32⟩
  | .hbm, ⟨24, _⟩ => ⟨S32x8x256x256, .f32⟩
  | .hbm, ⟨25, _⟩ => ⟨S32x8x64x256, .f32⟩
  | .hbm, ⟨26, _⟩ => ⟨S32x256x8x64, .f32⟩
  | .hbm, ⟨27, _⟩ => ⟨S8192x512, .f32⟩
  | .hbm, ⟨28, _⟩ => ⟨S8192x512, .bf16⟩
  | _, _ => ⟨S32x256x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Math.lean ====
/-  The extended-real algebra of attention: a softmax-weighted sum of values, and the two ways the programs compute it
    (in one pass against the row's maximum; in two groups of keys combined by their maxima, in powers of two). No
    program is mentioned here. -/
module

public import Idealize.ShloMosaic.PureOps.Ideal
public import Idealize.ShloMosaic.PureOps.Ideal.Laws

@[expose] public section

noncomputable section

namespace Cert.Attn

open Idealize.ShloMosaic

/-- The f32 pattern of minus infinity is the bottom element. -/
theorem negInf : Ideal.ofBits .f32 4286578688#32 = ⊥ := by simp [Ideal.ofBits, Ideal.ieee]

/-- A sum of reals, taken in the extended reals, is the real sum. -/
theorem sum_coe {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A nonnegative real factor goes into a sum of extended reals. -/
theorem mul_sum_coe {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

theorem coe_max (a b : ℝ) : ((max a b : ℝ) : EReal) = max (a : EReal) (b : EReal) :=
  EReal.coe_strictMono.monotone.map_max

/-- The maximum of finitely many reals, at least one, is a real. -/
theorem fold_max_real {ι : Type*} [Fintype ι] [Nonempty ι] (f : ι → ℝ) :
    ∃ M : ℝ, Finset.univ.fold max (⊥ : EReal) (fun k => (f k : EReal)) = (M : EReal) := by
  classical
  have key : ∀ s : Finset ι, s.fold max (⊥ : EReal) (fun k => (f k : EReal)) = ⊥ ∧ s = ∅ ∨
      ∃ M : ℝ, s.fold max (⊥ : EReal) (fun k => (f k : EReal)) = (M : EReal) := by
    intro s
    induction s using Finset.induction_on with
    | empty => left; simp
    | insert a s ha ih =>
      right
      rw [Finset.fold_insert ha]
      rcases ih with ⟨h, _⟩ | ⟨M, h⟩
      · exact ⟨f a, by rw [h]; simp⟩
      · exact ⟨max (f a) M, by rw [h]; exact (coe_max _ _).symm⟩
  rcases key Finset.univ with ⟨_, h⟩ | h
  · exact absurd h Finset.univ_nonempty.ne_empty
  · exact h

/-- Two to a real power, as an exponential. -/
theorem exp2_real (x : ℝ) : Ideal.exp2 (x : EReal) = ((Real.exp (x * Real.log 2) : ℝ) : EReal) := by
  rw [Ideal.exp2_coe]
  show ((Real.rpow 2 x : ℝ) : EReal) = _
  rw [Real.rpow_eq_pow, Real.rpow_def_of_pos (by norm_num), mul_comm]

/-- The unnormalised weighted sum: each value by the exponential of its score. -/
def wsum {ι : Type*} [Fintype ι] (t : ι → ℝ) (v : ι → EReal) : EReal := ∑ k, ((Real.exp (t k) : ℝ) : EReal) * v k

/-- The sum of the weights. -/
def wden {ι : Type*} [Fintype ι] (t : ι → ℝ) : ℝ := ∑ k, Real.exp (t k)

theorem wden_nonneg {ι : Type*} [Fintype ι] (t : ι → ℝ) : 0 ≤ wden t :=
  Finset.sum_nonneg fun k _ => (Real.exp_pos _).le

theorem wden_pos {ι : Type*} [Fintype ι] [Nonempty ι] (t : ι → ℝ) : 0 < wden t :=
  Finset.sum_pos (fun k _ => Real.exp_pos _) Finset.univ_nonempty

/-- The softmax-weighted sum of values. -/
def soft {ι : Type*} [Fintype ι] (t : ι → ℝ) (v : ι → EReal) : EReal := wsum t v * ((1 / wden t : ℝ) : EReal)

/-- A weighted sum against a shift `m`, in powers of two: the shift comes out as one factor. -/
theorem wsum_shift2 {ι : Type*} [Fintype ι] (s : ι → ℝ) (m : ℝ) (v : ι → EReal) :
    (∑ k, Ideal.exp2 ((s k : EReal) - (m : EReal)) * v k)
      = ((Real.exp (-m * Real.log 2) : ℝ) : EReal) * wsum (fun k => s k * Real.log 2) v := by
  unfold wsum
  rw [mul_sum_coe _ _ (Real.exp_pos _).le]
  refine Finset.sum_congr rfl fun k _ => ?_
  rw [← EReal.coe_sub, exp2_real, ← mul_assoc, ← EReal.coe_mul, ← Real.exp_add]
  congr 3; ring

/-- The weights' sum against a shift `m`, in powers of two. -/
theorem wden_shift2 {ι : Type*} [Fintype ι] (s : ι → ℝ) (m : ℝ) :
    (∑ k, Ideal.exp2 ((s k : EReal) - (m : EReal)))
      = ((Real.exp (-m * Real.log 2) * wden (fun k => s k * Real.log 2) : ℝ) : EReal) := by
  have h := wsum_shift2 s m (fun _ => 1)
  simp only [mul_one, wsum] at h
  rw [h, sum_coe, ← EReal.coe_mul]; rfl

/-- One group of keys, in powers of two against any real shift: the softmax-weighted sum. -/
theorem one_group {ι : Type*} [Fintype ι] [Nonempty ι] (s : ι → ℝ) (v : ι → EReal) (M : EReal)
    (hM : M = Finset.univ.fold max (⊥ : EReal) (fun k => (s k : EReal))) :
    Ideal.div (∑ k, Ideal.exp2 ((s k : EReal) - M) * v k) (∑ k, Ideal.exp2 ((s k : EReal) - M))
      = soft (fun k => s k * Real.log 2) v := by
  obtain ⟨m, hm⟩ := fold_max_real s
  rw [hM, hm, wsum_shift2, wden_shift2, Ideal.div_coe (mul_pos (Real.exp_pos _) (wden_pos _)).ne', mul_right_comm,
    ← EReal.coe_mul, mul_comm, soft]
  congr 2
  have h1 := (Real.exp_pos (-m * Real.log 2)).ne'
  have h2 := (wden_pos fun k => s k * Real.log 2).ne'
  field_simp

/-- Two groups of keys (one of a single piece, one of two pieces), each in powers of two against its own maximum, combined
    by the two maxima: the softmax-weighted sum over all three pieces. -/
theorem two_groups {ι₁ ι₂ ι₃ : Type*} [Fintype ι₁] [Fintype ι₂] [Fintype ι₃] [Nonempty ι₁] [Nonempty ι₂] [Nonempty ι₃]
    (s₁ : ι₁ → ℝ) (s₂ : ι₂ → ℝ) (s₃ : ι₃ → ℝ) (v₁ : ι₁ → EReal) (v₂ : ι₂ → EReal) (v₃ : ι₃ → EReal) (m₁ m₂ : EReal)
    (h₁ : m₁ = Finset.univ.fold max (⊥ : EReal) (fun k => (s₁ k : EReal)))
    (h₂ : m₂ = max (Finset.univ.fold max (⊥ : EReal) (fun k => (s₂ k : EReal)))
      (Finset.univ.fold max (⊥ : EReal) (fun k => (s₃ k : EReal)))) :
    Ideal.div
        (Ideal.exp2 (m₁ - max m₁ m₂) * (∑ k, Ideal.exp2 ((s₁ k : EReal) - m₁) * v₁ k)
          + Ideal.exp2 (m₂ - max m₁ m₂)
            * ((∑ k, Ideal.exp2 ((s₂ k : EReal) - m₂) * v₂ k) + ∑ k, Ideal.exp2 ((s₃ k : EReal) - m₂) * v₃ k))
        (Ideal.exp2 (m₁ - max m₁ m₂) * (∑ k, Ideal.exp2 ((s₁ k : EReal) - m₁))
          + Ideal.exp2 (m₂ - max m₁ m₂)
            * ((∑ k, Ideal.exp2 ((s₂ k : EReal) - m₂)) + ∑ k, Ideal.exp2 ((s₃ k : EReal) - m₂)))
      = soft (Sum.elim (Sum.elim (fun k => s₁ k * Real.log 2) (fun k => s₂ k * Real.log 2)) (fun k => s₃ k * Real.log 2))
          (Sum.elim (Sum.elim v₁ v₂) v₃) := by
  obtain ⟨a₁, e₁⟩ := fold_max_real s₁
  obtain ⟨a₂, e₂⟩ := fold_max_real s₂
  obtain ⟨a₃, e₃⟩ := fold_max_real s₃
  obtain ⟨a, ha⟩ : ∃ a : ℝ, m₂ = (a : EReal) := ⟨max a₂ a₃, by rw [h₂, e₂, e₃]; exact (coe_max _ _).symm⟩
  obtain ⟨M, hM⟩ : ∃ M : ℝ, max m₁ m₂ = (M : EReal) := ⟨max a₁ a, by rw [h₁, e₁, ha]; exact (coe_max _ _).symm⟩
  rw [hM, ha, h₁, e₁, wsum_shift2, wsum_shift2, wsum_shift2, wden_shift2, wden_shift2, wden_shift2, ← EReal.coe_sub,
    ← EReal.coe_sub, exp2_real, exp2_real]
  have hw (x : ℝ) (X : EReal) : ((Real.exp ((x - M) * Real.log 2) : ℝ) : EReal) * (((Real.exp (-x * Real.log 2) : ℝ) : EReal) * X)
      = ((Real.exp (-M * Real.log 2) : ℝ) : EReal) * X := by
    rw [← mul_assoc, ← EReal.coe_mul, ← Real.exp_add]; congr 3; ring
  have pos (x : ℝ) : (0 : EReal) ≤ ((Real.exp x : ℝ) : EReal) := by exact_mod_cast (Real.exp_pos x).le
  simp only [EReal.coe_mul]
  rw [← EReal.left_distrib_of_nonneg_of_ne_top (pos _) (EReal.coe_ne_top _), ← EReal.left_distrib_of_nonneg_of_ne_top (pos _) (EReal.coe_ne_top _),
    hw, hw, hw, hw, ← EReal.left_distrib_of_nonneg_of_ne_top (pos _) (EReal.coe_ne_top _), ← EReal.left_distrib_of_nonneg_of_ne_top (pos _) (EReal.coe_ne_top _),
    ← EReal.coe_add, ← EReal.coe_add, ← EReal.coe_mul]
  have d₁ := wden_pos fun k => s₁ k * Real.log 2
  have d₂ := wden_nonneg fun k => s₂ k * Real.log 2
  have d₃ := wden_nonneg fun k => s₃ k * Real.log 2
  have hd : (0 : ℝ) < wden (fun k => s₁ k * Real.log 2) + (wden (fun k => s₂ k * Real.log 2) + wden (fun k => s₃ k * Real.log 2)) := by linarith
  rw [Ideal.div_coe (mul_pos (Real.exp_pos _) hd).ne', mul_right_comm, ← EReal.coe_mul, mul_comm, soft]
  congr 1
  · simp only [wsum, Fintype.sum_sum_type, Sum.elim_inl, Sum.elim_inr, add_assoc]
  · congr 1
    simp only [wden, Fintype.sum_sum_type, Sum.elim_inl, Sum.elim_inr, add_assoc] at hd ⊢
    have h1 := (Real.exp_pos (-M * Real.log 2)).ne'
    field_simp

/-- One pass against the maximum, the weights normalised before they meet the values: the softmax-weighted sum. -/
theorem normalised {ι : Type*} [Fintype ι] [Nonempty ι] (t : ι → ℝ) (v : ι → EReal) (M : EReal)
    (hM : M = Finset.univ.fold max (⊥ : EReal) (fun k => (t k : EReal))) :
    (∑ k, v k * Ideal.div (Ideal.exp ((t k : EReal) - M)) (∑ j, Ideal.exp ((t j : EReal) - M))) = soft t v := by
  obtain ⟨m, hm⟩ := fold_max_real t
  have hd : (∑ j, Ideal.exp ((t j : EReal) - M)) = ((Real.exp (-m) * wden t : ℝ) : EReal) := by
    simp only [hM, hm, ← EReal.coe_sub, Ideal.exp_coe, sum_coe, wden, Finset.mul_sum, ← Real.exp_add]
    congr 1; exact Finset.sum_congr rfl fun k _ => by congr 1; ring
  have hp := wden_pos t
  rw [hd, soft, mul_comm (wsum t v), wsum, mul_sum_coe _ _ (by positivity)]
  refine Finset.sum_congr rfl fun k _ => ?_
  rw [Ideal.div_coe (mul_pos (Real.exp_pos _) hp).ne', hM, hm, ← EReal.coe_sub, Ideal.exp_coe, mul_comm, ← mul_assoc, ← EReal.coe_mul,
    ← EReal.coe_mul]
  congr 2
  have h1 := (Real.exp_pos (-m)).ne'
  rw [sub_eq_add_neg, Real.exp_add]
  field_simp

/-- Re-indexing the keys. -/
theorem soft_equiv {ι κ : Type*} [Fintype ι] [Fintype κ] (e : ι ≃ κ) (t : κ → ℝ) (v : κ → EReal) :
    soft (fun i => t (e i)) (fun i => v (e i)) = soft t v := by
  unfold soft wsum wden
  rw [e.sum_comp (fun k => ((Real.exp (t k) : ℝ) : EReal) * v k), e.sum_comp (fun k => Real.exp (t k))]

end Cert.Attn
-- ==== Proof.Head.lean ====
/-  The attention kernel's body: what one head's 256 queries get from the two groups of keys, and the output block as the
    four heads' results, two to each half of its lanes. -/
module

public import proofs.«01_k».proof.Proof.Gen.KernelIdeal.Value
public import proofs.«01_k».proof.Proof.Math
public import Idealize.ShloMosaic.Lib.Pointwise

@[expose] public section

noncomputable section

namespace Cert.Attn

open Cert.KernelIdeal Cert.KernelIdeal.Gen Idealize.ShloMosaic Idealize.SL.Sem

/-- One head's result for the block's 256 queries: its first 2048 keys are one group, its other 2048 keys and the
    cache's 512 are the other; each comes with its values' 128 lanes. -/
def head (q : Vec Ideal S256x128 .bf16) (k1 k2 : Vec Ideal S2048x128 .bf16) (k3 : Vec Ideal S512x128 .bf16)
    (v1 v2 : Vec Ideal S2048x128 .bf16) (v3 : Vec Ideal S512x128 .bf16) : FVec Ideal S256x128 .f32 :=
  k0_pay15 (k0_pay5 q k1) (k0_pay7 q k1) (k0_pay8 q k1 v1) (k0_pay10 q k3) (k0_pay11 q k2 k3) (k0_pay13 q k2 k3)
    (k0_pay14 q k2 k3) v2 v3

/-- The body's output block is its two stores, each of two heads chosen between by the lane. -/
theorem out_eq (x0 : Vec Ideal S256x512 .bf16) (x1 : Vec Ideal S4096x512 .bf16) (x2 : Vec Ideal S512x512 .bf16)
    (x3 : Vec Ideal S4096x256 .bf16) (x4 : Vec Ideal S512x256 .bf16) :
    out0_5 x0 x1 x2 x3 x4 = View.canon
      [⟨r0_23, truncf .bf16 (select k0_pay2
          (head (View.ld x0 r0_12) (View.ld x1 r0_13) (View.ld x1 r0_15) (View.ld x2 r0_16) (View.ld x3 r0_14) (View.ld x3 r0_17) (View.ld x4 r0_18))
          (head (View.ld x0 r0_19) (View.ld x1 r0_20) (View.ld x1 r0_21) (View.ld x2 r0_22) (View.ld x3 r0_14) (View.ld x3 r0_17) (View.ld x4 r0_18))) bitsLt_bf16_f32⟩,
       ⟨r0_11, truncf .bf16 (select k0_pay2
          (head (View.ld x0 r0_0) (View.ld x1 r0_1) (View.ld x1 r0_3) (View.ld x2 r0_4) (View.ld x3 r0_2) (View.ld x3 r0_5) (View.ld x4 r0_6))
          (head (View.ld x0 r0_7) (View.ld x1 r0_8) (View.ld x1 r0_9) (View.ld x2 r0_10) (View.ld x3 r0_2) (View.ld x3 r0_5) (View.ld x4 r0_6))) bitsLt_bf16_f32⟩] := rfl

/-- When the scores are reals, one head's result is the softmax-weighted sum over all its keys. -/
theorem head_apply (q : Vec Ideal S256x128 .bf16) (k1 k2 : Vec Ideal S2048x128 .bf16) (k3 : Vec Ideal S512x128 .bf16)
    (v1 v2 : Vec Ideal S2048x128 .bf16) (v3 : Vec Ideal S512x128 .bf16) (r : Fin 256) (l : Fin 128)
    (s1 s2 : Fin 2048 → ℝ) (s3 : Fin 512 → ℝ)
    (h1 : ∀ x : Fin 2048, (∑ d : Fin 128, (q (ix2 r d) : EReal) * (k1 (ix2 x d) : EReal)) = (s1 x : EReal))
    (h2 : ∀ x : Fin 2048, (∑ d : Fin 128, (q (ix2 r d) : EReal) * (k2 (ix2 x d) : EReal)) = (s2 x : EReal))
    (h3 : ∀ x : Fin 512, (∑ d : Fin 128, (q (ix2 r d) : EReal) * (k3 (ix2 x d) : EReal)) = (s3 x : EReal)) :
    head q k1 k2 k3 v1 v2 v3 (ix2 r l)
      = soft (Sum.elim (Sum.elim (fun k => s1 k * Real.log 2) (fun k => s2 k * Real.log 2)) (fun k => s3 k * Real.log 2))
          (Sum.elim (Sum.elim (fun k => v1 (ix2 k l)) (fun k => v2 (ix2 k l))) (fun k => v3 (ix2 k l))) := by
  rw [← two_groups s1 s2 s3 (fun k => v1 (ix2 k l)) (fun k => v2 (ix2 k l)) (fun k => v3 (ix2 k l)) _ _ rfl rfl]
  unfold head
  unfold_payloads
  pointwise
  simp only [negInf, ← h1, ← h2, ← h3]
  rfl

end Cert.Attn
-- ==== Proof.Entry.lean ====
/-  What the attention kernel's five operand arrays hold when the kernel starts, element by element, in terms of the
    arguments: each head's queries and keys in 128 lanes of which the last 32 are zero, the queries scaled. -/
module

public import proofs.«01_k».proof.Proof.Gen.KernelIdeal.Value
public import proofs.«01_k».proof.Proof.Math
public import Idealize.ShloMosaic.Lib.Pointwise
public import Idealize.ShloMosaic.Lib.Claim

@[expose] public section

noncomputable section

namespace Cert.Attn

open Cert.KernelIdeal Cert.KernelIdeal.Gen Idealize.ShloMosaic Idealize.ShloMosaic.TcCoe Idealize.SL.Sem

/-- The scale of the scores in powers of two. -/
def scl : ℝ := 1 / (Real.log 2 * Real.sqrt 96)

theorem bits_one : Ideal.ofBits .f32 1065353216#32 = ((1 : ℝ) : EReal) := by
  simp [Ideal.ofBits, Ideal.ieee, -EReal.coe_mul]; norm_num
theorem bits_two : Ideal.ofBits .f32 1073741824#32 = ((2 : ℝ) : EReal) := by
  simp [Ideal.ofBits, Ideal.ieee, -EReal.coe_mul]; norm_num
theorem bits_96 : Ideal.ofBits .f32 1119879168#32 = ((96 : ℝ) : EReal) := by
  simp [Ideal.ofBits, Ideal.ieee, -EReal.coe_mul]; norm_num

/-- The host's computation of the scale is exact. -/
theorem scale_eq (i : S_.Idx) :
    (Host.divf (constant S_ .f32 1065353216#32) (mulf (Host.log (constant S_ .f32 1073741824#32))
      (Host.sqrt (constant S_ .f32 1119879168#32))) : FVec Ideal S_ .f32) i = ((scl : ℝ) : EReal) := by
  show Ideal.div (Ideal.ofBits .f32 1065353216#32)
    (Ideal.log (Ideal.ofBits .f32 1073741824#32) * Ideal.sqrt (Ideal.ofBits .f32 1119879168#32)) = _
  have h2 : (0 : ℝ) < Real.log 2 := Real.log_pos (by norm_num)
  have h96 : (0 : ℝ) < Real.sqrt 96 := Real.sqrt_pos.mpr (by norm_num)
  rw [bits_one, bits_two, bits_96, Ideal.log_coe, Ideal.sqrt_coe, if_neg (by norm_num), if_neg (by norm_num), ← EReal.coe_mul,
    Ideal.div_coe (mul_pos h2 h96).ne', ← EReal.coe_mul, one_mul]
  rfl

/-- Two batches of head vectors, one after the other, each padded to 128 lanes and a row's heads laid out in 1024 columns. -/
theorem pack_apply (A B : FVec Ideal S8192x8x96 .f32) (z : FVec Ideal S_ .f32) (R : Fin 16384) (C : Fin 1024) :
    shapeCast S16384x1024 (pad S16384x8x128 ![0, 0, 0] ![0, 0, 32] ![0, 0, 0]
            (concatenate S16384x8x96 0 [⟨S8192x8x96, A⟩, ⟨S8192x8x96, B⟩] concatenates_S8192x8x96_S8192x8x96_S16384x8x96_d0)
            z pads_S16384x8x96_S16384x8x128_000_000_0320 h_S_) shapeCasts_S16384x8x128_S16384x1024 (ix2 R C)
      = if h : C.val / 128 < 8 ∧ C.val % 128 < 96 then
          (if h' : R.val < 8192 then A (ix3 ⟨R.val, h'⟩ ⟨C.val / 128, h.1⟩ ⟨C.val % 128, h.2⟩)
            else B (ix3 ⟨R.val - 8192, by omega⟩ ⟨C.val / 128, h.1⟩ ⟨C.val % 128, h.2⟩))
        else z (Shape.Idx.first h_S_) := by
  pointwise

/-- The same for the one batch of the cache. -/
theorem packc_apply (A : FVec Ideal S1024x8x96 .f32) (z : FVec Ideal S_ .f32) (R : Fin 1024) (C : Fin 1024) :
    shapeCast S1024x1024 (pad S1024x8x128 ![0, 0, 0] ![0, 0, 32] ![0, 0, 0] A
            z pads_S1024x8x96_S1024x8x128_000_000_0320 h_S_) shapeCasts_S1024x8x128_S1024x1024 (ix2 R C)
      = if h : C.val / 128 < 8 ∧ C.val % 128 < 96 then A (ix3 R ⟨C.val / 128, h.1⟩ ⟨C.val % 128, h.2⟩)
        else z (Shape.Idx.first h_S_) := by
  pointwise

theorem rows_apply (A : FVec Ideal S2x4096x8x96 .f32) (R : Fin 8192) (h : Fin 8) (d : Fin 96) :
    shapeCast S8192x8x96 A shapeCasts_S2x4096x8x96_S8192x8x96 (ix3 R h d)
      = A (ix4 ⟨R.val / 4096, by omega⟩ ⟨R.val % 4096, by omega⟩ h d) := by
  pointwise

theorem rowsc_apply (A : FVec Ideal S2x512x8x96 .f32) (R : Fin 1024) (h : Fin 8) (d : Fin 96) :
    shapeCast S1024x8x96 A shapeCasts_S2x512x8x96_S1024x8x96 (ix3 R h d)
      = A (ix4 ⟨R.val / 512, by omega⟩ ⟨R.val % 512, by omega⟩ h d) := by
  pointwise

theorem packv_apply (A B : FVec Ideal S8192x512 .f32) (R : Fin 16384) (C : Fin 512) :
    concatenate S16384x512 0 [⟨S8192x512, A⟩, ⟨S8192x512, B⟩] concatenates_S8192x512_S8192x512_S16384x512_d0 (ix2 R C)
      = if h : R.val < 8192 then A (ix2 ⟨R.val, h⟩ C) else B (ix2 ⟨R.val - 8192, by omega⟩ C) := by
  pointwise

theorem rowsv_apply (A : FVec Ideal S2x4096x8x64 .f32) (R : Fin 8192) (C : Fin 512) :
    shapeCast S8192x512 A shapeCasts_S2x4096x8x64_S8192x512 (ix2 R C)
      = A (ix4 ⟨R.val / 4096, by omega⟩ ⟨R.val % 4096, by omega⟩ ⟨C.val / 64, by omega⟩ ⟨C.val % 64, by omega⟩) := by
  pointwise

theorem rowsvc_apply (A : FVec Ideal S2x512x8x64 .f32) (R : Fin 1024) (C : Fin 512) :
    shapeCast S1024x512 A shapeCasts_S2x512x8x64_S1024x512 (ix2 R C)
      = A (ix4 ⟨R.val / 512, by omega⟩ ⟨R.val % 512, by omega⟩ ⟨C.val / 64, by omega⟩ ⟨C.val % 64, by omega⟩) := by
  pointwise

variable (m : (ℓ : Loc nD τ sig) → Buf (Elt Ideal) ℓ) (c : Dev nD)

/-- The arguments the sample's attention reads: queries, keys, values, and the cache's keys and values. -/
def argQ : FVec Ideal S2x4096x8x96 .f32 := m ((c : Thread nD τ).loc main_arg3)
def argK : FVec Ideal S2x4096x8x96 .f32 := m ((c : Thread nD τ).loc main_arg4)
def argV : FVec Ideal S2x4096x8x64 .f32 := m ((c : Thread nD τ).loc main_arg5)
def argKc : FVec Ideal S2x512x8x96 .f32 := m ((c : Thread nD τ).loc main_arg6)
def argVc : FVec Ideal S2x512x8x64 .f32 := m ((c : Thread nD τ).loc main_arg7)

theorem entry_q (b : Fin 2) (s : Fin 4096) (h : Fin 8) (d : Fin 128) (R : Fin 16384) (C : Fin 1024)
    (hR : R.val = 8192 + b.val * 4096 + s.val) (hC : C.val = h.val * 128 + d.val) :
    (V m c main_v13 : S16384x1024.Idx → EReal) (ix2 R C)
      = if hd : d.val < 96 then argQ m c (ix4 b s h ⟨d.val, hd⟩) * ((scl : ℝ) : EReal) else 0 := by
  entry_read
  refine (pack_apply _ _ _ R C).trans ?_
  by_cases hd : d.val < 96
  · rw [dif_pos ⟨by omega, by omega⟩, dif_neg (by omega), dif_pos hd]
    refine (rows_apply _ _ _ _).trans ?_
    show argQ m c _ * _ = _
    congr 1
    · congr 1
      refine congr (congr (congr (congrArg ix4 ?_) ?_) ?_) ?_ <;> apply Fin.ext <;> simp only [] <;> omega
    · exact scale_eq _
  · rw [dif_neg (by omega), dif_neg hd]
    exact Ideal.ofBits_zero_f32

theorem entry_k (b : Fin 2) (s : Fin 4096) (h : Fin 8) (d : Fin 128) (R : Fin 16384) (C : Fin 1024)
    (hR : R.val = 8192 + b.val * 4096 + s.val) (hC : C.val = h.val * 128 + d.val) :
    (V m c main_v19 : S16384x1024.Idx → EReal) (ix2 R C)
      = if hd : d.val < 96 then argK m c (ix4 b s h ⟨d.val, hd⟩) else 0 := by
  entry_read
  refine (pack_apply _ _ _ R C).trans ?_
  by_cases hd : d.val < 96
  · rw [dif_pos ⟨by omega, by omega⟩, dif_neg (by omega), dif_pos hd]
    refine (rows_apply _ _ _ _).trans ?_
    show argK m c _ = _
    congr 1
    refine congr (congr (congr (congrArg ix4 ?_) ?_) ?_) ?_ <;> apply Fin.ext <;> simp only [] <;> omega
  · rw [dif_neg (by omega), dif_neg hd]
    exact Ideal.ofBits_zero_f32

theorem entry_kc (b : Fin 2) (s : Fin 512) (h : Fin 8) (d : Fin 128) (R : Fin 1024) (C : Fin 1024)
    (hR : R.val = b.val * 512 + s.val) (hC : C.val = h.val * 128 + d.val) :
    (V m c main_v27 : S1024x1024.Idx → EReal) (ix2 R C)
      = if hd : d.val < 96 then argKc m c (ix4 b s h ⟨d.val, hd⟩) else 0 := by
  entry_read
  refine (packc_apply _ _ R C).trans ?_
  by_cases hd : d.val < 96
  · rw [dif_pos ⟨by omega, by omega⟩, dif_pos hd]
    refine (rowsc_apply _ _ _ _).trans ?_
    show argKc m c _ = _
    congr 1
    refine congr (congr (congr (congrArg ix4 ?_) ?_) ?_) ?_ <;> apply Fin.ext <;> simp only [] <;> omega
  · rw [dif_neg (by omega), dif_neg hd]
    exact Ideal.ofBits_zero_f32

theorem entry_v (b : Fin 2) (s : Fin 4096) (h : Fin 8) (d : Fin 64) (R : Fin 16384) (C : Fin 512)
    (hR : R.val = 8192 + b.val * 4096 + s.val) (hC : C.val = h.val * 64 + d.val) :
    (V m c main_v23 : S16384x512.Idx → EReal) (ix2 R C) = argV m c (ix4 b s h d) := by
  entry_read
  refine (packv_apply _ _ R C).trans ?_
  rw [dif_neg (by omega)]
  refine (rowsv_apply _ _ _).trans ?_
  show argV m c _ = _
  congr 1
  refine congr (congr (congr (congrArg ix4 ?_) ?_) ?_) ?_ <;> apply Fin.ext <;> simp only [] <;> omega

theorem entry_vc (b : Fin 2) (s : Fin 512) (h : Fin 8) (d : Fin 64) (R : Fin 1024) (C : Fin 512)
    (hR : R.val = b.val * 512 + s.val) (hC : C.val = h.val * 64 + d.val) :
    (V m c main_v29 : S1024x512.Idx → EReal) (ix2 R C) = argVc m c (ix4 b s h d) := by
  entry_read
  refine (rowsvc_apply _ R C).trans ?_
  show argVc m c _ = _
  congr 1
  refine congr (congr (congr (congrArg ix4 ?_) ?_) ?_) ?_ <;> apply Fin.ext <;> simp only [] <;> omega

end Cert.Attn
-- ==== Proof.Block.lean ====
/-  Every block the attention kernel writes back is a block of one array: each query's softmax-weighted sum over the
    sample's keys and the cache's. -/
module

public import proofs.«01_k».proof.Proof.Head
public import proofs.«01_k».proof.Proof.Entry
public import Idealize.ShloMosaic.Lib.Pipeline.ValueKit

@[expose] public section

noncomputable section

namespace Cert.Attn

open Cert.KernelIdeal Cert.KernelIdeal.Gen Idealize.ShloMosaic Idealize.ShloMosaic.TcCoe Idealize.SL.Sem

/-- The score of a query against a key: the dot product over the square root of the width. -/
def score (Q : S2x4096x8x96.Idx → EReal) {n : Nat} (K : (⟨4, ![2, n, 8, 96]⟩ : Shape).Idx → EReal)
    (b : Fin 2) (s : Fin 4096) (h : Fin 8) (x : Fin n) : ℝ :=
  (∑ d : Fin 96, (Q (ix4 b s h d)).toReal * (K (ix4 b x h d)).toReal) / Real.sqrt 96

/-- The attention of query `s` of batch `b`, head `h`, at its value lane `e`. -/
def attn (Q K : S2x4096x8x96.Idx → EReal) (V : S2x4096x8x64.Idx → EReal) (Kc : S2x512x8x96.Idx → EReal)
    (Vc : S2x512x8x64.Idx → EReal) (b : Fin 2) (s : Fin 4096) (h : Fin 8) (e : Fin 64) : EReal :=
  soft (Sum.elim (fun x : Fin 4096 => score Q K b s h x) (fun x : Fin 512 => score Q Kc b s h x))
    (Sum.elim (fun x : Fin 4096 => V (ix4 b x h e)) (fun x : Fin 512 => Vc (ix4 b x h e)))

/-- A sum over 128 lanes whose last 32 terms are zero. -/
theorem sum_pad (f : Fin 128 → EReal) (g : Fin 96 → EReal)
    (h : ∀ d : Fin 128, f d = if hd : d.val < 96 then g ⟨d.val, hd⟩ else 0) : ∑ d, f d = ∑ d, g d := by
  rw [show (∑ d : Fin 128, f d) = ∑ d : Fin (96 + 32), f d from rfl, Fin.sum_univ_add]
  have h1 : ∀ d : Fin 96, f (Fin.castAdd 32 d) = g d := fun d => by
    rw [h]; exact dif_pos d.isLt
  have h2 : ∀ d : Fin 32, f (Fin.natAdd 96 d) = 0 := fun d => by
    rw [h]; exact dif_neg (by simp)
  simp only [h1, h2, Finset.sum_const_zero, add_zero]

/-- A finite value is the real it reads as. -/
def Finite {s : Shape} (X : s.Idx → EReal) : Prop := ∀ i, X i = ((X i).toReal : EReal)

/-- The kernel's scaled, padded dot product is the score in powers of two. -/
theorem dot_eq (Q : S2x4096x8x96.Idx → EReal) {n : Nat} (K : (⟨4, ![2, n, 8, 96]⟩ : Shape).Idx → EReal)
    (hQ : Finite Q) (hK : Finite K) (b : Fin 2) (s : Fin 4096) (h : Fin 8) (x : Fin n) (q k : Fin 128 → EReal)
    (hq : ∀ d : Fin 128, q d = if hd : d.val < 96 then Q (ix4 b s h ⟨d.val, hd⟩) * ((scl : ℝ) : EReal) else 0)
    (hk : ∀ d : Fin 128, k d = if hd : d.val < 96 then K (ix4 b x h ⟨d.val, hd⟩) else 0) :
    (∑ d, q d * k d) = ((score Q K b s h x / Real.log 2 : ℝ) : EReal) := by
  rw [sum_pad _ (fun d => (((Q (ix4 b s h d)).toReal * scl * (K (ix4 b x h d)).toReal : ℝ) : EReal))]
  · rw [sum_coe]
    congr 1
    have h2 : Real.log 2 ≠ 0 := (Real.log_pos (by norm_num)).ne'
    have h96 : Real.sqrt 96 ≠ 0 := (Real.sqrt_pos.mpr (by norm_num)).ne'
    rw [score, scl, div_div, Finset.sum_div]
    exact Finset.sum_congr rfl fun d _ => by field_simp
  · intro d
    rw [hq, hk]
    by_cases hd : d.val < 96
    · rw [dif_pos hd, dif_pos hd, dif_pos hd, hQ, hK, EReal.coe_mul, EReal.coe_mul, EReal.toReal_coe, EReal.toReal_coe]
    · rw [dif_neg hd, dif_neg hd, dif_neg hd, mul_zero]

/-- One head's result, its operands read off the arrays: the attention. -/
theorem head_attn (Q K : S2x4096x8x96.Idx → EReal) (V : S2x4096x8x64.Idx → EReal) (Kc : S2x512x8x96.Idx → EReal)
    (Vc : S2x512x8x64.Idx → EReal) (hQ : Finite Q) (hK : Finite K) (hKc : Finite Kc)
    (b : Fin 2) (s : Fin 4096) (h : Fin 8) (e : Fin 64)
    (q : Vec Ideal S256x128 .bf16) (k1 k2 : Vec Ideal S2048x128 .bf16) (k3 : Vec Ideal S512x128 .bf16)
    (v1 v2 : Vec Ideal S2048x128 .bf16) (v3 : Vec Ideal S512x128 .bf16) (r : Fin 256) (l : Fin 128)
    (hq : ∀ d : Fin 128, (q (ix2 r d) : EReal) = if hd : d.val < 96 then Q (ix4 b s h ⟨d.val, hd⟩) * ((scl : ℝ) : EReal) else 0)
    (hk1 : ∀ (x : Fin 2048) (d : Fin 128), (k1 (ix2 x d) : EReal) = if hd : d.val < 96 then K (ix4 b ⟨x.val, by omega⟩ h ⟨d.val, hd⟩) else 0)
    (hk2 : ∀ (x : Fin 2048) (d : Fin 128), (k2 (ix2 x d) : EReal) = if hd : d.val < 96 then K (ix4 b ⟨2048 + x.val, by omega⟩ h ⟨d.val, hd⟩) else 0)
    (hk3 : ∀ (x : Fin 512) (d : Fin 128), (k3 (ix2 x d) : EReal) = if hd : d.val < 96 then Kc (ix4 b x h ⟨d.val, hd⟩) else 0)
    (hv1 : ∀ x : Fin 2048, (v1 (ix2 x l) : EReal) = V (ix4 b ⟨x.val, by omega⟩ h e))
    (hv2 : ∀ x : Fin 2048, (v2 (ix2 x l) : EReal) = V (ix4 b ⟨2048 + x.val, by omega⟩ h e))
    (hv3 : ∀ x : Fin 512, (v3 (ix2 x l) : EReal) = Vc (ix4 b x h e)) :
    head q k1 k2 k3 v1 v2 v3 (ix2 r l) = attn Q K V Kc Vc b s h e := by
  rw [head_apply q k1 k2 k3 v1 v2 v3 r l _ _ _ (fun x => dot_eq Q K hQ hK b s h ⟨x.val, by omega⟩ _ _ hq (hk1 x))
    (fun x => dot_eq Q K hQ hK b s h ⟨2048 + x.val, by omega⟩ _ _ hq (hk2 x)) (fun x => dot_eq Q Kc hQ hKc b s h x _ _ hq (hk3 x))]
  have h2 : Real.log 2 ≠ 0 := (Real.log_pos (by norm_num)).ne'
  unfold attn
  rw [← soft_equiv (Equiv.sumCongr (finSumFinEquiv (m := 2048) (n := 2048)) (Equiv.refl (Fin 512)))]
  congr 1
  · funext x
    rcases x with (x | x) | x
    · show _ / _ * _ = _; rw [div_mul_cancel₀ _ h2]; rfl
    · show _ / _ * _ = _; rw [div_mul_cancel₀ _ h2]; rfl
    · show _ / _ * _ = _; rw [div_mul_cancel₀ _ h2]; rfl
  · funext x
    rcases x with (x | x) | x
    · exact hv1 x
    · exact hv2 x
    · exact hv3 x

theorem idx0 : ∀ t : Fin cfg0.N, win0_0.index t = ![32 + (grid0.coords t 0).val * 16 + (grid0.coords t 2).val, (grid0.coords t 1).val] :=
  (by decide +kernel : ∀ t : Fin grid0.N, _)
theorem idx1 : ∀ t : Fin cfg0.N, win0_1.index t = ![2 + (grid0.coords t 0).val, (grid0.coords t 1).val] :=
  (by decide +kernel : ∀ t : Fin grid0.N, _)
theorem idx2 : ∀ t : Fin cfg0.N, win0_2.index t = ![(grid0.coords t 0).val, (grid0.coords t 1).val] :=
  (by decide +kernel : ∀ t : Fin grid0.N, _)
theorem idx3 : ∀ t : Fin cfg0.N, win0_3.index t = ![2 + (grid0.coords t 0).val, (grid0.coords t 1).val] :=
  (by decide +kernel : ∀ t : Fin grid0.N, _)
theorem idx4 : ∀ t : Fin cfg0.N, win0_4.index t = ![(grid0.coords t 0).val, (grid0.coords t 1).val] :=
  (by decide +kernel : ∀ t : Fin grid0.N, _)
theorem idx5 : ∀ t : Fin cfg0.N, win0_5.index t = ![(grid0.coords t 0).val * 16 + (grid0.coords t 2).val, (grid0.coords t 1).val] :=
  (by decide +kernel : ∀ t : Fin grid0.N, _)

variable (m : (ℓ : Loc nD τ sig) → Buf (Elt Ideal) ℓ) (c : Dev nD)

/-- The result array. -/
def G : S8192x512.Idx → EReal := fun i =>
  attn (argQ m c) (argK m c) (argV m c) (argKc m c) (argVc m c) ⟨(i 0).val / 4096, by have : (i 0).val < 8192 := (i 0).isLt; omega⟩
    ⟨(i 0).val % 4096, by omega⟩ ⟨(i 1).val / 64, by have : (i 1).val < 512 := (i 1).isLt; omega⟩ ⟨(i 1).val % 64, by omega⟩

theorem blk_q (t : Fin cfg0.N) (b : Fin 2) (s : Fin 4096) (h : Fin 8) (r : Fin 256) (C : Fin 512) (d : Fin 128)
    (hb : (grid0.coords t 0).val = b.val) (hs : s.val = (grid0.coords t 2).val * 256 + r.val)
    (hh : h.val * 128 + d.val = (grid0.coords t 1).val * 512 + C.val) :
    (iblk m c 0 t (ix2 r C) : EReal) = if hd : d.val < 96 then argQ m c (ix4 b s h ⟨d.val, hd⟩) * ((scl : ℝ) : EReal) else 0 := by
  rw [← entry_q m c b s h d ⟨8192 + b.val * 4096 + s.val, by omega⟩ ⟨h.val * 128 + d.val, by omega⟩ rfl rfl]
  blk_ext [iblk, idx0 t]

theorem blk_k (t : Fin cfg0.N) (b : Fin 2) (h : Fin 8) (r : Fin 4096) (C : Fin 512) (d : Fin 128)
    (hb : (grid0.coords t 0).val = b.val) (hh : h.val * 128 + d.val = (grid0.coords t 1).val * 512 + C.val) :
    (iblk m c 1 t (ix2 r C) : EReal) = if hd : d.val < 96 then argK m c (ix4 b r h ⟨d.val, hd⟩) else 0 := by
  rw [← entry_k m c b r h d ⟨8192 + b.val * 4096 + r.val, by omega⟩ ⟨h.val * 128 + d.val, by omega⟩ rfl rfl]
  blk_ext [iblk, idx1 t]

theorem blk_kc (t : Fin cfg0.N) (b : Fin 2) (h : Fin 8) (r : Fin 512) (C : Fin 512) (d : Fin 128)
    (hb : (grid0.coords t 0).val = b.val) (hh : h.val * 128 + d.val = (grid0.coords t 1).val * 512 + C.val) :
    (iblk m c 2 t (ix2 r C) : EReal) = if hd : d.val < 96 then argKc m c (ix4 b r h ⟨d.val, hd⟩) else 0 := by
  rw [← entry_kc m c b r h d ⟨b.val * 512 + r.val, by omega⟩ ⟨h.val * 128 + d.val, by omega⟩ rfl rfl]
  blk_ext [iblk, idx2 t]

theorem blk_v (t : Fin cfg0.N) (b : Fin 2) (h : Fin 8) (r : Fin 4096) (C : Fin 256) (e : Fin 64)
    (hb : (grid0.coords t 0).val = b.val) (hh : h.val * 64 + e.val = (grid0.coords t 1).val * 256 + C.val) :
    (iblk m c 3 t (ix2 r C) : EReal) = argV m c (ix4 b r h e) := by
  rw [← entry_v m c b r h e ⟨8192 + b.val * 4096 + r.val, by omega⟩ ⟨h.val * 64 + e.val, by omega⟩ rfl rfl]
  blk_ext [iblk, idx3 t]

theorem blk_vc (t : Fin cfg0.N) (b : Fin 2) (h : Fin 8) (r : Fin 512) (C : Fin 256) (e : Fin 64)
    (hb : (grid0.coords t 0).val = b.val) (hh : h.val * 64 + e.val = (grid0.coords t 1).val * 256 + C.val) :
    (iblk m c 4 t (ix2 r C) : EReal) = argVc m c (ix4 b r h e) := by
  rw [← entry_vc m c b r h e ⟨b.val * 512 + r.val, by omega⟩ ⟨h.val * 64 + e.val, by omega⟩ rfl rfl]
  blk_ext [iblk, idx4 t]

end Cert.Attn
-- ==== Proof.Whole.lean ====
/-  The attention kernel's whole result array. -/
module

public import proofs.«01_k».proof.Proof.Block

@[expose] public section

noncomputable section

namespace Cert.Attn

open Cert.KernelIdeal Cert.KernelIdeal.Gen Idealize.ShloMosaic Idealize.ShloMosaic.TcCoe Idealize.SL.Sem

/-- The lane mask: the first 64 lanes are the pair's first head. -/
theorem mask_eq (r : Fin 256) (l : Fin 128) : (k0_pay2 (ix2 r l)) = if l.val < 64 then 1#1 else 0#1 := by
  unfold_payloads
  pointwise
  revert l
  decide +kernel

/-- A rectangle's element, by coordinates. -/
theorem ld2 {a b p q : Nat} {e : EltTy} (X : Vec Ideal ⟨2, ![a, b]⟩ e) (o0 o1 : Nat)
    (inb : ∀ k, (![o0, o1] : Fin 2 → Nat) k + (![p, q] : Fin 2 → Nat) k ≤ (⟨2, ![a, b]⟩ : Shape).size k) (i : Fin p) (j : Fin q)
    (I : Fin a) (J : Fin b) (h0 : I.val = o0 + i.val) (h1 : J.val = o1 + j.val) :
    View.ld X (Rect.unit (s := ⟨2, ![a, b]⟩) ![o0, o1] ![p, q] inb) (ix2 i j) = X (ix2 I J) := by
  unfold View.ld
  refine congrArg X ?_
  funext k
  apply Fin.ext
  refine (ValueKit.rect_emb_unit_val _ _ _ _ _).trans ?_
  fin_cases k
  · exact h0.symm
  · exact h1.symm

/-- The attention at equal positions. -/
theorem attn_congr (Q K : S2x4096x8x96.Idx → EReal) (V : S2x4096x8x64.Idx → EReal) (Kc : S2x512x8x96.Idx → EReal)
    (Vc : S2x512x8x64.Idx → EReal) {b b' : Fin 2} {s s' : Fin 4096} {h h' : Fin 8} {e e' : Fin 64}
    (hb : b.val = b'.val) (hs : s.val = s'.val) (hh : h.val = h'.val) (he : e.val = e'.val) :
    attn Q K V Kc Vc b s h e = attn Q K V Kc Vc b' s' h' e' := by
  rw [Fin.ext hb, Fin.ext hs, Fin.ext hh, Fin.ext he]

variable (m : (ℓ : Loc nD τ sig) → Buf (Elt Ideal) ℓ) (c : Dev nD)

/-- The block's element, by the grid point's coordinates. -/
def Gb (t : Fin cfg0.N) (y : S256x256.Idx) : EReal :=
  attn (argQ m c) (argK m c) (argV m c) (argKc m c) (argVc m c) (grid0.coords t 0)
    ⟨(grid0.coords t 2).val * 256 + (y 0).val, by have h : (grid0.coords t 2).val < 16 := (grid0.coords t 2).isLt; have : (y 0).val < 256 := (y 0).isLt; omega⟩
    ⟨((grid0.coords t 1).val * 256 + (y 1).val) / 64, by have h : (grid0.coords t 1).val < 2 := (grid0.coords t 1).isLt; have : (y 1).val < 256 := (y 1).isLt; omega⟩
    ⟨((grid0.coords t 1).val * 256 + (y 1).val) % 64, by omega⟩

/-- The first pair of heads. -/
theorem half_low (hQ : Finite (argQ m c)) (hK : Finite (argK m c)) (hKc : Finite (argKc m c)) (t : Fin cfg0.N) (r : Fin 256) (l : Fin 128) :
    (truncf .bf16 (select k0_pay2
          (head (View.ld (iblk m c 0 t) r0_0) (View.ld (iblk m c 1 t) r0_1) (View.ld (iblk m c 1 t) r0_3) (View.ld (iblk m c 2 t) r0_4) (View.ld (iblk m c 3 t) r0_2) (View.ld (iblk m c 3 t) r0_5) (View.ld (iblk m c 4 t) r0_6))
          (head (View.ld (iblk m c 0 t) r0_7) (View.ld (iblk m c 1 t) r0_8) (View.ld (iblk m c 1 t) r0_9) (View.ld (iblk m c 2 t) r0_10) (View.ld (iblk m c 3 t) r0_2) (View.ld (iblk m c 3 t) r0_5) (View.ld (iblk m c 4 t) r0_6))) bitsLt_bf16_f32
      : Vec Ideal S256x128 .bf16) (ix2 r l) = Gb m c t (r0_11.emb (ix2 r l)) := by
  have hb : (grid0.coords t 0).val < 2 := (grid0.coords t 0).isLt
  have hp : (grid0.coords t 1).val < 2 := (grid0.coords t 1).isLt
  have hi : (grid0.coords t 2).val < 16 := (grid0.coords t 2).isLt
  have hr : ((r0_11.emb (ix2 r l)) 0).val = r.val := (ValueKit.rect_emb_unit_val _ _ _ _ _).trans (Nat.zero_add _)
  have hl : ((r0_11.emb (ix2 r l)) 1).val = 0 + l.val := ValueKit.rect_emb_unit_val _ _ _ _ _
  show (if (k0_pay2 (ix2 r l)) = 1#1 then head _ _ _ _ _ _ _ (ix2 r l) else head _ _ _ _ _ _ _ (ix2 r l)) = _
  rw [mask_eq]
  unfold Gb
  by_cases h64 : l.val < 64
  · rw [if_pos h64, if_pos rfl]
    · refine head_attn _ _ _ _ _ hQ hK hKc _ _ _ _ _ _ _ _ _ _ _ _ _ (fun d => ?_) (fun x d => ?_) (fun x d => ?_) (fun x d => ?_) (fun x => ?_) (fun x => ?_) (fun x => ?_)
      · exact (ld2 (iblk m c 0 t) 0 0 _ r d r ⟨0 + d.val, by omega⟩ (by omega) rfl).trans
          (blk_q m c t _ _ _ r _ d rfl (by show _ + _ = _ + _; rw [hr]) (by show _ / 64 * 128 + _ = _ + (0 + d.val); rw [hl]; omega))
      · exact (ld2 (iblk m c 1 t) 0 0 _ x d ⟨x.val, by omega⟩ ⟨0 + d.val, by omega⟩ (Nat.zero_add _).symm rfl).trans
          (blk_k m c t _ _ ⟨x.val, by omega⟩ _ d rfl (by show _ / 64 * 128 + _ = _ + (0 + d.val); rw [hl]; omega))
      · exact (ld2 (iblk m c 1 t) 2048 0 _ x d ⟨2048 + x.val, by omega⟩ ⟨0 + d.val, by omega⟩ rfl rfl).trans
          (blk_k m c t _ _ ⟨2048 + x.val, by omega⟩ _ d rfl (by show _ / 64 * 128 + _ = _ + (0 + d.val); rw [hl]; omega))
      · exact (ld2 (iblk m c 2 t) 0 0 _ x d x ⟨0 + d.val, by omega⟩ (by omega) rfl).trans
          (blk_kc m c t _ _ x _ d rfl (by show _ / 64 * 128 + _ = _ + (0 + d.val); rw [hl]; omega))
      · exact (ld2 (iblk m c 3 t) 0 0 _ x l ⟨x.val, by omega⟩ ⟨0 + l.val, by omega⟩ (Nat.zero_add _).symm rfl).trans
          (blk_v m c t _ _ ⟨x.val, by omega⟩ _ _ rfl (by show _ / 64 * 64 + _ % 64 = _ + (0 + l.val); rw [hl]; omega))
      · exact (ld2 (iblk m c 3 t) 2048 0 _ x l ⟨2048 + x.val, by omega⟩ ⟨0 + l.val, by omega⟩ rfl rfl).trans
          (blk_v m c t _ _ ⟨2048 + x.val, by omega⟩ _ _ rfl (by show _ / 64 * 64 + _ % 64 = _ + (0 + l.val); rw [hl]; omega))
      · exact (ld2 (iblk m c 4 t) 0 0 _ x l x ⟨0 + l.val, by omega⟩ (by omega) rfl).trans
          (blk_vc m c t _ _ x _ _ rfl (by show _ / 64 * 64 + _ % 64 = _ + (0 + l.val); rw [hl]; omega))
  · rw [if_neg h64, if_neg (by decide)]
    · refine head_attn _ _ _ _ _ hQ hK hKc _ _ _ _ _ _ _ _ _ _ _ _ _ (fun d => ?_) (fun x d => ?_) (fun x d => ?_) (fun x d => ?_) (fun x => ?_) (fun x => ?_) (fun x => ?_)
      · exact (ld2 (iblk m c 0 t) 0 128 _ r d r ⟨128 + d.val, by omega⟩ (by omega) rfl).trans
          (blk_q m c t _ _ _ r _ d rfl (by show _ + _ = _ + _; rw [hr]) (by show _ / 64 * 128 + _ = _ + (128 + d.val); rw [hl]; omega))
      · exact (ld2 (iblk m c 1 t) 0 128 _ x d ⟨x.val, by omega⟩ ⟨128 + d.val, by omega⟩ (Nat.zero_add _).symm rfl).trans
          (blk_k m c t _ _ ⟨x.val, by omega⟩ _ d rfl (by show _ / 64 * 128 + _ = _ + (128 + d.val); rw [hl]; omega))
      · exact (ld2 (iblk m c 1 t) 2048 128 _ x d ⟨2048 + x.val, by omega⟩ ⟨128 + d.val, by omega⟩ rfl rfl).trans
          (blk_k m c t _ _ ⟨2048 + x.val, by omega⟩ _ d rfl (by show _ / 64 * 128 + _ = _ + (128 + d.val); rw [hl]; omega))
      · exact (ld2 (iblk m c 2 t) 0 128 _ x d x ⟨128 + d.val, by omega⟩ (by omega) rfl).trans
          (blk_kc m c t _ _ x _ d rfl (by show _ / 64 * 128 + _ = _ + (128 + d.val); rw [hl]; omega))
      · exact (ld2 (iblk m c 3 t) 0 0 _ x l ⟨x.val, by omega⟩ ⟨0 + l.val, by omega⟩ (Nat.zero_add _).symm rfl).trans
          (blk_v m c t _ _ ⟨x.val, by omega⟩ _ _ rfl (by show _ / 64 * 64 + _ % 64 = _ + (0 + l.val); rw [hl]; omega))
      · exact (ld2 (iblk m c 3 t) 2048 0 _ x l ⟨2048 + x.val, by omega⟩ ⟨0 + l.val, by omega⟩ rfl rfl).trans
          (blk_v m c t _ _ ⟨2048 + x.val, by omega⟩ _ _ rfl (by show _ / 64 * 64 + _ % 64 = _ + (0 + l.val); rw [hl]; omega))
      · exact (ld2 (iblk m c 4 t) 0 0 _ x l x ⟨0 + l.val, by omega⟩ (by omega) rfl).trans
          (blk_vc m c t _ _ x _ _ rfl (by show _ / 64 * 64 + _ % 64 = _ + (0 + l.val); rw [hl]; omega))

/-- The second pair of heads. -/
theorem half_high (hQ : Finite (argQ m c)) (hK : Finite (argK m c)) (hKc : Finite (argKc m c)) (t : Fin cfg0.N) (r : Fin 256) (l : Fin 128) :
    (truncf .bf16 (select k0_pay2
          (head (View.ld (iblk m c 0 t) r0_12) (View.ld (iblk m c 1 t) r0_13) (View.ld (iblk m c 1 t) r0_15) (View.ld (iblk m c 2 t) r0_16) (View.ld (iblk m c 3 t) r0_14) (View.ld (iblk m c 3 t) r0_17) (View.ld (iblk m c 4 t) r0_18))
          (head (View.ld (iblk m c 0 t) r0_19) (View.ld (iblk m c 1 t) r0_20) (View.ld (iblk m c 1 t) r0_21) (View.ld (iblk m c 2 t) r0_22) (View.ld (iblk m c 3 t) r0_14) (View.ld (iblk m c 3 t) r0_17) (View.ld (iblk m c 4 t) r0_18))) bitsLt_bf16_f32
      : Vec Ideal S256x128 .bf16) (ix2 r l) = Gb m c t (r0_23.emb (ix2 r l)) := by
  have hb : (grid0.coords t 0).val < 2 := (grid0.coords t 0).isLt
  have hp : (grid0.coords t 1).val < 2 := (grid0.coords t 1).isLt
  have hi : (grid0.coords t 2).val < 16 := (grid0.coords t 2).isLt
  have hr : ((r0_23.emb (ix2 r l)) 0).val = r.val := (ValueKit.rect_emb_unit_val _ _ _ _ _).trans (Nat.zero_add _)
  have hl : ((r0_23.emb (ix2 r l)) 1).val = 128 + l.val := ValueKit.rect_emb_unit_val _ _ _ _ _
  show (if (k0_pay2 (ix2 r l)) = 1#1 then head _ _ _ _ _ _ _ (ix2 r l) else head _ _ _ _ _ _ _ (ix2 r l)) = _
  rw [mask_eq]
  unfold Gb
  by_cases h64 : l.val < 64
  · rw [if_pos h64, if_pos rfl]
    · refine head_attn _ _ _ _ _ hQ hK hKc _ _ _ _ _ _ _ _ _ _ _ _ _ (fun d => ?_) (fun x d => ?_) (fun x d => ?_) (fun x d => ?_) (fun x => ?_) (fun x => ?_) (fun x => ?_)
      · exact (ld2 (iblk m c 0 t) 0 256 _ r d r ⟨256 + d.val, by omega⟩ (by omega) rfl).trans
          (blk_q m c t _ _ _ r _ d rfl (by show _ + _ = _ + _; rw [hr]) (by show _ / 64 * 128 + _ = _ + (256 + d.val); rw [hl]; omega))
      · exact (ld2 (iblk m c 1 t) 0 256 _ x d ⟨x.val, by omega⟩ ⟨256 + d.val, by omega⟩ (Nat.zero_add _).symm rfl).trans
          (blk_k m c t _ _ ⟨x.val, by omega⟩ _ d rfl (by show _ / 64 * 128 + _ = _ + (256 + d.val); rw [hl]; omega))
      · exact (ld2 (iblk m c 1 t) 2048 256 _ x d ⟨2048 + x.val, by omega⟩ ⟨256 + d.val, by omega⟩ rfl rfl).trans
          (blk_k m c t _ _ ⟨2048 + x.val, by omega⟩ _ d rfl (by show _ / 64 * 128 + _ = _ + (256 + d.val); rw [hl]; omega))
      · exact (ld2 (iblk m c 2 t) 0 256 _ x d x ⟨256 + d.val, by omega⟩ (by omega) rfl).trans
          (blk_kc m c t _ _ x _ d rfl (by show _ / 64 * 128 + _ = _ + (256 + d.val); rw [hl]; omega))
      · exact (ld2 (iblk m c 3 t) 0 128 _ x l ⟨x.val, by omega⟩ ⟨128 + l.val, by omega⟩ (Nat.zero_add _).symm rfl).trans
          (blk_v m c t _ _ ⟨x.val, by omega⟩ _ _ rfl (by show _ / 64 * 64 + _ % 64 = _ + (128 + l.val); rw [hl]; omega))
      · exact (ld2 (iblk m c 3 t) 2048 128 _ x l ⟨2048 + x.val, by omega⟩ ⟨128 + l.val, by omega⟩ rfl rfl).trans
          (blk_v m c t _ _ ⟨2048 + x.val, by omega⟩ _ _ rfl (by show _ / 64 * 64 + _ % 64 = _ + (128 + l.val); rw [hl]; omega))
      · exact (ld2 (iblk m c 4 t) 0 128 _ x l x ⟨128 + l.val, by omega⟩ (by omega) rfl).trans
          (blk_vc m c t _ _ x _ _ rfl (by show _ / 64 * 64 + _ % 64 = _ + (128 + l.val); rw [hl]; omega))
  · rw [if_neg h64, if_neg (by decide)]
    · refine head_attn _ _ _ _ _ hQ hK hKc _ _ _ _ _ _ _ _ _ _ _ _ _ (fun d => ?_) (fun x d => ?_) (fun x d => ?_) (fun x d => ?_) (fun x => ?_) (fun x => ?_) (fun x => ?_)
      · exact (ld2 (iblk m c 0 t) 0 384 _ r d r ⟨384 + d.val, by omega⟩ (by omega) rfl).trans
          (blk_q m c t _ _ _ r _ d rfl (by show _ + _ = _ + _; rw [hr]) (by show _ / 64 * 128 + _ = _ + (384 + d.val); rw [hl]; omega))
      · exact (ld2 (iblk m c 1 t) 0 384 _ x d ⟨x.val, by omega⟩ ⟨384 + d.val, by omega⟩ (Nat.zero_add _).symm rfl).trans
          (blk_k m c t _ _ ⟨x.val, by omega⟩ _ d rfl (by show _ / 64 * 128 + _ = _ + (384 + d.val); rw [hl]; omega))
      · exact (ld2 (iblk m c 1 t) 2048 384 _ x d ⟨2048 + x.val, by omega⟩ ⟨384 + d.val, by omega⟩ rfl rfl).trans
          (blk_k m c t _ _ ⟨2048 + x.val, by omega⟩ _ d rfl (by show _ / 64 * 128 + _ = _ + (384 + d.val); rw [hl]; omega))
      · exact (ld2 (iblk m c 2 t) 0 384 _ x d x ⟨384 + d.val, by omega⟩ (by omega) rfl).trans
          (blk_kc m c t _ _ x _ d rfl (by show _ / 64 * 128 + _ = _ + (384 + d.val); rw [hl]; omega))
      · exact (ld2 (iblk m c 3 t) 0 128 _ x l ⟨x.val, by omega⟩ ⟨128 + l.val, by omega⟩ (Nat.zero_add _).symm rfl).trans
          (blk_v m c t _ _ ⟨x.val, by omega⟩ _ _ rfl (by show _ / 64 * 64 + _ % 64 = _ + (128 + l.val); rw [hl]; omega))
      · exact (ld2 (iblk m c 3 t) 2048 128 _ x l ⟨2048 + x.val, by omega⟩ ⟨128 + l.val, by omega⟩ rfl rfl).trans
          (blk_v m c t _ _ ⟨2048 + x.val, by omega⟩ _ _ rfl (by show _ / 64 * 64 + _ % 64 = _ + (128 + l.val); rw [hl]; omega))
      · exact (ld2 (iblk m c 4 t) 0 128 _ x l x ⟨128 + l.val, by omega⟩ (by omega) rfl).trans
          (blk_vc m c t _ _ x _ _ rfl (by show _ / 64 * 64 + _ % 64 = _ + (128 + l.val); rw [hl]; omega))

/-- The whole result array. -/
theorem final (hQ : Finite (argQ m c)) (hK : Finite (argK m c)) (hKc : Finite (argKc m c)) :
    (dats m 0 c).arrAt 5 cfg0.N = G m c := by
  refine (dats m 0 c).arrAt_eq_of_covers 5 _ (by decide +kernel) fun t hf y => ?_
  blk_simp
  rw [after0_5, out_eq]
  refine (View.canon_apply_of_pieces (Gb m c t) _ ?_ y (cover0_5 _ _ y)).trans ?_
  · intro p hp x
    rcases List.mem_cons.1 hp with rfl | hp
    · rw [eq_ix2 x]; exact half_high m c hQ hK hKc t _ _
    · rcases List.mem_cons.1 hp with rfl | hp
      · rw [eq_ix2 x]; exact half_low m c hQ hK hKc t _ _
      · cases hp
  · have hb : (grid0.coords t 0).val < 2 := (grid0.coords t 0).isLt
    have hp : (grid0.coords t 1).val < 2 := (grid0.coords t 1).isLt
    have hi : (grid0.coords t 2).val < 16 := (grid0.coords t 2).isLt
    have h0 : (y 0).val < 256 := (y 0).isLt
    have h1 : (y 1).val < 256 := (y 1).isLt
    have e0 : ((win0_5.blk t).view.emb y 0).val = ((grid0.coords t 0).val * 16 + (grid0.coords t 2).val) * 256 + (y 0).val := by
      blk_simp [idx5 t]
    have e1 : ((win0_5.blk t).view.emb y 1).val = (grid0.coords t 1).val * 256 + (y 1).val := by
      blk_simp [idx5 t]
    unfold Gb G
    refine attn_congr _ _ _ _ _ ?_ ?_ ?_ ?_
    · show _ = ((win0_5.blk t).view.emb y 0).val / 4096; rw [e0]; omega
    · show _ = ((win0_5.blk t).view.emb y 0).val % 4096; rw [e0]; show (grid0.coords t 2).val * 256 + (y 0).val = _; omega
    · show _ = ((win0_5.blk t).view.emb y 1).val / 64; rw [e1]
    · show _ = ((win0_5.blk t).view.emb y 1).val % 64; rw [e1]

end Cert.Attn
-- ==== Proof.Ref.lean ====
/-  The reference of the attention: every element is the same softmax-weighted sum. -/
module

public import proofs.«01_k».proof.Proof.Gen.ReferenceIdeal.Read
public import proofs.«01_k».proof.Proof.Block

@[expose] public section

noncomputable section

namespace Cert.Attn.Ref

open Cert.ReferenceIdeal Cert.ReferenceIdeal.Gen Cert.ReferenceIdeal.Read Idealize.ShloMosaic Idealize.ShloMosaic.TcCoe Idealize.SL.Sem

variable (Q K : (⟨S2x4096x8x96, .f32⟩ : BufTy).Contents (Elt Ideal)) (V : (⟨S2x4096x8x64, .f32⟩ : BufTy).Contents (Elt Ideal))
  (Kc : (⟨S2x512x8x96, .f32⟩ : BufTy).Contents (Elt Ideal)) (Vc : (⟨S2x512x8x64, .f32⟩ : BufTy).Contents (Elt Ideal))

theorem v2_at (b : Fin 2) (h : Fin 8) (s : Fin 4096) (x : Fin 4608) :
    (val_main_v2 (F := Ideal) Q K Kc (ix4 b h s x) : EReal)
      = ∑ d : Fin 96, (Q (ix4 b s h d) : EReal) * (if hx : x.val < 4096 then K (ix4 b ⟨x.val, hx⟩ h d) else Kc (ix4 b ⟨x.val - 4096, by omega⟩ h d)) := by
  unfold val_main_v2 val_main_v0
  pointwise

theorem v1_at (b : Fin 2) (x : Fin 4608) (h : Fin 8) (e : Fin 64) :
    (val_main_v1 (F := Ideal) V Vc (ix4 b x h e) : EReal)
      = if hx : x.val < 4096 then V (ix4 b ⟨x.val, hx⟩ h e) else Vc (ix4 b ⟨x.val - 4096, by omega⟩ h e) := by
  unfold val_main_v1
  pointwise

theorem hostMax4 {a b c n : Nat} (S : FVec Ideal ⟨4, ![a, b, c, n]⟩ .f32) (z : FVec Ideal ⟨0, ![]⟩ .f32)
    (h' : (⟨4, ![a, b, c, n]⟩ : Shape).ReducesTo [3] ⟨3, ![a, b, c]⟩) (hu : 0 < (⟨0, ![]⟩ : Shape).numel)
    (i : Fin a) (j : Fin b) (k : Fin c) :
    (Host.reduce (FloatOps.maximumf (F := Ideal) (φ := .f32)) S z h' hu (ix3 i j k) : EReal)
      = Finset.univ.fold max (z (Shape.Idx.first hu)) fun x : Fin n => S (ix4 i j k x) := by
  pointwise

theorem v8_at (b : Fin 2) (h : Fin 8) (s : Fin 4096) :
    (val_main_v8 (F := Ideal) Q K Kc (ix3 b h s) : EReal)
      = max (Ideal.ofBits .f32 0xFF800000#32) (Finset.univ.fold max (Ideal.ofBits .f32 0xFF800000#32) fun x : Fin 4608 => (val_main_v5 (F := Ideal) Q K Kc (ix4 b h s x) : EReal)) := by
  rw [val_main_v8_apply, val_main_v7_apply, val_main_cst_1_apply]
  unfold val_main_v6
  generalize val_main_v5 (F := Ideal) Q K Kc = S
  exact congrArg (max (Ideal.ofBits .f32 0xFF800000#32)) (hostMax4 S _ _ _ b h s)

theorem v12_at (b : Fin 2) (h : Fin 8) (s : Fin 4096) (x : Fin 4608) :
    (val_main_v12 (F := Ideal) Q K Kc (ix4 b h s x) : EReal)
      = Ideal.exp ((val_main_v5 (F := Ideal) Q K Kc (ix4 b h s x) : EReal) - (val_main_v8 (F := Ideal) Q K Kc (ix3 b h s) : EReal)) := by
  unfold val_main_v12 val_main_v11 val_main_v10 val_main_v9
  generalize val_main_v5 (F := Ideal) Q K Kc = S
  generalize val_main_v8 (F := Ideal) Q K Kc = T
  pointwise

theorem v16_at (b : Fin 2) (h : Fin 8) (s : Fin 4096) (x : Fin 4608) :
    (val_main_v16 (F := Ideal) Q K Kc (ix4 b h s x) : EReal)
      = Ideal.div (val_main_v12 (F := Ideal) Q K Kc (ix4 b h s x) : EReal) (Ideal.ofBits .f32 0#32 + ∑ j : Fin 4608, (val_main_v12 (F := Ideal) Q K Kc (ix4 b h s j) : EReal)) := by
  unfold val_main_v16 val_main_v15 val_main_v14 val_main_v13 val_main_cst_2
  generalize val_main_v12 (F := Ideal) Q K Kc = S
  pointwise

theorem v17_at (b : Fin 2) (h : Fin 8) (e : Fin 64) (s : Fin 4096) :
    (val_main_v17 (F := Ideal) Q K V Kc Vc (ix4 b h e s) : EReal)
      = ∑ x : Fin 4608, (val_main_v1 (F := Ideal) V Vc (ix4 b x h e) : EReal) * (val_main_v16 (F := Ideal) Q K Kc (ix4 b h s x) : EReal) := by
  unfold val_main_v17
  generalize val_main_v16 (F := Ideal) Q K Kc = S
  generalize val_main_v1 (F := Ideal) V Vc = T
  pointwise

theorem v20_at (R : Fin 8192) (C : Fin 512) :
    (val_main_v20 (F := Ideal) Q K V Kc Vc (ix2 R C) : EReal)
      = (val_main_v17 (F := Ideal) Q K V Kc Vc (ix4 ⟨R.val / 4096, by omega⟩ ⟨C.val / 64, by omega⟩ ⟨C.val % 64, by omega⟩ ⟨R.val % 4096, by omega⟩) : EReal) := by
  unfold val_main_v20 val_main_v19 val_main_v18
  generalize val_main_v17 (F := Ideal) Q K V Kc Vc = S
  pointwise

/-- The score of the reference is the real score. -/
theorem v5_at (hQ : Finite Q) (hK : Finite K) (hKc : Finite Kc) (b : Fin 2) (h : Fin 8) (s : Fin 4096) (x : Fin 4608) :
    (val_main_v5 (F := Ideal) Q K Kc (ix4 b h s x) : EReal)
      = ((if hx : x.val < 4096 then score Q K b s h ⟨x.val, hx⟩ else score Q Kc b s h ⟨x.val - 4096, by omega⟩ : ℝ) : EReal) := by
  have h96 : Real.sqrt 96 ≠ 0 := (Real.sqrt_pos.mpr (by norm_num)).ne'
  rw [val_main_v5_apply, val_main_v4_apply, val_main_v3_apply, val_main_cst_apply]
  show Ideal.div (val_main_v2 (F := Ideal) Q K Kc (ix4 b h s x)) (Ideal.sqrt (Ideal.ofBits .f32 1119879168#32)) = _
  rw [bits_96, Ideal.sqrt_coe, if_neg (by norm_num), v2_at, Ideal.div_coe h96]
  have key : ∀ {n : Nat} (X : (⟨4, ![2, n, 8, 96]⟩ : Shape).Idx → EReal) (hX : Finite X) (y : Fin n),
      (∑ d : Fin 96, (Q (ix4 b s h d) : EReal) * X (ix4 b y h d)) * ((1 / Real.sqrt 96 : ℝ) : EReal) = ((score Q X b s h y : ℝ) : EReal) := by
    intro n X hX y
    have e : score Q X b s h y = (∑ d : Fin 96, (Q (ix4 b s h d)).toReal * (X (ix4 b y h d)).toReal) * (1 / Real.sqrt 96) :=
      div_eq_mul_one_div _ _
    rw [e, EReal.coe_mul, ← sum_coe]
    congr 1
    exact Finset.sum_congr rfl fun d _ => by rw [EReal.coe_mul, ← hQ, ← hX]
  by_cases hx : x.val < 4096
  · simp only [dif_pos hx]; exact key K hK _
  · simp only [dif_neg hx]; exact key Kc hKc _

/-- The reference's element is the attention. -/
theorem value (hQ : Finite Q) (hK : Finite K) (hKc : Finite Kc) (R : Fin 8192) (C : Fin 512) :
    (val_main_v20 (F := Ideal) Q K V Kc Vc (ix2 R C) : EReal)
      = attn Q K V Kc Vc ⟨R.val / 4096, by omega⟩ ⟨R.val % 4096, by omega⟩ ⟨C.val / 64, by omega⟩ ⟨C.val % 64, by omega⟩ := by
  rw [v20_at, v17_at]
  generalize (⟨R.val / 4096, by omega⟩ : Fin 2) = b
  generalize (⟨R.val % 4096, by omega⟩ : Fin 4096) = s
  generalize (⟨C.val / 64, by omega⟩ : Fin 8) = h
  generalize (⟨C.val % 64, by omega⟩ : Fin 64) = e
  have z0 : Ideal.ofBits .f32 0#32 = 0 := by simp [Ideal.ofBits, Ideal.ieee]
  simp only [v16_at, v12_at, v8_at, v5_at Q K Kc hQ hK hKc, z0, zero_add]
  rw [show Ideal.ofBits .f32 0xFF800000#32 = ⊥ from negInf]
  rw [normalised _ _ _ (max_eq_right bot_le)]
  unfold attn
  rw [← soft_equiv (finSumFinEquiv (m := 4096) (n := 512))]
  congr 1
  · funext x
    rcases x with x | x
    · show dite _ _ _ = score Q K b s h x
      rw [dif_pos (by show x.val < 4096; exact x.isLt)]; rfl
    · show dite _ _ _ = score Q Kc b s h x
      rw [dif_neg (by show ¬ 4096 + x.val < 4096; omega)]
      exact congrArg (score Q Kc b s h) (Fin.ext (by show 4096 + x.val - 4096 = x.val; omega))
  · funext x
    rcases x with x | x
    · show (val_main_v1 (F := Ideal) V Vc _ : EReal) = V (ix4 b x h e)
      rw [v1_at, dif_pos (by show x.val < 4096; exact x.isLt)]; rfl
    · show (val_main_v1 (F := Ideal) V Vc _ : EReal) = Vc (ix4 b x h e)
      rw [v1_at, dif_neg (by show ¬ 4096 + x.val < 4096; omega)]
      exact congrArg (fun y => Vc (ix4 b y h e)) (Fin.ext (by show 4096 + x.val - 4096 = x.val; omega))

end Cert.Attn.Ref
-- ==== Proof.Claims.lean ====
/-  The claims about the attention: from finite queries and keys the kernel and the reference end with the same array. -/
module

public import proofs.«01_k».proof.Defs
public import proofs.«01_k».proof.Proof.Whole
public import proofs.«01_k».proof.Proof.Ref

@[expose] public section

noncomputable section

namespace Cert.Attn

open Idealize.ShloMosaic Idealize.ShloMosaic.TcCoe Idealize.SL.Sem

theorem preFacts : Cert.Pre_finite_scores.Facts where
  bcast_S_S2x4096x8x96 := by decide
  bcast_S_S2x512x8x96 := by decide

/-- An element the precondition's comparison passes is finite. -/
theorem finite_of {s : Shape} (X : FVec Ideal s .f32) (h : (⟨0, ![]⟩ : Shape).BroadcastsInDim s (![] : Fin 0 → Fin s.rank))
    (e : cmpf .olt (Host.absf X) (broadcastInDim s ![] h (constant (⟨0, ![]⟩ : Shape) .f32 0x7F800000#32)) = fun _ => 1#1) :
    Finite X := by
  intro i
  have e1 : Ideal.cmp .olt (max (X i) (-(X i)) : EReal) (Ideal.ofBits .f32 0x7F800000#32) = 1#1 := congrFun e i
  have top : Ideal.ofBits .f32 0x7F800000#32 = ⊤ := by simp [Ideal.ofBits, Ideal.ieee]
  rw [top] at e1
  generalize X i = x at *
  induction x using EReal.rec with
  | bot => simp [Ideal.cmp] at e1
  | top => simp [Ideal.cmp] at e1
  | coe r => rw [EReal.toReal_coe]

open Cert.KernelIdeal in
theorem finite_args [Cert.Pre_finite_scores.Facts] (m : (ℓ : Loc nD τ sig) → Buf (Elt Ideal) ℓ) (h : Cert.Pre_KernelIdeal_finite_scores m) (c : Dev nD) :
    Finite (argQ m c) ∧ Finite (argK m c) ∧ Finite (argKc m c) :=
  ⟨finite_of _ _ (h c).1, finite_of _ _ (h c).2.1, finite_of _ _ (h c).2.2⟩

open Cert.KernelIdeal in
/-- The reference's result is the same array. -/
theorem ref_eq (m : (ℓ : Loc nD τ sig) → Buf (Elt Ideal) ℓ) (c : Dev nD) (hQ : Finite (argQ m c)) (hK : Finite (argK m c)) (hKc : Finite (argKc m c)) :
    Cert.ReferenceIdeal.Read.val_main_v20 (F := Ideal) (argQ m c) (argK m c) (argV m c) (argKc m c) (argVc m c) = G m c := by
  funext i
  obtain ⟨R, C, rfl⟩ : ∃ (R : Fin 8192) (C : Fin 512), i = ix2 R C := ⟨i 0, i 1, eq_ix2 i⟩
  exact Ref.value _ _ _ _ _ hQ hK hKc R C

/-- The kernel and the reference end with the same array. -/
theorem algebraic : @Cert.algebraic_KernelIdeal_ReferenceIdeal_pre_finite_scores Cert.KernelIdeal.Gen.facts Cert.ReferenceIdeal.Gen.facts preFacts := by
  intro m g m' g' hpre hagree
  have hfin := @finite_args preFacts m hpre
  refine ⟨fun c => G m c, ?_, ?_⟩
  · refine (θ_run _ _ _).mono (fun r h c => ?_) (Cert.KernelIdeal.Value.run_blocks m g)
    exact ⟨(h c).1.trans (final m c (hfin c).1 (hfin c).2.1 (hfin c).2.2), (h c).2⟩
  · refine (θ_run _ _ _).mono (fun r h c => ?_) (Cert.ReferenceIdeal.Value.run (F := Ideal) m' g')
    refine ⟨(h c).1.trans ?_, (h c).2⟩
    refine (Cert.ReferenceIdeal.Read.val_main_v20_eq (F := Ideal) _ _ _ _ _).trans ?_
    rw [(hagree c).2.2.2.1, (hagree c).2.2.2.2.1, (hagree c).2.2.2.2.2.1, (hagree c).2.2.2.2.2.2.1, (hagree c).2.2.2.2.2.2.2]
    exact ref_eq m c (hfin c).1 (hfin c).2.1 (hfin c).2.2

/-- The reference runs, keeps its arguments and ends with every counter at zero. -/
theorem frame_ref : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

end Cert.Attn
-- ==== Proof.TilesIdeal.Setup.lean ====
/- The experts' call, set up: what its arrays hold when its region is entered, the two tables it is handed, its windows'
   blocks, and the staging buffers its body runs on. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: after the reshape of the rows and the three casts of the weights. -/
abbrev V0 (c : Dev nD) : Valuation τ sig (Elt F) := StableHlo.after (List.flatten [hostOps0]) (fun b => m (c, b))
/-- The same, at a reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

set_option maxHeartbeats 800000 in
/-- The program is its first host operations, the region, and the last reshape. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact fresh0) main_chain

/-- The last reshape touches no table. -/
theorem tail_sub : ∀ ops ∈ ([hostOps1] : List (List (HloOp τ sig (Elt F)))), ∀ op ∈ ops,
    op.bufs ⊆ Pipeline.tailRefs sig pre0 spec0 := by
  intro ops hops op hop
  obtain rfl : ops = hostOps1 := by simpa using hops
  refine Pipeline.sub_tailRefs pre0 spec0 op ((List.forall_iff_forall_mem.mp hostOps1_sub) op hop) ?_
  simp only [hostOps1, List.mem_cons, List.mem_nil_iff, or_false] at hop
  subst hop
  intro j; fin_cases j <;> simp only [StableHlo.reshape_bufs, Finset.mem_insert, Finset.mem_singleton, not_or] <;>
    and_intros <;> exact StableHlo.devRef_ne_of_ne (by decide)
theorem tail_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp fresh1) op hop
/-- … and writes none of the pipeline's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  subst hop
  intro w; fin_cases w <;> simp only [StableHlo.reshape_writes, Finset.mem_singleton] <;> exact StableHlo.devRef_ne_of_ne (by decide)

/-- A reference that is neither the reshaped rows nor a cast weight. -/
def Kept (b : Ref sig .tc) : Prop := b ≠ main_v0 ∧ b ≠ main_v1 ∧ b ≠ main_v2 ∧ b ≠ main_v3 ∧ b ≠ main_v5
instance (b : Ref sig .tc) : Decidable (Kept b) := by unfold Kept; infer_instance

/-- The region finds such a buffer as it was launched. -/
theorem V_kept (b : Ref sig .tc) (hb : Kept b) (c : Dev nD) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.unary_writes,
      StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1⟩))

/-- The two tables' contents: each tile's expert, and the number of tiles in use. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The tables name experts that exist. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tb0 : Memref sig .tc .smem S136 .i32 := Memref.whole main_arg0
abbrev htb0 : tb0.IsWhole := Memref.isWhole_whole _
abbrev tb1 : Memref sig .tc .smem S1 .i32 := Memref.whole main_arg1
abbrev htb1 : tb1.IsWhole := Memref.isWhole_whole _

/-- A table's buffer, and half of it held. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The number of tiles in use, as the body loads it. -/
def used (c : Dev nD) (f : TbBuf (F := F) c tb1) : BitVec 32 :=
  ((tb1.access (Rect.unit (s := S1) ![0] S1.size inb_S1_S1_0) : View sig .tc _ _ _).read (Elt F) f)
    (Shape.Idx.first (s := S1) (numel1_S1.symm ▸ Nat.one_pos))

/-- A tile is in use when its number is below the number of tiles in use. -/
theorem cond1_iff (i : grid0.Coords) (v : BitVec 32) : k0_cond1 i v = 1#1 ↔ (BitVec.ofNat 32 (i 0).val).slt v = true := by
  have e : k0_cond1 i v = BitVec.ofBool ((BitVec.ofBool ((BitVec.ofNat 32 (i 0).val).slt v)).setWidth 32 != 0#32) := rfl
  rw [e]
  cases (BitVec.ofNat 32 (i 0).val).slt v <;> decide
/-- The body's two conditions are each other's negation. -/
theorem cond2_iff (i : grid0.Coords) (v : BitVec 32) : k0_cond2 i v = 1#1 ↔ ¬ k0_cond1 i v = 1#1 := by
  have e : k0_cond2 i v = BitVec.ofBool ((BitVec.ofBool (v.sle (BitVec.ofNat 32 (i 0).val))).setWidth 32 != 0#32) := rfl
  have h : v.sle (BitVec.ofNat 32 (i 0).val) = !((BitVec.ofNat 32 (i 0).val).slt v) := BitVec.sle_eq_not_slt
  rw [cond1_iff, e, h]
  cases (BitVec.ofNat 32 (i 0).val).slt v <;> decide

/-- An argument ends as it was launched. -/
theorem W_kept (b : Ref sig .tc) (hb : Kept b) (ha : ∀ w, Pipeline.arrRef spec0 w ≠ b) (hO : Ok m)
    (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hb.2.2.2.2)),
    Pipeline.withArrays_of_ne _ c (V0 m c) _ b ha]
  exact V_kept m b hb c

/-- A window's block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's staging buffer holds its block at every point. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The result's staging buffer, through which its contents are stated. -/
abbrev VO : View sig .tc .vmem S2048x128 .f32 := (Memref.whole cc0_stg4_0 : Memref sig .tc .vmem S2048x128 .f32).view
/-- The staging memrefs at a point. -/
abbrev ms0 (hO : Ok m) (t : Fin (cfgM m hO).N) : Memref sig .tc .vmem S2048x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1408 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x1408 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1408x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S2048x128 .f32 := spec0_4.stage ((cfgM m hO).slots t 4)
abbrev hs4 (hO : Ok m) (t : Fin (cfgM m hO).N) : (ms4 m hO t).IsWhole := hstage0_4 (((cfgM m hO).slots t 4).cast nbuf0_4)

/-- The body at a point. -/
abbrev bodyAt (a : (pcfg0 (F := F)).Adm) (t : Fin (cfg0 a).N) : Prog (TpuEff nD τ sig (Elt F) Λ₀ .tc) PUnit :=
  cc0_moe_experts (grid0.coords t) tb0 htb0 tb1 htb1 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.ExpertsIdeal.Own

end
-- ==== Proof.TilesIdeal.RunA.lean ====
/- The experts' body at a tile in use: the eight strided stores it leaves in the result's buffer. -/
module

public import proofs.«01_k».proof.Proof.TilesIdeal.Setup

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a tile in use, and the stores it found. -/
noncomputable def runA (c : Dev nD) (i : grid0.Coords) (arg3 : Memref sig .tc .vmem S2048x128 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S2048x128 .f32) (harg7 : arg7.IsWhole)
    (x0 : Vec F S2048x128 .f32) (x1 : Vec F S1x1024x1408 .bf16) (x2 : Vec F S1x1024x1408 .bf16) (x3 : Vec F S1x1408x1024 .bf16) (xt0 : TbBuf (F := F) c tb0) (xt1 : TbBuf (F := F) c tb1)
    (h1 : k0_cond1 i (used c xt1) = 1#1) (h2 : ¬ k0_cond2 i (used c xt1) = 1#1) :
    { L4 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tb0 xt0 ∗ tbPt c tb1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt c tb0 xt0 ∗ tbPt c tb1 xt1) -∗ K ⟨⟩))
          ⊢ wp frame (wpE (defs₀ (F := F)) Variants.none c none) E (cc0_moe_experts i tb0 htb0 tb1 htb1 arg3 harg3 arg4 harg4 arg5 harg5 arg6 harg6 arg7 harg7) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact h1 | sl_exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.ExpertsIdeal.Own

end
-- ==== Proof.TilesIdeal.RunB.lean ====
/- The experts' body at a tile past those in use: the zeros it stores in the result's buffer. -/
module

public import proofs.«01_k».proof.Proof.TilesIdeal.RunA

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a tile past those in use, and the store it found. -/
noncomputable def runB (c : Dev nD) (i : grid0.Coords) (arg3 : Memref sig .tc .vmem S2048x128 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S2048x128 .f32) (harg7 : arg7.IsWhole)
    (x0 : Vec F S2048x128 .f32) (x1 : Vec F S1x1024x1408 .bf16) (x2 : Vec F S1x1024x1408 .bf16) (x3 : Vec F S1x1408x1024 .bf16) (xt0 : TbBuf (F := F) c tb0) (xt1 : TbBuf (F := F) c tb1)
    (h1 : ¬ k0_cond1 i (used c xt1) = 1#1) (h2 : k0_cond2 i (used c xt1) = 1#1) :
    { L4 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tb0 xt0 ∗ tbPt c tb1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt c tb0 xt0 ∗ tbPt c tb1 xt1) -∗ K ⟨⟩))
          ⊢ wp frame (wpE (defs₀ (F := F)) Variants.none c none) E (cc0_moe_experts i tb0 htb0 tb1 htb1 arg3 harg3 arg4 harg4 arg5 harg5 arg6 harg6 arg7 harg7) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact h1 | sl_exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.ExpertsIdeal.Own

end
-- ==== Proof.TilesIdeal.Frame.lean ====
/- What the experts' call leaves, point by point, and that it runs: it ends, and its arguments are as launched. -/
module

public import proofs.«01_k».proof.Proof.TilesIdeal.RunB
public import Idealize.ShloMosaic.Lib.Claim

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The elements a load reads of a vector. -/
def pick {s : Shape} {e : EltTy} (x : Vec F s e) (r : LoadRect s) : Vec F r.shape e := fun j => x (r.idx j)

theorem readAt_unread {sp : Space} {s : Shape} {e : EltTy} {M : Memref sig .tc sp s e} (h : M.IsWhole) (x : Vec F s e) (r : LoadRect s) :
    View.readAt (Elt F) M.view r (h.unread x) = pick x r := by
  funext j
  rw [View.readAt_apply, h.read_unread]
  rfl

/-- Every eighth row of a block, from a row on. -/
theorem every8_inb (j : Fin 8) : ∀ a : Fin 2, (S256x128.size a = 0 ∨ (![j.val, 0] : Fin 2 → Nat) a + (![8, 1] : Fin 2 → Nat) a * (S256x128.size a - 1) < S2048x128.size a) := by
  revert j; decide
abbrev every8 (j : Fin 8) : Rect S2048x128 :=
  ⟨(⟨![j.val, 0], S256x128.size, ![8, 1], every8_inb j⟩ : LoadRect S2048x128), spos_8_1⟩

/-- A row lies among those of its remainder. -/
theorem mem_every8 (j : Fin 8) (y : S2048x128.Idx) (h : (y 0).val % 8 = j.val) : y ∈ (every8 j).set := by
  rw [LoadRect.mem_set]
  have h0 : (y 0).val < 2048 := (y 0).isLt
  have h1 : (y 1).val < 128 := (y 1).isLt
  intro a
  match a with
  | ⟨0, _⟩ => exact ⟨(y 0).val / 8, (by show (y 0).val / 8 < 256; omega), (by show (y 0).val = j.val + 8 * ((y 0).val / 8); omega)⟩
  | ⟨1, _⟩ => exact ⟨(y 1).val, h1, (by show (y 1).val = 0 + 1 * (y 1).val; omega)⟩

/-- The hidden layer the body computes from the rows and an expert's two first weights. -/
def hidden (x0 : Vec F S2048x128 .f32) (x1 x2 : Vec F S1x1024x1408 .bf16) : FVec F S256x1408 .f32 :=
  k0_pay11 (pick x0 (every8 0).toLoadRect) (pick x0 (every8 1).toLoadRect) (pick x0 (every8 2).toLoadRect) (pick x0 (every8 3).toLoadRect)
    (pick x0 (every8 4).toLoadRect) (pick x0 (every8 5).toLoadRect) (pick x0 (every8 6).toLoadRect) (pick x0 (every8 7).toLoadRect)
    (pick x1 (Rect.unit (s := S1x1024x1408) ![0, 0, 0] S1x1024x1408.size inb_S1x1024x1408_S1x1024x1408_0_0_0).toLoadRect)
    (pick x2 (Rect.unit (s := S1x1024x1408) ![0, 0, 0] S1x1024x1408.size inb_S1x1024x1408_S1x1024x1408_0_0_0).toLoadRect)
/-- The expert's last weights, as loaded. -/
def lastw (x3 : Vec F S1x1408x1024 .bf16) : Vec F S1x1408x1024 .bf16 :=
  pick x3 (Rect.unit (s := S1x1408x1024) ![0, 0, 0] S1x1408x1024.size inb_S1x1408x1024_S1x1408x1024_0_0_0).toLoadRect

/-- The stores at a tile in use, last first. -/
def storesA (x0 : Vec F S2048x128 .f32) (x1 x2 : Vec F S1x1024x1408 .bf16) (x3 : Vec F S1x1408x1024 .bf16) : List (View.Piece (Elt F) S2048x128 .f32) :=
  [⟨every8 7, k0_pay9 (hidden x0 x1 x2) (lastw x3)⟩, ⟨every8 6, k0_pay8 (hidden x0 x1 x2) (lastw x3)⟩,
   ⟨every8 5, k0_pay7 (hidden x0 x1 x2) (lastw x3)⟩, ⟨every8 4, k0_pay6 (hidden x0 x1 x2) (lastw x3)⟩,
   ⟨every8 3, k0_pay5 (hidden x0 x1 x2) (lastw x3)⟩, ⟨every8 2, k0_pay4 (hidden x0 x1 x2) (lastw x3)⟩,
   ⟨every8 1, k0_pay3 (hidden x0 x1 x2) (lastw x3)⟩, ⟨every8 0, k0_pay2 (hidden x0 x1 x2) (lastw x3)⟩]
/-- The store at a tile past those in use. -/
def storesB : List (View.Piece (Elt F) S2048x128 .f32) :=
  [⟨Rect.unit (s := S2048x128) ![0, 0] S2048x128.size inb_S2048x128_S2048x128_0_0, k0_pay10 (F := F)⟩]

theorem coverA (x0 : Vec F S2048x128 .f32) (x1 x2 : Vec F S1x1024x1408 .bf16) (x3 : Vec F S1x1408x1024 .bf16) (y : S2048x128.Idx) :
    ∃ pc ∈ storesA x0 x1 x2 x3, y ∈ pc.1.set := by
  have h : (y 0).val % 8 < 8 := Nat.mod_lt _ (by decide)
  have m0 := mem_every8 0 y; have m1 := mem_every8 1 y; have m2 := mem_every8 2 y; have m3 := mem_every8 3 y
  have m4 := mem_every8 4 y; have m5 := mem_every8 5 y; have m6 := mem_every8 6 y; have m7 := mem_every8 7 y
  rcases (by omega : (y 0).val % 8 = 7 ∨ (y 0).val % 8 = 6 ∨ (y 0).val % 8 = 5 ∨ (y 0).val % 8 = 4 ∨ (y 0).val % 8 = 3 ∨
    (y 0).val % 8 = 2 ∨ (y 0).val % 8 = 1 ∨ (y 0).val % 8 = 0) with e | e | e | e | e | e | e | e
  · exact ⟨_, .head _, m7 e⟩
  · exact ⟨_, .tail _ (.head _), m6 e⟩
  · exact ⟨_, .tail _ (.tail _ (.head _)), m5 e⟩
  · exact ⟨_, .tail _ (.tail _ (.tail _ (.head _))), m4 e⟩
  · exact ⟨_, .tail _ (.tail _ (.tail _ (.tail _ (.head _)))), m3 e⟩
  · exact ⟨_, .tail _ (.tail _ (.tail _ (.tail _ (.tail _ (.head _))))), m2 e⟩
  · exact ⟨_, .tail _ (.tail _ (.tail _ (.tail _ (.tail _ (.tail _ (.head _)))))), m1 e⟩
  · exact ⟨_, .tail _ (.tail _ (.tail _ (.tail _ (.tail _ (.tail _ (.tail _ (.head _))))))), m0 e⟩

theorem coverB (y : S2048x128.Idx) : ∃ pc ∈ storesB (F := F), y ∈ pc.1.set := by
  refine ⟨_, .head _, ?_⟩
  rw [Rect.mem_set_unit]
  have h0 : (y 0).val < 2048 := (y 0).isLt
  have h1 : (y 1).val < 128 := (y 1).isLt
  intro a
  match a with
  | ⟨0, _⟩ => exact ⟨Nat.zero_le _, by show (y 0).val < 0 + 2048; omega⟩
  | ⟨1, _⟩ => exact ⟨Nat.zero_le _, by show (y 1).val < 0 + 128; omega⟩

section
variable (c : Dev nD) (i : grid0.Coords) (arg3 : Memref sig .tc .vmem S2048x128 .f32) (harg3 : arg3.IsWhole) (arg4 : Memref sig .tc .vmem S1x1024x1408 .bf16) (harg4 : arg4.IsWhole) (arg5 : Memref sig .tc .vmem S1x1024x1408 .bf16) (harg5 : arg5.IsWhole) (arg6 : Memref sig .tc .vmem S1x1408x1024 .bf16) (harg6 : arg6.IsWhole) (arg7 : Memref sig .tc .vmem S2048x128 .f32) (harg7 : arg7.IsWhole)
    (x0 : Vec F S2048x128 .f32) (x1 : Vec F S1x1024x1408 .bf16) (x2 : Vec F S1x1024x1408 .bf16) (x3 : Vec F S1x1408x1024 .bf16) (xt0 : TbBuf (F := F) c tb0) (xt1 : TbBuf (F := F) c tb1)

/-- The run's stores are those. -/
theorem runA_eq (h1 : k0_cond1 i (used c xt1) = 1#1) (h2 : ¬ k0_cond2 i (used c xt1) = 1#1) :
    (runA c i arg3 harg3 arg4 harg4 arg5 harg5 arg6 harg6 arg7 harg7 x0 x1 x2 x3 xt0 xt1 h1 h2).1 = storesA x0 x1 x2 x3 := by
  unfold storesA hidden lastw
  rw [← readAt_unread harg6, ← readAt_unread harg4, ← readAt_unread harg5]
  simp only [← readAt_unread harg3 x0]
  rfl
theorem runB_eq (h1 : ¬ k0_cond1 i (used c xt1) = 1#1) (h2 : k0_cond2 i (used c xt1) = 1#1) :
    (runB c i arg3 harg3 arg4 harg4 arg5 harg5 arg6 harg6 arg7 harg7 x0 x1 x2 x3 xt0 xt1 h1 h2).1 = storesB := rfl

theorem runA_read {sp : Space} (v : View sig .tc sp S2048x128 .f32) (f : v.ty.Contents (Elt F)) (h1 : k0_cond1 i (used c xt1) = 1#1) (h2 : ¬ k0_cond2 i (used c xt1) = 1#1) :
    v.read (Elt F) (v.writes (Elt F) f (runA c i arg3 harg3 arg4 harg4 arg5 harg5 arg6 harg6 arg7 harg7 x0 x1 x2 x3 xt0 xt1 h1 h2).1) = View.canon (storesA x0 x1 x2 x3) := by
  rw [runA_eq]; exact View.read_writes_eq_canon _ _ _ (coverA _ _ _ _)
theorem runB_read {sp : Space} (v : View sig .tc sp S2048x128 .f32) (f : v.ty.Contents (Elt F)) (h1 : ¬ k0_cond1 i (used c xt1) = 1#1) (h2 : k0_cond2 i (used c xt1) = 1#1) :
    v.read (Elt F) (v.writes (Elt F) f (runB c i arg3 harg3 arg4 harg4 arg5 harg5 arg6 harg6 arg7 harg7 x0 x1 x2 x3 xt0 xt1 h1 h2).1) = View.canon (storesB (F := F)) := by
  rw [runB_eq]; exact View.read_writes_eq_canon _ _ _ coverB
end

/-- What a point leaves in the result's block. -/
def outBlk (i : grid0.Coords) (nu : BitVec 32) (x0 : Vec F S2048x128 .f32) (x1 x2 : Vec F S1x1024x1408 .bf16) (x3 : Vec F S1x1408x1024 .bf16) : Vec F S2048x128 .f32 :=
  if k0_cond1 i nu = 1#1 then View.canon (storesA x0 x1 x2 x3) else View.canon (storesB (F := F))

variable (m : (ℓ : Loc nD τ sig) → Buf (Elt F) ℓ) (ρ : Dev nD → PrngReg)

/-- What the result's staging buffer holds after a point. -/
def outsAt (hO : Ok m) (c : Dev nD) (t : Fin (cfgM m hO).N) : Vec F S2048x128 .f32 :=
  outBlk (grid0.coords t) (used c (tbl m 1)) (iblk m hO c 0 t) (iblk m hO c 1 t) (iblk m hO c 2 t) (iblk m hO c 3 t)

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = (outsAt m hO c t) := by dsimp only [dats]; try rfl

theorem before_0 (hO : Ok m) (c : Dev nD) (t : Fin (cfgM m hO).N) (d) : (dats m hO 0 c).before 0 t d = iblk m hO c 0 t :=
  before0_of m hO (dats m hO 0 c) (A_eq m hO c 0) (after_0 m hO c) t d
theorem before_1 (hO : Ok m) (c : Dev nD) (t : Fin (cfgM m hO).N) (d) : (dats m hO 0 c).before 1 t d = iblk m hO c 1 t :=
  before1_of m hO (dats m hO 0 c) (A_eq m hO c 1) (after_1 m hO c) t d
theorem before_2 (hO : Ok m) (c : Dev nD) (t : Fin (cfgM m hO).N) (d) : (dats m hO 0 c).before 2 t d = iblk m hO c 2 t :=
  before2_of m hO (dats m hO 0 c) (A_eq m hO c 2) (after_2 m hO c) t d
theorem before_3 (hO : Ok m) (c : Dev nD) (t : Fin (cfgM m hO).N) (d) : (dats m hO 0 c).before 3 t d = iblk m hO c 3 t :=
  before3_of m hO (dats m hO 0 c) (A_eq m hO c 3) (after_3 m hO c) t d

/-- What the body is called with at a point, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- No point leaves the result's block alone. -/
theorem busy4 (pf : pre0.Contents (Elt F)) (i : grid0.Coords) : idle0 pf 4 i = false := by
  unfold idle0; dsimp only
  generalize pf.atD 1 ![0] = v
  by_cases h : k0_cond1 i v = 1#1
  · rw [h]; rfl
  · rw [(cond2_iff _ _).2 h, Bool.and_comm]; rfl
theorem busyAt4 (a : (pcfg0 (F := F)).Adm) (i : grid0.Coords) : (cfg0 a).idle 4 i = false := by
  show idle0 a.1 4 i = false
  exact busy4 _ _
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, PhiT_eq]
  unfold outsAt outBlk
  by_cases h : k0_cond1 (grid0.coords t) (used c (tbl m 1)) = 1#1
  · rw [if_pos h]
    iintro ⟨⟨HΦ, ⟨HT0, HT1⟩⟩, Ho, ⟨%d0, H0⟩, ⟨%d1, H1⟩, ⟨%d2, H2⟩, ⟨%d3, H3⟩, ⟨%d4, H4⟩⟩
    iapply ((runA c (grid0.coords t) _ (hs0 m hO t) _ (hs1 m hO t) _ (hs2 m hO t) _ (hs3 m hO t) _ (hs4 m hO t) (iblk m hO c 0 t) (iblk m hO c 1 t) (iblk m hO c 2 t) (iblk m hO c 3 t) (tbl m 0) (tbl m 1) h (fun e => (cond2_iff _ _).1 e h)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact runA_read c _ _ _ _ _ _ _ _ _ _ _ _ _ _ _ _ _ _ _ _ _
  · rw [if_neg h]
    iintro ⟨⟨HΦ, ⟨HT0, HT1⟩⟩, Ho, ⟨%d0, H0⟩, ⟨%d1, H1⟩, ⟨%d2, H2⟩, ⟨%d3, H3⟩, ⟨%d4, H4⟩⟩
    iapply ((runB c (grid0.coords t) _ (hs0 m hO t) _ (hs1 m hO t) _ (hs2 m hO t) _ (hs3 m hO t) _ (hs4 m hO t) (iblk m hO c 0 t) (iblk m hO c 1 t) (iblk m hO c 2 t) (iblk m hO c 3 t) (tbl m 0) (tbl m 1) h ((cond2_iff _ _).2 h)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact runB_read c _ _ _ _ _ _ _ _ _ _ _ _ _ _ _ _ _ _ _ _ _

theorem body_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, body_row m hO, busyAt4 (adm m hO)]
  exact triple_restated (sound_body m hO c t) rfl .rfl fun _ => .rfl

set_option backward.isDefEq.respectTransparency.types false in
set_option maxHeartbeats 800000 in
/-- The program's run: every array of the pipeline as the proof data say, every other buffer as the last reshape leaves it. -/
theorem run_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := tail_sub) (hfresh := tail_fresh) (hkeep := tail_keeps)
    (hmain := hmain m Variants.none) (hA := A_eq m hO) (hpf := V_pre m) (hΦ := fun _ _ => rfl)

/-- An argument ends as it was launched. -/
theorem keeps (hO : Ok m) (r : PUnit × MemSt nD τ sig (Elt F))
    (h : Pipeline.FramePost (Pipeline.pin pcfgs fun _ => adm m hO) (dats m hO) 0 (Pipeline.afterTail pcfgs (fun _ => adm m hO) (dats m hO) 0 (V0 m) [hostOps1]) r)
    (c : Dev nD) (b : Ref sig .tc) (hb : Kept b) (ha : ∀ w, Pipeline.arrRef spec0 w ≠ b) (hr : b ∈ Pipeline.restRefs sig spec0) :
    r.2.mem ((c.tc : Thread nD τ).loc b) = m ((c.tc : Thread nD τ).loc b) :=
  ((h c).2 b hr).trans (W_kept m b hb ha hO (dats m hO) c)

/-- The run ends with the arguments as launched and no semaphore counting. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨keeps m hO r h.1 c main_arg0 (by decide) (by decide) (by decide), keeps m hO r h.1 c main_arg1 (by decide) (by decide) (by decide),
     keeps m hO r h.1 c main_arg2 (by decide) (by decide) (by decide), keeps m hO r h.1 c main_arg3 (by decide) (by decide) (by decide),
     keeps m hO r h.1 c main_arg4 (by decide) (by decide) (by decide), keeps m hO r h.1 c main_arg5 (by decide) (by decide) (by decide)⟩, h.2⟩)
    (run_quiescent m ρ hO)

end Cert.ExpertsIdeal.Own

end
-- ==== Proof.TilesIdeal.Ok.lean ====
/- The tables are in order when every tile's expert is one of the eight. -/
module

public import proofs.«01_k».proof.Proof.TilesIdeal.Frame
public import Idealize.ShloMosaic.Lib.Pointwise

@[expose] public section

set_option maxRecDepth 16384

noncomputable section

namespace Cert.ExpertsIdeal.Own

open Cert.ExpertsIdeal Cert.ExpertsIdeal.Gen
open Idealize.ShloMosaic Idealize.ShloMosaic.TcCoe Idealize.SL.Sem

variable {F : FTy → Type} [FloatOps F]

/-- A tile's expert, as a word. -/
def expertOf (pf : pre0.Contents (Elt F)) (i : grid0.Coords) : BitVec 32 :=
  pf.at 0 (Rect.unit (s := S136) ![(Scalar.indexCast (BitVec.ofNat 32 (i 0).val)).toNat] S1.size (k0_off1_inb i)) numel1_S1

theorem blocks12 : ∀ v : Fin 8, ∃ h : (∀ a, ((![v.val, 0, 0] : Fin 3 → Nat) a + 1) * S1x1024x1408.size a ≤ S8x1024x1408.size a),
    EltTy.bits .bf16 = 32 ∨ (Rect.block (s := S8x1024x1408) S1x1024x1408.size ![v.val, 0, 0] h).WholeWords (EltTy.packing .bf16) := by
  decide
theorem blocks3 : ∀ v : Fin 8, ∃ h : (∀ a, ((![v.val, 0, 0] : Fin 3 → Nat) a + 1) * S1x1408x1024.size a ≤ S8x1408x1024.size a),
    EltTy.bits .bf16 = 32 ∨ (Rect.block (s := S8x1408x1024) S1x1408x1024.size ![v.val, 0, 0] h).WholeWords (EltTy.packing .bf16) := by
  decide

theorem ok_of (pf : pre0.Contents (Elt F)) (h : ∀ i, (expertOf pf i).toNat < 8) : ok0 pf :=
  ⟨fun i => blocks12 ⟨_, h i⟩, fun i => blocks12 ⟨_, h i⟩, fun i => blocks3 ⟨_, h i⟩⟩

/-- The expert is the table's entry at the tile. -/
theorem expertOf_eq (pf : pre0.Contents (Elt F)) (i : grid0.Coords) (j : S136.Idx) (hj : (j 0).val = (i 0).val) :
    expertOf pf i = (pf 0 : S136.Idx → BitVec 32) j := by
  have hi : (i 0).val < 136 := (i 0).isLt
  refine congrArg (pf 0 : S136.Idx → BitVec 32) ?_
  funext a
  apply Fin.ext
  match a with
  | ⟨0, _⟩ =>
    show (Scalar.indexCast (BitVec.ofNat 32 (i 0).val)).toNat + 1 * 0 = (j 0).val
    rw [hj]
    show (BitVec.ofNat 32 (i 0).val).toNat + 0 = _
    rw [BitVec.toNat_ofNat]; omega

variable (m : (ℓ : Loc nD τ sig) → Buf (Elt F) ℓ)

theorem tbl0_eq : tbl m 0 = m (((0 : Dev nD) : Thread nD τ).loc main_arg0) := V_kept m main_arg0 (by decide) 0
theorem tbl1_eq : tbl m 1 = m (((0 : Dev nD) : Thread nD τ).loc main_arg1) := V_kept m main_arg1 (by decide) 0

theorem ok_of_args (h : ∀ j, ((m (((0 : Dev nD) : Thread nD τ).loc main_arg0) : S136.Idx → BitVec 32) j).toNat < 8) : Ok m := by
  refine ok_of (tbl m) fun i => ?_
  have hi : (i 0).val < 136 := (i 0).isLt
  rw [expertOf_eq (tbl m) i (ix1 ⟨(i 0).val, hi⟩) rfl, tbl0_eq]
  exact h _

/-- A word between 0 and 8, signed, is below 8. -/
theorem word_lt (w : BitVec 32) (h1 : IntOp.cmpi .sge w 0#32 = 1#1) (h2 : IntOp.cmpi .slt w 8#32 = 1#1) : w.toNat < 8 := by
  have e1 : (0#32).sle w = true := by
    have : BitVec.ofBool ((0#32).sle w) = 1#1 := h1
    revert this; cases (0#32).sle w <;> simp
  have e2 : w.slt 8#32 = true := by
    have : BitVec.ofBool (w.slt 8#32) = 1#1 := h2
    revert this; cases w.slt 8#32 <;> simp
  rw [BitVec.sle_iff_toInt_le] at e1
  rw [BitVec.slt_iff_toInt_lt] at e2
  have := BitVec.toInt_eq_toNat_cond w
  have l := w.isLt
  simp only [BitVec.reduceToInt] at e1 e2
  split at this <;> omega

/-- The number of tiles in use is the second table's word. -/
theorem used_eq (c : Dev nD) (j : S1.Idx) : used c (tbl m 1) = (m (((0 : Dev nD) : Thread nD τ).loc main_arg1) : S1.Idx → BitVec 32) j := by
  refine Eq.trans ?_ (congrFun (tbl1_eq m) j)
  refine congrArg (tbl m 1 : S1.Idx → BitVec 32) ?_
  funext a
  match a with
  | ⟨0, _⟩ => exact Subsingleton.elim (α := Fin 1) _ _

end Cert.ExpertsIdeal.Own
-- ==== Proof.Swiglu.lean ====
/- The gated feed-forward: a row's hidden unit is its gate's product g·σ(g) times the other projection. -/
module

public import Idealize.ShloMosaic.Lib.Pointwise

@[expose] public section

noncomputable section

namespace Cert.Swi

open Idealize.ShloMosaic

/-- The logistic function, as the kernel writes it. -/
def sig (g : EReal) : EReal := Ideal.div 1 (1 + Ideal.exp (0 - g))

theorem sig_eq (g : EReal) : Ideal.div 1 (1 + Ideal.exp (-g)) = sig g := by rw [sig, zero_sub]

/-- A hidden unit: the row's product with the gate's weights through g·σ(g), times its product with the other weights. -/
def unit {n : Nat} (X W U : Fin n → EReal) : EReal :=
  (∑ d, X d * W d) * sig (∑ d, X d * W d) * ∑ d, X d * U d

/-- An output of the gated feed-forward. -/
def out {n f : Nat} (X : Fin n → EReal) (W U : Fin n → Fin f → EReal) (D : Fin f → EReal) : EReal :=
  ∑ k, unit X (fun d => W d k) (fun d => U d k) * D k

end Cert.Swi
-- ==== Proof.MoE.Pay.lean ====
/- What the experts' body computes, element by element: a row of the tile, its expert's gated hidden layer, its output row. -/
module

public import proofs.«01_k».proof.Proof.TilesIdeal.Frame
public import proofs.«01_k».proof.Proof.Swiglu

@[expose] public section

noncomputable section

namespace Cert.MoE

open Cert.ExpertsIdeal Cert.ExpertsIdeal.Gen Cert.ExpertsIdeal.Own Idealize.ShloMosaic Idealize.SL.Sem

theorem pay1_apply (v : FVec Ideal S256x1408 .f32) (w : Vec Ideal S1x1408x1024 .bf16) (r : Fin 256) (l : Fin 1024) :
    k0_pay1 v w (ix2 r l) = ∑ f : Fin 1408, (v (ix2 r f) : EReal) * (w (ix3 0 f l) : EReal) := by
  unfold_payloads
  pointwise

/-- The eight column slices of the output are the stores' values. -/
theorem pay2_apply (v : FVec Ideal S256x1408 .f32) (w : Vec Ideal S1x1408x1024 .bf16) (r : Fin 256) (l : Fin 128) :
    k0_pay2 v w (ix2 r l) = k0_pay1 v w (ix2 r ⟨l.val, by omega⟩) := by
  unfold k0_pay2; generalize k0_pay1 v w = z; pointwise
theorem pay3_apply (v : FVec Ideal S256x1408 .f32) (w : Vec Ideal S1x1408x1024 .bf16) (r : Fin 256) (l : Fin 128) :
    k0_pay3 v w (ix2 r l) = k0_pay1 v w (ix2 r ⟨128 + l.val, by omega⟩) := by
  unfold k0_pay3; generalize k0_pay1 v w = z; pointwise
theorem pay4_apply (v : FVec Ideal S256x1408 .f32) (w : Vec Ideal S1x1408x1024 .bf16) (r : Fin 256) (l : Fin 128) :
    k0_pay4 v w (ix2 r l) = k0_pay1 v w (ix2 r ⟨256 + l.val, by omega⟩) := by
  unfold k0_pay4; generalize k0_pay1 v w = z; pointwise
theorem pay5_apply (v : FVec Ideal S256x1408 .f32) (w : Vec Ideal S1x1408x1024 .bf16) (r : Fin 256) (l : Fin 128) :
    k0_pay5 v w (ix2 r l) = k0_pay1 v w (ix2 r ⟨384 + l.val, by omega⟩) := by
  unfold k0_pay5; generalize k0_pay1 v w = z; pointwise
theorem pay6_apply (v : FVec Ideal S256x1408 .f32) (w : Vec Ideal S1x1408x1024 .bf16) (r : Fin 256) (l : Fin 128) :
    k0_pay6 v w (ix2 r l) = k0_pay1 v w (ix2 r ⟨512 + l.val, by omega⟩) := by
  unfold k0_pay6; generalize k0_pay1 v w = z; pointwise
theorem pay7_apply (v : FVec Ideal S256x1408 .f32) (w : Vec Ideal S1x1408x1024 .bf16) (r : Fin 256) (l : Fin 128) :
    k0_pay7 v w (ix2 r l) = k0_pay1 v w (ix2 r ⟨640 + l.val, by omega⟩) := by
  unfold k0_pay7; generalize k0_pay1 v w = z; pointwise
theorem pay8_apply (v : FVec Ideal S256x1408 .f32) (w : Vec Ideal S1x1408x1024 .bf16) (r : Fin 256) (l : Fin 128) :
    k0_pay8 v w (ix2 r l) = k0_pay1 v w (ix2 r ⟨768 + l.val, by omega⟩) := by
  unfold k0_pay8; generalize k0_pay1 v w = z; pointwise
theorem pay9_apply (v : FVec Ideal S256x1408 .f32) (w : Vec Ideal S1x1408x1024 .bf16) (r : Fin 256) (l : Fin 128) :
    k0_pay9 v w (ix2 r l) = k0_pay1 v w (ix2 r ⟨896 + l.val, by omega⟩) := by
  unfold k0_pay9; generalize k0_pay1 v w = z; pointwise

/-- A row put together from eight slices. -/
theorem glue (a0 a1 a2 a3 a4 a5 a6 a7 : Vec Ideal S256x128 .f32) (r : Fin 256) (X : Fin 1024 → EReal)
    (h0 : ∀ (l : Fin 128) (d : Fin 1024), d.val = l.val → a0 (ix2 r l) = X d)
    (h1 : ∀ (l : Fin 128) (d : Fin 1024), d.val = 128 + l.val → a1 (ix2 r l) = X d)
    (h2 : ∀ (l : Fin 128) (d : Fin 1024), d.val = 256 + l.val → a2 (ix2 r l) = X d)
    (h3 : ∀ (l : Fin 128) (d : Fin 1024), d.val = 384 + l.val → a3 (ix2 r l) = X d)
    (h4 : ∀ (l : Fin 128) (d : Fin 1024), d.val = 512 + l.val → a4 (ix2 r l) = X d)
    (h5 : ∀ (l : Fin 128) (d : Fin 1024), d.val = 640 + l.val → a5 (ix2 r l) = X d)
    (h6 : ∀ (l : Fin 128) (d : Fin 1024), d.val = 768 + l.val → a6 (ix2 r l) = X d)
    (h7 : ∀ (l : Fin 128) (d : Fin 1024), d.val = 896 + l.val → a7 (ix2 r l) = X d) (d : Fin 1024) :
    (concatenate S256x1024 1 [⟨S256x128, a0⟩, ⟨S256x128, a1⟩, ⟨S256x128, a2⟩, ⟨S256x128, a3⟩, ⟨S256x128, a4⟩, ⟨S256x128, a5⟩,
      ⟨S256x128, a6⟩, ⟨S256x128, a7⟩]
      concatenates_S256x128_S256x128_S256x128_S256x128_S256x128_S256x128_S256x128_S256x128_S256x1024_d1 : FVec Ideal S256x1024 .f32) (ix2 r d) = X d := by
  pointwise
  by_cases c0 : d.val < 128
  · rw [dif_pos c0]; exact h0 _ _ (by first | rfl | omega | (simp only []; omega))
  rw [dif_neg c0]
  by_cases c1 : d.val - 128 < 128
  · rw [dif_pos c1]; exact h1 _ _ (by first | rfl | omega | (simp only []; omega))
  rw [dif_neg c1]
  by_cases c2 : d.val - 128 - 128 < 128
  · rw [dif_pos c2]; exact h2 _ _ (by first | rfl | omega | (simp only []; omega))
  rw [dif_neg c2]
  by_cases c3 : d.val - 128 - 128 - 128 < 128
  · rw [dif_pos c3]; exact h3 _ _ (by first | rfl | omega | (simp only []; omega))
  rw [dif_neg c3]
  by_cases c4 : d.val - 128 - 128 - 128 - 128 < 128
  · rw [dif_pos c4]; exact h4 _ _ (by first | rfl | omega | (simp only []; omega))
  rw [dif_neg c4]
  by_cases c5 : d.val - 128 - 128 - 128 - 128 - 128 < 128
  · rw [dif_pos c5]; exact h5 _ _ (by first | rfl | omega | (simp only []; omega))
  rw [dif_neg c5]
  by_cases c6 : d.val - 128 - 128 - 128 - 128 - 128 - 128 < 128
  · rw [dif_pos c6]; exact h6 _ _ (by first | rfl | omega | (simp only []; omega))
  rw [dif_neg c6]
  exact h7 _ _ (by first | rfl | omega | (simp only []; omega))

/-- A vector under the identity cast the body writes. -/
abbrev cst8 (a : Vec Ideal S256x128 .f32) : FVec Ideal S256x128 .f32 := shapeCast S256x128 a shapeCasts_S256x128_S256x128

theorem pay11_apply (a0 a1 a2 a3 a4 a5 a6 a7 : Vec Ideal S256x128 .f32) (w u : Vec Ideal S1x1024x1408 .bf16) (r : Fin 256) (f : Fin 1408)
    (X : Fin 1024 → EReal)
    (h : ∀ d : Fin 1024, (concatenate S256x1024 1 [⟨S256x128, cst8 a0⟩, ⟨S256x128, cst8 a1⟩, ⟨S256x128, cst8 a2⟩, ⟨S256x128, cst8 a3⟩, ⟨S256x128, cst8 a4⟩, ⟨S256x128, cst8 a5⟩,
      ⟨S256x128, cst8 a6⟩, ⟨S256x128, cst8 a7⟩]
      concatenates_S256x128_S256x128_S256x128_S256x128_S256x128_S256x128_S256x128_S256x128_S256x1024_d1 : FVec Ideal S256x1024 .f32) (ix2 r d) = X d) :
    k0_pay11 a0 a1 a2 a3 a4 a5 a6 a7 w u (ix2 r f) = Swi.unit X (fun d => w (ix3 0 d f)) (fun d => u (ix3 0 d f)) := by
  unfold k0_pay11
  revert h
  generalize (concatenate S256x1024 1 [⟨S256x128, cst8 a0⟩, ⟨S256x128, cst8 a1⟩, ⟨S256x128, cst8 a2⟩, ⟨S256x128, cst8 a3⟩, ⟨S256x128, cst8 a4⟩, ⟨S256x128, cst8 a5⟩,
      ⟨S256x128, cst8 a6⟩, ⟨S256x128, cst8 a7⟩]
      concatenates_S256x128_S256x128_S256x128_S256x128_S256x128_S256x128_S256x128_S256x128_S256x1024_d1 : FVec Ideal S256x1024 .f32) = Y
  intro h
  pointwise
  simp only [h]
  rfl

theorem pick8 (x : Vec Ideal S2048x128 .f32) (j : Fin 8) (r : Fin 256) (l : Fin 128) (R : Fin 2048) (h : R.val = r.val * 8 + j.val) :
    pick x (every8 j).toLoadRect (ix2 r l) = x (ix2 R l) := by
  refine congrArg x ?_
  funext a
  apply Fin.ext
  match a with
  | ⟨0, _⟩ => show j.val + 8 * r.val = R.val; omega
  | ⟨1, _⟩ => show 0 + 1 * l.val = l.val; omega

theorem pick_all {s : Shape} {e : EltTy} (x : Vec Ideal s e) (o : Fin s.rank → Nat) (ho : ∀ a, o a = 0) (inb) (j) :
    pick x (Rect.unit (s := s) o s.size inb).toLoadRect j = x j := by
  refine congrArg x ?_
  funext a
  apply Fin.ext
  show o a + 1 * (j a).val = (j a).val
  rw [ho]; omega

/-- A row of the tile: its 1024 elements lie in eight rows of the block. -/
def row (x : Vec Ideal S2048x128 .f32) (r : Fin 256) (d : Fin 1024) : EReal :=
  x (ix2 ⟨r.val * 8 + d.val / 128, by omega⟩ ⟨d.val % 128, by omega⟩)

theorem hidden_apply (x0 : Vec Ideal S2048x128 .f32) (x1 x2 : Vec Ideal S1x1024x1408 .bf16) (r : Fin 256) (f : Fin 1408) :
    hidden x0 x1 x2 (ix2 r f) = Swi.unit (row x0 r) (fun d => x1 (ix3 0 d f)) (fun d => x2 (ix3 0 d f)) := by
  have z : ∀ a : Fin 3, (![0, 0, 0] : Fin 3 → Nat) a = 0 := by decide
  have key : ∀ (j : Fin 8) (l : Fin 128) (d : Fin 1024), d.val = 128 * j.val + l.val →
      pick x0 (every8 j).toLoadRect (ix2 r l) = row x0 r d := fun j l d h => by
    refine (pick8 x0 j r l ⟨r.val * 8 + d.val / 128, by omega⟩ (by show r.val * 8 + d.val / 128 = _; omega)).trans ?_
    unfold row
    exact congrArg x0 (congrArg (ix2 _) (Fin.ext (by show l.val = d.val % 128; omega)))
  unfold Own.hidden
  refine (pay11_apply _ _ _ _ _ _ _ _ _ _ r f (row x0 r) (glue _ _ _ _ _ _ _ _ r (row x0 r)
    (fun l d h => (congrFun (shapeCast_id _ _) _).trans (key 0 l d (h.trans (by simp)))) (fun l d h => (congrFun (shapeCast_id _ _) _).trans (key 1 l d h)) (fun l d h => (congrFun (shapeCast_id _ _) _).trans (key 2 l d h)) (fun l d h => (congrFun (shapeCast_id _ _) _).trans (key 3 l d h))
    (fun l d h => (congrFun (shapeCast_id _ _) _).trans (key 4 l d h)) (fun l d h => (congrFun (shapeCast_id _ _) _).trans (key 5 l d h)) (fun l d h => (congrFun (shapeCast_id _ _) _).trans (key 6 l d h)) (fun l d h => (congrFun (shapeCast_id _ _) _).trans (key 7 l d h)))).trans ?_
  congr 1 <;> funext d <;> exact pick_all _ _ z _ _

/-- The block a tile in use gets: at row R and lane l, output column (R mod 8)·128 + l of the tile's row R / 8. -/
def tileOut (x0 : Vec Ideal S2048x128 .f32) (x1 x2 : Vec Ideal S1x1024x1408 .bf16) (x3 : Vec Ideal S1x1408x1024 .bf16) (y : S2048x128.Idx) : EReal :=
  Swi.out (row x0 ⟨(y 0).val / 8, by have : (y 0).val < 2048 := (y 0).isLt; omega⟩) (fun d f => x1 (ix3 0 d f)) (fun d f => x2 (ix3 0 d f))
    (fun f => x3 (ix3 0 f ⟨(y 0).val % 8 * 128 + (y 1).val, by have : (y 1).val < 128 := (y 1).isLt; omega⟩))

theorem piece (x0 : Vec Ideal S2048x128 .f32) (x1 x2 : Vec Ideal S1x1024x1408 .bf16) (x3 : Vec Ideal S1x1408x1024 .bf16) (j : Fin 8) (r : Fin 256)
    (l : Fin 128) (L : Fin 1024) (h : L.val = 128 * j.val + l.val) :
    k0_pay1 (hidden x0 x1 x2) (lastw x3) (ix2 r L) = tileOut x0 x1 x2 x3 ((every8 j).emb (ix2 r l)) := by
  have z : ∀ a : Fin 3, (![0, 0, 0] : Fin 3 → Nat) a = 0 := by decide
  have e0 : (((every8 j).emb (ix2 r l)) 0).val = j.val + 8 * r.val := rfl
  have e1 : (((every8 j).emb (ix2 r l)) 1).val = 0 + 1 * l.val := rfl
  rw [pay1_apply]
  unfold tileOut Swi.out
  refine Finset.sum_congr rfl fun f _ => ?_
  congr 1
  · rw [hidden_apply]
    congr 2
    apply Fin.ext
    show r.val = _ / 8
    rw [e0]; omega
  · refine (pick_all x3 _ z _ _).trans (congrArg x3 (congrArg (ix3 0 f) (Fin.ext ?_)))
    show L.val = _ % 8 * 128 + _
    rw [e0, e1]; omega

theorem canonA (x0 : Vec Ideal S2048x128 .f32) (x1 x2 : Vec Ideal S1x1024x1408 .bf16) (x3 : Vec Ideal S1x1408x1024 .bf16) (y : S2048x128.Idx) :
    View.canon (storesA x0 x1 x2 x3) y = tileOut x0 x1 x2 x3 y := by
  refine View.canon_apply_of_pieces (Val := Elt Ideal) (e := .f32) (tileOut x0 x1 x2 x3) _ (fun p hp x => ?_) y (coverA _ _ _ _ y)
  unfold storesA at hp
  rcases List.mem_cons.1 hp with rfl | hp
  · rw [eq_ix2 x]; exact (pay9_apply _ _ _ _).trans (piece _ _ _ _ 7 _ _ _ rfl)
  rcases List.mem_cons.1 hp with rfl | hp
  · rw [eq_ix2 x]; exact (pay8_apply _ _ _ _).trans (piece _ _ _ _ 6 _ _ _ rfl)
  rcases List.mem_cons.1 hp with rfl | hp
  · rw [eq_ix2 x]; exact (pay7_apply _ _ _ _).trans (piece _ _ _ _ 5 _ _ _ rfl)
  rcases List.mem_cons.1 hp with rfl | hp
  · rw [eq_ix2 x]; exact (pay6_apply _ _ _ _).trans (piece _ _ _ _ 4 _ _ _ rfl)
  rcases List.mem_cons.1 hp with rfl | hp
  · rw [eq_ix2 x]; exact (pay5_apply _ _ _ _).trans (piece _ _ _ _ 3 _ _ _ rfl)
  rcases List.mem_cons.1 hp with rfl | hp
  · rw [eq_ix2 x]; exact (pay4_apply _ _ _ _).trans (piece _ _ _ _ 2 _ _ _ rfl)
  rcases List.mem_cons.1 hp with rfl | hp
  · rw [eq_ix2 x]; exact (pay3_apply _ _ _ _).trans (piece _ _ _ _ 1 _ _ _ rfl)
  rcases List.mem_cons.1 hp with rfl | hp
  · rw [eq_ix2 x]; exact (pay2_apply _ _ _ _).trans (piece _ _ _ _ 0 _ _ _ (by simp))
  · exact absurd hp (List.not_mem_nil)

theorem canonB (y : S2048x128.Idx) : View.canon (storesB (F := Ideal)) y = (0 : EReal) := by
  refine View.canon_apply_of_pieces (Val := Elt Ideal) (e := .f32) (fun _ => (0 : EReal)) _ (fun p hp x => ?_) y (coverB y)
  rcases List.mem_cons.1 hp with rfl | hp
  · exact Ideal.ofBits_zero_f32
  · exact absurd hp (List.not_mem_nil)

theorem outBlk_apply (i : grid0.Coords) (nu : BitVec 32) (x0 : Vec Ideal S2048x128 .f32) (x1 x2 : Vec Ideal S1x1024x1408 .bf16) (x3 : Vec Ideal S1x1408x1024 .bf16) (y : S2048x128.Idx) :
    outBlk i nu x0 x1 x2 x3 y = if (BitVec.ofNat 32 (i 0).val).slt nu = true then tileOut x0 x1 x2 x3 y else 0 := by
  unfold outBlk
  by_cases h : k0_cond1 i nu = 1#1
  · rw [if_pos h, if_pos ((cond1_iff i nu).mp h)]; exact canonA _ _ _ _ _
  · rw [if_neg h, if_neg (fun e => h ((cond1_iff i nu).mpr e))]; exact canonB _

end Cert.MoE
-- ==== Proof.MoE.Block.lean ====
/- The experts' blocks: each tile's rows, and its expert's three weights. -/
module

public import proofs.«01_k».proof.Proof.TilesIdeal.Ok
public import proofs.«01_k».proof.Proof.MoE.Pay
public import Idealize.ShloMosaic.Lib.Claim

@[expose] public section

set_option maxRecDepth 16384

noncomputable section

namespace Cert.MoE

open Cert.ExpertsIdeal Cert.ExpertsIdeal.Gen Cert.ExpertsIdeal.Own Idealize.ShloMosaic Idealize.ShloMosaic.TcCoe Idealize.SL.Sem
open Idealize.ShloMosaic.Pipeline (Window)

/-- The expert a table's word names. -/
def expert (w : BitVec 32) : Fin 8 := ⟨w.toNat % 8, Nat.mod_lt _ (by decide)⟩

/-- What the experts leave of row n, column d: nothing past the tiles in use, else the expert's feed-forward of the row. -/
def moe (E : S136.Idx → BitVec 32) (nu : BitVec 32) (X : S34816x1024.Idx → EReal) (W U : S8x1024x1408.Idx → EReal) (D : S8x1408x1024.Idx → EReal)
    (n : Fin 34816) (d : Fin 1024) : EReal :=
  if (BitVec.ofNat 32 (n.val / 256)).slt nu = true then
    Swi.out (fun k => X (ix2 n k)) (fun k f => W (ix3 (expert (E (ix1 ⟨n.val / 256, by omega⟩))) k f))
      (fun k f => U (ix3 (expert (E (ix1 ⟨n.val / 256, by omega⟩))) k f)) (fun f => D (ix3 (expert (E (ix1 ⟨n.val / 256, by omega⟩))) f d))
  else 0

variable (m : (ℓ : Loc nD τ sig) → Buf (Elt Ideal) ℓ) (c : Dev nD)

/-- The arguments: each tile's expert, the number of tiles in use, the rows, the experts' weights. -/
def argE : S136.Idx → BitVec 32 := m ((c : Thread nD τ).loc main_arg0)
def argN : S1.Idx → BitVec 32 := m ((c : Thread nD τ).loc main_arg1)
def argX : FVec Ideal S34816x1024 .f32 := m ((c : Thread nD τ).loc main_arg2)
def argW : FVec Ideal S8x1024x1408 .f32 := m ((c : Thread nD τ).loc main_arg3)
def argU : FVec Ideal S8x1024x1408 .f32 := m ((c : Thread nD τ).loc main_arg4)
def argD : FVec Ideal S8x1408x1024 .f32 := m ((c : Thread nD τ).loc main_arg5)

theorem rows_apply (X : FVec Ideal S34816x1024 .f32) (A : Fin 278528) (C : Fin 128) :
    shapeCast S278528x128 X shapeCasts_S34816x1024_S278528x128 (ix2 A C)
      = X (ix2 ⟨A.val / 8, by omega⟩ ⟨A.val % 8 * 128 + C.val, by omega⟩) := by
  pointwise

theorem V_v0 : V m c main_v0 = shapeCast S278528x128 (argX m c) shapeCasts_S34816x1024_S278528x128 := by
  entry_read
  rfl
theorem V_v1 : (V m c main_v1 : S8x1024x1408.Idx → EReal) = argW m c := by
  entry_read
  rfl
theorem V_v2 : (V m c main_v2 : S8x1024x1408.Idx → EReal) = argU m c := by
  entry_read
  rfl
theorem V_v3 : (V m c main_v3 : S8x1408x1024.Idx → EReal) = argD m c := by
  entry_read
  rfl

theorem word_lt_136 (i : grid0.Coords) : (BitVec.ofNat 32 (i 0).val).toNat = (i 0).val := by
  have : (i 0).val < 136 := (i 0).isLt
  rw [BitVec.toNat_ofNat]; omega

section
variable (a : (pcfg0 (F := Ideal)).Adm) (t : Fin (cfg0 a).N)

/-- Where a block's element lies in its array. -/
def e0 (y : S2048x128.Idx) : S278528x128.Idx := (((cfg0 a).win 0).blk t).view.emb y
theorem e0_0 (y : S2048x128.Idx) : (e0 a t y 0).val = (grid0.coords t 0).val * 2048 + (y 0).val :=
  (Window.rect_emb_val ((cfg0 a).win 0) t y (0 : Fin 2)).trans (congrArg (fun k => k * 2048 + (y 0).val) (word_lt_136 (grid0.coords t)))
theorem e0_1 (y : S2048x128.Idx) : (e0 a t y 1).val = (y 1).val :=
  (Window.rect_emb_val ((cfg0 a).win 0) t y (1 : Fin 2)).trans (by show 0 * 128 + (y 1).val = _; omega)
def e4 (y : S2048x128.Idx) : S278528x128.Idx := (((cfg0 a).win 4).blk t).view.emb y
theorem e4_0 (y : S2048x128.Idx) : (e4 a t y 0).val = (grid0.coords t 0).val * 2048 + (y 0).val :=
  (Window.rect_emb_val ((cfg0 a).win 4) t y (0 : Fin 2)).trans (congrArg (fun k => k * 2048 + (y 0).val) (word_lt_136 (grid0.coords t)))
theorem e4_1 (y : S2048x128.Idx) : (e4 a t y 1).val = (y 1).val :=
  (Window.rect_emb_val ((cfg0 a).win 4) t y (1 : Fin 2)).trans (by show 0 * 128 + (y 1).val = _; omega)
def e1 (y : S1x1024x1408.Idx) : S8x1024x1408.Idx := (((cfg0 a).win 1).blk t).view.emb y
theorem e1_eq (E : Fin 8) (hE : (expertOf a.1 (grid0.coords t)).toNat = E.val) (p : Fin 1024) (q : Fin 1408) :
    e1 a t (ix3 0 p q) = ix3 E p q := by
  have h0 : (e1 a t (ix3 0 p q) 0).val = (expertOf a.1 (grid0.coords t)).toNat * 1 + 0 :=
    Window.rect_emb_val ((cfg0 a).win 1) t (ix3 0 p q : S1x1024x1408.Idx) (0 : Fin 3)
  have h1 : (e1 a t (ix3 0 p q) 1).val = 0 * 1024 + p.val :=
    Window.rect_emb_val ((cfg0 a).win 1) t (ix3 0 p q : S1x1024x1408.Idx) (1 : Fin 3)
  have h2 : (e1 a t (ix3 0 p q) 2).val = 0 * 1408 + q.val :=
    Window.rect_emb_val ((cfg0 a).win 1) t (ix3 0 p q : S1x1024x1408.Idx) (2 : Fin 3)
  funext k; apply Fin.ext
  match k with
  | ⟨0, _⟩ => exact h0.trans (by rw [hE]; show _ = E.val; omega)
  | ⟨1, _⟩ => exact h1.trans (by show _ = p.val; omega)
  | ⟨2, _⟩ => exact h2.trans (by show _ = q.val; omega)
def e2 (y : S1x1024x1408.Idx) : S8x1024x1408.Idx := (((cfg0 a).win 2).blk t).view.emb y
theorem e2_eq (E : Fin 8) (hE : (expertOf a.1 (grid0.coords t)).toNat = E.val) (p : Fin 1024) (q : Fin 1408) :
    e2 a t (ix3 0 p q) = ix3 E p q := by
  have h0 : (e2 a t (ix3 0 p q) 0).val = (expertOf a.1 (grid0.coords t)).toNat * 1 + 0 :=
    Window.rect_emb_val ((cfg0 a).win 2) t (ix3 0 p q : S1x1024x1408.Idx) (0 : Fin 3)
  have h1 : (e2 a t (ix3 0 p q) 1).val = 0 * 1024 + p.val :=
    Window.rect_emb_val ((cfg0 a).win 2) t (ix3 0 p q : S1x1024x1408.Idx) (1 : Fin 3)
  have h2 : (e2 a t (ix3 0 p q) 2).val = 0 * 1408 + q.val :=
    Window.rect_emb_val ((cfg0 a).win 2) t (ix3 0 p q : S1x1024x1408.Idx) (2 : Fin 3)
  funext k; apply Fin.ext
  match k with
  | ⟨0, _⟩ => exact h0.trans (by rw [hE]; show _ = E.val; omega)
  | ⟨1, _⟩ => exact h1.trans (by show _ = p.val; omega)
  | ⟨2, _⟩ => exact h2.trans (by show _ = q.val; omega)
def e3 (y : S1x1408x1024.Idx) : S8x1408x1024.Idx := (((cfg0 a).win 3).blk t).view.emb y
theorem e3_eq (E : Fin 8) (hE : (expertOf a.1 (grid0.coords t)).toNat = E.val) (p : Fin 1408) (q : Fin 1024) :
    e3 a t (ix3 0 p q) = ix3 E p q := by
  have h0 : (e3 a t (ix3 0 p q) 0).val = (expertOf a.1 (grid0.coords t)).toNat * 1 + 0 :=
    Window.rect_emb_val ((cfg0 a).win 3) t (ix3 0 p q : S1x1408x1024.Idx) (0 : Fin 3)
  have h1 : (e3 a t (ix3 0 p q) 1).val = 0 * 1408 + p.val :=
    Window.rect_emb_val ((cfg0 a).win 3) t (ix3 0 p q : S1x1408x1024.Idx) (1 : Fin 3)
  have h2 : (e3 a t (ix3 0 p q) 2).val = 0 * 1024 + q.val :=
    Window.rect_emb_val ((cfg0 a).win 3) t (ix3 0 p q : S1x1408x1024.Idx) (2 : Fin 3)
  funext k; apply Fin.ext
  match k with
  | ⟨0, _⟩ => exact h0.trans (by rw [hE]; show _ = E.val; omega)
  | ⟨1, _⟩ => exact h1.trans (by show _ = p.val; omega)
  | ⟨2, _⟩ => exact h2.trans (by show _ = q.val; omega)
end

variable (hO : Ok m) (t : Fin (cfgM m hO).N)

/-- The tile's rows. -/
theorem blk0 (R : Fin 2048) (C : Fin 128) (n : Fin 34816) (d : Fin 1024)
    (hn : n.val = (grid0.coords t 0).val * 256 + R.val / 8) (hd : d.val = R.val % 8 * 128 + C.val) :
    (iblk m hO c 0 t (ix2 R C) : EReal) = argX m c (ix2 n d) := by
  have ht : (grid0.coords t 0).val < 136 := (grid0.coords t 0).isLt
  have e : e0 (adm m hO) t (ix2 R C) = ix2 ⟨(grid0.coords t 0).val * 2048 + R.val, by omega⟩ C := by
    funext k; apply Fin.ext
    match k with
    | ⟨0, _⟩ => exact e0_0 _ t _
    | ⟨1, _⟩ => exact e0_1 _ t _
  refine (congrArg (V m c main_v0 : S278528x128.Idx → EReal) e).trans ?_
  rw [V_v0]
  refine (rows_apply _ _ _).trans (congrArg (argX m c) ?_)
  refine congr (congrArg ix2 (Fin.ext ?_)) (Fin.ext ?_)
  · show ((grid0.coords t 0).val * 2048 + R.val) / 8 = _; omega
  · show ((grid0.coords t 0).val * 2048 + R.val) % 8 * 128 + C.val = _; omega

theorem expert_at (h : ∀ j, (argE m (0 : Dev nD) j).toNat < 8) (T : Fin 136) (hT : T.val = (grid0.coords t 0).val) :
    (expertOf (tbl m) (grid0.coords t)).toNat = (expert (argE m (0 : Dev nD) (ix1 T))).val := by
  rw [expertOf_eq (tbl m) (grid0.coords t) (ix1 T) hT, tbl0_eq]
  exact (Nat.mod_eq_of_lt (h _)).symm

/-- The weights of the tile's expert. -/
theorem blk1 (h : ∀ j, (argE m (0 : Dev nD) j).toNat < 8) (T : Fin 136) (hT : T.val = (grid0.coords t 0).val) (d : Fin 1024) (f : Fin 1408) :
    (iblk m hO c 1 t (ix3 0 d f) : EReal) = argW m c (ix3 (expert (argE m (0 : Dev nD) (ix1 T))) d f) :=
  (congrArg (V m c main_v1 : S8x1024x1408.Idx → EReal)
    (e1_eq (adm m hO) t (expert (argE m (0 : Dev nD) (ix1 T))) (expert_at m hO t h T hT) d f)).trans (congrFun (V_v1 m c) _)
theorem blk2 (h : ∀ j, (argE m (0 : Dev nD) j).toNat < 8) (T : Fin 136) (hT : T.val = (grid0.coords t 0).val) (d : Fin 1024) (f : Fin 1408) :
    (iblk m hO c 2 t (ix3 0 d f) : EReal) = argU m c (ix3 (expert (argE m (0 : Dev nD) (ix1 T))) d f) :=
  (congrArg (V m c main_v2 : S8x1024x1408.Idx → EReal)
    (e2_eq (adm m hO) t (expert (argE m (0 : Dev nD) (ix1 T))) (expert_at m hO t h T hT) d f)).trans (congrFun (V_v2 m c) _)
theorem blk3 (h : ∀ j, (argE m (0 : Dev nD) j).toNat < 8) (T : Fin 136) (hT : T.val = (grid0.coords t 0).val) (f : Fin 1408) (d : Fin 1024) :
    (iblk m hO c 3 t (ix3 0 f d) : EReal) = argD m c (ix3 (expert (argE m (0 : Dev nD) (ix1 T))) f d) :=
  (congrArg (V m c main_v3 : S8x1408x1024.Idx → EReal)
    (e3_eq (adm m hO) t (expert (argE m (0 : Dev nD) (ix1 T))) (expert_at m hO t h T hT) f d)).trans (congrFun (V_v3 m c) _)

end Cert.MoE
-- ==== Proof.MoE.Whole.lean ====
/- The experts' whole result: every tile's rows by its expert, put together. -/
module

public import proofs.«01_k».proof.Proof.MoE.Block
public import Idealize.ShloMosaic.Lib.Pipeline.ValueKit

@[expose] public section

set_option maxRecDepth 16384

noncomputable section

namespace Cert.MoE

open Cert.ExpertsIdeal Cert.ExpertsIdeal.Gen Cert.ExpertsIdeal.Own Idealize.ShloMosaic Idealize.ShloMosaic.TcCoe Idealize.SL.Sem
open Idealize.ShloMosaic.Pipeline (Window Dat)

variable (m : (ℓ : Loc nD τ sig) → Buf (Elt Ideal) ℓ) (c : Dev nD)

/-- Row n, column d of the result. -/
def G (n : Fin 34816) (d : Fin 1024) : EReal :=
  moe (argE m (0 : Dev nD)) (argN m (0 : Dev nD) (ix1 0)) (argX m c) (argW m c) (argU m c) (argD m c) n d

/-- The kernel's array, each row of 1024 as eight of 128. -/
def G4 (i : S278528x128.Idx) : EReal :=
  G m c ⟨(i 0).val / 8, by have : (i 0).val < 278528 := (i 0).isLt; omega⟩
    ⟨(i 0).val % 8 * 128 + (i 1).val, by have : (i 1).val < 128 := (i 1).isLt; omega⟩

theorem flush4 (a : (pcfg0 (F := Ideal)).Adm) (t : Fin (cfg0 a).N) : ((cfg0 a).win 4).flush t = true :=
  (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _)

theorem point_of : ∀ k : Fin 136, ∃ t : Fin grid0.N, (grid0.coords t 0).val = k.val := by decide +kernel

/-- Every element lies in some tile's block. -/
theorem cover4 (a : (pcfg0 (F := Ideal)).Adm) (i : S278528x128.Idx) : ∃ (t : Fin (cfg0 a).N) (y : S2048x128.Idx), e4 a t y = i := by
  have h0 : (i 0).val < 278528 := (i 0).isLt
  have h1 : (i 1).val < 128 := (i 1).isLt
  obtain ⟨t, ht⟩ := point_of ⟨(i 0).val / 2048, by omega⟩
  refine ⟨t, ix2 ⟨(i 0).val % 2048, by omega⟩ ⟨(i 1).val, h1⟩, ?_⟩
  funext k; apply Fin.ext
  match k with
  | ⟨0, _⟩ =>
    refine (e4_0 a t _).trans ?_
    rw [ht]; show (i 0).val / 2048 * 2048 + (i 0).val % 2048 = (i 0).val; omega
  | ⟨1, _⟩ => exact e4_1 a t _

variable (hO : Ok m) (h : ∀ j, (argE m (0 : Dev nD) j).toNat < 8)

include h in
/-- What the body leaves of a tile's block. -/
theorem tile_eq (t : Fin (cfgM m hO).N) (y : S2048x128.Idx) : (outsAt m hO c t y : EReal) = G4 m c (e4 (adm m hO) t y) := by
  have ht : (grid0.coords t 0).val < 136 := (grid0.coords t 0).isLt
  have hy0 : (y 0).val < 2048 := (y 0).isLt
  have hy1 : (y 1).val < 128 := (y 1).isLt
  have hA : (e4 (adm m hO) t y 0).val = (grid0.coords t 0).val * 2048 + (y 0).val := e4_0 _ t y
  have hC : (e4 (adm m hO) t y 1).val = (y 1).val := e4_1 _ t y
  refine (outBlk_apply _ _ _ _ _ _ y).trans ?_
  unfold G4 G moe
  have hu : used c (tbl m 1) = argN m (0 : Dev nD) (ix1 0) := used_eq m c (ix1 0)
  rw [hu]
  have hT : (e4 (adm m hO) t y 0).val / 8 / 256 = (grid0.coords t 0).val := by rw [hA]; omega
  simp only [hT]
  by_cases hc : (BitVec.ofNat 32 (grid0.coords t 0).val).slt (argN m (0 : Dev nD) (ix1 0)) = true
  swap
  · rw [if_neg hc, if_neg hc]
  rw [if_pos hc, if_pos hc]
  unfold tileOut
  have r0 : ∀ k : Fin 1024, row (iblk m hO c 0 t) ⟨(y 0).val / 8, by omega⟩ k
      = argX m c (ix2 ⟨(e4 (adm m hO) t y 0).val / 8, by omega⟩ k) := fun k =>
    blk0 m c hO t _ _ _ _ (by show (e4 (adm m hO) t y 0).val / 8 = _ + ((y 0).val / 8 * 8 + k.val / 128) / 8; rw [hA]; omega)
      (by show k.val = ((y 0).val / 8 * 8 + k.val / 128) % 8 * 128 + k.val % 128; omega)
  congr 1
  · exact funext r0
  · exact funext fun k => funext fun f => blk1 m c hO t h ⟨_, ht⟩ rfl k f
  · exact funext fun k => funext fun f => blk2 m c hO t h ⟨_, ht⟩ rfl k f
  · refine funext fun f => (blk3 m c hO t h ⟨_, ht⟩ rfl f _).trans ?_
    refine congrArg (fun q => argD m c (ix3 (expert (argE m (0 : Dev nD) (ix1 ⟨_, ht⟩))) f q)) (Fin.ext ?_)
    show (y 0).val % 8 * 128 + (y 1).val = (e4 (adm m hO) t y 0).val % 8 * 128 + (e4 (adm m hO) t y 1).val
    rw [hA, hC]; omega

include h in
theorem arr4 : (dats m hO 0 c).arrAt 4 (cfgM m hO).N = G4 m c := by
  refine (dats m hO 0 c).arrAt_eq_of_emb 4 _ (fun t _ y => ?_) (fun i => ?_)
  · exact (congrFun (after_4 m hO c t) _).trans (tile_eq m c hO h t y)
  · obtain ⟨t, y, e⟩ := cover4 (adm m hO) i
    exact ⟨t, flush4 _ t, e ▸ Finset.mem_map_of_mem _ (Finset.mem_univ y)⟩

theorem back_apply (X : FVec Ideal S278528x128 .f32) (n : Fin 34816) (d : Fin 1024) :
    shapeCast S34816x1024 X shapeCasts_S278528x128_S34816x1024 (ix2 n d)
      = X (ix2 ⟨n.val * 8 + d.val / 128, by omega⟩ ⟨d.val % 128, by omega⟩) := by
  pointwise

theorem spec_inj : Function.Injective (Pipeline.arrRef spec0) := fun a b => by revert a b; decide

include h in
/-- The result the run leaves. -/
theorem result : (Pipeline.afterTail pcfgs (fun _ => adm m hO) (dats m hO) 0 (V0 m) [hostOps1] c main_v5 : S34816x1024.Idx → EReal)
    = fun i => G m c (i 0) (i 1) := by
  have e : Pipeline.afterTail pcfgs (fun _ => adm m hO) (dats m hO) 0 (V0 m) [hostOps1] c main_v5
      = shapeCast S34816x1024 (G4 m c : FVec Ideal S278528x128 .f32) shapeCasts_S278528x128_S34816x1024 := by
    have e2 : Pipeline.withArrays (Pipeline.pin pcfgs (fun _ => adm m hO) 0).spec c (V0 m c)
          (fun w => (dats m hO 0 c).arrAt w (Pipeline.pin pcfgs (fun _ => adm m hO) 0).N) (Proc.devRef .tc main_v4)
        = G4 m c :=
      (Pipeline.withArrays_arr (Pipeline.pin pcfgs (fun _ => adm m hO) 0).spec spec_inj c (V0 m c) _ 4).trans (arr4 m c hO h)
    unfold Pipeline.afterTail
    rw [← e2]
    rfl
  rw [e]
  funext i
  rw [eq_ix2 i]
  refine (back_apply _ _ _).trans ?_
  unfold G4
  congr 1 <;> apply Fin.ext
  · show ((i 0).val * 8 + (i 1).val / 128) / 8 = (i 0).val
    have : (i 1).val < 1024 := (i 1).isLt
    omega
  · show ((i 0).val * 8 + (i 1).val / 128) % 8 * 128 + (i 1).val % 128 = (i 1).val
    have : (i 1).val < 1024 := (i 1).isLt
    omega

end Cert.MoE
-- ==== Proof.MoE.Ref.lean ====
/- The experts' reference: eight dense feed-forwards, of which each row keeps its own expert's. -/
module

public import proofs.«01_k».proof.Proof.Gen.ExpertsRefIdeal.Read
public import proofs.«01_k».proof.Proof.MoE.Block

@[expose] public section

set_option maxRecDepth 16384

noncomputable section

namespace Cert.MoE

open Cert.ExpertsRefIdeal Cert.ExpertsRefIdeal.Gen Cert.ExpertsRefIdeal.Read Idealize.ShloMosaic Idealize.ShloMosaic.TcCoe

variable (E : S136.Idx → BitVec 32) (N : S1.Idx → BitVec 32) (X : FVec Ideal S34816x1024 .f32) (W U : FVec Ideal S8x1024x1408 .f32)
  (D : FVec Ideal S8x1408x1024 .f32)

theorem gate_at (e : Fin 8) (n : Fin 34816) (f : Fin 1408) :
    (val_main_v12 (F := Ideal) X W (ix3 e n f) : EReal) = ∑ k, X (ix2 n k) * W (ix3 e k f) := by
  rw [val_main_v12_apply, val_main_v11_apply]
  refine Finset.sum_congr rfl fun k _ => ?_
  rw [mul_comm]
  refine congr (congrArg _ (congrArg X (funext fun a => ?_))) (congrArg W (funext fun a => ?_))
  · match a with
    | ⟨0, _⟩ => rfl
    | ⟨1, _⟩ => rfl
  · match a with
    | ⟨0, _⟩ => rfl
    | ⟨1, _⟩ => rfl
    | ⟨2, _⟩ => rfl

theorem up_at (e : Fin 8) (n : Fin 34816) (f : Fin 1408) :
    (val_main_v21 (F := Ideal) X U (ix3 e n f) : EReal) = ∑ k, X (ix2 n k) * U (ix3 e k f) := by
  rw [val_main_v21_apply, val_main_v20_apply]
  refine Finset.sum_congr rfl fun k _ => ?_
  rw [mul_comm]
  refine congr (congrArg _ (congrArg X (funext fun a => ?_))) (congrArg U (funext fun a => ?_))
  · match a with
    | ⟨0, _⟩ => rfl
    | ⟨1, _⟩ => rfl
  · match a with
    | ⟨0, _⟩ => rfl
    | ⟨1, _⟩ => rfl
    | ⟨2, _⟩ => rfl

theorem unit_at (e : Fin 8) (n : Fin 34816) (f : Fin 1408) :
    (val_main_v22 (F := Ideal) X W U (ix3 e n f) : EReal)
      = Swi.unit (fun k => X (ix2 n k)) (fun k => W (ix3 e k f)) (fun k => U (ix3 e k f)) := by
  rw [val_main_v22_apply, val_main_v19_apply, val_main_v18_apply, val_main_v17_apply, val_main_cst_0_apply, val_main_v16_apply, val_main_v15_apply,
    val_main_cst_apply, val_main_v14_apply, val_main_v13_apply, gate_at, up_at]
  unfold Swi.unit
  rw [← Swi.sig_eq, ← Ideal.ofBits_one_f32]
  rfl

theorem ffn_at (e : Fin 8) (n : Fin 34816) (d : Fin 1024) :
    (val_main_v23 (F := Ideal) X W U D (ix3 e n d) : EReal)
      = Swi.out (fun k => X (ix2 n k)) (fun k f => W (ix3 e k f)) (fun k f => U (ix3 e k f)) (fun f => D (ix3 e f d)) := by
  rw [val_main_v23_apply]
  refine Finset.sum_congr rfl fun f _ => ?_
  rw [← unit_at]
  refine congr (congrArg _ (congrArg (val_main_v22 (F := Ideal) X W U) (funext fun a => ?_))) (congrArg D (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The expert a row is given: its tile's, or none past the tiles in use. -/
theorem pick_at (n : Fin 34816) (e : Fin 8) :
    (val_main_v7 (F := Ideal) E N (ix2 n e) : BitVec 32)
      = if (BitVec.ofNat 32 (n.val / 256)).slt (N (ix1 0)) = true then E (ix1 ⟨n.val / 256, by omega⟩) else 4294967295#32 := by
  have hi : idx_main_v4 (idx_main_v5 (idx_main_v7 (ix2 n e))) = ix1 ⟨n.val / 256, by omega⟩ := by
    funext a; apply Fin.ext
    match a with
    | ⟨0, _⟩ => show (n.val * 1 + 0) / 256 = n.val / 256; omega
  rw [val_main_v7_apply, val_main_v5_apply, val_main_v4_apply, hi, val_main_v3_apply, val_main_v2_apply, val_main_v1_apply, val_main_v0_apply,
    val_main_call0_v1_apply, val_main_call0_v0_apply, val_main_c_apply]
  have hj : idx_main_v1 (ix1 (⟨n.val / 256, by omega⟩ : Fin 136)) = ix1 0 := by
    funext a
    match a with
    | ⟨0, _⟩ => rfl
  rw [hj]
  show (if BitVec.ofBool ((BitVec.ofNat 32 (n.val / 256)).slt (N (ix1 0))) = 1#1 then _ else _) = _
  cases (BitVec.ofNat 32 (n.val / 256)).slt (N (ix1 0)) <;> rfl

theorem mask_at (n : Fin 34816) (e : Fin 8) (d : Fin 1024) :
    (val_main_v26 (F := Ideal) E N (ix3 e n d) : EReal)
      = if val_main_v7 (F := Ideal) E N (ix2 n e) = BitVec.ofNat 32 e.val then 1 else 0 := by
  have hi : idx_main_v24 (idx_main_v25 (idx_main_v26 (ix3 e n d))) = ix2 n e := by
    funext a; apply Fin.ext
    match a with
    | ⟨0, _⟩ => rfl
    | ⟨1, _⟩ => rfl
  rw [val_main_v26_apply, val_main_v25_apply, val_main_v24_apply, hi, val_main_v10_apply, val_main_v9_apply, val_main_v8_apply, val_main_v6_apply]
  generalize val_main_v7 (F := Ideal) E N (ix2 n e) = w
  show (((BitVec.ofBool (w == BitVec.ofNat 32 e.val)).toNat : ℝ) : EReal) = _
  by_cases h : w = BitVec.ofNat 32 e.val
  · rw [if_pos h, beq_iff_eq.mpr h]; simp
  · rw [if_neg h, beq_eq_false_iff_ne.mpr h]; simp

/-- The reference is each row's own expert's feed-forward. -/
theorem ref_eq (h : ∀ j, (E j).toNat < 8) : (val_main_v28 (F := Ideal) E N X W U D : S34816x1024.Idx → EReal)
    = fun i => moe E (N (ix1 0)) X W U D (i 0) (i 1) := by
  funext i
  obtain ⟨n, d, rfl⟩ : ∃ (n : Fin 34816) (d : Fin 1024), i = ix2 n d := ⟨i 0, i 1, eq_ix2 i⟩
  show _ = moe E (N (ix1 0)) X W U D n d
  rw [val_main_v28_apply, val_main_cst_1_apply]
  have z : (FloatOps.ofBits (F := Ideal) .f32 0x00000000#32 : EReal) = 0 := Ideal.ofBits_zero_f32
  rw [z, zero_add]
  have t : ∀ e : Fin 8, (val_main_v27 (F := Ideal) E N X W U D (idx_main_v28 (ix2 n d) e) : EReal)
      = (if val_main_v7 (F := Ideal) E N (ix2 n e) = BitVec.ofNat 32 e.val then 1 else 0)
        * Swi.out (fun k => X (ix2 n k)) (fun k f => W (ix3 e k f)) (fun k f => U (ix3 e k f)) (fun f => D (ix3 e f d)) := fun e => by
    have hi : idx_main_v28 (ix2 n d) e = ix3 e n d := by
      funext a
      match a with
      | ⟨0, _⟩ => rfl
      | ⟨1, _⟩ => rfl
      | ⟨2, _⟩ => rfl
    rw [hi, val_main_v27_apply, ← mask_at E N n e d, ← ffn_at]
    rfl
  refine (Finset.sum_congr rfl fun e _ => t e).trans ?_
  unfold moe
  by_cases hc : (BitVec.ofNat 32 (n.val / 256)).slt (N (ix1 0)) = true
  · rw [if_pos hc, Finset.sum_eq_single (expert (E (ix1 ⟨n.val / 256, by omega⟩)))]
    · rw [pick_at, if_pos hc, if_pos, one_mul]
      apply BitVec.eq_of_toNat_eq
      have := h (ix1 ⟨n.val / 256, by omega⟩)
      rw [BitVec.toNat_ofNat]
      show _ = (E (ix1 ⟨n.val / 256, by omega⟩)).toNat % 8 % 2 ^ 32
      omega
    · intro e _ hne
      rw [pick_at, if_pos hc, if_neg, zero_mul]
      intro he
      apply hne
      apply Fin.ext
      show e.val = (E (ix1 ⟨n.val / 256, by omega⟩)).toNat % 8
      rw [he, BitVec.toNat_ofNat]
      have := e.isLt
      omega
    · intro hn; exact absurd (Finset.mem_univ _) hn
  · rw [if_neg hc]
    refine Finset.sum_eq_zero fun e _ => ?_
    rw [pick_at, if_neg hc, if_neg, zero_mul]
    intro he
    have hw := congrArg BitVec.toNat he
    simp only [BitVec.toNat_ofNat] at hw
    have hl := e.isLt
    have hm : (4294967295#32 : BitVec 32).toNat = 4294967295 := rfl
    omega

end Cert.MoE
-- ==== Proof.MoE.Claims.lean ====
/- The experts' claims: both programs run and leave the same array. -/
module

public import proofs.«01_k».proof.Proof.Tiles.Ok
public import proofs.«01_k».proof.Proof.MoE.Whole
public import proofs.«01_k».proof.Proof.MoE.Ref
public import proofs.«01_k».proof.Proof.Gen.ExpertsRefIdeal.Run
public import proofs.«01_k».proof.Defs

@[expose] public section

noncomputable section

namespace Cert.MoE

open Idealize.ShloMosaic Idealize.ShloMosaic.TcCoe Idealize.SL.Sem

theorem preFacts : Cert.Pre_experts_exist.Facts where
  bcast_S_S136 := by decide

/-- The experts' kernel runs, keeps its arguments and ends with every counter at zero. -/
theorem frame : @Cert.quiescent_Experts Cert.Experts.Gen.facts preFacts := fun m g hpre =>
  Cert.Experts.Own.frame m g (Cert.Experts.Own.ok_of_args m fun j =>
    Cert.Experts.Own.word_lt _ (congrFun (hpre 0).1 j) (congrFun (hpre 0).2 j))

theorem args_lt (m : (ℓ : Loc Cert.ExpertsIdeal.nD Cert.ExpertsIdeal.τ Cert.ExpertsIdeal.sig) → Buf (Elt Ideal) ℓ)
    (hpre : @Cert.Pre_ExpertsIdeal preFacts m) (j : Cert.ExpertsIdeal.S136.Idx) : (argE m (0 : Dev Cert.ExpertsIdeal.nD) j).toNat < 8 :=
  Cert.ExpertsIdeal.Own.word_lt _ (congrFun (hpre 0).1 j) (congrFun (hpre 0).2 j)

theorem frame_ideal : @Cert.quiescent_ExpertsIdeal Cert.ExpertsIdeal.Gen.facts preFacts := fun m g hpre =>
  Cert.ExpertsIdeal.Own.frame m g (Cert.ExpertsIdeal.Own.ok_of_args m (args_lt m hpre))

/-- The reference runs, keeps its arguments and ends with every counter at zero. -/
theorem frame_ref : @Cert.quiescent_ExpertsRefIdeal Cert.ExpertsRefIdeal.Gen.facts := fun m g _ =>
  (θ_run Cert.ExpertsRefIdeal.defs _ _).mono (fun r h => ⟨fun c => (h c).2, sem_eq_zero_of_no_sems (by decide) r.2⟩)
    (Cert.ExpertsRefIdeal.Value.run (F := Ideal) m g)

theorem frame_ref_pre : @Cert.quiescent_ExpertsRefIdeal_pre_experts_exist Cert.ExpertsRefIdeal.Gen.facts preFacts := fun m g _ =>
  (θ_run Cert.ExpertsRefIdeal.defs _ _).mono (fun r h => ⟨fun c => (h c).2, sem_eq_zero_of_no_sems (by decide) r.2⟩)
    (Cert.ExpertsRefIdeal.Value.run (F := Ideal) m g)

open Cert.ExpertsIdeal Cert.ExpertsIdeal.Own in
/-- The kernel's run, with its result. -/
theorem run (m : (ℓ : Loc nD τ sig) → Buf (Elt Ideal) ℓ) (g : Dev nD → PrngReg) (hA : ∀ j, (argE m (0 : Dev nD) j).toNat < 8) :
    θ_run defs (onTc (τ := τ) (main (F := Ideal))) ⟨m, fun _ => 0, g⟩ (fun r => ∀ c : Dev nD,
      (r.2.mem ((c.tc : Thread nD τ).loc main_v5) : S34816x1024.Idx → EReal) = (fun i => G m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have hO := ok_of_args m hA
  (θ_run defs _ _).mono (fun r h c =>
    ⟨((h.1 c).2 main_v5 (show main_v5 ∈ Pipeline.restRefs sig spec0 by decide)).trans (result m c hO hA),
     keeps m hO r h.1 c main_arg0 (by decide) (by decide) (by decide), keeps m hO r h.1 c main_arg1 (by decide) (by decide) (by decide),
     keeps m hO r h.1 c main_arg2 (by decide) (by decide) (by decide), keeps m hO r h.1 c main_arg3 (by decide) (by decide) (by decide),
     keeps m hO r h.1 c main_arg4 (by decide) (by decide) (by decide), keeps m hO r h.1 c main_arg5 (by decide) (by decide) (by decide)⟩)
    (run_quiescent m g hO)

/-- The kernel and the reference end with the same array. -/
theorem algebraic : @Cert.algebraic_ExpertsIdeal_ExpertsRefIdeal Cert.ExpertsIdeal.Gen.facts Cert.ExpertsRefIdeal.Gen.facts preFacts := by
  intro m g m' g' hpre hagree
  have hA := args_lt m hpre
  refine ⟨fun c => fun i => G m c (i 0) (i 1), run m g hA, ?_⟩
  refine (θ_run _ _ _).mono (fun r h c => ?_) (Cert.ExpertsRefIdeal.Value.run (F := Ideal) m' g')
  refine ⟨(h c).1.trans ?_, (h c).2⟩
  refine (Cert.ExpertsRefIdeal.Read.val_main_v28_eq (F := Ideal) _ _ _ _ _ _).trans ?_
  rw [(hagree c).1, (hagree c).2.1, (hagree c).2.2.1, (hagree c).2.2.2.1, (hagree c).2.2.2.2.1, (hagree c).2.2.2.2.2]
  obtain rfl : c = 0 := Subsingleton.elim _ _
  exact ref_eq _ _ _ _ _ _ hA

end Cert.MoE
-- ==== Proof.Dense.Pay.lean ====
/- What the dense feed-forward's body computes, element by element: the residual plus the row's gate times its feed-forward. -/
module

public import proofs.«01_k».proof.Proof.Gen.DenseIdeal.Value
public import proofs.«01_k».proof.Proof.Swiglu
public import Idealize.ShloMosaic.Lib.VecWindow

@[expose] public section

noncomputable section

namespace Cert.Dn

open Cert.DenseIdeal Cert.DenseIdeal.Gen Idealize.ShloMosaic Idealize.ShloMosaic.TcCoe Idealize.SL.Sem

theorem pay1_apply (x : Vec Ideal S512x1024 .bf16) (w u : Vec Ideal S1024x2816 .bf16) (d : Vec Ideal S2816x1024 .bf16) (r : Fin 512) (l : Fin 1024) :
    k0_pay1 x w u d (ix2 r l) = Swi.out (fun k => x (ix2 r k)) (fun k f => w (ix2 k f)) (fun k f => u (ix2 k f)) (fun f => d (ix2 f l)) := by
  unfold_payloads
  pointwise
  rfl

theorem pay2_apply (x : Vec Ideal S512x1024 .bf16) (w u : Vec Ideal S1024x2816 .bf16) (d : Vec Ideal S2816x1024 .bf16) (r : Fin 512) (l : Fin 1024) :
    k0_pay2 x w u d (ix2 r l) = Swi.out (fun k => x (ix2 r k)) (fun k f => w (ix2 k f)) (fun k f => u (ix2 k f)) (fun f => d (ix2 f l)) := by
  rw [← pay1_apply]
  unfold k0_pay2
  exact congrFun (shapeCast_id _ _) _

theorem pay4_apply (x : Vec Ideal S512x1024 .f32) (g : Vec Ideal S1x1x1024 .f32) (y : Vec Ideal S512x1024 .f32) (r : Fin 512) (l : Fin 1024) :
    k0_pay4 x g y (ix2 r l) = x (ix2 r l) + g (ix3 0 0 l) * y (ix2 r l) := by
  unfold_payloads
  pointwise

theorem pay4_of (x : Vec Ideal S512x1024 .f32) (g : Vec Ideal S1x1x1024 .f32) (y : Vec Ideal S512x1024 .f32) (r : Fin 512) (l : Fin 1024) (A B C : EReal)
    (hx : x (ix2 r l) = A) (hg : g (ix3 0 0 l) = B) (hy : y (ix2 r l) = C) : k0_pay4 x g y (ix2 r l) = A + B * C := by
  rw [pay4_apply, hx, hg, hy]

/-- A load of a whole window reads its contents. -/
theorem full_at {s : Shape} {e : EltTy} {M : Memref sig .tc .vmem s e} (h : M.IsWhole) (x : Vec Ideal s e) {o : Fin s.rank → Nat}
    (inb : ∀ a, o a + s.size a ≤ s.size a) (j : s.Idx) :
    View.readAt (Elt Ideal) M.view (Rect.unit o s.size inb).toLoadRect (h.unread x) j = x j :=
  congrFun ((View.readAt_full M.view _ inb).trans (h.read_unread x)) j

/-- The block after the body: the residual rows plus the gate of the feed-forward's rows. -/
theorem out_eq (c : Dev nD) (i : grid0.Coords) (arg2 : Memref sig .tc .vmem S512x1024 .bf16) (harg2 : arg2.IsWhole)
    (arg3 : Memref sig .tc .vmem S512x1024 .f32) (harg3 : arg3.IsWhole) (arg4 : Memref sig .tc .vmem S1x8x1024 .f32) (harg4 : arg4.IsWhole)
    (arg5 : Memref sig .tc .vmem S1024x2816 .bf16) (harg5 : arg5.IsWhole) (arg6 : Memref sig .tc .vmem S1024x2816 .bf16) (harg6 : arg6.IsWhole)
    (arg7 : Memref sig .tc .vmem S2816x1024 .bf16) (harg7 : arg7.IsWhole) (arg8 : Memref sig .tc .vmem S512x1024 .f32) (harg8 : arg8.IsWhole)
    (arg9 : Memref sig .tc .vmem S512x1024 .f32) (harg9 : arg9.IsWhole) (hc0 hc1 hc2)
    (x0 : Vec Ideal S512x1024 .bf16) (x1 : Vec Ideal S512x1024 .f32) (x2 : Vec Ideal S1x8x1024 .f32) (x3 : Vec Ideal S1024x2816 .bf16)
    (x4 : Vec Ideal S1024x2816 .bf16) (x5 : Vec Ideal S2816x1024 .bf16) (r : Fin 512) (l : Fin 1024) :
    out0_A_6 c i arg2 harg2 arg3 harg3 arg4 harg4 arg5 harg5 arg6 harg6 arg7 harg7 arg8 harg8 arg9 harg9 hc0 hc1 hc2 x0 x1 x2 x3 x4 x5 (ix2 r l)
      = x1 (ix2 r l) + x2 (ix3 0 5 l)
          * Swi.out (fun k => x0 (ix2 r k)) (fun k f => x3 (ix2 k f)) (fun k f => x4 (ix2 k f)) (fun f => x5 (ix2 f l)) := by
  unfold out0_A_6 kernelRun0_A
  dsimp only
  unfold kernelRun0_A.sl.v33 kernelRun0_A.sl.HS0_1
  refine (congrFun (View.read_writes_full VO0_6 _ inb_S512x1024_S512x1024_0_0 _ _) _).trans ?_
  refine pay4_of _ _ _ r l _ _ _ ?_ ?_ ?_
  · exact full_at harg3 x1 inb_S512x1024_S512x1024_0_0 _
  · rw [View.readAt_apply, harg4.read_unread]
    refine congrArg x2 (funext fun a => Fin.ext ?_)
    match a with
    | ⟨0, _⟩ => rfl
    | ⟨1, _⟩ => rfl
    | ⟨2, _⟩ => show 0 + 1 * l.val = l.val; omega
  · rw [View.readCov_full, pay2_apply]
    congr 1
    · funext k; exact full_at harg2 x0 inb_S512x1024_S512x1024_0_0 _
    · funext k f; exact full_at harg5 x3 inb_S1024x2816_S1024x2816_0_0 _
    · funext k f; exact full_at harg6 x4 inb_S1024x2816_S1024x2816_0_0 _
    · funext f; exact full_at harg7 x5 inb_S2816x1024_S2816x1024_0_0 _

end Cert.Dn
-- ==== Proof.Dense.Whole.lean ====
/- The dense feed-forward's result array: every row's residual plus its request's gate of its feed-forward. -/
module

public import proofs.«01_k».proof.Proof.Dense.Pay
public import Idealize.ShloMosaic.Lib.Pipeline.ValueKit
public import Idealize.ShloMosaic.Lib.Claim

@[expose] public section

noncomputable section

namespace Cert.Dn

open Cert.DenseIdeal Cert.DenseIdeal.Gen Idealize.ShloMosaic Idealize.ShloMosaic.TcCoe Idealize.SL.Sem

/-- The modulation row of a token: the prompt's is row 0, the sample requests' rows 1 and 2. -/
def mrow (n : Fin 16384) : Fin 8 := ⟨if n.val < 8192 then 0 else 1 + (n.val - 8192) / 4096, by split <;> omega⟩

/-- A token's output. -/
def dense (X R : S16384x1024.Idx → EReal) (M : S8x8x1024.Idx → EReal) (W U : S1024x2816.Idx → EReal) (D : S2816x1024.Idx → EReal)
    (n : Fin 16384) (l : Fin 1024) : EReal :=
  R (ix2 n l) + M (ix3 (mrow n) 5 l)
    * Swi.out (fun k => X (ix2 n k)) (fun k f => W (ix2 k f)) (fun k f => U (ix2 k f)) (fun f => D (ix2 f l))

theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t
    = ![if (grid0.coords t 0).val < 16 then 0 else 1 + ((grid0.coords t 0).val - 16) / 8, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(grid0.coords t 0).val, 0] := (by decide +kernel : ∀ t : Fin grid0.N, _)

variable (m : (ℓ : Loc nD τ sig) → Buf (Elt Ideal) ℓ) (c : Dev nD)

/-- The arguments: normalised tokens, tokens, modulation, and the three weights. -/
def argX : FVec Ideal S16384x1024 .f32 := m ((c : Thread nD τ).loc main_arg0)
def argR : FVec Ideal S16384x1024 .f32 := m ((c : Thread nD τ).loc main_arg1)
def argM : FVec Ideal S8x8x1024 .f32 := m ((c : Thread nD τ).loc main_arg2)
def argW : FVec Ideal S1024x2816 .f32 := m ((c : Thread nD τ).loc main_arg3)
def argU : FVec Ideal S1024x2816 .f32 := m ((c : Thread nD τ).loc main_arg4)
def argD : FVec Ideal S2816x1024 .f32 := m ((c : Thread nD τ).loc main_arg5)

/-- The result array. -/
def G : S16384x1024.Idx → EReal := fun i => dense (argX m c) (argR m c) (argM m c) (argW m c) (argU m c) (argD m c) (i 0) (i 1)

theorem entry_x (i : S16384x1024.Idx) : (V m c main_v0 : S16384x1024.Idx → EReal) i = argX m c i := by entry_read; rfl
theorem entry_w (i : S1024x2816.Idx) : (V m c main_v1 : S1024x2816.Idx → EReal) i = argW m c i := by entry_read; rfl
theorem entry_u (i : S1024x2816.Idx) : (V m c main_v2 : S1024x2816.Idx → EReal) i = argU m c i := by entry_read; rfl
theorem entry_d (i : S2816x1024.Idx) : (V m c main_v3 : S2816x1024.Idx → EReal) i = argD m c i := by entry_read; rfl
theorem entry_r (i : S16384x1024.Idx) : (V m c main_arg1 : S16384x1024.Idx → EReal) i = argR m c i := by entry_read; rfl
theorem entry_m (i : S8x8x1024.Idx) : (V m c main_arg2 : S8x8x1024.Idx → EReal) i = argM m c i := by entry_read; rfl

variable (t : Fin cfg0.N) (n : Fin 16384) (r : Fin 512) (hn : n.val = (grid0.coords t 0).val * 512 + r.val)
include hn

theorem blk_x (k : Fin 1024) : (iblk m c 0 t (ix2 r k) : EReal) = argX m c (ix2 n k) := by
  rw [← entry_x]
  blk_ext [iblk, idx0 t]
theorem blk_r (k : Fin 1024) : (iblk m c 1 t (ix2 r k) : EReal) = argR m c (ix2 n k) := by
  rw [← entry_r]
  blk_ext [iblk, idx1 t]
theorem blk_m (k : Fin 1024) : (iblk m c 2 t (ix3 0 5 k) : EReal) = argM m c (ix3 (mrow n) 5 k) := by
  have h : (mrow n).val = if (grid0.coords t 0).val < 16 then 0 else 1 + ((grid0.coords t 0).val - 16) / 8 := by
    show (if n.val < 8192 then 0 else 1 + (n.val - 8192) / 4096) = _
    split <;> split <;> omega
  rw [← entry_m]
  blk_ext [iblk, idx2 t]
omit hn
theorem blk_w (k : Fin 1024) (f : Fin 2816) : (iblk m c 3 t (ix2 k f) : EReal) = argW m c (ix2 k f) := by
  rw [← entry_w]
  blk_ext [iblk, idx3 t]
theorem blk_u (k : Fin 1024) (f : Fin 2816) : (iblk m c 4 t (ix2 k f) : EReal) = argU m c (ix2 k f) := by
  rw [← entry_u]
  blk_ext [iblk, idx4 t]
theorem blk_d (k : Fin 1024) (f : Fin 2816) : (iblk m c 5 t (ix2 f k) : EReal) = argD m c (ix2 f k) := by
  rw [← entry_d]
  blk_ext [iblk, idx5 t]

theorem dense_of (a b x : EReal) (X : Fin 1024 → EReal) (W U : Fin 1024 → Fin 2816 → EReal) (D : Fin 2816 → EReal) (l : Fin 1024)
    (ha : a = argR m c (ix2 n l)) (hb : b = argM m c (ix3 (mrow n) 5 l)) (hX : ∀ k, X k = argX m c (ix2 n k))
    (hW : ∀ k f, W k f = argW m c (ix2 k f)) (hU : ∀ k f, U k f = argU m c (ix2 k f)) (hD : ∀ f, D f = argD m c (ix2 f l)) (hx : x = a + b * Swi.out X W U D) :
    x = dense (argX m c) (argR m c) (argM m c) (argW m c) (argU m c) (argD m c) n l := by
  obtain rfl : X = _ := funext hX
  obtain rfl : W = _ := funext fun k => funext (hW k)
  obtain rfl : U = _ := funext fun k => funext (hU k)
  obtain rfl : D = _ := funext hD
  rw [hx, ha, hb]
  rfl

/-- The block after a grid point. -/
theorem block_at (l : Fin 1024) (hn : n.val = (grid0.coords t 0).val * 512 + r.val) :
    (outsAt0 m c t (ix2 r l) : EReal) = dense (argX m c) (argR m c) (argM m c) (argW m c) (argU m c) (argD m c) n l :=
  dense_of m c n _ _ _ _ _ _ _ l (blk_r m c t n r hn l) (blk_m m c t n r hn l) (blk_x m c t n r hn) (blk_w m c t) (blk_u m c t) (blk_d m c t l)
    (out_eq c _ _ _ _ _ _ _ _ _ _ _ _ _ _ _ _ _ _ _ _ _ _ _ _ _ _ r l)

/-- The whole result array. -/
theorem final : (dats m 0 c).arrAt 6 cfg0.N = G m c := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, eq_ix2 y⟩
  have e0 : ((win0_6.blk t).view.emb (ix2 r l) 0).val = (grid0.coords t 0).val * 512 + r.val := by blk_simp [idx6 t]
  have e1 : ((win0_6.blk t).view.emb (ix2 r l) 1).val = l.val := by blk_simp [idx6 t]
  refine (block_at m c t _ r l e0).trans ?_
  unfold G
  exact congrArg (dense _ _ _ _ _ _ _) (Fin.ext e1.symm)

end Cert.Dn
-- ==== Proof.Dense.Ref.lean ====
/- The dense feed-forward's reference, element by element. -/
module

public import proofs.«01_k».proof.Proof.Gen.DenseRefIdeal.Read
public import proofs.«01_k».proof.Proof.Dense.Whole

@[expose] public section

set_option maxRecDepth 16384

noncomputable section

namespace Cert.Dn

open Cert.DenseRefIdeal Cert.DenseRefIdeal.Gen Cert.DenseRefIdeal.Read Idealize.ShloMosaic Idealize.ShloMosaic.TcCoe

/-- The prompt's rows above the sample's. -/
theorem rows_at (a b : FVec Ideal S8192x1024 .f32) (n : Fin 16384) (l : Fin 1024) :
    (concatenate S16384x1024 0 [⟨S8192x1024, a⟩, ⟨S8192x1024, b⟩] concatenates_S8192x1024_S8192x1024_S16384x1024_d0 : FVec Ideal S16384x1024 .f32) (ix2 n l)
      = if h : n.val < 8192 then a (ix2 ⟨n.val, h⟩ l) else b (ix2 ⟨n.val - 8192, by omega⟩ l) := by
  pointwise

variable (X R : FVec Ideal S16384x1024 .f32) (M : FVec Ideal S8x8x1024 .f32) (W U : FVec Ideal S1024x2816 .f32) (D : FVec Ideal S2816x1024 .f32)

theorem gate_at (n : Fin 16384) (l : Fin 1024) : (val_main_v7 (F := Ideal) M (ix2 n l) : EReal) = M (ix3 (mrow n) 5 l) := by
  unfold val_main_v7
  refine (rows_at _ _ n l).trans ?_
  by_cases h : n.val < 8192
  · rw [dif_pos h, val_main_v2_apply, val_main_v1_apply, val_main_v0_apply]
    refine congrArg M (funext fun a => Fin.ext ?_)
    match a with
    | ⟨0, _⟩ => show _ = (if n.val < 8192 then 0 else 1 + (n.val - 8192) / 4096); rw [if_pos h]
    | ⟨1, _⟩ => rfl
    | ⟨2, _⟩ => show (l.val % 1024) + 0 = l.val; omega
  · rw [dif_neg h, val_main_v6_apply, val_main_v5_apply, val_main_v4_apply, val_main_v3_apply]
    refine congrArg M (funext fun a => Fin.ext ?_)
    match a with
    | ⟨0, _⟩ => show _ = (if n.val < 8192 then 0 else 1 + (n.val - 8192) / 4096); rw [if_neg h];
                 show 1 + (((((n.val - 8192) * 1024 + l.val) / 4194304) * 1024 + (((n.val - 8192) * 1024 + l.val) % 1024)) / 1024) = _; omega
    | ⟨1, _⟩ => rfl
    | ⟨2, _⟩ => show ((((n.val - 8192) * 1024 + l.val) / 4194304) * 1024 + (((n.val - 8192) * 1024 + l.val) % 1024)) % 1024 = l.val; omega

theorem hidden_at (n : Fin 16384) (f : Fin 2816) :
    (val_main_v8 (F := Ideal) X W (ix2 n f) : EReal) = ∑ k, X (ix2 n k) * W (ix2 k f) := by
  rw [val_main_v8_apply]
  refine Finset.sum_congr rfl fun k _ => ?_
  refine congr (congrArg _ (congrArg X (funext fun a => ?_))) (congrArg W (funext fun a => ?_))
  · match a with
    | ⟨0, _⟩ => rfl
    | ⟨1, _⟩ => rfl
  · match a with
    | ⟨0, _⟩ => rfl
    | ⟨1, _⟩ => rfl

theorem up_at (n : Fin 16384) (f : Fin 2816) :
    (val_main_v16 (F := Ideal) X U (ix2 n f) : EReal) = ∑ k, X (ix2 n k) * U (ix2 k f) := by
  rw [val_main_v16_apply]
  refine Finset.sum_congr rfl fun k _ => ?_
  refine congr (congrArg _ (congrArg X (funext fun a => ?_))) (congrArg U (funext fun a => ?_))
  · match a with
    | ⟨0, _⟩ => rfl
    | ⟨1, _⟩ => rfl
  · match a with
    | ⟨0, _⟩ => rfl
    | ⟨1, _⟩ => rfl

theorem unit_at (n : Fin 16384) (f : Fin 2816) :
    (val_main_v17 (F := Ideal) X W U (ix2 n f) : EReal) = Swi.unit (fun k => X (ix2 n k)) (fun k => W (ix2 k f)) (fun k => U (ix2 k f)) := by
  rw [val_main_v17_apply, val_main_v15_apply, val_main_v14_apply, val_main_v13_apply, val_main_cst_0_apply, val_main_v12_apply, val_main_v11_apply,
    val_main_cst_apply, val_main_v10_apply, val_main_v9_apply, hidden_at, up_at]
  unfold Swi.unit
  rw [← Swi.sig_eq, ← Ideal.ofBits_one_f32]
  rfl

theorem ffn_at (n : Fin 16384) (l : Fin 1024) :
    (val_main_v18 (F := Ideal) X W U D (ix2 n l) : EReal)
      = Swi.out (fun k => X (ix2 n k)) (fun k f => W (ix2 k f)) (fun k f => U (ix2 k f)) (fun f => D (ix2 f l)) := by
  rw [val_main_v18_apply]
  refine Finset.sum_congr rfl fun f _ => ?_
  rw [← unit_at]
  refine congr (congrArg _ (congrArg (val_main_v17 (F := Ideal) X W U) (funext fun a => ?_))) (congrArg D (funext fun a => ?_))
  · match a with
    | ⟨0, _⟩ => rfl
    | ⟨1, _⟩ => rfl
  · match a with
    | ⟨0, _⟩ => rfl
    | ⟨1, _⟩ => rfl

/-- The reference is each token's residual plus its gate of its feed-forward. -/
theorem ref_eq : (val_main_v20 (F := Ideal) X R M W U D : S16384x1024.Idx → EReal) = fun i => dense X R M W U D (i 0) (i 1) := by
  funext i
  obtain ⟨n, l, rfl⟩ : ∃ (n : Fin 16384) (l : Fin 1024), i = ix2 n l := ⟨i 0, i 1, eq_ix2 i⟩
  show _ = dense X R M W U D n l
  rw [val_main_v20_apply, val_main_v19_apply, gate_at, ffn_at]
  rfl

end Cert.Dn
-- ==== Proof.Dense.Claims.lean ====
/- The dense feed-forward's claims: both programs run and leave the same array. -/
module

public import proofs.«01_k».proof.Proof.Dense.Ref
public import proofs.«01_k».proof.Proof.Gen.Dense.Frame
public import proofs.«01_k».proof.Proof.Gen.DenseRefIdeal.Run
public import proofs.«01_k».proof.Defs

@[expose] public section

noncomputable section

namespace Cert.Dn

open Idealize.ShloMosaic Idealize.ShloMosaic.TcCoe Idealize.SL.Sem

theorem frame : @Cert.quiescent_Dense Cert.Dense.Gen.facts := fun m g _ => Cert.Dense.Gen.frame m g

theorem frame_ideal : @Cert.quiescent_DenseIdeal Cert.DenseIdeal.Gen.facts := fun m g _ => Cert.DenseIdeal.Gen.frame m g

/-- The reference runs, keeps its arguments and ends with every counter at zero. -/
theorem frame_ref : @Cert.quiescent_DenseRefIdeal Cert.DenseRefIdeal.Gen.facts := fun m g _ =>
  (θ_run Cert.DenseRefIdeal.defs _ _).mono (fun r h => ⟨fun c => (h c).2, sem_eq_zero_of_no_sems (by decide) r.2⟩)
    (Cert.DenseRefIdeal.Value.run (F := Ideal) m g)

/-- The kernel and the reference end with the same array. -/
theorem algebraic : @Cert.algebraic_DenseIdeal_DenseRefIdeal Cert.DenseIdeal.Gen.facts Cert.DenseRefIdeal.Gen.facts := by
  intro m g m' g' _ hagree
  refine ⟨fun c => G m c, (θ_run _ _ _).mono (fun r h c => ⟨(h c).1.trans (final m c), (h c).2⟩)
    (Cert.DenseIdeal.Value.run_blocks (F := Ideal) m g), ?_⟩
  refine (θ_run _ _ _).mono (fun r h c => ?_) (Cert.DenseRefIdeal.Value.run (F := Ideal) m' g')
  refine ⟨(h c).1.trans ?_, (h c).2⟩
  refine (Cert.DenseRefIdeal.Read.val_main_v20_eq (F := Ideal) _ _ _ _ _ _).trans ?_
  rw [(hagree c).1, (hagree c).2.1, (hagree c).2.2.1, (hagree c).2.2.2.1, (hagree c).2.2.2.2.1, (hagree c).2.2.2.2.2]
  exact ref_eq _ _ _ _ _ _

end Cert.Dn
-- ==== Proof.Merge.Spec.lean ====
/- The gated merge of a token: normalise and modulate, gate each branch's projection, project, add, normalise and modulate again. -/
module

public import proofs.«01_k».proof.Proof.Swiglu

@[expose] public section

noncomputable section

namespace Cert.Mg

open Idealize.ShloMosaic

/-- The reciprocal root of the mean square, given the sum of the squares. -/
def rsq (s : EReal) : EReal :=
  Ideal.rsqrt (Ideal.div s (FloatOps.ofBits (F := Ideal) .f32 0x44800000#32) + FloatOps.ofBits (F := Ideal) .f32 0x358637BD#32)

/-- A normalised, scaled and shifted entry of a token. -/
def norm (x : Fin 1024 → EReal) (g s b : EReal) (d : Fin 1024) : EReal := x d * rsq (∑ k, x k * x k) * g * (1 + s) + b

/-- A branch's part of the merge: its gate, the logistic of the token's product with the gate's weights, times its projection. -/
def branch (xm w : Fin 1024 → EReal) (y u : Fin 512 → EReal) : EReal := Swi.sig (∑ k, xm k * w k) * ∑ k, y k * u k

/-- The token normalised and modulated (modulation entries 0 and 1: shift and scale). -/
def xmid (x : Fin 1024 → EReal) (M : Fin 8 → Fin 1024 → EReal) (g : Fin 1024 → EReal) (d : Fin 1024) : EReal := norm x (g d) (M 1 d) (M 0 d) d

/-- The three branches, gated and added. -/
def merged (xm : Fin 1024 → EReal) (W : Fin 1024 → Fin 3072 → EReal) (ya yb yc : Fin 512 → EReal) (ua ub uc : Fin 512 → Fin 1024 → EReal)
    (j : Fin 1024) : EReal :=
  branch xm (fun k => W k ⟨j.val, by omega⟩) ya (fun k => ua k j) + branch xm (fun k => W k ⟨1024 + j.val, by omega⟩) yb (fun k => ub k j)
    + branch xm (fun k => W k ⟨2048 + j.val, by omega⟩) yc (fun k => uc k j)

/-- The residual plus the gated projection of the merge (modulation entry 2). -/
def xout (x : Fin 1024 → EReal) (M : Fin 8 → Fin 1024 → EReal) (g : Fin 1024 → EReal) (W : Fin 1024 → Fin 3072 → EReal)
    (ya yb yc : Fin 512 → EReal) (ua ub uc : Fin 512 → Fin 1024 → EReal) (wo : Fin 1024 → Fin 1024 → EReal) (d : Fin 1024) : EReal :=
  x d + M 2 d * ∑ j, merged (xmid x M g) W ya yb yc ua ub uc j * wo j d

/-- The next normalised token (modulation entries 3 and 4). -/
def xnext (x : Fin 1024 → EReal) (M : Fin 8 → Fin 1024 → EReal) (g : Fin 1024 → EReal) (W : Fin 1024 → Fin 3072 → EReal)
    (ya yb yc : Fin 512 → EReal) (ua ub uc : Fin 512 → Fin 1024 → EReal) (wo : Fin 1024 → Fin 1024 → EReal) (g2 : Fin 1024 → EReal)
    (d : Fin 1024) : EReal :=
  norm (xout x M g W ya yb yc ua ub uc wo) (g2 d) (M 4 d) (M 3 d) d

end Cert.Mg
-- ==== Proof.Merge.Pay.lean ====
/- What the merge's body computes, element by element. -/
module

public import proofs.«01_k».proof.Proof.Gen.MergeIdeal.Value
public import proofs.«01_k».proof.Proof.Merge.Spec

@[expose] public section

noncomputable section

namespace Cert.Mg

open Cert.MergeIdeal Cert.MergeIdeal.Gen Idealize.ShloMosaic Idealize.ShloMosaic.TcCoe Idealize.SL.Sem

theorem pay2_apply (x : Vec Ideal S512x1024 .f32) (g : Vec Ideal S1x1024 .f32) (s b : Vec Ideal S1x1x1024 .f32) (r : Fin 512) (l : Fin 1024) :
    k0_pay2 x g s b (ix2 r l) = norm (fun k => x (ix2 r k)) (g (ix2 0 l)) (s (ix3 0 0 l)) (b (ix3 0 0 l)) l := by
  unfold_payloads
  pointwise
  rfl

theorem pay3_apply (x : Vec Ideal S512x1024 .f32) (g : Vec Ideal S1x1024 .f32) (s b : Vec Ideal S1x1x1024 .f32) (w : Vec Ideal S1024x1024 .bf16)
    (r : Fin 512) (l : Fin 1024) :
    k0_pay3 x g s b w (ix2 r l) = Swi.sig (∑ k, (k0_pay2 x g s b (ix2 r k) : EReal) * w (ix2 k l)) := by
  unfold k0_pay3
  generalize k0_pay2 x g s b = z
  pointwise
  rfl

theorem pay4_apply (v : BitVec 1) (xb : FVec Ideal S512x1024 .bf16) (gate : FVec Ideal S512x1024 .f32) (a a' : Vec Ideal S512x512 .f32)
    (u : Vec Ideal S512x1024 .bf16) (w : Vec Ideal S1024x1024 .bf16) (c c' : Vec Ideal S512x512 .bf16) (u' : Vec Ideal S512x1024 .bf16)
    (r : Fin 512) (l : Fin 1024) :
    k0_pay4 v xb gate a a' u w c c' u' (ix2 r l)
      = gate (ix2 r l) * (∑ k, ((Scalar.select v a a' : Vec Ideal S512x512 .f32) (ix2 r k) : EReal) * u (ix2 k l))
        + Swi.sig (∑ k, (xb (ix2 r k) : EReal) * w (ix2 k l)) * ∑ k, ((Scalar.select v c c' : Vec Ideal S512x512 .bf16) (ix2 r k) : EReal) * u' (ix2 k l) := by
  unfold k0_pay4
  generalize (Scalar.select v a a' : Vec Ideal S512x512 .f32) = A
  generalize (Scalar.select v c c' : Vec Ideal S512x512 .bf16) = C
  pointwise
  rfl

theorem pay5_apply (xb : FVec Ideal S512x1024 .bf16) (w : Vec Ideal S1024x1024 .bf16) (r : Fin 512) (l : Fin 1024) :
    k0_pay5 xb w (ix2 r l) = 1 + Ideal.exp (0 - ∑ k, (xb (ix2 r k) : EReal) * w (ix2 k l)) := by
  unfold k0_pay5
  pointwise

theorem pay7_apply (v : BitVec 1) (x : Vec Ideal S512x1024 .f32) (m p q : FVec Ideal S512x1024 .f32) (a a' : Vec Ideal S512x512 .f32)
    (u : Vec Ideal S512x1024 .bf16) (g : Vec Ideal S1x1x1024 .f32) (w : Vec Ideal S1024x1024 .bf16) (r : Fin 512) (l : Fin 1024) :
    k0_pay7 v x m p q a a' u g w (ix2 r l)
      = x (ix2 r l) + g (ix3 0 0 l) * ∑ j, ((m (ix2 r j) : EReal)
          + Ideal.div (q (ix2 r j)) (p (ix2 r j)) * ∑ k, ((Scalar.select v a a' : Vec Ideal S512x512 .f32) (ix2 r k) : EReal) * u (ix2 k j)) * w (ix2 j l) := by
  unfold k0_pay7
  generalize (Scalar.select v a a' : Vec Ideal S512x512 .f32) = A
  pointwise

theorem pay8_apply (v : BitVec 1) (x : Vec Ideal S512x1024 .f32) (m p q : FVec Ideal S512x1024 .f32) (a a' : Vec Ideal S512x512 .f32)
    (u : Vec Ideal S512x1024 .bf16) (g : Vec Ideal S1x1x1024 .f32) (w : Vec Ideal S1024x1024 .bf16) (g2 : Vec Ideal S1x1024 .f32) (r : Fin 512) (l : Fin 1024) :
    k0_pay8 v x m p q a a' u g w g2 (ix2 r l)
      = (k0_pay7 v x m p q a a' u g w (ix2 r l) : EReal) * rsq (∑ k, (k0_pay7 v x m p q a a' u g w (ix2 r k) : EReal) * k0_pay7 v x m p q a a' u g w (ix2 r k))
        * g2 (ix2 0 l) := by
  unfold k0_pay8
  generalize k0_pay7 v x m p q a a' u g w = z
  pointwise
  rfl

theorem pay1_apply (z : FVec Ideal S512x1024 .f32) (s : FVec Ideal S1x1024 .f32) (b : Vec Ideal S1x1x1024 .f32) (r : Fin 512) (l : Fin 1024) :
    k0_pay1 z s b (ix2 r l) = (z (ix2 r l) : EReal) * (1 + s (ix2 0 l)) + b (ix3 0 0 l) := by
  unfold k0_pay1
  pointwise

theorem pay9_apply (s : Vec Ideal S1x1x1024 .f32) (l : Fin 1024) : k0_pay9 s (ix2 0 l) = s (ix3 0 0 l) := by
  unfold k0_pay9
  pointwise

theorem pay6_apply (r : Fin 512) (l : Fin 1024) : (k0_pay6 (F := Ideal) (ix2 r l) : EReal) = 1 := by
  unfold k0_pay6
  pointwise

end Cert.Mg
-- ==== Proof.Merge.Out.lean ====
/- The blocks the merge's body leaves, from its input blocks. -/
module

public import proofs.«01_k».proof.Proof.Merge.Pay
public import Idealize.ShloMosaic.Lib.Pipeline.ValueKit

@[expose] public section

noncomputable section

namespace Cert.Mg

open Cert.MergeIdeal Cert.MergeIdeal.Gen Idealize.ShloMosaic Idealize.ShloMosaic.TcCoe Idealize.SL.Sem

/-- Tiles below 16 hold the prompt's tokens. -/
theorem prompt_word : ∀ k : Fin 32, Scalar.cmpi .slt (BitVec.ofNat 32 k.val) 16#32 = if k.val < 16 then 1#1 else 0#1 := by decide

/-- Of two blocks, the prompt's on the prompt's tiles, the sample's on the others. -/
def pick {e : EltTy} (i : grid0.Coords) (a b : Vec Ideal S512x512 e) : Vec Ideal S512x512 e := if (i 0).val < 16 then a else b

theorem select_pick {e : EltTy} (i : grid0.Coords) (a b : Vec Ideal S512x512 e) :
    (Scalar.select (Scalar.cmpi .slt (BitVec.ofNat 32 (i 0).val) 16#32) a b : Vec Ideal S512x512 e) = pick i a b := by
  have h := prompt_word (i 0)
  unfold pick
  by_cases hc : (i 0).val < 16
  · rw [if_pos hc] at h ⊢
    rw [h]; rfl
  · rw [if_neg hc] at h ⊢
    rw [h]; rfl

theorem z2 : (![0, 0] : Fin 2 → Nat) = fun _ => 0 := by funext a; fin_cases a <;> rfl

/-- A modulation entry. -/
theorem ld_mod (X : Vec Ideal S1x8x1024 .f32) (o : Nat) (inb) (p : Fin 8) (hp : p.val = o) (l : Fin 1024) :
    (View.ld X (Rect.unit (s := S1x8x1024) ![0, o, 0] S1x1x1024.size inb) : Vec Ideal S1x1x1024 .f32) (ix3 0 0 l) = X (ix3 0 p l) :=
  View.ld_unit_apply_of X _ _ _ _ _ fun a => match a with
    | ⟨0, _⟩ => rfl
    | ⟨1, _⟩ => hp
    | ⟨2, _⟩ => (Nat.zero_add _).symm

/-- A third of the gates' weights. -/
theorem ld_gate (X : Vec Ideal S1024x3072 .bf16) (o : Nat) (inb) (k l : Fin 1024) (c : Fin 3072) (hc : c.val = o + l.val) :
    (View.ld X (Rect.unit (s := S1024x3072) ![0, o] S1024x1024.size inb) : Vec Ideal S1024x1024 .bf16) (ix2 k l) = X (ix2 k c) :=
  View.ld_unit_apply_of X _ _ _ _ _ fun a => match a with
    | ⟨0, _⟩ => (Nat.zero_add _).symm
    | ⟨1, _⟩ => hc

theorem ld_gate0 (X : Vec Ideal S1024x3072 .bf16) (k l : Fin 1024) :
    (View.ld X r0_4 (ix2 k l) : EReal) = X (ix2 k ⟨l.val, by omega⟩) := ld_gate X 0 _ k l _ (Nat.zero_add _).symm
theorem ld_gate1 (X : Vec Ideal S1024x3072 .bf16) (k l : Fin 1024) :
    (View.ld X r0_6 (ix2 k l) : EReal) = X (ix2 k ⟨1024 + l.val, by omega⟩) := ld_gate X 1024 _ k l _ rfl
theorem ld_gate2 (X : Vec Ideal S1024x3072 .bf16) (k l : Fin 1024) :
    (View.ld X r0_7 (ix2 k l) : EReal) = X (ix2 k ⟨2048 + l.val, by omega⟩) := ld_gate X 2048 _ k l _ rfl

variable (i : grid0.Coords) (x0 : Vec Ideal S512x1024 .f32) (x1 : Vec Ideal S1x8x1024 .f32) (x2 : Vec Ideal S1x1024 .f32) (x3 : Vec Ideal S1024x3072 .bf16)
  (x4 x5 : Vec Ideal S512x512 .f32) (x6 x7 : Vec Ideal S512x512 .bf16) (x8 x9 : Vec Ideal S512x512 .f32) (x10 x11 x12 : Vec Ideal S512x1024 .bf16)
  (x13 : Vec Ideal S1024x1024 .bf16) (x14 : Vec Ideal S1x1024 .f32)

/-- The block's token, its modulation, and so on. -/
abbrev bx (r : Fin 512) : Fin 1024 → EReal := fun k => x0 (ix2 r k)
abbrev bM : Fin 8 → Fin 1024 → EReal := fun p k => x1 (ix3 0 p k)
abbrev bg : Fin 1024 → EReal := fun k => x2 (ix2 0 k)
abbrev bW : Fin 1024 → Fin 3072 → EReal := fun k c => x3 (ix2 k c)
abbrev by_ (y : S512x512.Idx → EReal) (r : Fin 512) : Fin 512 → EReal := fun k => y (ix2 r k)
abbrev bu (u : Vec Ideal S512x1024 .bf16) : Fin 512 → Fin 1024 → EReal := fun k j => u (ix2 k j)
abbrev bo : Fin 1024 → Fin 1024 → EReal := fun k j => x13 (ix2 k j)

theorem mid_at (r : Fin 512) (l : Fin 1024) :
    (k0_pay2 (View.ld x0 r0_0) (View.ld x2 r0_1) (View.ld x1 r0_2) (View.ld x1 r0_3) (ix2 r l) : EReal) = xmid (bx x0 r) (bM x1) (bg x2) l := by
  rw [View.ld_unit_zero z2, View.ld_unit_zero z2, pay2_apply, ld_mod x1 1 _ 1 rfl, ld_mod x1 0 _ 0 rfl]
  rfl

/-- The first result's payload, at the input blocks. -/
theorem res_at (r : Fin 512) (l : Fin 1024) :
    (k0_pay7 (Scalar.cmpi .slt (BitVec.ofNat 32 (i 0).val) 16#32) (View.ld x0 r0_0) (k0_pay11 i x0 x1 x2 x3 x4 x5 x6 x7 x8 x9 x10 x11 x12 x13 x14)
      (k0_pay12 i x0 x1 x2 x3 x4 x5 x6 x7 x8 x9 x10 x11 x12 x13 x14) (k0_pay13 i x0 x1 x2 x3 x4 x5 x6 x7 x8 x9 x10 x11 x12 x13 x14)
      (View.ld x8 r0_5) (View.ld x9 r0_5) (View.ld x12 r0_0) (View.ld x1 r0_8) (View.ld x13 r0_9) (ix2 r l) : EReal)
      = xout (bx x0 r) (bM x1) (bg x2) (bW x3) (by_ (pick i x4 x5) r) (by_ (pick i x6 x7) r) (by_ (pick i x8 x9) r) (bu x10) (bu x11) (bu x12) (bo x13) l := by
  unfold k0_pay13 k0_pay12 k0_pay11 k0_pay10
  rw [pay7_apply]
  simp only [pay6_apply, pay5_apply, pay4_apply, pay3_apply, mid_at, select_pick]
  rw [View.ld_unit_zero z2, View.ld_unit_zero z2, View.ld_unit_zero z2, View.ld_unit_zero z2, View.ld_unit_zero z2, View.ld_unit_zero z2,
    View.ld_unit_zero z2, View.ld_unit_zero z2, View.ld_unit_zero z2, View.ld_unit_zero z2, View.ld_unit_zero z2, ld_mod x1 2 _ 2 rfl]
  refine congrArg (fun z : EReal => x0 (ix2 r l) + x1 (ix3 0 2 l) * z) (Finset.sum_congr rfl fun j _ => congrArg (fun z : EReal => z * x13 (ix2 j l)) ?_)
  refine congr (congrArg HAdd.hAdd (congr (congrArg HAdd.hAdd ?_) ?_)) ?_
  · exact congrArg (fun z : EReal => Swi.sig z * _) (Finset.sum_congr rfl fun k _ => congrArg (fun z : EReal => _ * z) (ld_gate0 x3 k j))
  · exact congrArg (fun z : EReal => Swi.sig z * _) (Finset.sum_congr rfl fun k _ => congrArg (fun z : EReal => _ * z) (ld_gate1 x3 k j))
  · exact congrArg (fun z : EReal => Swi.sig z * _) (Finset.sum_congr rfl fun k _ => congrArg (fun z : EReal => _ * z) (ld_gate2 x3 k j))

theorem out15_at (r : Fin 512) (l : Fin 1024) :
    (out0_15 i x0 x1 x2 x3 x4 x5 x6 x7 x8 x9 x10 x11 x12 x13 x14 (ix2 r l) : EReal)
      = xout (bx x0 r) (bM x1) (bg x2) (bW x3) (by_ (pick i x4 x5) r) (by_ (pick i x6 x7) r) (by_ (pick i x8 x9) r) (bu x10) (bu x11) (bu x12) (bo x13) l := by
  unfold out0_15
  rw [View.canon_unit_zero z2]
  exact res_at i x0 x1 x2 x3 x4 x5 x6 x7 x8 x9 x10 x11 x12 x13 x14 r l

theorem out16_at (r : Fin 512) (l : Fin 1024) :
    (out0_16 i x0 x1 x2 x3 x4 x5 x6 x7 x8 x9 x10 x11 x12 x13 x14 (ix2 r l) : EReal)
      = xnext (bx x0 r) (bM x1) (bg x2) (bW x3) (by_ (pick i x4 x5) r) (by_ (pick i x6 x7) r) (by_ (pick i x8 x9) r) (bu x10) (bu x11) (bu x12) (bo x13)
          (bg x14) l := by
  unfold out0_16
  rw [View.canon_unit_zero z2, pay1_apply, pay8_apply, pay9_apply]
  simp only [res_at]
  rw [View.ld_unit_zero z2, ld_mod x1 4 _ 4 rfl, ld_mod x1 3 _ 3 rfl]
  rfl

end Cert.Mg
-- ==== Proof.Merge.Block.lean ====
/- The merge's result arrays: every token merged, and normalised for the feed-forward. -/
module

public import proofs.«01_k».proof.Proof.Merge.Out
public import proofs.«01_k».proof.Proof.Dense.Whole

@[expose] public section

noncomputable section

namespace Cert.Mg

open Cert.MergeIdeal Cert.MergeIdeal.Gen Idealize.ShloMosaic Idealize.ShloMosaic.TcCoe Idealize.SL.Sem
open Cert.Dn (mrow)

/-- A token's entry of a branch: the prompt's tokens first, then the sample's. -/
def halves (P S : S8192x512.Idx → EReal) (n : Fin 16384) (k : Fin 512) : EReal :=
  if h : n.val < 8192 then P (ix2 ⟨n.val, h⟩ k) else S (ix2 ⟨n.val - 8192, by omega⟩ k)

/-- A token's merged residual. -/
def token (X : S16384x1024.Idx → EReal) (M : S8x8x1024.Idx → EReal) (g : S1024.Idx → EReal) (W : S1024x3072.Idx → EReal)
    (Pa Sa Pb Sb Pc Sc : S8192x512.Idx → EReal) (Ua Ub Uc : S512x1024.Idx → EReal) (O : S1024x1024.Idx → EReal) (n : Fin 16384) (l : Fin 1024) : EReal :=
  xout (fun k => X (ix2 n k)) (fun p k => M (ix3 (mrow n) p k)) (fun k => g (ix1 k)) (fun k c => W (ix2 k c)) (halves Pa Sa n) (halves Pb Sb n) (halves Pc Sc n)
    (fun k j => Ua (ix2 k j)) (fun k j => Ub (ix2 k j)) (fun k j => Uc (ix2 k j)) (fun k j => O (ix2 k j)) l

/-- A token normalised for the feed-forward. -/
def next (X : S16384x1024.Idx → EReal) (M : S8x8x1024.Idx → EReal) (g : S1024.Idx → EReal) (W : S1024x3072.Idx → EReal)
    (Pa Sa Pb Sb Pc Sc : S8192x512.Idx → EReal) (Ua Ub Uc : S512x1024.Idx → EReal) (O : S1024x1024.Idx → EReal) (g2 : S1024.Idx → EReal)
    (n : Fin 16384) (l : Fin 1024) : EReal :=
  xnext (fun k => X (ix2 n k)) (fun p k => M (ix3 (mrow n) p k)) (fun k => g (ix1 k)) (fun k c => W (ix2 k c)) (halves Pa Sa n) (halves Pb Sb n) (halves Pc Sc n)
    (fun k j => Ua (ix2 k j)) (fun k j => Ub (ix2 k j)) (fun k j => Uc (ix2 k j)) (fun k j => O (ix2 k j)) (fun k => g2 (ix1 k)) l

theorem idx0 : ∀ t : Fin cfg0.N, win0_0.index t = ![(grid0.coords t 0).val, 0] := (by decide +kernel : ∀ t : Fin grid0.N, _)
theorem idx1 : ∀ t : Fin cfg0.N, win0_1.index t = ![if (grid0.coords t 0).val < 16 then 0 else 1 + ((grid0.coords t 0).val - 16) / 8, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![min (grid0.coords t 0).val 15, 0] := (by decide +kernel : ∀ t : Fin grid0.N, _)
theorem idx5 : ∀ t : Fin cfg0.N, win0_5.index t = ![(grid0.coords t 0).val - 16, 0] := (by decide +kernel : ∀ t : Fin grid0.N, _)
theorem idx6 : ∀ t : Fin cfg0.N, win0_6.index t = ![min (grid0.coords t 0).val 15, 0] := (by decide +kernel : ∀ t : Fin grid0.N, _)
theorem idx7 : ∀ t : Fin cfg0.N, win0_7.index t = ![(grid0.coords t 0).val - 16, 0] := (by decide +kernel : ∀ t : Fin grid0.N, _)
theorem idx8 : ∀ t : Fin cfg0.N, win0_8.index t = ![min (grid0.coords t 0).val 15, 0] := (by decide +kernel : ∀ t : Fin grid0.N, _)
theorem idx9 : ∀ t : Fin cfg0.N, win0_9.index t = ![(grid0.coords t 0).val - 16, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![(grid0.coords t 0).val, 0] := (by decide +kernel : ∀ t : Fin grid0.N, _)
theorem idx16 : ∀ t : Fin cfg0.N, win0_16.index t = ![(grid0.coords t 0).val, 0] := (by decide +kernel : ∀ t : Fin grid0.N, _)

variable (m : (ℓ : Loc nD τ sig) → Buf (Elt Ideal) ℓ) (c : Dev nD)

/-- The arguments. -/
def argX : FVec Ideal S16384x1024 .f32 := m ((c : Thread nD τ).loc main_arg0)
def argM : FVec Ideal S8x8x1024 .f32 := m ((c : Thread nD τ).loc main_arg1)
def argG : FVec Ideal S1024 .f32 := m ((c : Thread nD τ).loc main_arg2)
def argW : FVec Ideal S1024x3072 .f32 := m ((c : Thread nD τ).loc main_arg3)
def argPa : FVec Ideal S8192x512 .f32 := m ((c : Thread nD τ).loc main_arg4)
def argSa : FVec Ideal S8192x512 .f32 := m ((c : Thread nD τ).loc main_arg5)
def argPb : FVec Ideal S8192x512 .bf16 := m ((c : Thread nD τ).loc main_arg6)
def argSb : FVec Ideal S8192x512 .bf16 := m ((c : Thread nD τ).loc main_arg7)
def argPc : FVec Ideal S8192x512 .f32 := m ((c : Thread nD τ).loc main_arg8)
def argSc : FVec Ideal S8192x512 .f32 := m ((c : Thread nD τ).loc main_arg9)
def argUa : FVec Ideal S512x1024 .f32 := m ((c : Thread nD τ).loc main_arg10)
def argUb : FVec Ideal S512x1024 .f32 := m ((c : Thread nD τ).loc main_arg11)
def argUc : FVec Ideal S512x1024 .f32 := m ((c : Thread nD τ).loc main_arg12)
def argO : FVec Ideal S1024x1024 .f32 := m ((c : Thread nD τ).loc main_arg13)
def argG2 : FVec Ideal S1024 .f32 := m ((c : Thread nD τ).loc main_arg14)

/-- The result arrays. -/
def R0 : S16384x1024.Idx → EReal := fun i => token (argX m c) (argM m c) (argG m c) (argW m c) (argPa m c) (argSa m c) (argPb m c) (argSb m c) (argPc m c) (argSc m c)
  (argUa m c) (argUb m c) (argUc m c) (argO m c) (i 0) (i 1)
def R1 : S16384x1024.Idx → EReal := fun i => next (argX m c) (argM m c) (argG m c) (argW m c) (argPa m c) (argSa m c) (argPb m c) (argSb m c) (argPc m c) (argSc m c)
  (argUa m c) (argUb m c) (argUc m c) (argO m c) (argG2 m c) (i 0) (i 1)

theorem entry_W (i : S1024x3072.Idx) : (V m c main_v1 : S1024x3072.Idx → EReal) i = argW m c i := by entry_read; rfl
theorem entry_Ua (i : S512x1024.Idx) : (V m c main_v2 : S512x1024.Idx → EReal) i = argUa m c i := by entry_read; rfl
theorem entry_Ub (i : S512x1024.Idx) : (V m c main_v3 : S512x1024.Idx → EReal) i = argUb m c i := by entry_read; rfl
theorem entry_Uc (i : S512x1024.Idx) : (V m c main_v4 : S512x1024.Idx → EReal) i = argUc m c i := by entry_read; rfl
theorem entry_O (i : S1024x1024.Idx) : (V m c main_v5 : S1024x1024.Idx → EReal) i = argO m c i := by entry_read; rfl
theorem entry_X (i : S16384x1024.Idx) : (V m c main_arg0 : S16384x1024.Idx → EReal) i = argX m c i := by entry_read; rfl
theorem entry_M (i : S8x8x1024.Idx) : (V m c main_arg1 : S8x8x1024.Idx → EReal) i = argM m c i := by entry_read; rfl
theorem entry_Pa (i : S8192x512.Idx) : (V m c main_arg4 : S8192x512.Idx → EReal) i = argPa m c i := by entry_read; rfl
theorem entry_Sa (i : S8192x512.Idx) : (V m c main_arg5 : S8192x512.Idx → EReal) i = argSa m c i := by entry_read; rfl
theorem entry_Pb (i : S8192x512.Idx) : (V m c main_arg6 : S8192x512.Idx → EReal) i = argPb m c i := by entry_read; rfl
theorem entry_Sb (i : S8192x512.Idx) : (V m c main_arg7 : S8192x512.Idx → EReal) i = argSb m c i := by entry_read; rfl
theorem entry_Pc (i : S8192x512.Idx) : (V m c main_arg8 : S8192x512.Idx → EReal) i = argPc m c i := by entry_read; rfl
theorem entry_Sc (i : S8192x512.Idx) : (V m c main_arg9 : S8192x512.Idx → EReal) i = argSc m c i := by entry_read; rfl

theorem row_at (g : FVec Ideal S1024 .f32) (l : Fin 1024) : (shapeCast S1x1024 g shapeCasts_S1024_S1x1024 : FVec Ideal S1x1024 .f32) (ix2 0 l) = g (ix1 l) := by
  pointwise
theorem entry_G (l : Fin 1024) : (V m c main_v0 : S1x1024.Idx → EReal) (ix2 0 l) = argG m c (ix1 l) := by
  entry_read
  exact row_at _ l
theorem entry_G2 (l : Fin 1024) : (V m c main_v6 : S1x1024.Idx → EReal) (ix2 0 l) = argG2 m c (ix1 l) := by
  entry_read
  exact row_at _ l

variable (t : Fin cfg0.N) (n : Fin 16384) (r : Fin 512) (hn : n.val = (grid0.coords t 0).val * 512 + r.val)
include hn

theorem blk_X (k : Fin 1024) : (iblk m c 0 t (ix2 r k) : EReal) = argX m c (ix2 n k) := by
  rw [← entry_X]
  blk_ext [iblk, idx0 t]
theorem blk_M (p : Fin 8) (k : Fin 1024) : (iblk m c 1 t (ix3 0 p k) : EReal) = argM m c (ix3 (mrow n) p k) := by
  have h : (mrow n).val = if (grid0.coords t 0).val < 16 then 0 else 1 + ((grid0.coords t 0).val - 16) / 8 := by
    show (if n.val < 8192 then 0 else 1 + (n.val - 8192) / 4096) = _
    split <;> split <;> omega
  rw [← entry_M]
  blk_ext [iblk, idx1 t]
theorem blk_ya (k : Fin 512) : (pick (grid0.coords t) (iblk m c 4 t) (iblk m c 5 t) (ix2 r k) : EReal) = halves (argPa m c) (argSa m c) n k := by
  have hr := r.isLt
  unfold pick halves
  by_cases h : (grid0.coords t 0).val < 16
  · rw [if_pos h, dif_pos (by omega), ← entry_Pa]
    have hm : min (grid0.coords t 0).val 15 = (grid0.coords t 0).val := by omega
    blk_ext [iblk, idx4 t, hm]
  · rw [if_neg h, dif_neg (by omega), ← entry_Sa]
    blk_ext [iblk, idx5 t]
theorem blk_yb (k : Fin 512) : (pick (grid0.coords t) (iblk m c 6 t) (iblk m c 7 t) (ix2 r k) : EReal) = halves (argPb m c) (argSb m c) n k := by
  have hr := r.isLt
  unfold pick halves
  by_cases h : (grid0.coords t 0).val < 16
  · rw [if_pos h, dif_pos (by omega), ← entry_Pb]
    have hm : min (grid0.coords t 0).val 15 = (grid0.coords t 0).val := by omega
    blk_ext [iblk, idx6 t, hm]
  · rw [if_neg h, dif_neg (by omega), ← entry_Sb]
    blk_ext [iblk, idx7 t]
theorem blk_yc (k : Fin 512) : (pick (grid0.coords t) (iblk m c 8 t) (iblk m c 9 t) (ix2 r k) : EReal) = halves (argPc m c) (argSc m c) n k := by
  have hr := r.isLt
  unfold pick halves
  by_cases h : (grid0.coords t 0).val < 16
  · rw [if_pos h, dif_pos (by omega), ← entry_Pc]
    have hm : min (grid0.coords t 0).val 15 = (grid0.coords t 0).val := by omega
    blk_ext [iblk, idx8 t, hm]
  · rw [if_neg h, dif_neg (by omega), ← entry_Sc]
    blk_ext [iblk, idx9 t]
omit hn
theorem blk_W (k : Fin 1024) (j : Fin 3072) : (iblk m c 3 t (ix2 k j) : EReal) = argW m c (ix2 k j) := by
  rw [← entry_W]
  blk_ext [iblk, idx3 t]
theorem blk_Ua (k : Fin 512) (j : Fin 1024) : (iblk m c 10 t (ix2 k j) : EReal) = argUa m c (ix2 k j) := by
  rw [← entry_Ua]
  blk_ext [iblk, idx10 t]
theorem blk_Ub (k : Fin 512) (j : Fin 1024) : (iblk m c 11 t (ix2 k j) : EReal) = argUb m c (ix2 k j) := by
  rw [← entry_Ub]
  blk_ext [iblk, idx11 t]
theorem blk_Uc (k : Fin 512) (j : Fin 1024) : (iblk m c 12 t (ix2 k j) : EReal) = argUc m c (ix2 k j) := by
  rw [← entry_Uc]
  blk_ext [iblk, idx12 t]
theorem blk_O (k j : Fin 1024) : (iblk m c 13 t (ix2 k j) : EReal) = argO m c (ix2 k j) := by
  rw [← entry_O]
  blk_ext [iblk, idx13 t]
theorem blk_G (k : Fin 1024) : (iblk m c 2 t (ix2 0 k) : EReal) = argG m c (ix1 k) := by
  rw [← entry_G]
  blk_ext [iblk, idx2 t]
theorem blk_G2 (k : Fin 1024) : (iblk m c 14 t (ix2 0 k) : EReal) = argG2 m c (ix1 k) := by
  rw [← entry_G2]
  blk_ext [iblk, idx14 t]

end Cert.Mg
-- ==== Proof.Merge.Whole.lean ====
/- The merge's result arrays from its blocks. -/
module

public import proofs.«01_k».proof.Proof.Merge.Block

@[expose] public section

noncomputable section

namespace Cert.Mg

open Cert.MergeIdeal Cert.MergeIdeal.Gen Idealize.ShloMosaic Idealize.ShloMosaic.TcCoe Idealize.SL.Sem

theorem xout_of {x x' : Fin 1024 → EReal} {M M' : Fin 8 → Fin 1024 → EReal} {g g' : Fin 1024 → EReal} {W W' : Fin 1024 → Fin 3072 → EReal} {ya ya' : Fin 512 → EReal} {yb yb' : Fin 512 → EReal} {yc yc' : Fin 512 → EReal} {ua ua' : Fin 512 → Fin 1024 → EReal} {ub ub' : Fin 512 → Fin 1024 → EReal} {uc uc' : Fin 512 → Fin 1024 → EReal} {o o' : Fin 1024 → Fin 1024 → EReal}
    (hx : ∀ k, x k = x' k) (hM : ∀ p k, M p k = M' p k) (hg : ∀ k, g k = g' k) (hW : ∀ p k, W p k = W' p k) (hya : ∀ k, ya k = ya' k) (hyb : ∀ k, yb k = yb' k) (hyc : ∀ k, yc k = yc' k) (hua : ∀ p k, ua p k = ua' p k) (hub : ∀ p k, ub p k = ub' p k) (huc : ∀ p k, uc p k = uc' p k) (ho : ∀ p k, o p k = o' p k) (l : Fin 1024) :
    xout x M g W ya yb yc ua ub uc o l = xout x' M' g' W' ya' yb' yc' ua' ub' uc' o' l := by
  obtain rfl : x = x' := funext hx
  obtain rfl : M = M' := funext fun p => funext (hM p)
  obtain rfl : g = g' := funext hg
  obtain rfl : W = W' := funext fun p => funext (hW p)
  obtain rfl : ya = ya' := funext hya
  obtain rfl : yb = yb' := funext hyb
  obtain rfl : yc = yc' := funext hyc
  obtain rfl : ua = ua' := funext fun p => funext (hua p)
  obtain rfl : ub = ub' := funext fun p => funext (hub p)
  obtain rfl : uc = uc' := funext fun p => funext (huc p)
  obtain rfl : o = o' := funext fun p => funext (ho p)
  rfl

theorem xnext_of {x x' : Fin 1024 → EReal} {M M' : Fin 8 → Fin 1024 → EReal} {g g' : Fin 1024 → EReal} {W W' : Fin 1024 → Fin 3072 → EReal} {ya ya' : Fin 512 → EReal} {yb yb' : Fin 512 → EReal} {yc yc' : Fin 512 → EReal} {ua ua' : Fin 512 → Fin 1024 → EReal} {ub ub' : Fin 512 → Fin 1024 → EReal} {uc uc' : Fin 512 → Fin 1024 → EReal} {o o' : Fin 1024 → Fin 1024 → EReal} {g2 g2' : Fin 1024 → EReal}
    (hx : ∀ k, x k = x' k) (hM : ∀ p k, M p k = M' p k) (hg : ∀ k, g k = g' k) (hW : ∀ p k, W p k = W' p k) (hya : ∀ k, ya k = ya' k) (hyb : ∀ k, yb k = yb' k) (hyc : ∀ k, yc k = yc' k) (hua : ∀ p k, ua p k = ua' p k) (hub : ∀ p k, ub p k = ub' p k) (huc : ∀ p k, uc p k = uc' p k) (ho : ∀ p k, o p k = o' p k) (hg2 : ∀ k, g2 k = g2' k) (l : Fin 1024) :
    xnext x M g W ya yb yc ua ub uc o g2 l = xnext x' M' g' W' ya' yb' yc' ua' ub' uc' o' g2' l := by
  obtain rfl : x = x' := funext hx
  obtain rfl : M = M' := funext fun p => funext (hM p)
  obtain rfl : g = g' := funext hg
  obtain rfl : W = W' := funext fun p => funext (hW p)
  obtain rfl : ya = ya' := funext hya
  obtain rfl : yb = yb' := funext hyb
  obtain rfl : yc = yc' := funext hyc
  obtain rfl : ua = ua' := funext fun p => funext (hua p)
  obtain rfl : ub = ub' := funext fun p => funext (hub p)
  obtain rfl : uc = uc' := funext fun p => funext (huc p)
  obtain rfl : o = o' := funext fun p => funext (ho p)
  obtain rfl : g2 = g2' := funext hg2
  rfl

variable (m : (ℓ : Loc nD τ sig) → Buf (Elt Ideal) ℓ) (c : Dev nD)

theorem block15_at (t : Fin cfg0.N) (n : Fin 16384) (r : Fin 512) (l : Fin 1024) (hn : n.val = (grid0.coords t 0).val * 512 + r.val) :
    (out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r l) : EReal)
      = token (argX m c) (argM m c) (argG m c) (argW m c) (argPa m c) (argSa m c) (argPb m c) (argSb m c) (argPc m c) (argSc m c) (argUa m c) (argUb m c) (argUc m c) (argO m c) n l := by
  refine (out15_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r l).trans ?_
  unfold token
  exact xout_of (blk_X m c t n r hn) (blk_M m c t n r hn) (blk_G m c t) (blk_W m c t) (blk_ya m c t n r hn) (blk_yb m c t n r hn) (blk_yc m c t n r hn) (blk_Ua m c t) (blk_Ub m c t) (blk_Uc m c t) (blk_O m c t) l

theorem final15 : (dats m 0 c).arrAt 15 cfg0.N = R0 m c := by
  refine (dats m 0 c).arrAt_eq_of_covers 15 _ (by decide +kernel) fun t hf y => ?_
  blk_simp
  rw [after0_15]
  obtain ⟨r, l, rfl⟩ : ∃ (r : Fin 512) (l : Fin 1024), y = ix2 r l := ⟨y 0, y 1, eq_ix2 y⟩
  have e0 : ((win0_15.blk t).view.emb (ix2 r l) 0).val = (grid0.coords t 0).val * 512 + r.val := by blk_simp [idx15 t]
  have e1 : ((win0_15.blk t).view.emb (ix2 r l) 1).val = l.val := by blk_simp [idx15 t]
  refine (block15_at m c t _ r l e0).trans ?_
  unfold R0
  exact congrArg (token _ _ _ _ _ _ _ _ _ _ _ _ _ _ _) (Fin.ext e1.symm)

theorem block16_at (t : Fin cfg0.N) (n : Fin 16384) (r : Fin 512) (l : Fin 1024) (hn : n.val = (grid0.coords t 0).val * 512 + r.val) :
    (out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r l) : EReal)
      = next (argX m c) (argM m c) (argG m c) (argW m c) (argPa m c) (argSa m c) (argPb m c) (argSb m c) (argPc m c) (argSc m c) (argUa m c) (argUb m c) (argUc m c) (argO m c) (argG2 m c) n l := by
  refine (out16_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r l).trans ?_
  unfold next
  exact xnext_of (blk_X m c t n r hn) (blk_M m c t n r hn) (blk_G m c t) (blk_W m c t) (blk_ya m c t n r hn) (blk_yb m c t n r hn) (blk_yc m c t n r hn) (blk_Ua m c t) (blk_Ub m c t) (blk_Uc m c t) (blk_O m c t) (blk_G2 m c t) l

theorem final16 : (dats m 0 c).arrAt 16 cfg0.N = R1 m c := by
  refine (dats m 0 c).arrAt_eq_of_covers 16 _ (by decide +kernel) fun t hf y => ?_
  blk_simp
  rw [after0_16]
  obtain ⟨r, l, rfl⟩ : ∃ (r : Fin 512) (l : Fin 1024), y = ix2 r l := ⟨y 0, y 1, eq_ix2 y⟩
  have e0 : ((win0_16.blk t).view.emb (ix2 r l) 0).val = (grid0.coords t 0).val * 512 + r.val := by blk_simp [idx16 t]
  have e1 : ((win0_16.blk t).view.emb (ix2 r l) 1).val = l.val := by blk_simp [idx16 t]
  refine (block16_at m c t _ r l e0).trans ?_
  unfold R1
  exact congrArg (next _ _ _ _ _ _ _ _ _ _ _ _ _ _ _ _) (Fin.ext e1.symm)

end Cert.Mg
-- ==== Proof.Merge.RefRows.lean ====
/- The merge's reference: its modulation rows, its branches and its first norm. -/
module

public import proofs.«01_k».proof.Proof.Gen.MergeRefIdeal.Read
public import proofs.«01_k».proof.Proof.Merge.Whole
public import proofs.«01_k».proof.Proof.Dense.Ref

@[expose] public section

set_option maxRecDepth 16384

noncomputable section

namespace Cert.Mg

open Cert.MergeRefIdeal Cert.MergeRefIdeal.Gen Cert.MergeRefIdeal.Read Idealize.ShloMosaic Idealize.ShloMosaic.TcCoe
open Cert.Dn (mrow rows_at)

/-- The prompt's entries of a branch above the sample's. -/
theorem halves_at {e : EltTy} (a b : Vec Ideal S8192x512 e) (n : Fin 16384) (k : Fin 512) :
    (concatenate S16384x512 0 [⟨S8192x512, a⟩, ⟨S8192x512, b⟩] concatenates_S8192x512_S8192x512_S16384x512_d0 : Vec Ideal S16384x512 e) (ix2 n k)
      = if h : n.val < 8192 then a (ix2 ⟨n.val, h⟩ k) else b (ix2 ⟨n.val - 8192, by omega⟩ k) := by
  pointwise

variable (M : FVec Ideal S8x8x1024 .f32)

theorem mod0_at (n : Fin 16384) (l : Fin 1024) : (val_main_v7 (F := Ideal) M (ix2 n l) : EReal) = M (ix3 (mrow n) 0 l) := by
  unfold val_main_v7
  refine (rows_at _ _ n l).trans ?_
  by_cases h : n.val < 8192
  · rw [dif_pos h, val_main_v2_apply, val_main_v1_apply, val_main_v0_apply]
    refine congrArg M (funext fun a => Fin.ext ?_)
    match a with
    | ⟨0, _⟩ => show _ = (if n.val < 8192 then 0 else 1 + (n.val - 8192) / 4096); rw [if_pos h]
    | ⟨1, _⟩ => rfl
    | ⟨2, _⟩ => show (l.val % 1024) + 0 = l.val; omega
  · rw [dif_neg h, val_main_v6_apply, val_main_v5_apply, val_main_v4_apply, val_main_v3_apply]
    refine congrArg M (funext fun a => Fin.ext ?_)
    match a with
    | ⟨0, _⟩ => show _ = (if n.val < 8192 then 0 else 1 + (n.val - 8192) / 4096); rw [if_neg h]; show 1 + (((((n.val - 8192) * 1024 + l.val) / 4194304) * 1024 + (((n.val - 8192) * 1024 + l.val) % 1024)) / 1024) = _; omega
    | ⟨1, _⟩ => rfl
    | ⟨2, _⟩ => show ((((n.val - 8192) * 1024 + l.val) / 4194304) * 1024 + (((n.val - 8192) * 1024 + l.val) % 1024)) % 1024 = l.val; omega

theorem mod1_at (n : Fin 16384) (l : Fin 1024) : (val_main_v15 (F := Ideal) M (ix2 n l) : EReal) = M (ix3 (mrow n) 1 l) := by
  unfold val_main_v15
  refine (rows_at _ _ n l).trans ?_
  by_cases h : n.val < 8192
  · rw [dif_pos h, val_main_v10_apply, val_main_v9_apply, val_main_v8_apply]
    refine congrArg M (funext fun a => Fin.ext ?_)
    match a with
    | ⟨0, _⟩ => show _ = (if n.val < 8192 then 0 else 1 + (n.val - 8192) / 4096); rw [if_pos h]
    | ⟨1, _⟩ => rfl
    | ⟨2, _⟩ => show (l.val % 1024) + 0 = l.val; omega
  · rw [dif_neg h, val_main_v14_apply, val_main_v13_apply, val_main_v12_apply, val_main_v11_apply]
    refine congrArg M (funext fun a => Fin.ext ?_)
    match a with
    | ⟨0, _⟩ => show _ = (if n.val < 8192 then 0 else 1 + (n.val - 8192) / 4096); rw [if_neg h]; show 1 + (((((n.val - 8192) * 1024 + l.val) / 4194304) * 1024 + (((n.val - 8192) * 1024 + l.val) % 1024)) / 1024) = _; omega
    | ⟨1, _⟩ => rfl
    | ⟨2, _⟩ => show ((((n.val - 8192) * 1024 + l.val) / 4194304) * 1024 + (((n.val - 8192) * 1024 + l.val) % 1024)) % 1024 = l.val; omega

theorem mod2_at (n : Fin 16384) (l : Fin 1024) : (val_main_v23 (F := Ideal) M (ix2 n l) : EReal) = M (ix3 (mrow n) 2 l) := by
  unfold val_main_v23
  refine (rows_at _ _ n l).trans ?_
  by_cases h : n.val < 8192
  · rw [dif_pos h, val_main_v18_apply, val_main_v17_apply, val_main_v16_apply]
    refine congrArg M (funext fun a => Fin.ext ?_)
    match a with
    | ⟨0, _⟩ => show _ = (if n.val < 8192 then 0 else 1 + (n.val - 8192) / 4096); rw [if_pos h]
    | ⟨1, _⟩ => rfl
    | ⟨2, _⟩ => show (l.val % 1024) + 0 = l.val; omega
  · rw [dif_neg h, val_main_v22_apply, val_main_v21_apply, val_main_v20_apply, val_main_v19_apply]
    refine congrArg M (funext fun a => Fin.ext ?_)
    match a with
    | ⟨0, _⟩ => show _ = (if n.val < 8192 then 0 else 1 + (n.val - 8192) / 4096); rw [if_neg h]; show 1 + (((((n.val - 8192) * 1024 + l.val) / 4194304) * 1024 + (((n.val - 8192) * 1024 + l.val) % 1024)) / 1024) = _; omega
    | ⟨1, _⟩ => rfl
    | ⟨2, _⟩ => show ((((n.val - 8192) * 1024 + l.val) / 4194304) * 1024 + (((n.val - 8192) * 1024 + l.val) % 1024)) % 1024 = l.val; omega

theorem mod3_at (n : Fin 16384) (l : Fin 1024) : (val_main_v31 (F := Ideal) M (ix2 n l) : EReal) = M (ix3 (mrow n) 3 l) := by
  unfold val_main_v31
  refine (rows_at _ _ n l).trans ?_
  by_cases h : n.val < 8192
  · rw [dif_pos h, val_main_v26_apply, val_main_v25_apply, val_main_v24_apply]
    refine congrArg M (funext fun a => Fin.ext ?_)
    match a with
    | ⟨0, _⟩ => show _ = (if n.val < 8192 then 0 else 1 + (n.val - 8192) / 4096); rw [if_pos h]
    | ⟨1, _⟩ => rfl
    | ⟨2, _⟩ => show (l.val % 1024) + 0 = l.val; omega
  · rw [dif_neg h, val_main_v30_apply, val_main_v29_apply, val_main_v28_apply, val_main_v27_apply]
    refine congrArg M (funext fun a => Fin.ext ?_)
    match a with
    | ⟨0, _⟩ => show _ = (if n.val < 8192 then 0 else 1 + (n.val - 8192) / 4096); rw [if_neg h]; show 1 + (((((n.val - 8192) * 1024 + l.val) / 4194304) * 1024 + (((n.val - 8192) * 1024 + l.val) % 1024)) / 1024) = _; omega
    | ⟨1, _⟩ => rfl
    | ⟨2, _⟩ => show ((((n.val - 8192) * 1024 + l.val) / 4194304) * 1024 + (((n.val - 8192) * 1024 + l.val) % 1024)) % 1024 = l.val; omega

theorem mod4_at (n : Fin 16384) (l : Fin 1024) : (val_main_v39 (F := Ideal) M (ix2 n l) : EReal) = M (ix3 (mrow n) 4 l) := by
  unfold val_main_v39
  refine (rows_at _ _ n l).trans ?_
  by_cases h : n.val < 8192
  · rw [dif_pos h, val_main_v34_apply, val_main_v33_apply, val_main_v32_apply]
    refine congrArg M (funext fun a => Fin.ext ?_)
    match a with
    | ⟨0, _⟩ => show _ = (if n.val < 8192 then 0 else 1 + (n.val - 8192) / 4096); rw [if_pos h]
    | ⟨1, _⟩ => rfl
    | ⟨2, _⟩ => show (l.val % 1024) + 0 = l.val; omega
  · rw [dif_neg h, val_main_v38_apply, val_main_v37_apply, val_main_v36_apply, val_main_v35_apply]
    refine congrArg M (funext fun a => Fin.ext ?_)
    match a with
    | ⟨0, _⟩ => show _ = (if n.val < 8192 then 0 else 1 + (n.val - 8192) / 4096); rw [if_neg h]; show 1 + (((((n.val - 8192) * 1024 + l.val) / 4194304) * 1024 + (((n.val - 8192) * 1024 + l.val) % 1024)) / 1024) = _; omega
    | ⟨1, _⟩ => rfl
    | ⟨2, _⟩ => show ((((n.val - 8192) * 1024 + l.val) / 4194304) * 1024 + (((n.val - 8192) * 1024 + l.val) % 1024)) % 1024 = l.val; omega

theorem ya_at (P S : FVec Ideal S8192x512 .f32) (n : Fin 16384) (k : Fin 512) : (val_main_v40 (F := Ideal) P S (ix2 n k) : EReal) = halves P S n k := by
  unfold val_main_v40
  exact halves_at (e := .f32) P S n k

theorem yb_at (P S : FVec Ideal S8192x512 .bf16) (n : Fin 16384) (k : Fin 512) : (val_main_v41 (F := Ideal) P S (ix2 n k) : EReal) = halves P S n k := by
  unfold val_main_v41
  exact halves_at (e := .bf16) P S n k

theorem yc_at (P S : FVec Ideal S8192x512 .f32) (n : Fin 16384) (k : Fin 512) : (val_main_v42 (F := Ideal) P S (ix2 n k) : EReal) = halves P S n k := by
  unfold val_main_v42
  exact halves_at (e := .f32) P S n k

end Cert.Mg
-- ==== Proof.Merge.Ref.lean ====
/- The merge's reference, element by element. -/
module

public import proofs.«01_k».proof.Proof.Merge.RefRows

@[expose] public section

set_option maxRecDepth 16384

noncomputable section

namespace Cert.Mg

open Cert.MergeRefIdeal Cert.MergeRefIdeal.Gen Cert.MergeRefIdeal.Read Idealize.ShloMosaic Idealize.ShloMosaic.TcCoe
open Cert.Dn (mrow)

variable (X : FVec Ideal S16384x1024 .f32) (M : FVec Ideal S8x8x1024 .f32) (g g2 : FVec Ideal S1024 .f32) (W : FVec Ideal S1024x3072 .f32)
  (Pa Sa Pc Sc : FVec Ideal S8192x512 .f32) (Pb Sb : FVec Ideal S8192x512 .bf16) (Ua Ub Uc : FVec Ideal S512x1024 .f32) (O : FVec Ideal S1024x1024 .f32)

theorem zero_bits : (FloatOps.ofBits (F := Ideal) .f32 0x00000000#32 : EReal) = 0 := Ideal.ofBits_zero_f32

/-- The reciprocal root of a token's mean square. -/
theorem root_at (n : Fin 16384) (d : Fin 1024) : (val_main_v51 (F := Ideal) X (ix2 n d) : EReal) = rsq (∑ k, X (ix2 n k) * X (ix2 n k)) := by
  rw [val_main_v51_apply, val_main_v50_apply, val_main_v49_apply, val_main_v47_apply, val_main_v45_apply, val_main_v46_apply, val_main_cst_0_apply,
    val_main_v48_apply, val_main_cst_1_apply, val_main_v44_apply, val_main_cst_apply, zero_bits, zero_add]
  refine congrArg rsq (Finset.sum_congr rfl fun k _ => ?_)
  have e : idx_main_v44 (idx_main_v45 (idx_main_v51 (ix2 n d))) k = ix2 n k := by
    funext a
    match a with
    | ⟨0, _⟩ => rfl
    | ⟨1, _⟩ => rfl
  rw [e]
  rfl

/-- A normalised entry from its parts. -/
theorem norm_of {x : Fin 1024 → EReal} {r q u s b g' s' b' : EReal} {d : Fin 1024} (hr : r = rsq (∑ k, x k * x k)) (hg : q = g') (hu : u = 1) (hs : s = s') (hb : b = b') :
    x d * r * q * (u + s) + b = norm x g' s' b' d := by
  rw [hr, hg, hu, hs, hb, norm]

theorem xm_at (n : Fin 16384) (d : Fin 1024) :
    (val_main_v59 (F := Ideal) X M g (ix2 n d) : EReal)
      = xmid (fun k => X (ix2 n k)) (fun p k => M (ix3 (mrow n) p k)) (fun k => g (ix1 k)) d := by
  rw [val_main_v59_apply, val_main_v58_apply, val_main_v55_apply, val_main_v52_apply, val_main_v57_apply]
  unfold xmid
  refine norm_of (x := fun k => X (ix2 n k)) (root_at X n d) ?_ ?_ (mod1_at M n d) (mod0_at M n d)
  · rw [val_main_v54_apply, val_main_v53_apply]
    refine congrArg g (funext fun a => ?_)
    match a with
    | ⟨0, _⟩ => rfl
  · rw [val_main_v56_apply, val_main_cst_2_apply]
    exact Ideal.ofBits_one_f32

/-- A gate. -/
theorem gate_at (n : Fin 16384) (j : Fin 3072) :
    (val_main_v66 (F := Ideal) X M g W (ix2 n j) : EReal)
      = Swi.sig (∑ k, xmid (fun k => X (ix2 n k)) (fun p k => M (ix3 (mrow n) p k)) (fun k => g (ix1 k)) k * W (ix2 k j)) := by
  have h : (val_main_v60 (F := Ideal) X M g W (ix2 n j) : EReal)
      = ∑ k, xmid (fun k => X (ix2 n k)) (fun p k => M (ix3 (mrow n) p k)) (fun k => g (ix1 k)) k * W (ix2 k j) := by
    rw [val_main_v60_apply]
    refine Finset.sum_congr rfl fun k _ => ?_
    rw [← xm_at]
    refine congr (congrArg _ (congrArg (val_main_v59 (F := Ideal) X M g) (funext fun a => ?_))) (congrArg W (funext fun a => ?_))
    · match a with
      | ⟨0, _⟩ => rfl
      | ⟨1, _⟩ => rfl
    · match a with
      | ⟨0, _⟩ => rfl
      | ⟨1, _⟩ => rfl
  rw [val_main_v66_apply, val_main_v65_apply, val_main_cst_4_apply, val_main_v64_apply, val_main_v63_apply, val_main_cst_3_apply, val_main_v62_apply,
    val_main_v61_apply, h, ← Swi.sig_eq, ← Ideal.ofBits_one_f32]
  rfl

theorem parta_at (n : Fin 16384) (j : Fin 1024) :
    (val_main_v69 (F := Ideal) X M g W Pa Sa Ua (ix2 n j) : EReal)
      = branch (xmid (fun k => X (ix2 n k)) (fun p k => M (ix3 (mrow n) p k)) (fun k => g (ix1 k))) (fun k => W (ix2 k ⟨j.val, by omega⟩)) (halves Pa Sa n) (fun k => Ua (ix2 k j)) := by
  rw [val_main_v69_apply, val_main_v67_apply]
  have e : idx_main_v67 (ix2 n j) = ix2 n ⟨j.val, by omega⟩ := by
    funext a
    match a with
    | ⟨0, _⟩ => exact Fin.ext (by show n.val + 0 = n.val; omega)
    | ⟨1, _⟩ => exact Fin.ext (by show _ = j.val; rfl)
  rw [e, gate_at]
  refine congrArg (fun z : EReal => Swi.sig _ * z) ?_
  rw [val_main_v68_apply]
  refine Finset.sum_congr rfl fun k _ => ?_
  rw [← ya_at]
  refine congr (congrArg _ (congrArg (val_main_v40 (F := Ideal) Pa Sa) (funext fun a => ?_))) (congrArg Ua (funext fun a => ?_))
  · match a with
    | ⟨0, _⟩ => rfl
    | ⟨1, _⟩ => rfl
  · match a with
    | ⟨0, _⟩ => rfl
    | ⟨1, _⟩ => rfl

theorem partb_at (n : Fin 16384) (j : Fin 1024) :
    (val_main_v72 (F := Ideal) X M g W Pb Sb Ub (ix2 n j) : EReal)
      = branch (xmid (fun k => X (ix2 n k)) (fun p k => M (ix3 (mrow n) p k)) (fun k => g (ix1 k))) (fun k => W (ix2 k ⟨1024 + j.val, by omega⟩)) (halves Pb Sb n) (fun k => Ub (ix2 k j)) := by
  rw [val_main_v72_apply, val_main_v70_apply]
  have e : idx_main_v70 (ix2 n j) = ix2 n ⟨1024 + j.val, by omega⟩ := by
    funext a
    match a with
    | ⟨0, _⟩ => exact Fin.ext (by show n.val + 0 = n.val; omega)
    | ⟨1, _⟩ => exact Fin.ext (by show _ = 1024 + j.val; rfl)
  rw [e, gate_at]
  refine congrArg (fun z : EReal => Swi.sig _ * z) ?_
  rw [val_main_v71_apply]
  refine Finset.sum_congr rfl fun k _ => ?_
  rw [← yb_at]
  refine congr (congrArg _ (congrArg (val_main_v41 (F := Ideal) Pb Sb) (funext fun a => ?_))) (congrArg Ub (funext fun a => ?_))
  · match a with
    | ⟨0, _⟩ => rfl
    | ⟨1, _⟩ => rfl
  · match a with
    | ⟨0, _⟩ => rfl
    | ⟨1, _⟩ => rfl

theorem partc_at (n : Fin 16384) (j : Fin 1024) :
    (val_main_v76 (F := Ideal) X M g W Pc Sc Uc (ix2 n j) : EReal)
      = branch (xmid (fun k => X (ix2 n k)) (fun p k => M (ix3 (mrow n) p k)) (fun k => g (ix1 k))) (fun k => W (ix2 k ⟨2048 + j.val, by omega⟩)) (halves Pc Sc n) (fun k => Uc (ix2 k j)) := by
  rw [val_main_v76_apply, val_main_v74_apply]
  have e : idx_main_v74 (ix2 n j) = ix2 n ⟨2048 + j.val, by omega⟩ := by
    funext a
    match a with
    | ⟨0, _⟩ => exact Fin.ext (by show n.val + 0 = n.val; omega)
    | ⟨1, _⟩ => exact Fin.ext (by show _ = 2048 + j.val; rfl)
  rw [e, gate_at]
  refine congrArg (fun z : EReal => Swi.sig _ * z) ?_
  rw [val_main_v75_apply]
  refine Finset.sum_congr rfl fun k _ => ?_
  rw [← yc_at]
  refine congr (congrArg _ (congrArg (val_main_v42 (F := Ideal) Pc Sc) (funext fun a => ?_))) (congrArg Uc (funext fun a => ?_))
  · match a with
    | ⟨0, _⟩ => rfl
    | ⟨1, _⟩ => rfl
  · match a with
    | ⟨0, _⟩ => rfl
    | ⟨1, _⟩ => rfl

theorem merged_at (n : Fin 16384) (j : Fin 1024) :
    (val_main_v77 (F := Ideal) X M g W Pa Sa Pb Sb Pc Sc Ua Ub Uc (ix2 n j) : EReal)
      = merged (xmid (fun k => X (ix2 n k)) (fun p k => M (ix3 (mrow n) p k)) (fun k => g (ix1 k))) (fun k c => W (ix2 k c)) (halves Pa Sa n) (halves Pb Sb n) (halves Pc Sc n)
          (fun k j => Ua (ix2 k j)) (fun k j => Ub (ix2 k j)) (fun k j => Uc (ix2 k j)) j := by
  rw [val_main_v77_apply, val_main_v73_apply, parta_at, partb_at, partc_at]
  rfl

/-- The first result is the merged residual. -/
theorem token_at (n : Fin 16384) (l : Fin 1024) :
    (val_main_v80 (F := Ideal) X M g W Pa Sa Pb Sb Pc Sc Ua Ub Uc O (ix2 n l) : EReal) = token X M g W Pa Sa Pb Sb Pc Sc Ua Ub Uc O n l := by
  rw [val_main_v80_apply, val_main_v79_apply, mod2_at]
  unfold token xout
  refine congrArg (fun z : EReal => X (ix2 n l) + M (ix3 (mrow n) 2 l) * z) ?_
  rw [val_main_v78_apply]
  refine Finset.sum_congr rfl fun k _ => ?_
  rw [← merged_at]
  refine congr (congrArg _ (congrArg (val_main_v77 (F := Ideal) X M g W Pa Sa Pb Sb Pc Sc Ua Ub Uc) (funext fun a => ?_))) (congrArg O (funext fun a => ?_))
  · match a with
    | ⟨0, _⟩ => rfl
    | ⟨1, _⟩ => rfl
  · match a with
    | ⟨0, _⟩ => rfl
    | ⟨1, _⟩ => rfl

theorem root2_at (n : Fin 16384) (d : Fin 1024) : (val_main_v89 (F := Ideal) X M g W Pa Sa Pb Sb Pc Sc Ua Ub Uc O (ix2 n d) : EReal)
    = rsq (∑ k, token X M g W Pa Sa Pb Sb Pc Sc Ua Ub Uc O n k * token X M g W Pa Sa Pb Sb Pc Sc Ua Ub Uc O n k) := by
  rw [val_main_v89_apply, val_main_v88_apply, val_main_v87_apply, val_main_v85_apply, val_main_v83_apply, val_main_v84_apply, val_main_cst_6_apply,
    val_main_v86_apply, val_main_cst_7_apply, val_main_v82_apply, val_main_cst_5_apply, zero_bits, zero_add]
  refine congrArg rsq (Finset.sum_congr rfl fun k _ => ?_)
  have e : idx_main_v82 (idx_main_v83 (idx_main_v89 (ix2 n d))) k = ix2 n k := by
    funext a
    match a with
    | ⟨0, _⟩ => rfl
    | ⟨1, _⟩ => rfl
  rw [e, val_main_v81_apply, token_at]
  rfl

/-- The second result is the token normalised for the feed-forward. -/
theorem next_at (n : Fin 16384) (d : Fin 1024) :
    (val_main_v98 (F := Ideal) X M g W Pa Sa Pb Sb Pc Sc Ua Ub Uc O g2 (ix2 n d) : EReal) = next X M g W Pa Sa Pb Sb Pc Sc Ua Ub Uc O g2 n d := by
  rw [val_main_v98_apply, val_main_v97_apply, val_main_v96_apply, val_main_v93_apply, val_main_v90_apply, val_main_v95_apply, token_at]
  unfold next xnext
  refine norm_of (x := token X M g W Pa Sa Pb Sb Pc Sc Ua Ub Uc O n) (root2_at X M g W Pa Sa Pc Sc Pb Sb Ua Ub Uc O n d) ?_ ?_ (mod4_at M n d) (mod3_at M n d)
  · rw [val_main_v92_apply, val_main_v91_apply]
    refine congrArg g2 (funext fun a => ?_)
    match a with
    | ⟨0, _⟩ => rfl
  · rw [val_main_v94_apply, val_main_cst_8_apply]
    exact Ideal.ofBits_one_f32

theorem ref0_eq : (val_main_v80 (F := Ideal) X M g W Pa Sa Pb Sb Pc Sc Ua Ub Uc O : S16384x1024.Idx → EReal) = fun i => token X M g W Pa Sa Pb Sb Pc Sc Ua Ub Uc O (i 0) (i 1) := by
  funext i
  obtain ⟨n, l, rfl⟩ : ∃ (n : Fin 16384) (l : Fin 1024), i = ix2 n l := ⟨i 0, i 1, eq_ix2 i⟩
  exact token_at X M g W Pa Sa Pc Sc Pb Sb Ua Ub Uc O n l

theorem ref1_eq : (val_main_v98 (F := Ideal) X M g W Pa Sa Pb Sb Pc Sc Ua Ub Uc O g2 : S16384x1024.Idx → EReal) = fun i => next X M g W Pa Sa Pb Sb Pc Sc Ua Ub Uc O g2 (i 0) (i 1) := by
  funext i
  obtain ⟨n, l, rfl⟩ : ∃ (n : Fin 16384) (l : Fin 1024), i = ix2 n l := ⟨i 0, i 1, eq_ix2 i⟩
  exact next_at X M g g2 W Pa Sa Pc Sc Pb Sb Ua Ub Uc O n l

end Cert.Mg
-- ==== Proof.Merge.Claims.lean ====
/- The merge's claims: both programs run and leave the same two arrays. -/
module

public import proofs.«01_k».proof.Proof.Merge.Ref
public import proofs.«01_k».proof.Proof.Gen.Merge.Frame
public import proofs.«01_k».proof.Proof.Gen.MergeRefIdeal.Run
public import proofs.«01_k».proof.Defs

@[expose] public section

noncomputable section

namespace Cert.Mg

open Idealize.ShloMosaic Idealize.ShloMosaic.TcCoe Idealize.SL.Sem

theorem frame : @Cert.quiescent_Merge Cert.Merge.Gen.facts := fun m g _ => Cert.Merge.Gen.frame m g

theorem frame_ideal : @Cert.quiescent_MergeIdeal Cert.MergeIdeal.Gen.facts := fun m g _ => Cert.MergeIdeal.Gen.frame m g

/-- The reference runs, keeps its arguments and ends with every counter at zero. -/
theorem frame_ref : @Cert.quiescent_MergeRefIdeal Cert.MergeRefIdeal.Gen.facts := fun m g _ =>
  (θ_run Cert.MergeRefIdeal.defs _ _).mono (fun r h => ⟨fun c => (h c).2.2, sem_eq_zero_of_no_sems (by decide) r.2⟩)
    (Cert.MergeRefIdeal.Value.run (F := Ideal) m g)

/-- The kernel and the reference end with the same two arrays. -/
theorem algebraic : @Cert.algebraic_MergeIdeal_MergeRefIdeal Cert.MergeIdeal.Gen.facts Cert.MergeRefIdeal.Gen.facts := by
  intro m g m' g' _ hagree
  refine ⟨fun c => R0 m c, fun c => R1 m c, (θ_run _ _ _).mono (fun r h c => ⟨(h c).1.trans (final15 m c), (h c).2.1.trans (final16 m c), (h c).2.2⟩)
    (Cert.MergeIdeal.Value.run_blocks (F := Ideal) m g), ?_⟩
  refine (θ_run _ _ _).mono (fun r h c => ?_) (Cert.MergeRefIdeal.Value.run (F := Ideal) m' g')
  refine ⟨(h c).1.trans ?_, (h c).2.1.trans ?_, (h c).2.2⟩
  · refine (Cert.MergeRefIdeal.Read.val_main_v80_eq (F := Ideal) m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
    exact ref0_eq _ _ _ _ _ _ _ _ _ _ _ _ _ _
  · refine (Cert.MergeRefIdeal.Read.val_main_v98_eq (F := Ideal) m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
    exact ref1_eq _ _ _ _ _ _ _ _ _ _ _ _ _ _ _

end Cert.Mg
-- ==== Proof.HeadsIdeal.Frame.lean ====
/- The projections' call of `HeadsIdeal`: its run, and what each window holds after a point. -/
module

public import proofs.«01_k».proof.Proof.Gen.HeadsIdeal.Launch
public import proofs.«01_k».proof.Proof.Gen.HeadsIdeal.Skeleton
public import proofs.«01_k».proof.Proof.Gen.HeadsIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.HeadsIdeal.Own

open Cert.HeadsIdeal Cert.HeadsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What a point computes from its blocks -/

abbrev at0 : Rect S512x1024 := Rect.unit (s := S512x1024) ![0, 0] S512x1024.size inb_S512x1024_S512x1024_0_0
abbrev at1 : Rect S1x1024 := Rect.unit (s := S1x1024) ![0, 0] S1x1024.size inb_S1x1024_S1x1024_0_0
abbrev at2 : Rect S1x8x1024 := Rect.unit (s := S1x8x1024) ![0, 1, 0] S1x1x1024.size inb_S1x8x1024_S1x1x1024_0_1_0
abbrev at3 : Rect S1x8x1024 := Rect.unit (s := S1x8x1024) ![0, 0, 0] S1x1x1024.size inb_S1x8x1024_S1x1x1024_0_0_0
abbrev at4 : Rect S1024x2688 := Rect.unit (s := S1024x2688) ![0, 0] S1024x512.size inb_S1024x2688_S1024x512_0_0
abbrev at5 : Rect S512x512 := Rect.unit (s := S512x512) ![0, 0] S512x512.size inb_S512x512_S512x512_0_0
abbrev at6 : Rect S1024x2688 := Rect.unit (s := S1024x2688) ![0, 512] S1024x256.size inb_S1024x2688_S1024x256_0_512
abbrev at7 : Rect S1024x2688 := Rect.unit (s := S1024x2688) ![0, 768] S1024x128.size inb_S1024x2688_S1024x128_0_768
abbrev at8 : Rect S1024x2688 := Rect.unit (s := S1024x2688) ![0, 896] S1024x128.size inb_S1024x2688_S1024x128_0_896
abbrev at9 : Rect S1024x2688 := Rect.unit (s := S1024x2688) ![0, 1024] S1024x128.size inb_S1024x2688_S1024x128_0_1024
abbrev at10 : Rect S1024x2688 := Rect.unit (s := S1024x2688) ![0, 1152] S1024x1536.size inb_S1024x2688_S1024x1536_0_1152
abbrev at11 : Rect S512x1536 := Rect.unit (s := S512x1536) ![0, 0] S512x1536.size inb_S512x1536_S512x1536_0_0
abbrev at12 : Rect S1x128 := Rect.unit (s := S1x128) ![0, 0] S1x128.size inb_S1x128_S1x128_0_0
abbrev at13 : Rect S512x128 := Rect.unit (s := S512x128) ![0, 0] S512x128.size inb_S512x128_S512x128_0_0
abbrev at14 : Rect S1x256 := Rect.unit (s := S1x256) ![0, 0] S1x256.size inb_S1x256_S1x256_0_0
abbrev at15 : Rect S128x512 := Rect.unit (s := S128x512) ![0, 0] S128x512.size inb_S128x512_S128x512_0_0
abbrev at16 : Rect S8x128 := Rect.unit (s := S8x128) ![0, 0] S1x128.size inb_S8x128_S1x128_0_0
abbrev at17 : Rect S8x128 := Rect.unit (s := S8x128) ![1, 0] S1x128.size inb_S8x128_S1x128_1_0
abbrev at18 : Rect S256x1024 := Rect.unit (s := S256x1024) ![0, 0] S256x256.size inb_S256x1024_S256x256_0_0
abbrev at19 : Rect S128x1024 := Rect.unit (s := S128x1024) ![0, 0] S128x256.size inb_S128x1024_S128x256_0_0
abbrev at20 : Rect S512x1024 := Rect.unit (s := S512x1024) ![0, 0] S512x128.size inb_S512x1024_S512x128_0_0
abbrev at21 : Rect S512x1024 := Rect.unit (s := S512x1024) ![0, 128] S512x128.size inb_S512x1024_S512x128_0_128
abbrev at22 : Rect S256x1024 := Rect.unit (s := S256x1024) ![0, 256] S256x256.size inb_S256x1024_S256x256_0_256
abbrev at23 : Rect S128x1024 := Rect.unit (s := S128x1024) ![0, 256] S128x256.size inb_S128x1024_S128x256_0_256
abbrev at24 : Rect S512x1024 := Rect.unit (s := S512x1024) ![0, 256] S512x128.size inb_S512x1024_S512x128_0_256
abbrev at25 : Rect S512x1024 := Rect.unit (s := S512x1024) ![0, 384] S512x128.size inb_S512x1024_S512x128_0_384
abbrev at26 : Rect S256x1024 := Rect.unit (s := S256x1024) ![0, 512] S256x256.size inb_S256x1024_S256x256_0_512
abbrev at27 : Rect S128x1024 := Rect.unit (s := S128x1024) ![0, 512] S128x256.size inb_S128x1024_S128x256_0_512
abbrev at28 : Rect S512x1024 := Rect.unit (s := S512x1024) ![0, 512] S512x128.size inb_S512x1024_S512x128_0_512
abbrev at29 : Rect S512x1024 := Rect.unit (s := S512x1024) ![0, 640] S512x128.size inb_S512x1024_S512x128_0_640
abbrev at30 : Rect S256x1024 := Rect.unit (s := S256x1024) ![0, 768] S256x256.size inb_S256x1024_S256x256_0_768
abbrev at31 : Rect S128x1024 := Rect.unit (s := S128x1024) ![0, 768] S128x256.size inb_S128x1024_S128x256_0_768
abbrev at32 : Rect S512x1024 := Rect.unit (s := S512x1024) ![0, 768] S512x128.size inb_S512x1024_S512x128_0_768
abbrev at33 : Rect S512x1024 := Rect.unit (s := S512x1024) ![0, 896] S512x128.size inb_S512x1024_S512x128_0_896

section
variable (x0 : Vec F S512x1024 .f32) (x1 : Vec F S1x8x1024 .f32) (x2 : Vec F S1x1024 .f32) (x3 : Vec F S1024x2688 .bf16) (x4 : Vec F S1x128 .f32) (x5 : Vec F S1x256 .f32) (x6 : Vec F S256x1024 .bf16) (x7 : Vec F S256x1024 .bf16) (x8 : Vec F S8x128 .f32) (x9 : Vec F S128x1024 .bf16) (x10 : Vec F S8x128 .f32) (x11 : Vec F S128x512 .bf16) (x12 : Vec F S512x128 .f32) (x13 : Vec F S512x128 .f32)

def modRows : FVec F S512x1024 .bf16 := k0_pay2 (View.ld x0 at0) (View.ld x2 at1) (View.ld x1 at2) (View.ld x1 at3)
def qRows : FVec F S512x256 .f32 := k0_pay4 (View.ld x0 at0) (View.ld x2 at1) (View.ld x1 at2) (View.ld x1 at3) (View.ld x3 at6)
def krRows : FVec F S512x128 .f32 := k0_pay5 (modRows x0 x1 x2) (View.ld x3 at8)
def krSwap : FVec F S512x128 .f32 := k0_pay6 (modRows x0 x1 x2) (View.ld x3 at9)
def cRows : FVec F S512x128 .f32 := k0_pay8 (modRows x0 x1 x2) (View.ld x3 at7) (View.ld x4 at12)
def qNormed : FVec F S512x256 .bf16 := k0_pay11 (qRows x0 x1 x2 x3) (k0_pay9 (View.ld x5 at14)) (k0_pay10 (qRows x0 x1 x2 x3))
def cNormed : FVec F S512x128 .bf16 := k0_pay12 (cRows x0 x1 x2 x3 x4)
def sinRows : FVec F S512x128 .f32 := k0_pay15 (View.ld x13 at13)
def gainCq : FVec F S512x128 .f32 := k0_pay16 (View.ld x12 at13) (View.ld x8 at16)
def gainSq : FVec F S512x128 .f32 := k0_pay17 (View.ld x13 at13) (View.ld x8 at17)
def gainCk : FVec F S512x128 .f32 := k0_pay18 (View.ld x12 at13) (View.ld x10 at16)
def gainRow : FVec F S1x128 .f32 := k0_pay19 (View.ld x10 at17)
def gainSk : FVec F S512x128 .f32 := k0_pay20 (sinRows x13) (gainRow x10)
def qPair1 : FVec F S512x256 .f32 := k0_pay31 (qNormed x0 x1 x2 x3 x5) (View.ld x6 at22)
def qPair2 : FVec F S512x256 .f32 := k0_pay41 (qNormed x0 x1 x2 x3 x5) (View.ld x6 at26)
def qSwap2 : FVec F S512x256 .f32 := k0_pay42 (qNormed x0 x1 x2 x3 x5) (View.ld x7 at26)
def kPair2 : FVec F S512x256 .f32 := k0_pay43 (cNormed x0 x1 x2 x3 x4) (View.ld x9 at27)
def kPair3 : FVec F S512x256 .f32 := k0_pay54 (cNormed x0 x1 x2 x3 x4) (View.ld x9 at31)
def left14 : Vec F S512x512 .f32 :=
  View.canon [⟨at5, k0_pay3 (View.ld x0 at0) (View.ld x2 at1) (View.ld x1 at2) (View.ld x1 at3) (View.ld x3 at4)⟩]
def left15 : Vec F S512x1536 .f32 :=
  View.canon [⟨at11, k0_pay7 (modRows x0 x1 x2) (View.ld x3 at10)⟩]
def left16 : Vec F S512x128 .f32 :=
  View.canon [⟨at13, k0_pay8 (modRows x0 x1 x2) (View.ld x3 at7) (View.ld x4 at12)⟩]
def left17 : Vec F S512x128 .f32 :=
  View.canon [⟨at13, k0_pay5 (modRows x0 x1 x2) (View.ld x3 at8)⟩]
def left18 : Vec F S512x1024 .bf16 :=
  View.canon [⟨at33, k0_pay60 (gainCq x8 x12) (gainSq x8 x13) (k0_pay52 (qNormed x0 x1 x2 x3 x5) (View.ld x6 at30)) (k0_pay53 (qNormed x0 x1 x2 x3 x5) (View.ld x7 at30))⟩,
    ⟨at32, k0_pay58 (gainCq x8 x12) (gainSq x8 x13) (k0_pay55 (qNormed x0 x1 x2 x3 x5) (View.ld x6 at30)) (k0_pay56 (qNormed x0 x1 x2 x3 x5) (View.ld x7 at30)) (k0_pay57 (qNormed x0 x1 x2 x3 x5) (View.ld x6 at30)) (Scalar.ofBits .f32 0x358637BD#32)⟩,
    ⟨at29, k0_pay50 (gainSq x8 x13) (k0_pay47 (qSwap2 x0 x1 x2 x3 x5 x7)) (k0_pay48 (qPair2 x0 x1 x2 x3 x5 x6)) (k0_pay49 (gainCq x8 x12) (qPair2 x0 x1 x2 x3 x5 x6))⟩,
    ⟨at28, k0_pay44 (gainCq x8 x12) (gainSq x8 x13) (qPair2 x0 x1 x2 x3 x5 x6) (qSwap2 x0 x1 x2 x3 x5 x7)⟩,
    ⟨at25, k0_pay39 (gainCq x8 x12) (gainSq x8 x13) (k0_pay36 (qPair1 x0 x1 x2 x3 x5 x6)) (k0_pay37 (qNormed x0 x1 x2 x3 x5) (View.ld x7 at22)) (k0_pay38 (qPair1 x0 x1 x2 x3 x5 x6))⟩,
    ⟨at24, k0_pay34 (qNormed x0 x1 x2 x3 x5) (gainCq x8 x12) (gainSq x8 x13) (qPair1 x0 x1 x2 x3 x5 x6) (View.ld x7 at22)⟩,
    ⟨at21, k0_pay29 (gainCq x8 x12) (gainSq x8 x13) (k0_pay21 (qNormed x0 x1 x2 x3 x5) (View.ld x6 at18)) (k0_pay22 (qNormed x0 x1 x2 x3 x5) (View.ld x7 at18))⟩,
    ⟨at20, k0_pay24 (qNormed x0 x1 x2 x3 x5) (gainCq x8 x12) (gainSq x8 x13) (View.ld x6 at18) (View.ld x7 at18)⟩]
def left19 : Vec F S512x1024 .bf16 :=
  View.canon [⟨at33, k0_pay1 (krRows x0 x1 x2 x3) (krSwap x0 x1 x2 x3) (gainCk x10 x12) (gainSk x10 x13) (k0_pay61 (kPair3 x0 x1 x2 x3 x4 x9))⟩,
    ⟨at32, k0_pay59 (krRows x0 x1 x2 x3) (krSwap x0 x1 x2 x3) (gainCk x10 x12) (gainSk x10 x13) (kPair3 x0 x1 x2 x3 x4 x9)⟩,
    ⟨at29, k0_pay51 (krRows x0 x1 x2 x3) (krSwap x0 x1 x2 x3) (gainCk x10 x12) (gainSk x10 x13) (kPair2 x0 x1 x2 x3 x4 x9)⟩,
    ⟨at28, k0_pay45 (krRows x0 x1 x2 x3) (krSwap x0 x1 x2 x3) (gainCk x10 x12) (gainSk x10 x13) (kPair2 x0 x1 x2 x3 x4 x9)⟩,
    ⟨at25, k0_pay40 (krRows x0 x1 x2 x3) (krSwap x0 x1 x2 x3) (gainCk x10 x12) (gainSk x10 x13) (k0_pay33 (cNormed x0 x1 x2 x3 x4) (View.ld x9 at23))⟩,
    ⟨at24, k0_pay35 (krRows x0 x1 x2 x3) (krSwap x0 x1 x2 x3) (cNormed x0 x1 x2 x3 x4) (gainCk x10 x12) (gainSk x10 x13) (View.ld x9 at23)⟩,
    ⟨at21, k0_pay30 (krRows x0 x1 x2 x3) (krSwap x0 x1 x2 x3) (gainCk x10 x12) (gainSk x10 x13) (k0_pay23 (cNormed x0 x1 x2 x3 x4) (View.ld x9 at19))⟩,
    ⟨at20, k0_pay28 (k0_pay26 (krRows x0 x1 x2 x3) (krSwap x0 x1 x2 x3) (cNormed x0 x1 x2 x3 x4) (sinRows x13) (gainCk x10 x12) (gainRow x10) (View.ld x9 at19)) (k0_pay27 (krRows x0 x1 x2 x3) (cNormed x0 x1 x2 x3 x4) (View.ld x9 at19))⟩]
def left20 : Vec F S512x512 .bf16 :=
  View.canon [⟨at5, k0_pay13 (cRows x0 x1 x2 x3 x4) (View.ld x11 at15)⟩]
end

/-! ## The stores cover their blocks -/

theorem covered14 (p0 : Vec F S512x512 .f32) (y : S512x512.Idx) :
    ∃ pc ∈ ([⟨at5, p0⟩] : List (View.Piece (Elt F) S512x512 .f32)), y ∈ pc.1.set :=
  View.cover_of_tiled [⟨at5, p0⟩] S512x512.size (by rfl) y
theorem covered15 (p0 : Vec F S512x1536 .f32) (y : S512x1536.Idx) :
    ∃ pc ∈ ([⟨at11, p0⟩] : List (View.Piece (Elt F) S512x1536 .f32)), y ∈ pc.1.set :=
  View.cover_of_tiled [⟨at11, p0⟩] S512x1536.size (by rfl) y
theorem covered16 (p0 : Vec F S512x128 .f32) (y : S512x128.Idx) :
    ∃ pc ∈ ([⟨at13, p0⟩] : List (View.Piece (Elt F) S512x128 .f32)), y ∈ pc.1.set :=
  View.cover_of_tiled [⟨at13, p0⟩] S512x128.size (by rfl) y
theorem covered17 (p0 : Vec F S512x128 .f32) (y : S512x128.Idx) :
    ∃ pc ∈ ([⟨at13, p0⟩] : List (View.Piece (Elt F) S512x128 .f32)), y ∈ pc.1.set :=
  View.cover_of_tiled [⟨at13, p0⟩] S512x128.size (by rfl) y
theorem covered18 (p0 p1 p2 p3 p4 p5 p6 p7 : Vec F S512x128 .bf16) (y : S512x1024.Idx) :
    ∃ pc ∈ ([⟨at33, p0⟩, ⟨at32, p1⟩, ⟨at29, p2⟩, ⟨at28, p3⟩, ⟨at25, p4⟩, ⟨at24, p5⟩, ⟨at21, p6⟩, ⟨at20, p7⟩] : List (View.Piece (Elt F) S512x1024 .bf16)), y ∈ pc.1.set :=
  View.cover_of_tiled [⟨at33, p0⟩, ⟨at32, p1⟩, ⟨at29, p2⟩, ⟨at28, p3⟩, ⟨at25, p4⟩, ⟨at24, p5⟩, ⟨at21, p6⟩, ⟨at20, p7⟩] S512x128.size (by rfl) y
theorem covered19 (p0 p1 p2 p3 p4 p5 p6 p7 : Vec F S512x128 .bf16) (y : S512x1024.Idx) :
    ∃ pc ∈ ([⟨at33, p0⟩, ⟨at32, p1⟩, ⟨at29, p2⟩, ⟨at28, p3⟩, ⟨at25, p4⟩, ⟨at24, p5⟩, ⟨at21, p6⟩, ⟨at20, p7⟩] : List (View.Piece (Elt F) S512x1024 .bf16)), y ∈ pc.1.set :=
  View.cover_of_tiled [⟨at33, p0⟩, ⟨at32, p1⟩, ⟨at29, p2⟩, ⟨at28, p3⟩, ⟨at25, p4⟩, ⟨at24, p5⟩, ⟨at21, p6⟩, ⟨at20, p7⟩] S512x128.size (by rfl) y
theorem covered20 (p0 : Vec F S512x512 .bf16) (y : S512x512.Idx) :
    ∃ pc ∈ ([⟨at5, p0⟩] : List (View.Piece (Elt F) S512x512 .bf16)), y ∈ pc.1.set :=
  View.cover_of_tiled [⟨at5, p0⟩] S512x512.size (by rfl) y

set_option maxHeartbeats 1000000 in
/-- The body, run on whole staging buffers. -/
theorem body_runs (c : Dev nD) (E : Set ℕ) (i : grid0.Coords) (a0 : Memref sig .tc .vmem S512x1024 .f32) (h0 : a0.IsWhole) (a1 : Memref sig .tc .vmem S1x8x1024 .f32) (h1 : a1.IsWhole) (a2 : Memref sig .tc .vmem S1x1024 .f32) (h2 : a2.IsWhole) (a3 : Memref sig .tc .vmem S1024x2688 .bf16) (h3 : a3.IsWhole) (a4 : Memref sig .tc .vmem S1x128 .f32) (h4 : a4.IsWhole) (a5 : Memref sig .tc .vmem S1x256 .f32) (h5 : a5.IsWhole) (a6 : Memref sig .tc .vmem S256x1024 .bf16) (h6 : a6.IsWhole) (a7 : Memref sig .tc .vmem S256x1024 .bf16) (h7 : a7.IsWhole) (a8 : Memref sig .tc .vmem S8x128 .f32) (h8 : a8.IsWhole) (a9 : Memref sig .tc .vmem S128x1024 .bf16) (h9 : a9.IsWhole) (a10 : Memref sig .tc .vmem S8x128 .f32) (h10 : a10.IsWhole) (a11 : Memref sig .tc .vmem S128x512 .bf16) (h11 : a11.IsWhole) (a12 : Memref sig .tc .vmem S512x128 .f32) (h12 : a12.IsWhole) (a13 : Memref sig .tc .vmem S512x128 .f32) (h13 : a13.IsWhole) (a14 : Memref sig .tc .vmem S512x512 .f32) (h14 : a14.IsWhole) (a15 : Memref sig .tc .vmem S512x1536 .f32) (h15 : a15.IsWhole) (a16 : Memref sig .tc .vmem S512x128 .f32) (h16 : a16.IsWhole) (a17 : Memref sig .tc .vmem S512x128 .f32) (h17 : a17.IsWhole) (a18 : Memref sig .tc .vmem S512x1024 .bf16) (h18 : a18.IsWhole) (a19 : Memref sig .tc .vmem S512x1024 .bf16) (h19 : a19.IsWhole) (a20 : Memref sig .tc .vmem S512x512 .bf16) (h20 : a20.IsWhole)
    (x0 : Vec F S512x1024 .f32) (x1 : Vec F S1x8x1024 .f32) (x2 : Vec F S1x1024 .f32) (x3 : Vec F S1024x2688 .bf16) (x4 : Vec F S1x128 .f32) (x5 : Vec F S1x256 .f32) (x6 : Vec F S256x1024 .bf16) (x7 : Vec F S256x1024 .bf16) (x8 : Vec F S8x128 .f32) (x9 : Vec F S128x1024 .bf16) (x10 : Vec F S8x128 .f32) (x11 : Vec F S128x512 .bf16) (x12 : Vec F S512x128 .f32) (x13 : Vec F S512x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (left14 x0 x1 x2 x3) ∗ owns (c : Thread nD τ) a15 fullShare (left15 x0 x1 x2 x3) ∗ owns (c : Thread nD τ) a16 fullShare (left16 x0 x1 x2 x3 x4) ∗ owns (c : Thread nD τ) a17 fullShare (left17 x0 x1 x2 x3) ∗ owns (c : Thread nD τ) a18 fullShare (left18 x0 x1 x2 x3 x5 x6 x7 x8 x12 x13) ∗ owns (c : Thread nD τ) a19 fullShare (left19 x0 x1 x2 x3 x4 x9 x10 x12 x13) ∗ owns (c : Thread nD τ) a20 fullShare (left20 x0 x1 x2 x3 x4 x11)) -∗ K ⟨⟩))
      ⊢ wp frame (wpE (defs₀ (F := F)) Variants.none c none) E (cc0_stage1 i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20) K := by
  simp only [cc0_stage1_eq_skeleton]; unfold cc0_stage1_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst e0 e1 e2 e3 e4 e5 e6 e7 e8 e9 e10 e11 e12 e13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact (View.read_writes_eq_canon _ _ _ (covered14 _)).trans rfl
  isplitl [H15]
  · iexists _; isplitr
    swap; · iexact H15
    ipureintro
    exact (View.read_writes_eq_canon _ _ _ (covered15 _)).trans rfl
  isplitl [H16]
  · iexists _; isplitr
    swap; · iexact H16
    ipureintro
    exact (View.read_writes_eq_canon _ _ _ (covered16 _)).trans rfl
  isplitl [H17]
  · iexists _; isplitr
    swap; · iexact H17
    ipureintro
    exact (View.read_writes_eq_canon _ _ _ (covered17 _)).trans rfl
  isplitl [H18]
  · iexists _; isplitr
    swap; · iexact H18
    ipureintro
    exact (View.read_writes_eq_canon _ _ _ (covered18 _ _ _ _ _ _ _ _)).trans rfl
  isplitl [H19]
  · iexists _; isplitr
    swap; · iexact H19
    ipureintro
    exact (View.read_writes_eq_canon _ _ _ (covered19 _ _ _ _ _ _ _ _)).trans rfl
  iexists _; isplitr
  swap; · iexact H20
  ipureintro
  exact (View.read_writes_eq_canon _ _ _ (covered20 _)).trans rfl

/-! ## Up to the region -/

variable (m : (ℓ : Loc nD τ sig) → Buf (Elt F) ℓ) (ρ : Dev nD → PrngReg)

/-- The buffers when the region is entered. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]) (fun b => m (c, b)) b

theorem fresh_hostOps0 : (hostOps0 : List (HloOp τ sig (Elt F))).Forall fun op => op.fresh = ∅ := by
  simp only [List.Forall]; repeat' constructor
theorem fresh_hostOps0_1 : (hostOps0_1 : List (HloOp τ sig (Elt F))).Forall fun op => op.fresh = ∅ := by
  simp only [List.Forall]; repeat' constructor
theorem fresh_hostOps0_2 : (hostOps0_2 : List (HloOp τ sig (Elt F))).Forall fun op => op.fresh = ∅ := by
  simp only [List.Forall]; repeat' constructor
theorem fresh_hostOps0_3 : (hostOps0_3 : List (HloOp τ sig (Elt F))).Forall fun op => op.fresh = ∅ := by
  simp only [List.Forall]; repeat' constructor
theorem fresh_hostOps0_4 : (hostOps0_4 : List (HloOp τ sig (Elt F))).Forall fun op => op.fresh = ∅ := by
  simp only [List.Forall]; repeat' constructor
theorem fresh_hostOps0_5 : (hostOps0_5 : List (HloOp τ sig (Elt F))).Forall fun op => op.fresh = ∅ := by
  simp only [List.Forall]; repeat' constructor
theorem fresh_hostOps0_6 : (hostOps0_6 : List (HloOp τ sig (Elt F))).Forall fun op => op.fresh = ∅ := by
  simp only [List.Forall]; repeat' constructor
theorem fresh_hostOps0_7 : (hostOps0_7 : List (HloOp τ sig (Elt F))).Forall fun op => op.fresh = ∅ := by
  simp only [List.Forall]; repeat' constructor
theorem fresh_hostOps0_8 : (hostOps0_8 : List (HloOp τ sig (Elt F))).Forall fun op => op.fresh = ∅ := by
  simp only [List.Forall]; repeat' constructor
theorem fresh_hostOps0_9 : (hostOps0_9 : List (HloOp τ sig (Elt F))).Forall fun op => op.fresh = ∅ := by
  simp only [List.Forall]; repeat' constructor
theorem fresh_hostOps0_10 : (hostOps0_10 : List (HloOp τ sig (Elt F))).Forall fun op => op.fresh = ∅ := by
  simp only [List.Forall]; repeat' constructor
theorem fresh_hostOps0_11 : (hostOps0_11 : List (HloOp τ sig (Elt F))).Forall fun op => op.fresh = ∅ := by
  simp only [List.Forall]; repeat' constructor
theorem fresh_hostOps0_12 : (hostOps0_12 : List (HloOp τ sig (Elt F))).Forall fun op => op.fresh = ∅ := by
  simp only [List.Forall]; repeat' constructor
theorem fresh_hostOps0_13 : (hostOps0_13 : List (HloOp τ sig (Elt F))).Forall fun op => op.fresh = ∅ := by
  simp only [List.Forall]; repeat' constructor
theorem fresh_hostOps0_14 : (hostOps0_14 : List (HloOp τ sig (Elt F))).Forall fun op => op.fresh = ∅ := by
  simp only [List.Forall]; repeat' constructor
theorem fresh_hostOps0_15 : (hostOps0_15 : List (HloOp τ sig (Elt F))).Forall fun op => op.fresh = ∅ := by
  simp only [List.Forall]; repeat' constructor
theorem fresh_hostOps0_16 : (hostOps0_16 : List (HloOp τ sig (Elt F))).Forall fun op => op.fresh = ∅ := by
  simp only [List.Forall]; repeat' constructor
theorem fresh_hostOps0_17 : (hostOps0_17 : List (HloOp τ sig (Elt F))).Forall fun op => op.fresh = ∅ := by
  simp only [List.Forall]; repeat' constructor

set_option maxHeartbeats 800000 in
/-- The program up to the region: the host's operations, then the region. -/
theorem entry (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub⟩)
    (by simp only [List.Forall]; exact ⟨fresh_hostOps0, fresh_hostOps0_1, fresh_hostOps0_2, fresh_hostOps0_3, fresh_hostOps0_4, fresh_hostOps0_5, fresh_hostOps0_6, fresh_hostOps0_7, fresh_hostOps0_8, fresh_hostOps0_9, fresh_hostOps0_10, fresh_hostOps0_11, fresh_hostOps0_12, fresh_hostOps0_13, fresh_hostOps0_14, fresh_hostOps0_15, fresh_hostOps0_16, fresh_hostOps0_17⟩) main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => left14 (iblk m c 0 t) (iblk m c 1 t) (iblk m c 2 t) (iblk m c 3 t)
    | ⟨15, _⟩ => left15 (iblk m c 0 t) (iblk m c 1 t) (iblk m c 2 t) (iblk m c 3 t)
    | ⟨16, _⟩ => left16 (iblk m c 0 t) (iblk m c 1 t) (iblk m c 2 t) (iblk m c 3 t) (iblk m c 4 t)
    | ⟨17, _⟩ => left17 (iblk m c 0 t) (iblk m c 1 t) (iblk m c 2 t) (iblk m c 3 t)
    | ⟨18, _⟩ => left18 (iblk m c 0 t) (iblk m c 1 t) (iblk m c 2 t) (iblk m c 3 t) (iblk m c 5 t) (iblk m c 6 t) (iblk m c 7 t) (iblk m c 8 t) (iblk m c 12 t) (iblk m c 13 t)
    | ⟨19, _⟩ => left19 (iblk m c 0 t) (iblk m c 1 t) (iblk m c 2 t) (iblk m c 3 t) (iblk m c 4 t) (iblk m c 9 t) (iblk m c 10 t) (iblk m c 12 t) (iblk m c 13 t)
    | ⟨20, _⟩ => left20 (iblk m c 0 t) (iblk m c 1 t) (iblk m c 2 t) (iblk m c 3 t) (iblk m c 4 t) (iblk m c 11 t)
    | ⟨_ + 21, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = left14 (iblk m c 0 t) (iblk m c 1 t) (iblk m c 2 t) (iblk m c 3 t) := by dsimp only [dats]
theorem after_15 (c : Dev nD) (t : Fin cfg0.N) : (dats m 0 c).after 15 t = left15 (iblk m c 0 t) (iblk m c 1 t) (iblk m c 2 t) (iblk m c 3 t) := by dsimp only [dats]
theorem after_16 (c : Dev nD) (t : Fin cfg0.N) : (dats m 0 c).after 16 t = left16 (iblk m c 0 t) (iblk m c 1 t) (iblk m c 2 t) (iblk m c 3 t) (iblk m c 4 t) := by dsimp only [dats]
theorem after_17 (c : Dev nD) (t : Fin cfg0.N) : (dats m 0 c).after 17 t = left17 (iblk m c 0 t) (iblk m c 1 t) (iblk m c 2 t) (iblk m c 3 t) := by dsimp only [dats]
theorem after_18 (c : Dev nD) (t : Fin cfg0.N) : (dats m 0 c).after 18 t = left18 (iblk m c 0 t) (iblk m c 1 t) (iblk m c 2 t) (iblk m c 3 t) (iblk m c 5 t) (iblk m c 6 t) (iblk m c 7 t) (iblk m c 8 t) (iblk m c 12 t) (iblk m c 13 t) := by dsimp only [dats]
theorem after_19 (c : Dev nD) (t : Fin cfg0.N) : (dats m 0 c).after 19 t = left19 (iblk m c 0 t) (iblk m c 1 t) (iblk m c 2 t) (iblk m c 3 t) (iblk m c 4 t) (iblk m c 9 t) (iblk m c 10 t) (iblk m c 12 t) (iblk m c 13 t) := by dsimp only [dats]
theorem after_20 (c : Dev nD) (t : Fin cfg0.N) : (dats m 0 c).after 20 t = left20 (iblk m c 0 t) (iblk m c 1 t) (iblk m c 2 t) (iblk m c 3 t) (iblk m c 4 t) (iblk m c 11 t) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)

/-- What the body is called with at a point, and what it returns. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point. -/
theorem point_runs (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (body_runs c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem row_eq (t : Fin cfg0.N) : defs₀ (F := F) .tc cfg0.body (cfg0.bodyArgs t (cfg0.slots t)) = bodyAt0 t := by
  unfold defs₀; rw [Defs.onTc_tc]

set_option maxHeartbeats 600000 in
theorem body_ok (c : Dev nD) : BodyObligation (dats (F := F) m 0 c) (defs₀ (F := F)) Variants.none () Set.univ := fun t => by
  rw [bigSep_W0, bigSep_W0, row_eq]
  exact triple_restated (point_runs m c t) rfl .rfl fun _ => .rfl

set_option backward.isDefEq.respectTransparency.types false in
set_option maxHeartbeats 800000 in
/-- The program's run. -/
theorem run_ends : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := entry m Variants.none) (hA := A_eq m) (hΦ := fun _ _ => rfl)

/-- An argument no window reads in place ends as it was launched. -/
theorem rest_kept {r : PUnit × MemSt nD τ sig (Elt F)} (h : Pipeline.FramePost cfgs (dats m) 0 (V m) r) (c : Dev nD) (b : Ref sig .tc)
    (hb : b ∈ Pipeline.restRefs sig spec0) (hV : V m c b = m ((c : Thread nD τ).loc b)) :
    r.2.mem ((c.tc : Thread nD τ).loc b) = m ((c.tc : Thread nD τ).loc b) := ((h c).2 b hb).trans hV

/-- The run ends with the arguments as launched and no semaphore counting. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c =>
    ⟨((h.1 c).1 0).trans (((dats m 0 c).arrAt_in 0 rfl _).trans ((A_eq m c 0).trans (V_arg0 m c))),
     ((h.1 c).1 1).trans (((dats m 0 c).arrAt_in 1 rfl _).trans ((A_eq m c 1).trans (V_arg1 m c))),
     rest_kept m h.1 c main_arg2 (Pipeline.mem_restRefs_of main_arg2 (by decide) (by decide)) (V_arg2 m c),
     rest_kept m h.1 c main_arg3 (Pipeline.mem_restRefs_of main_arg3 (by decide) (by decide)) (V_arg3 m c),
     rest_kept m h.1 c main_arg4 (Pipeline.mem_restRefs_of main_arg4 (by decide) (by decide)) (V_arg4 m c),
     rest_kept m h.1 c main_arg5 (Pipeline.mem_restRefs_of main_arg5 (by decide) (by decide)) (V_arg5 m c),
     rest_kept m h.1 c main_arg6 (Pipeline.mem_restRefs_of main_arg6 (by decide) (by decide)) (V_arg6 m c),
     rest_kept m h.1 c main_arg7 (Pipeline.mem_restRefs_of main_arg7 (by decide) (by decide)) (V_arg7 m c),
     rest_kept m h.1 c main_arg8 (Pipeline.mem_restRefs_of main_arg8 (by decide) (by decide)) (V_arg8 m c),
     rest_kept m h.1 c main_arg9 (Pipeline.mem_restRefs_of main_arg9 (by decide) (by decide)) (V_arg9 m c),
     rest_kept m h.1 c main_arg10 (Pipeline.mem_restRefs_of main_arg10 (by decide) (by decide)) (V_arg10 m c),
     rest_kept m h.1 c main_arg11 (Pipeline.mem_restRefs_of main_arg11 (by decide) (by decide)) (V_arg11 m c),
     rest_kept m h.1 c main_arg12 (Pipeline.mem_restRefs_of main_arg12 (by decide) (by decide)) (V_arg12 m c)⟩, h.2⟩)
    (run_ends m ρ)

end Cert.HeadsIdeal.Own

end
-- ==== Proof.HeadsIdeal.Spec.lean ====
/- Query and key heads of a token: normalised, scaled, and turned by the position's angles. -/
module

public import proofs.«01_k».proof.Proof.Merge.Spec

@[expose] public section

noncomputable section

namespace Cert.Hd

open Idealize.ShloMosaic

/-- The reciprocal root of a mean square: the sum of the squares times the reciprocal of the length. -/
def hroot (s : EReal) : EReal := Ideal.rsqrt (s * ((96⁻¹ : ℝ) : EReal) + FloatOps.ofBits (F := Ideal) .f32 0x358637BD#32)

/-- The reciprocal root of a mean square over `w` entries (`w` a constant's bits), given the sum of the squares. -/
def root (w : BitVec 32) (s : EReal) : EReal :=
  Ideal.rsqrt (Ideal.div s (FloatOps.ofBits (F := Ideal) .f32 w) + FloatOps.ofBits (F := Ideal) .f32 0x358637BD#32)

/-- A head's lane as the kernel finishes it: the row and its partner against two tables, times the reciprocal root. -/
def fin (a b : Fin 128 → EReal) (gc gs : EReal) (l : Fin 128) : EReal := (a l * gc + b l * gs) * hroot (∑ j, a j * a j)

end Cert.Hd
-- ==== Proof.HeadsIdeal.Pay.lean ====
/- What the projections' body computes, element by element. -/
module

public import proofs.«01_k».proof.Proof.HeadsIdeal.Frame
public import proofs.«01_k».proof.Proof.HeadsIdeal.Spec

@[expose] public section

noncomputable section

namespace Cert.Hd

open Cert.HeadsIdeal Cert.HeadsIdeal.Gen Idealize.ShloMosaic Idealize.ShloMosaic.TcCoe Idealize.SL.Sem

theorem inv_d : (Named.named (F := Ideal) κ "inv_d_qk" (φ := .f32) 0x3C2AAAAB#32 : EReal) = ((96⁻¹ : ℝ) : EReal) :=
  IdealRules.named_const.ideal_named_scalar _ _ _ _ rfl
theorem scale_d : (Named.named (F := Ideal) κ "qk_scale" (φ := .f32) 0x3E16C740#32 : EReal) = (((Real.log 2)⁻¹ * (Real.sqrt 96)⁻¹ : ℝ) : EReal) :=
  IdealRules.named_const.ideal_named_scalar _ _ _ _ rfl

theorem pay2_apply (x : Vec Ideal S512x1024 .f32) (g : Vec Ideal S1x1024 .f32) (s b : Vec Ideal S1x1x1024 .f32) (r : Fin 512) (l : Fin 1024) :
    k0_pay2 x g s b (ix2 r l) = Mg.norm (fun k => x (ix2 r k)) (g (ix2 0 l)) (s (ix3 0 0 l)) (b (ix3 0 0 l)) l := by
  unfold_payloads
  pointwise
  rfl
theorem pay3_apply (x : Vec Ideal S512x1024 .f32) (g : Vec Ideal S1x1024 .f32) (s b : Vec Ideal S1x1x1024 .f32) (w : Vec Ideal S1024x512 .bf16)
    (r : Fin 512) (l : Fin 512) : k0_pay3 x g s b w (ix2 r l) = ∑ k, (k0_pay2 x g s b (ix2 r k) : EReal) * w (ix2 k l) := by
  unfold k0_pay3
  generalize k0_pay2 x g s b = z
  pointwise
theorem pay4_apply (x : Vec Ideal S512x1024 .f32) (g : Vec Ideal S1x1024 .f32) (s b : Vec Ideal S1x1x1024 .f32) (w : Vec Ideal S1024x256 .bf16)
    (r : Fin 512) (l : Fin 256) : k0_pay4 x g s b w (ix2 r l) = ∑ k, (k0_pay2 x g s b (ix2 r k) : EReal) * w (ix2 k l) := by
  unfold k0_pay4
  generalize k0_pay2 x g s b = z
  pointwise
theorem pay5_apply (xb : FVec Ideal S512x1024 .bf16) (w : Vec Ideal S1024x128 .bf16) (r : Fin 512) (l : Fin 128) :
    k0_pay5 xb w (ix2 r l) = ∑ k, (xb (ix2 r k) : EReal) * w (ix2 k l) := by
  unfold k0_pay5
  pointwise
theorem pay6_apply (xb : FVec Ideal S512x1024 .bf16) (w : Vec Ideal S1024x128 .bf16) (r : Fin 512) (l : Fin 128) :
    k0_pay6 xb w (ix2 r l) = ∑ k, (xb (ix2 r k) : EReal) * w (ix2 k l) := by
  unfold k0_pay6
  pointwise
theorem pay7_apply (xb : FVec Ideal S512x1024 .bf16) (w : Vec Ideal S1024x1536 .bf16) (r : Fin 512) (l : Fin 1536) :
    k0_pay7 xb w (ix2 r l) = ∑ k, (xb (ix2 r k) : EReal) * w (ix2 k l) := by
  unfold k0_pay7
  pointwise
theorem pay8_apply (xb : FVec Ideal S512x1024 .bf16) (w : Vec Ideal S1024x128 .bf16) (g : Vec Ideal S1x128 .f32) (r : Fin 512) (l : Fin 128) :
    k0_pay8 xb w g (ix2 r l) = (∑ k, (xb (ix2 r k) : EReal) * w (ix2 k l))
      * root 0x43000000#32 (∑ j, (∑ k, (xb (ix2 r k) : EReal) * w (ix2 k j)) * ∑ k, (xb (ix2 r k) : EReal) * w (ix2 k j)) * g (ix2 0 l) := by
  unfold k0_pay8
  pointwise
  rfl
theorem pay11_apply (q : FVec Ideal S512x256 .f32) (g : Vec Ideal S1x256 .f32) (r : Fin 512) (l : Fin 256) :
    k0_pay11 q (k0_pay9 g) (k0_pay10 q) (ix2 r l) = (q (ix2 r l) : EReal) * root 0x43800000#32 (∑ j, (q (ix2 r j) : EReal) * q (ix2 r j)) * g (ix2 0 l) := by
  unfold_payloads
  pointwise
  rfl
theorem pay12_apply (q : FVec Ideal S512x128 .f32) (r : Fin 512) (l : Fin 128) : (k0_pay12 q (ix2 r l) : EReal) = q (ix2 r l) := by
  unfold_payloads
  pointwise
theorem pay13_apply (c : FVec Ideal S512x128 .f32) (w : Vec Ideal S128x512 .bf16) (r : Fin 512) (l : Fin 512) :
    k0_pay13 c w (ix2 r l) = ∑ k, (c (ix2 r k) : EReal) * w (ix2 k l) := by
  unfold_payloads
  pointwise
theorem pay16_apply (t : Vec Ideal S512x128 .f32) (g : Vec Ideal S1x128 .f32) (r : Fin 512) (l : Fin 128) :
    (k0_pay16 t g (ix2 r l) : EReal) = t (ix2 r l) * (g (ix2 0 l) * (((Real.log 2)⁻¹ * (Real.sqrt 96)⁻¹ : ℝ) : EReal)) := by
  rw [← scale_d]
  unfold_payloads
  pointwise
theorem pay17_apply (t : Vec Ideal S512x128 .f32) (g : Vec Ideal S1x128 .f32) (r : Fin 512) (l : Fin 128) :
    (k0_pay17 t g (ix2 r l) : EReal) = t (ix2 r l) * (g (ix2 0 l) * (((Real.log 2)⁻¹ * (Real.sqrt 96)⁻¹ : ℝ) : EReal)) := by
  rw [← scale_d]
  unfold_payloads
  pointwise
theorem pay18_apply (t : Vec Ideal S512x128 .f32) (g : Vec Ideal S1x128 .f32) (r : Fin 512) (l : Fin 128) :
    (k0_pay18 t g (ix2 r l) : EReal) = t (ix2 r l) * g (ix2 0 l) := by
  unfold_payloads
  pointwise
theorem pay20_apply (t : Vec Ideal S512x128 .f32) (g : Vec Ideal S1x128 .f32) (r : Fin 512) (l : Fin 128) :
    (k0_pay20 (k0_pay15 t) (k0_pay19 g) (ix2 r l) : EReal) = t (ix2 r l) * g (ix2 0 l) := by
  unfold_payloads
  pointwise

/-! ## The heads -/

section
variable (qn : FVec Ideal S512x256 .bf16) (cb : FVec Ideal S512x128 .bf16) (w w' : Vec Ideal S256x256 .bf16) (v : Vec Ideal S128x256 .bf16)
  (gc gs kr ks : FVec Ideal S512x128 .f32) (t : Vec Ideal S512x128 .f32) (g : Vec Ideal S1x128 .f32) (r : Fin 512) (l : Fin 128)

/-- The lanes of the first head of a pair, and of the second. -/
abbrev lo (l : Fin 128) : Fin 256 := ⟨l.val, by omega⟩
abbrev hi (l : Fin 128) : Fin 256 := ⟨128 + l.val, by omega⟩

/-- A query head from its pair's weights. -/
def qfin (p : Fin 128 → Fin 256) : EReal :=
  fin (fun l => ∑ k, (qn (ix2 r k) : EReal) * w (ix2 k (p l))) (fun l => ∑ k, (qn (ix2 r k) : EReal) * w' (ix2 k (p l))) (gc (ix2 r l)) (gs (ix2 r l)) l
/-- A key head from its pair's weights. -/
def kfin (p : Fin 128 → Fin 256) : EReal :=
  fin (fun l => (∑ k, (cb (ix2 r k) : EReal) * v (ix2 k (p l))) + kr (ix2 r l)) (fun l => ks (ix2 r l)) (gc (ix2 r l)) (gs (ix2 r l)) l

theorem q0_apply : (k0_pay24 qn gc gs w w' (ix2 r l) : EReal) = qfin qn w w' gc gs r l lo := by
  unfold qfin fin hroot lo; rw [← inv_d]
  unfold_payloads
  pointwise
theorem q1_apply : (k0_pay29 gc gs (k0_pay21 qn w) (k0_pay22 qn w') (ix2 r l) : EReal) = qfin qn w w' gc gs r l hi := by
  unfold qfin fin hroot hi; rw [← inv_d]
  unfold_payloads
  pointwise
theorem q2_apply : (k0_pay34 qn gc gs (k0_pay31 qn w) w' (ix2 r l) : EReal) = qfin qn w w' gc gs r l lo := by
  unfold qfin fin hroot lo; rw [← inv_d]
  unfold_payloads
  pointwise
theorem q3_apply : (k0_pay39 gc gs (k0_pay36 (k0_pay31 qn w)) (k0_pay37 qn w') (k0_pay38 (k0_pay31 qn w)) (ix2 r l) : EReal) = qfin qn w w' gc gs r l hi := by
  unfold qfin fin hroot hi; rw [← inv_d]
  unfold_payloads
  pointwise
theorem q4_apply : (k0_pay44 gc gs (k0_pay41 qn w) (k0_pay42 qn w') (ix2 r l) : EReal) = qfin qn w w' gc gs r l lo := by
  unfold qfin fin hroot lo; rw [← inv_d]
  unfold_payloads
  pointwise
theorem q5_apply : (k0_pay50 gs (k0_pay47 (k0_pay42 qn w')) (k0_pay48 (k0_pay41 qn w)) (k0_pay49 gc (k0_pay41 qn w)) (ix2 r l) : EReal) = qfin qn w w' gc gs r l hi := by
  unfold qfin fin hroot hi; rw [← inv_d]
  unfold_payloads
  pointwise
theorem q6_apply : (k0_pay58 gc gs (k0_pay55 qn w) (k0_pay56 qn w') (k0_pay57 qn w) (Scalar.ofBits .f32 0x358637BD#32) (ix2 r l) : EReal) = qfin qn w w' gc gs r l lo := by
  unfold qfin fin hroot lo; rw [← inv_d]
  unfold_payloads
  pointwise
theorem q7_apply : (k0_pay60 gc gs (k0_pay52 qn w) (k0_pay53 qn w') (ix2 r l) : EReal) = qfin qn w w' gc gs r l hi := by
  unfold qfin fin hroot hi; rw [← inv_d]
  unfold_payloads
  pointwise
theorem k0_apply : (k0_pay28 (k0_pay26 kr ks cb (k0_pay15 t) gc (k0_pay19 g) v) (k0_pay27 kr cb v) (ix2 r l) : EReal) = kfin cb v gc (k0_pay20 (k0_pay15 t) (k0_pay19 g)) kr ks r l lo := by
  unfold kfin fin hroot lo; rw [← inv_d]
  unfold_payloads
  pointwise
theorem k1_apply : (k0_pay30 kr ks gc gs (k0_pay23 cb v) (ix2 r l) : EReal) = kfin cb v gc gs kr ks r l hi := by
  unfold kfin fin hroot hi; rw [← inv_d]
  unfold_payloads
  pointwise
theorem k2_apply : (k0_pay35 kr ks cb gc gs v (ix2 r l) : EReal) = kfin cb v gc gs kr ks r l lo := by
  unfold kfin fin hroot lo; rw [← inv_d]
  unfold_payloads
  pointwise
theorem k3_apply : (k0_pay40 kr ks gc gs (k0_pay33 cb v) (ix2 r l) : EReal) = kfin cb v gc gs kr ks r l hi := by
  unfold kfin fin hroot hi; rw [← inv_d]
  unfold_payloads
  pointwise
theorem k4_apply : (k0_pay45 kr ks gc gs (k0_pay43 cb v) (ix2 r l) : EReal) = kfin cb v gc gs kr ks r l lo := by
  unfold kfin fin hroot lo; rw [← inv_d]
  unfold_payloads
  pointwise
theorem k5_apply : (k0_pay51 kr ks gc gs (k0_pay43 cb v) (ix2 r l) : EReal) = kfin cb v gc gs kr ks r l hi := by
  unfold kfin fin hroot hi; rw [← inv_d]
  unfold_payloads
  pointwise
theorem k6_apply : (k0_pay59 kr ks gc gs (k0_pay54 cb v) (ix2 r l) : EReal) = kfin cb v gc gs kr ks r l lo := by
  unfold kfin fin hroot lo; rw [← inv_d]
  unfold_payloads
  pointwise
theorem k7_apply : (k0_pay1 kr ks gc gs (k0_pay61 (k0_pay54 cb v)) (ix2 r l) : EReal) = kfin cb v gc gs kr ks r l hi := by
  unfold kfin fin hroot hi; rw [← inv_d]
  unfold_payloads
  pointwise
end

end Cert.Hd
-- ==== Proof.HeadsIdeal.Tables.lean ====
/- The projections' tables, as the host lays them out. -/
module

public import proofs.«01_k».proof.Proof.HeadsIdeal.Pay
public import proofs.«01_k».proof.Proof.HeadsIdeal.Frame
public import proofs.«01_k».proof.Proof.Dense.Whole
public import Idealize.ShloMosaic.Lib.Pipeline.ValueKit

@[expose] public section

noncomputable section

namespace Cert.Hd

open Cert.HeadsIdeal Cert.HeadsIdeal.Gen Idealize.ShloMosaic Idealize.ShloMosaic.TcCoe Idealize.SL.Sem

/-! ## Lanes -/

/-- A rotated lane's partner among the thirty-two. -/
def mate (j : Fin 32) : Fin 32 := if h : j.val % 2 = 0 then ⟨j.val + 1, by omega⟩ else ⟨j.val - 1, by omega⟩

/-- A lane's partner among the ninety-six: itself before the rotated ones. -/
def twin (j : Fin 96) : Fin 96 := if h : j.val < 64 then j else ⟨64 + (mate ⟨j.val - 64, by omega⟩).val, by omega⟩

/-- Ninety-six lanes padded to a hundred and twenty-eight. -/
def wide (f : Fin 96 → EReal) (l : Fin 128) : EReal := if h : l.val < 96 then f ⟨l.val, h⟩ else 0

/-- Head `h`, lane `l` of eight heads' lanes. -/
def lane (h : Fin 8) (l : Fin 128) : Fin 1024 := ⟨h.val * 128 + l.val, by omega⟩

/-- Thirty-two rotated lanes at their place among the hundred and twenty-eight. -/
def rot (f : Fin 32 → EReal) (l : Fin 128) : EReal := if h : 64 ≤ l.val ∧ l.val < 96 then f ⟨l.val - 64, by omega⟩ else 0

/-! ## The host's layouts -/

def zer : FVec Ideal S_ .f32 := sitofp .f32 (constantI S_ 32 0#32)
theorem zer_at (i : S_.Idx) : (zer i : EReal) = 0 := by
  show (((0#32 : BitVec 32).toInt : ℝ) : EReal) = 0
  rw [show (0#32 : BitVec 32).toInt = 0 from rfl]; simp

def uqTab (w : FVec Ideal S256x8x96 .f32) : FVec Ideal S256x1024 .f32 :=
  shapeCast S256x1024 (pad S256x8x128 ![0, 0, 0] ![0, 0, 32] ![0, 0, 0] w zer pads_S256x8x96_S256x8x128_000_000_0320 h_S_) shapeCasts_S256x8x128_S256x1024

def uqTwin (w : FVec Ideal S256x8x96 .f32) : FVec Ideal S256x8x96 .f32 :=
  concatenate S256x8x96 2 [⟨S256x8x64, extractStridedSlice S256x8x64 ![0, 0, 0] w slices_S256x8x96_S256x8x64_0_0_0⟩,
    ⟨S256x8x32, shapeCast S256x8x32 (Host.reverse [3] (shapeCast S256x8x16x2 (extractStridedSlice S256x8x32 ![0, 0, 64] w slices_S256x8x96_S256x8x32_0_0_64)
      shapeCasts_S256x8x32_S256x8x16x2)) shapeCasts_S256x8x16x2_S256x8x32⟩] concatenates_S256x8x64_S256x8x32_S256x8x96_d2

def ukTab (w : FVec Ideal S128x8x64 .f32) : FVec Ideal S128x1024 .f32 :=
  shapeCast S128x1024 (pad S128x8x128 ![0, 0, 0] ![0, 0, 64] ![0, 0, 0] w zer pads_S128x8x64_S128x8x128_000_000_0640 h_S_) shapeCasts_S128x8x128_S128x1024

def uvTab (w : FVec Ideal S128x8x64 .f32) : FVec Ideal S128x512 .f32 := shapeCast S128x512 w shapeCasts_S128x8x64_S128x512

def gTwin (g : FVec Ideal S96 .f32) : FVec Ideal S96 .f32 :=
  concatenate S96 0 [⟨S64, extractStridedSlice S64 ![0] g slices_S96_S64_0⟩,
    ⟨S32, shapeCast S32 (Host.reverse [1] (shapeCast S16x2 (extractStridedSlice S32 ![64] g slices_S96_S32_64) shapeCasts_S32_S16x2)) shapeCasts_S16x2_S32⟩]
    concatenates_S64_S32_S96_d0

def gRows (g : FVec Ideal S96 .f32) : FVec Ideal S2x96 .f32 :=
  concatenate S2x96 0 [⟨S1x96, broadcastInDim S1x96 ![1] bcast_S96_S1x96_1 g⟩, ⟨S1x96, broadcastInDim S1x96 ![1] bcast_S96_S1x96_1 (gTwin g)⟩]
    concatenates_S1x96_S1x96_S2x96_d0

def gTab (g : FVec Ideal S96 .f32) : FVec Ideal S8x128 .f32 :=
  pad S8x128 ![0, 0] ![6, 32] ![0, 0] (gRows g) zer pads_S2x96_S8x128_060_0320 h_S_

def one : FVec Ideal S_ .f32 := constant S_ .f32 0x3F800000#32
theorem one_at (i : S_.Idx) : (one i : EReal) = 1 := by
  show FloatOps.ofBits (F := Ideal) .f32 0x3F800000#32 = 1
  exact Ideal.ofBits_one_f32
def cosTab (C : FVec Ideal S4096x16 .f32) : FVec Ideal S4608x128 .f32 :=
  concatenate S4608x128 0 [⟨S512x128, broadcastInDim S512x128 ![] bcast_S_S512x128 one⟩,
    ⟨S4096x128, pad S4096x128 ![0, 64] ![0, 32] ![0, 0] (shapeCast S4096x32 (broadcastInDim S4096x16x2 ![0, 1] bcast_S4096x16_S4096x16x2_0_1 C)
      shapeCasts_S4096x16x2_S4096x32) (one) pads_S4096x32_S4096x128_000_64320 h_S_⟩] concatenates_S512x128_S4096x128_S4608x128_d0

def sinTab (C : FVec Ideal S4096x16 .f32) : FVec Ideal S4608x128 .f32 :=
  concatenate S4608x128 0 [⟨S512x128, broadcastInDim S512x128 ![] bcast_S_S512x128 (constant S_ .f32 0x00000000#32)⟩,
    ⟨S4096x128, pad S4096x128 ![0, 64] ![0, 32] ![0, 0] (shapeCast S4096x32 (concatenate S4096x16x2 2
      [⟨S4096x16x1, broadcastInDim S4096x16x1 ![0, 1] bcast_S4096x16_S4096x16x1_0_1 (Host.negf C)⟩, ⟨S4096x16x1, broadcastInDim S4096x16x1 ![0, 1] bcast_S4096x16_S4096x16x1_0_1 C⟩]
      concatenates_S4096x16x1_S4096x16x1_S4096x16x2_d2)
      shapeCasts_S4096x16x2_S4096x32) zer pads_S4096x32_S4096x128_000_64320 h_S_⟩] concatenates_S512x128_S4096x128_S4608x128_d0

def krCols (w : FVec Ideal S1024x2464 .f32) : FVec Ideal S1024x96 .f32 :=
  concatenate S1024x96 1 [⟨S1024x64, broadcastInDim S1024x64 ![] bcast_S_S1024x64 (constant S_ .f32 0x00000000#32)⟩,
    ⟨S1024x32, extractStridedSlice S1024x32 ![0, 896] w slices_S1024x2464_S1024x32_0_896⟩] concatenates_S1024x64_S1024x32_S1024x96_d1

def krTwin (w : FVec Ideal S1024x96 .f32) : FVec Ideal S1024x96 .f32 :=
  concatenate S1024x96 1 [⟨S1024x64, extractStridedSlice S1024x64 ![0, 0] w slices_S1024x96_S1024x64_0_0⟩,
    ⟨S1024x32, shapeCast S1024x32 (Host.reverse [2] (shapeCast S1024x16x2 (extractStridedSlice S1024x32 ![0, 64] w slices_S1024x96_S1024x32_0_64)
      shapeCasts_S1024x32_S1024x16x2)) shapeCasts_S1024x16x2_S1024x32⟩] concatenates_S1024x64_S1024x32_S1024x96_d1

def padCols (w : FVec Ideal S1024x96 .f32) : FVec Ideal S1024x128 .f32 :=
  pad S1024x128 ![0, 0] ![0, 32] ![0, 0] w zer pads_S1024x96_S1024x128_000_0320 h_S_

def w1Tab (w : FVec Ideal S1024x2464 .f32) : FVec Ideal S1024x2688 .f32 :=
  concatenate S1024x2688 1 [⟨S1024x896, extractStridedSlice S1024x896 ![0, 0] w slices_S1024x2464_S1024x896_0_0⟩, ⟨S1024x128, padCols (krCols w)⟩,
    ⟨S1024x128, padCols (krTwin (krCols w))⟩, ⟨S1024x1536, extractStridedSlice S1024x1536 ![0, 928] w slices_S1024x2464_S1024x1536_0_928⟩]
    concatenates_S1024x896_S1024x128_S1024x128_S1024x1536_S1024x2688_d1

/-! ## Read at an index -/

theorem uqTwin_at (w : FVec Ideal S256x8x96 .f32) (q : Fin 256) (h : Fin 8) (j : Fin 96) : (uqTwin w (ix3 q h j) : EReal) = w (ix3 q h (twin j)) := by
  by_cases hj : j.val < 64
  · rw [show twin j = j from dif_pos hj]
    unfold uqTwin
    pointwise
    exact dif_pos hj
  · rw [show twin j = ⟨64 + ((j.val - 64) / 2 * 2 + (2 - ((j.val - 64) % 2 + 1))), by omega⟩ by
      unfold twin mate
      rw [dif_neg hj]
      refine Fin.ext ?_
      dsimp only
      split <;> dsimp only <;> omega]
    unfold uqTwin
    pointwise
    refine (dif_neg hj).trans (congrArg w (funext fun a => Fin.ext ?_))
    match a with
    | ⟨0, _⟩ => rfl
    | ⟨1, _⟩ => rfl
    | ⟨2, _⟩ => rfl

theorem gTwin_at (g : FVec Ideal S96 .f32) (j : Fin 96) : (gTwin g (ix1 j) : EReal) = g (ix1 (twin j)) := by
  unfold gTwin twin mate
  pointwise
  by_cases hj : j.val < 64
  · rw [dif_pos hj, dif_pos hj]
  · rw [dif_neg hj, dif_neg hj]
    refine congrArg (fun z => g (ix1 z)) (Fin.ext ?_)
    show 64 + ((j.val - 64) / 2 * 2 + (2 - ((j.val - 64) % 2 + 1))) = _
    split <;> dsimp only <;> omega

theorem krTwin_at (w : FVec Ideal S1024x96 .f32) (k : Fin 1024) (j : Fin 96) : (krTwin w (ix2 k j) : EReal) = w (ix2 k (twin j)) := by
  unfold krTwin twin mate
  pointwise
  by_cases hj : j.val < 64
  · rw [dif_pos hj, dif_pos hj]
  · rw [dif_neg hj, dif_neg hj]
    refine congrArg (fun z => w (ix2 k z)) (Fin.ext ?_)
    show 64 + ((j.val - 64) / 2 * 2 + (2 - ((j.val - 64) % 2 + 1))) = _
    split <;> dsimp only <;> omega

theorem gRows_at0 (g : FVec Ideal S96 .f32) (j : Fin 96) : (gRows g (ix2 0 j) : EReal) = g (ix1 j) := by
  unfold gRows
  pointwise
theorem gRows_at1 (g : FVec Ideal S96 .f32) (j : Fin 96) : (gRows g (ix2 1 j) : EReal) = g (ix1 (twin j)) := by
  rw [← gTwin_at g]
  unfold gRows
  pointwise

theorem uqTab_at (w : FVec Ideal S256x8x96 .f32) (q : Fin 256) (h : Fin 8) (l : Fin 128) :
    (uqTab w (ix2 q (lane h l)) : EReal) = wide (fun j => w (ix3 q h j)) l := by
  have e : (uqTab w (ix2 q (lane h l)) : EReal) = pad S256x8x128 ![0, 0, 0] ![0, 0, 32] ![0, 0, 0] w zer pads_S256x8x96_S256x8x128_000_000_0320 h_S_ (ix3 q h l) := by
    unfold uqTab lane
    pointwise
  rw [e]; unfold wide
  pointwise
  split
  · rfl
  · exact zer_at _

theorem ukTab_at (w : FVec Ideal S128x8x64 .f32) (q : Fin 128) (h : Fin 8) (l : Fin 128) :
    (ukTab w (ix2 q (lane h l)) : EReal) = if hl : l.val < 64 then w (ix3 q h ⟨l.val, hl⟩) else 0 := by
  have e : (ukTab w (ix2 q (lane h l)) : EReal) = pad S128x8x128 ![0, 0, 0] ![0, 0, 64] ![0, 0, 0] w zer pads_S128x8x64_S128x8x128_000_000_0640 h_S_ (ix3 q h l) := by
    unfold ukTab lane
    pointwise
  rw [e]
  pointwise
  split
  · rfl
  · exact zer_at _

theorem uvTab_at (w : FVec Ideal S128x8x64 .f32) (q : Fin 128) (l : Fin 512) :
    (uvTab w (ix2 q l) : EReal) = w (ix3 q ⟨l.val / 64, by omega⟩ ⟨l.val % 64, by omega⟩) := by
  unfold uvTab
  pointwise

theorem gTab_at0 (g : FVec Ideal S96 .f32) (l : Fin 128) : (gTab g (ix2 0 l) : EReal) = wide (fun j => g (ix1 j)) l := by
  simp only [← gRows_at0 g]
  unfold gTab wide
  pointwise
  split
  · rfl
  · exact zer_at _
theorem gTab_at1 (g : FVec Ideal S96 .f32) (l : Fin 128) : (gTab g (ix2 1 l) : EReal) = wide (fun j => g (ix1 (twin j))) l := by
  simp only [← gRows_at1 g]
  unfold gTab wide
  pointwise
  split
  · rfl
  · exact zer_at _

theorem padCols_at (w : FVec Ideal S1024x96 .f32) (k : Fin 1024) (l : Fin 128) : (padCols w (ix2 k l) : EReal) = wide (fun j => w (ix2 k j)) l := by
  unfold padCols wide
  pointwise
  split
  · rfl
  · exact zer_at _

theorem krCols_at (w : FVec Ideal S1024x2464 .f32) (k : Fin 1024) (j : Fin 96) :
    (krCols w (ix2 k j) : EReal) = if h : j.val < 64 then 0 else w (ix2 k ⟨896 + (j.val - 64), by omega⟩) := by
  unfold krCols
  pointwise

theorem w1_left (w : FVec Ideal S1024x2464 .f32) (k : Fin 1024) (l : Fin 2688) (h : l.val < 896) : (w1Tab w (ix2 k l) : EReal) = w (ix2 k ⟨l.val, by omega⟩) := by
  unfold w1Tab
  pointwise
  rw [dif_pos h]
theorem w1_kr (w : FVec Ideal S1024x2464 .f32) (k : Fin 1024) (l : Fin 2688) (j : Fin 128) (h : l.val = 896 + j.val) : (w1Tab w (ix2 k l) : EReal) = padCols (krCols w) (ix2 k j) := by
  unfold w1Tab
  pointwise
  rw [dif_neg (by omega), dif_pos (by omega)]
  exact congrArg (fun z => padCols (krCols w) (ix2 k z)) (Fin.ext (by show l.val - 896 = j.val; omega))
theorem w1_ks (w : FVec Ideal S1024x2464 .f32) (k : Fin 1024) (l : Fin 2688) (j : Fin 128) (h : l.val = 1024 + j.val) : (w1Tab w (ix2 k l) : EReal) = padCols (krTwin (krCols w)) (ix2 k j) := by
  unfold w1Tab
  pointwise
  rw [dif_neg (by omega), dif_neg (by omega), dif_pos (by omega)]
  exact congrArg (fun z => padCols (krTwin (krCols w)) (ix2 k z)) (Fin.ext (by show l.val - 896 - 128 = j.val; omega))
theorem w1_right (w : FVec Ideal S1024x2464 .f32) (k : Fin 1024) (l : Fin 2688) (j : Fin 1536) (h : l.val = 1152 + j.val) :
    (w1Tab w (ix2 k l) : EReal) = w (ix2 k ⟨928 + j.val, by omega⟩) := by
  unfold w1Tab
  pointwise
  rw [dif_neg (by omega), dif_neg (by omega), dif_neg (by omega)]
  exact congrArg (fun z => w (ix2 k z)) (Fin.ext (by show 928 + (l.val - 896 - 128 - 128) = 928 + j.val; omega))

theorem cosTab_at (C : FVec Ideal S4096x16 .f32) (p : Fin 4608) (l : Fin 128) :
    (cosTab C (ix2 p l) : EReal) = if h : 512 ≤ p.val ∧ 64 ≤ l.val ∧ l.val < 96 then C (ix2 ⟨p.val - 512, by omega⟩ ⟨(l.val - 64) / 2, by omega⟩) else 1 := by
  unfold cosTab
  pointwise
  by_cases h : p.val < 512
  · rw [dif_pos h, dif_neg (by omega)]; exact one_at _
  · rw [dif_neg h]
    by_cases h2 : 64 ≤ l.val ∧ l.val < 96
    · rw [dif_pos (by omega), dif_pos (by omega)]
    · rw [dif_neg (by omega), dif_neg (by omega)]; exact one_at _
theorem sinTab_at (C : FVec Ideal S4096x16 .f32) (p : Fin 4608) (l : Fin 128) :
    (sinTab C (ix2 p l) : EReal) = if h : 512 ≤ p.val ∧ 64 ≤ l.val ∧ l.val < 96 then
      (if l.val % 2 = 0 then -C (ix2 ⟨p.val - 512, by omega⟩ ⟨(l.val - 64) / 2, by omega⟩) else C (ix2 ⟨p.val - 512, by omega⟩ ⟨(l.val - 64) / 2, by omega⟩)) else 0 := by
  by_cases h : 512 ≤ p.val ∧ 64 ≤ l.val ∧ l.val < 96
  · rw [dif_pos h]
    by_cases h3 : l.val % 2 = 0
    · rw [if_pos h3]
      unfold sinTab
      pointwise
      exact (dif_neg (by omega)).trans ((dif_pos (by omega)).trans (dif_pos (by omega)))
    · rw [if_neg h3]
      unfold sinTab
      pointwise
      exact (dif_neg (by omega)).trans ((dif_pos (by omega)).trans (dif_neg (by omega)))
  · rw [dif_neg h]
    unfold sinTab
    pointwise
    by_cases h2 : p.val < 512
    · exact dif_pos h2
    · exact (dif_neg h2).trans ((dif_neg (by omega)).trans (zer_at _))
end Cert.Hd
-- ==== Proof.HeadsIdeal.Turn.lean ====
/- A head's lanes: the kernel's finished row against the row normalised, rotated and scaled. -/
module

public import proofs.«01_k».proof.Proof.HeadsIdeal.Tables

@[expose] public section

noncomputable section

namespace Cert.Hd

open Idealize.ShloMosaic

/-! ## The reciprocal root -/

theorem eps_eq : FloatOps.ofBits (F := Ideal) .f32 0x358637BD#32 = ((8796093 * (2 : ℝ)⁻¹ ^ 43 : ℝ) : EReal) := by
  show Ideal.ofBits .f32 0x358637BD#32 = _
  simp [Ideal.ofBits, Ideal.ieee, -EReal.coe_mul]

theorem d_eq : FloatOps.ofBits (F := Ideal) .f32 0x42C00000#32 = ((96 : ℝ) : EReal) := by
  show Ideal.ofBits .f32 0x42C00000#32 = _
  simp [Ideal.ofBits, Ideal.ieee, -EReal.coe_mul]
  norm_num

theorem root_d (s : EReal) : root 0x42C00000#32 s = hroot s := by
  unfold root hroot
  rw [d_eq, Ideal.div_coe (by norm_num), one_div]

theorem hroot_nonneg {s : EReal} (hs : 0 ≤ s) : 0 ≤ hroot s ∧ hroot s ≠ ⊤ := by
  unfold hroot
  rw [eps_eq]
  induction s with
  | bot => exact absurd hs (by simp)
  | top =>
    rw [EReal.top_mul_coe_of_pos (by norm_num), EReal.top_add_coe, Ideal.rsqrt_top]
    exact ⟨le_rfl, EReal.zero_ne_top⟩
  | coe r =>
    have hr : 0 ≤ r := by exact_mod_cast hs
    have hp : 0 < r * (96 : ℝ)⁻¹ + 8796093 * (2 : ℝ)⁻¹ ^ 43 := by positivity
    rw [← EReal.coe_mul, ← EReal.coe_add, Ideal.rsqrt_coe, if_neg (not_lt.2 hp.le), if_neg hp.ne']
    exact ⟨by exact_mod_cast inv_nonneg.2 (Real.sqrt_nonneg _), EReal.coe_ne_top _⟩

theorem sq_nonneg' (a : EReal) : 0 ≤ a * a := by
  rcases le_total 0 a with h | h
  · exact mul_nonneg h h
  · rw [← neg_mul_neg]
    exact mul_nonneg (EReal.neg_nonneg.2 h) (EReal.neg_nonneg.2 h)

/-! ## Sums over the padded lanes -/

theorem wide_of_lt (f : Fin 96 → EReal) (l : Fin 128) (h : l.val < 96) : wide f l = f ⟨l.val, h⟩ := dif_pos h
theorem wide_of_ge (f : Fin 96 → EReal) (l : Fin 128) (h : ¬ l.val < 96) : wide f l = 0 := dif_neg h

theorem sum_wide (f : Fin 96 → EReal) : ∑ l, wide f l * wide f l = ∑ j, f j * f j := by
  refine (Fin.sum_univ_add (a := 96) (b := 32) (fun l : Fin (96 + 32) => wide f l * wide f l)).trans ?_
  rw [Finset.sum_eq_zero (s := Finset.univ) (f := fun i : Fin 32 => wide f (Fin.natAdd 96 i) * wide f (Fin.natAdd 96 i))
    (fun i _ => by rw [wide_of_ge f _ (by show ¬ 96 + i.val < 96; omega), zero_mul]), add_zero]
  refine Finset.sum_congr rfl fun j _ => ?_
  rw [wide_of_lt f _ (by show j.val < 96; omega)]; rfl

/-! ## A head -/

/-- A head's row normalised over its ninety-six lanes and weighted by its gains. -/
def normed (a g : Fin 96 → EReal) (j : Fin 96) : EReal := a j * hroot (∑ i, a i * a i) * g j

/-- A row rotated at a sample token: the last thirty-two lanes in pairs, by the token's position. -/
def turned (y : Fin 96 → EReal) (n : Fin 16384) (C S : Fin 4096 → Fin 16 → EReal) (j : Fin 96) : EReal :=
  if h : 8192 ≤ n.val ∧ 64 ≤ j.val then
    if j.val % 2 = 0 then
      y j * C ⟨(n.val - 8192) % 4096, by omega⟩ ⟨(j.val - 64) / 2, by omega⟩ - y (twin j) * S ⟨(n.val - 8192) % 4096, by omega⟩ ⟨(j.val - 64) / 2, by omega⟩
    else
      y (twin j) * S ⟨(n.val - 8192) % 4096, by omega⟩ ⟨(j.val - 64) / 2, by omega⟩ + y j * C ⟨(n.val - 8192) % 4096, by omega⟩ ⟨(j.val - 64) / 2, by omega⟩
  else y j

/-- A token's lane of the cosine table, and of the sine table. -/
def cosAt (n : Fin 16384) (C : Fin 4096 → Fin 16 → EReal) (l : Fin 128) : EReal :=
  if h : 8192 ≤ n.val ∧ 64 ≤ l.val ∧ l.val < 96 then C ⟨(n.val - 8192) % 4096, by omega⟩ ⟨(l.val - 64) / 2, by omega⟩ else 1
def sinAt (n : Fin 16384) (S : Fin 4096 → Fin 16 → EReal) (l : Fin 128) : EReal :=
  if h : 8192 ≤ n.val ∧ 64 ≤ l.val ∧ l.val < 96 then
    (if l.val % 2 = 0 then -S ⟨(n.val - 8192) % 4096, by omega⟩ ⟨(l.val - 64) / 2, by omega⟩ else S ⟨(n.val - 8192) % 4096, by omega⟩ ⟨(l.val - 64) / 2, by omega⟩) else 0

theorem pair_sum {rs sc : EReal} (h0 : 0 ≤ rs) (ht : rs ≠ ⊤) (s0 : 0 ≤ sc) (st : sc ≠ ⊤) (a1 a2 c s g1 g2 : EReal) :
    (a1 * (c * (g1 * sc)) + a2 * (s * (g2 * sc))) * rs = (a1 * rs * g1 * c + a2 * rs * g2 * s) * sc := by
  rw [EReal.right_distrib_of_nonneg_of_ne_top h0 ht, EReal.right_distrib_of_nonneg_of_ne_top s0 st]
  congr 1 <;> ac_rfl

theorem fin_eq (A B : Fin 128 → EReal) (a g : Fin 96 → EReal) {sc : EReal} (s0 : 0 ≤ sc) (st : sc ≠ ⊤) (n : Fin 16384) (C S : Fin 4096 → Fin 16 → EReal)
    (hA : ∀ l, A l = wide a l) (hB : ∀ (l : Fin 128) (h : 64 ≤ l.val ∧ l.val < 96), B l = a (twin ⟨l.val, h.2⟩)) (l : Fin 128) {gc gs : EReal}
    (hc : gc = cosAt n C l * (wide g l * sc)) (hs : gs = sinAt n S l * (wide (fun j => g (twin j)) l * sc)) :
    fin A B gc gs l = wide (fun j => turned (normed a g) n C S j * sc) l := by
  have hsum : ∑ j, A j * A j = ∑ i, a i * a i := by
    rw [← sum_wide]; exact Finset.sum_congr rfl fun j _ => by rw [hA j]
  obtain ⟨h0, ht⟩ := hroot_nonneg (s := ∑ i, a i * a i) (Finset.sum_nonneg fun i _ => sq_nonneg' _)
  unfold fin
  rw [hsum, hc, hs, hA l]
  by_cases h96 : l.val < 96
  · rw [wide_of_lt _ _ h96, wide_of_lt _ _ h96, wide_of_lt _ _ h96, wide_of_lt _ _ h96]
    unfold turned cosAt sinAt
    by_cases h : 8192 ≤ n.val ∧ 64 ≤ l.val
    · rw [dif_pos (⟨h.1, h.2, h96⟩ : 8192 ≤ n.val ∧ 64 ≤ l.val ∧ l.val < 96), dif_pos (⟨h.1, h.2, h96⟩ : 8192 ≤ n.val ∧ 64 ≤ l.val ∧ l.val < 96), dif_pos h,
        hB l ⟨h.2, h96⟩, pair_sum h0 ht s0 st]
      unfold normed
      by_cases he : l.val % 2 = 0
      · rw [if_pos he, if_pos he, mul_neg, ← sub_eq_add_neg]
      · rw [if_neg he, if_neg he, add_comm]
    · rw [dif_neg (fun hh : 8192 ≤ n.val ∧ 64 ≤ l.val ∧ l.val < 96 => h ⟨hh.1, hh.2.1⟩), dif_neg (fun hh : 8192 ≤ n.val ∧ 64 ≤ l.val ∧ l.val < 96 => h ⟨hh.1, hh.2.1⟩),
        dif_neg h, zero_mul, mul_zero, add_zero, one_mul]
      unfold normed
      ac_rfl
  · rw [wide_of_ge _ _ h96, wide_of_ge _ _ h96, wide_of_ge _ _ h96, wide_of_ge _ _ h96]
    simp only [zero_mul, mul_zero, add_zero]
end Cert.Hd
-- ==== Proof.HeadsIdeal.Token.lean ====
/- What the seven results hold at a token, in the arguments. -/
module

public import proofs.«01_k».proof.Proof.HeadsIdeal.Turn

@[expose] public section

noncomputable section

namespace Cert.Hd

open Cert.HeadsIdeal Cert.HeadsIdeal.Gen Idealize.ShloMosaic Idealize.ShloMosaic.TcCoe Idealize.SL.Sem
open Cert.Dn (mrow)

/-- The token normalised and modulated. -/
def xr (X : FVec Ideal S16384x1024 .f32) (M : FVec Ideal S8x8x1024 .f32) (g : FVec Ideal S1024 .f32) (n : Fin 16384) (k : Fin 1024) : EReal :=
  Mg.xmid (fun k => X (ix2 n k)) (fun p k => M (ix3 (mrow n) p k)) (fun k => g (ix1 k)) k

/-- The token's projections. -/
def pr (X : FVec Ideal S16384x1024 .f32) (M : FVec Ideal S8x8x1024 .f32) (g : FVec Ideal S1024 .f32) (W : FVec Ideal S1024x2464 .f32)
    (n : Fin 16384) (j : Fin 2464) : EReal := ∑ k, xr X M g n k * W (ix2 k j)

section
variable (p : Fin 2464 → EReal)

/-- The compressed keys' and values' row, normalised. -/
def ckn (g : FVec Ideal S128 .f32) (j : Fin 128) : EReal :=
  p ⟨768 + j.val, by omega⟩ * root 0x43000000#32 (∑ i : Fin 128, p ⟨768 + i.val, by omega⟩ * p ⟨768 + i.val, by omega⟩) * g (ix1 j)

/-- The compressed queries' row, normalised. -/
def qnm (g : FVec Ideal S256 .f32) (j : Fin 256) : EReal :=
  p ⟨512 + j.val, by omega⟩ * root 0x43800000#32 (∑ i : Fin 256, p ⟨512 + i.val, by omega⟩ * p ⟨512 + i.val, by omega⟩) * g (ix1 j)

/-- A query head's ninety-six lanes. -/
def qraw (q : Fin 256 → EReal) (U : FVec Ideal S256x8x96 .f32) (h : Fin 8) (j : Fin 96) : EReal := ∑ k, q k * U (ix3 k h j)

/-- The rotated key lanes at their place among the ninety-six. -/
def krt (j : Fin 96) : EReal := if h : j.val < 64 then 0 else p ⟨896 + (j.val - 64), by omega⟩

/-- A key head's ninety-six lanes. -/
def kraw (q : Fin 128 → EReal) (U : FVec Ideal S128x8x64 .f32) (h : Fin 8) (j : Fin 96) : EReal :=
  if hj : j.val < 64 then ∑ k, q k * U (ix3 k h ⟨j.val, hj⟩) else p ⟨896 + (j.val - 64), by omega⟩
end

/-- The scores' scale in base two. -/
def sca : EReal := (((Real.log 2)⁻¹ * (Real.sqrt 96)⁻¹ : ℝ) : EReal)

theorem sca_nonneg : 0 ≤ sca := EReal.coe_nonneg.2 (mul_nonneg (inv_nonneg.2 (Real.log_nonneg (by norm_num))) (inv_nonneg.2 (Real.sqrt_nonneg _)))
theorem sca_ne_top : sca ≠ ⊤ := EReal.coe_ne_top _

/-- A query lane of the result. -/
def qout (q : Fin 256 → EReal) (U : FVec Ideal S256x8x96 .f32) (g : FVec Ideal S96 .f32) (C S : FVec Ideal S4096x16 .f32) (n : Fin 16384) (h : Fin 8)
    (l : Fin 128) : EReal :=
  wide (fun j => turned (normed (qraw q U h) (fun j => g (ix1 j))) n (fun p i => C (ix2 p i)) (fun p i => S (ix2 p i)) j * sca) l

/-- A key lane of the result. -/
def kout (p : Fin 2464 → EReal) (q : Fin 128 → EReal) (U : FVec Ideal S128x8x64 .f32) (g : FVec Ideal S96 .f32) (C S : FVec Ideal S4096x16 .f32)
    (n : Fin 16384) (h : Fin 8) (l : Fin 128) : EReal :=
  wide (turned (normed (kraw p q U h) (fun j => g (ix1 j))) n (fun p i => C (ix2 p i)) (fun p i => S (ix2 p i))) l

/-- A value lane of the result. -/
def vout (q : Fin 128 → EReal) (U : FVec Ideal S128x8x64 .f32) (l : Fin 512) : EReal := ∑ k, q k * U (ix3 k ⟨l.val / 64, by omega⟩ ⟨l.val % 64, by omega⟩)

theorem sum_mul_wide {K : Nat} (x : Fin K → EReal) (f : Fin K → Fin 96 → EReal) (l : Fin 128) :
    (∑ k, x k * wide (f k) l) = wide (fun j => ∑ k, x k * f k j) l := by
  by_cases h : l.val < 96
  · rw [wide_of_lt _ l h]
    exact Finset.sum_congr rfl fun k _ => by rw [wide_of_lt _ l h]
  · rw [wide_of_ge _ l h]
    exact Finset.sum_eq_zero fun k _ => by rw [wide_of_ge _ l h, mul_zero]

theorem twin_ge {j : Fin 96} (h : 64 ≤ j.val) : ¬ (twin j).val < 64 := by
  rw [show twin j = ⟨64 + (mate ⟨j.val - 64, by omega⟩).val, by omega⟩ from dif_neg (by omega)]
  show ¬ 64 + _ < 64
  omega

theorem kr_sum (x : Fin 1024 → EReal) (W : FVec Ideal S1024x2464 .f32) (p : Fin 2464 → EReal) (hp : ∀ j, p j = ∑ k, x k * W (ix2 k j)) (j : Fin 96) :
    (∑ k, x k * (krCols W (ix2 k j) : EReal)) = krt p j := by
  unfold krt
  by_cases h : j.val < 64
  · rw [dif_pos h]
    exact Finset.sum_eq_zero fun k _ => by rw [krCols_at, dif_pos h, mul_zero]
  · rw [dif_neg h, hp]
    exact Finset.sum_congr rfl fun k _ => by rw [krCols_at, dif_neg h]

theorem key_at (p : Fin 2464 → EReal) (q : Fin 128 → EReal) (U : FVec Ideal S128x8x64 .f32) (h : Fin 8) (l : Fin 128) :
    (∑ k, q k * (ukTab U (ix2 k (lane h l)) : EReal)) + wide (krt p) l = wide (kraw p q U h) l := by
  by_cases h6 : l.val < 64
  · rw [wide_of_lt _ l (by omega), wide_of_lt _ l (by omega)]
    unfold krt kraw
    rw [dif_pos h6, dif_pos h6, add_zero]
    exact Finset.sum_congr rfl fun k _ => by rw [ukTab_at, dif_pos h6]
  · rw [Finset.sum_eq_zero fun k _ => by rw [ukTab_at, dif_neg h6, mul_zero], zero_add]
    by_cases h9 : l.val < 96
    · rw [wide_of_lt _ l h9, wide_of_lt _ l h9]
      unfold krt kraw
      rw [dif_neg h6, dif_neg h6]
    · rw [wide_of_ge _ l h9, wide_of_ge _ l h9]

theorem key_twin (p : Fin 2464 → EReal) (q : Fin 128 → EReal) (U : FVec Ideal S128x8x64 .f32) (h : Fin 8) (l : Fin 128) (hl : 64 ≤ l.val ∧ l.val < 96) :
    wide (fun j => krt p (twin j)) l = kraw p q U h (twin ⟨l.val, hl.2⟩) := by
  rw [wide_of_lt _ l hl.2]
  unfold krt kraw
  rw [dif_neg (twin_ge hl.1), dif_neg (twin_ge hl.1)]

end Cert.Hd
-- ==== Proof.HeadsIdeal.Spin.lean ====
/- The reference's rotation and its layouts, element by element. -/
module

public import proofs.«01_k».proof.Proof.Gen.HeadsRefIdeal.Read
public import proofs.«01_k».proof.Proof.HeadsIdeal.Token

@[expose] public section

set_option maxRecDepth 16384

noncomputable section

namespace Cert.Hd

open Cert.HeadsRefIdeal Cert.HeadsRefIdeal.Gen Cert.HeadsRefIdeal.Read Idealize.ShloMosaic Idealize.ShloMosaic.TcCoe

section
variable (y : FVec Ideal S16384x8x96 .f32) (C S : FVec Ideal S4096x16 .f32)

/-- The sample tokens, by prompt and position. -/
def smp : FVec Ideal S2x4096x8x96 .f32 :=
  shapeCast S2x4096x8x96 (extractStridedSlice S8192x8x96 ![8192, 0, 0] y slices_S16384x8x96_S8192x8x96_8192_0_0) shapeCasts_S8192x8x96_S2x4096x8x96
theorem smp_at (p : Fin 2) (q : Fin 4096) (h : Fin 8) (j : Fin 96) :
    (smp y (ix4 p q h j) : EReal) = y (ix3 ⟨8192 + (p.val * 4096 + q.val), by omega⟩ h j) := by
  unfold smp
  pointwise

/-- The rotated lanes' even ones and odd ones. -/
def evn : FVec Ideal S2x4096x8x16 .f32 :=
  Host.slice S2x4096x8x16 ![0, 0, 0, 0] ![1, 1, 1, 2] (extractStridedSlice S2x4096x8x32 ![0, 0, 0, 64] (smp y) slices_S2x4096x8x96_S2x4096x8x32_0_0_0_64)
    slicesBy_S2x4096x8x32_S2x4096x8x16_0s1_0s1_0s1_0s2
def odd : FVec Ideal S2x4096x8x16 .f32 :=
  Host.slice S2x4096x8x16 ![0, 0, 0, 1] ![1, 1, 1, 2] (extractStridedSlice S2x4096x8x32 ![0, 0, 0, 64] (smp y) slices_S2x4096x8x96_S2x4096x8x32_0_0_0_64)
    slicesBy_S2x4096x8x32_S2x4096x8x16_0s1_0s1_0s1_1s2
theorem evn_at (p : Fin 2) (q : Fin 4096) (h : Fin 8) (f : Fin 16) : (evn y (ix4 p q h f) : EReal) = smp y (ix4 p q h ⟨64 + 2 * f.val, by omega⟩) := by
  unfold evn
  generalize smp y = z
  pointwise
theorem odd_at (p : Fin 2) (q : Fin 4096) (h : Fin 8) (f : Fin 16) : (odd y (ix4 p q h f) : EReal) = smp y (ix4 p q h ⟨64 + (2 * f.val + 1), by omega⟩) := by
  unfold odd
  generalize smp y = z
  pointwise
  refine congrArg z (funext fun a => Fin.ext ?_)
  match a with
  | ⟨0, _⟩ => dsimp; try omega
  | ⟨1, _⟩ => dsimp; try omega
  | ⟨2, _⟩ => dsimp; try omega
  | ⟨3, _⟩ => dsimp; omega

/-- A table over the prompts and the heads. -/
def tbl : FVec Ideal S2x4096x8x16 .f32 :=
  broadcastInDim S2x4096x8x16 ![0, 1, 2, 3] bcast_S1x4096x1x16_S2x4096x8x16_0_1_2_3 (broadcastInDim S1x4096x1x16 ![1, 2, 3] bcast_S4096x1x16_S1x4096x1x16_1_2_3
    (broadcastInDim S4096x1x16 ![0, 2] bcast_S4096x16_S4096x1x16_0_2 C))
theorem tbl_at (p : Fin 2) (q : Fin 4096) (h : Fin 8) (f : Fin 16) : (tbl C (ix4 p q h f) : EReal) = C (ix2 q f) := by
  unfold tbl
  pointwise

/-- The rotated pairs, laid side by side. -/
def prs (a b : FVec Ideal S2x4096x8x16 .f32) : FVec Ideal S2x4096x8x32 .f32 :=
  shapeCast S2x4096x8x32 (concatenate S2x4096x8x16x2 4 [⟨S2x4096x8x16x1, broadcastInDim S2x4096x8x16x1 ![0, 1, 2, 3] bcast_S2x4096x8x16_S2x4096x8x16x1_0_1_2_3 a⟩,
    ⟨S2x4096x8x16x1, broadcastInDim S2x4096x8x16x1 ![0, 1, 2, 3] bcast_S2x4096x8x16_S2x4096x8x16x1_0_1_2_3 b⟩] concatenates_S2x4096x8x16x1_S2x4096x8x16x1_S2x4096x8x16x2_d4)
    shapeCasts_S2x4096x8x16x2_S2x4096x8x32
theorem prs_at (a b : FVec Ideal S2x4096x8x16 .f32) (p : Fin 2) (q : Fin 4096) (h : Fin 8) (i : Fin 32) :
    (prs a b (ix4 p q h i) : EReal) = if i.val % 2 = 0 then a (ix4 p q h ⟨i.val / 2, by omega⟩) else b (ix4 p q h ⟨i.val / 2, by omega⟩) := by
  have e : (prs a b (ix4 p q h i) : EReal) = (concatenate S2x4096x8x16x2 4 [⟨S2x4096x8x16x1, broadcastInDim S2x4096x8x16x1 ![0, 1, 2, 3] bcast_S2x4096x8x16_S2x4096x8x16x1_0_1_2_3 a⟩,
    ⟨S2x4096x8x16x1, broadcastInDim S2x4096x8x16x1 ![0, 1, 2, 3] bcast_S2x4096x8x16_S2x4096x8x16x1_0_1_2_3 b⟩] concatenates_S2x4096x8x16x1_S2x4096x8x16x1_S2x4096x8x16x2_d4 : FVec Ideal S2x4096x8x16x2 .f32)
      (ix5 p q h ⟨i.val / 2, by omega⟩ ⟨i.val % 2, by omega⟩) := by
    unfold prs
    generalize (concatenate S2x4096x8x16x2 4 [⟨S2x4096x8x16x1, broadcastInDim S2x4096x8x16x1 ![0, 1, 2, 3] bcast_S2x4096x8x16_S2x4096x8x16x1_0_1_2_3 a⟩,
      ⟨S2x4096x8x16x1, broadcastInDim S2x4096x8x16x1 ![0, 1, 2, 3] bcast_S2x4096x8x16_S2x4096x8x16x1_0_1_2_3 b⟩] concatenates_S2x4096x8x16x1_S2x4096x8x16x1_S2x4096x8x16x2_d4 : FVec Ideal S2x4096x8x16x2 .f32) = z
    pointwise
  rw [e]
  pointwise
  by_cases h2 : i.val % 2 = 0
  · rw [if_pos h2]
    exact dif_pos (by omega)
  · rw [if_neg h2]
    exact dif_neg (by omega)

/-- The lanes before the rotated ones beside them. -/
def sid (a : FVec Ideal S2x4096x8x96 .f32) (b : FVec Ideal S2x4096x8x32 .f32) : FVec Ideal S2x4096x8x96 .f32 :=
  concatenate S2x4096x8x96 3 [⟨S2x4096x8x64, extractStridedSlice S2x4096x8x64 ![0, 0, 0, 0] a slices_S2x4096x8x96_S2x4096x8x64_0_0_0_0⟩, ⟨S2x4096x8x32, b⟩]
    concatenates_S2x4096x8x64_S2x4096x8x32_S2x4096x8x96_d3
theorem sid_at (a : FVec Ideal S2x4096x8x96 .f32) (b : FVec Ideal S2x4096x8x32 .f32) (p : Fin 2) (q : Fin 4096) (h : Fin 8) (j : Fin 96) :
    (sid a b (ix4 p q h j) : EReal) = if hj : j.val < 64 then a (ix4 p q h j) else b (ix4 p q h ⟨j.val - 64, by omega⟩) := by
  unfold sid
  pointwise

/-- The prompt tokens above the others. -/
def abv (b : FVec Ideal S2x4096x8x96 .f32) : FVec Ideal S16384x8x96 .f32 :=
  concatenate S16384x8x96 0 [⟨S8192x8x96, extractStridedSlice S8192x8x96 ![0, 0, 0] y slices_S16384x8x96_S8192x8x96_0_0_0⟩,
    ⟨S8192x8x96, shapeCast S8192x8x96 b shapeCasts_S2x4096x8x96_S8192x8x96⟩] concatenates_S8192x8x96_S8192x8x96_S16384x8x96_d0
theorem abv_at (b : FVec Ideal S2x4096x8x96 .f32) (n : Fin 16384) (h : Fin 8) (j : Fin 96) :
    (abv y b (ix3 n h j) : EReal) = if hn : n.val < 8192 then y (ix3 n h j) else b (ix4 ⟨(n.val - 8192) / 4096, by omega⟩ ⟨(n.val - 8192) % 4096, by omega⟩ h j) := by
  have e : ∀ n' : Fin 8192, (shapeCast S8192x8x96 b shapeCasts_S2x4096x8x96_S8192x8x96 : FVec Ideal S8192x8x96 .f32) (ix3 n' h j)
      = b (ix4 ⟨n'.val / 4096, by omega⟩ ⟨n'.val % 4096, by omega⟩ h j) := by
    intro n'
    pointwise
  unfold abv
  generalize (shapeCast S8192x8x96 b shapeCasts_S2x4096x8x96_S8192x8x96 : FVec Ideal S8192x8x96 .f32) = z at e ⊢
  pointwise
  by_cases hn : n.val < 8192
  · rw [dif_pos hn, dif_pos hn]
  · rw [dif_neg hn, dif_neg hn]
    exact e _

/-- The whole rotation. -/
def spun : FVec Ideal S16384x8x96 .f32 :=
  abv y (sid (smp y) (prs (subf (mulf (evn y) (tbl C)) (mulf (odd y) (tbl S))) (addf (mulf (evn y) (tbl S)) (mulf (odd y) (tbl C)))))

theorem spun_at (n : Fin 16384) (h : Fin 8) (j : Fin 96) :
    (spun y C S (ix3 n h j) : EReal) = turned (fun j => y (ix3 n h j)) n (fun p i => C (ix2 p i)) (fun p i => S (ix2 p i)) j := by
  unfold spun turned
  rw [abv_at]
  by_cases hn : n.val < 8192
  · rw [dif_pos hn, dif_neg (by omega)]
  · have e : ∀ j' : Fin 96, (smp y (ix4 ⟨(n.val - 8192) / 4096, by omega⟩ ⟨(n.val - 8192) % 4096, by omega⟩ h j') : EReal) = y (ix3 n h j') := fun j' =>
      (smp_at y _ _ h j').trans (congrArg (fun n' => (y (ix3 n' h j') : EReal)) (Fin.ext (by show 8192 + ((n.val - 8192) / 4096 * 4096 + (n.val - 8192) % 4096) = n.val; omega)))
    rw [dif_neg hn, sid_at]
    by_cases hj : j.val < 64
    · rw [dif_pos hj, dif_neg (by omega)]
      exact e j
    · rw [dif_neg hj, dif_pos ⟨by omega, by omega⟩, prs_at]
      have t0 : (twin j).val = 64 + (mate ⟨j.val - 64, by omega⟩).val := by
        rw [show twin j = ⟨64 + (mate ⟨j.val - 64, by omega⟩).val, by omega⟩ from dif_neg hj]
      by_cases h2 : j.val % 2 = 0
      · have t1 : (twin j).val = j.val + 1 := by
          rw [t0, show mate ⟨j.val - 64, by omega⟩ = ⟨j.val - 64 + 1, by omega⟩ from dif_pos (by show (j.val - 64) % 2 = 0; omega)]
          show 64 + (j.val - 64 + 1) = _
          omega
        rw [if_pos (by show (j.val - 64) % 2 = 0; omega), if_pos h2]
        show (evn y _ * tbl C _ - odd y _ * tbl S _ : EReal) = _
        rw [evn_at, odd_at, tbl_at, tbl_at, e, e]
        have e1 : (⟨64 + 2 * ((j.val - 64) / 2), by omega⟩ : Fin 96) = j := Fin.ext (by show 64 + 2 * ((j.val - 64) / 2) = _; omega)
        have e2 : (⟨64 + (2 * ((j.val - 64) / 2) + 1), by omega⟩ : Fin 96) = twin j := Fin.ext (by rw [t1]; show 64 + (2 * ((j.val - 64) / 2) + 1) = _; omega)
        rw [e1, e2]
      · have t1 : (twin j).val = j.val - 1 := by
          rw [t0, show mate ⟨j.val - 64, by omega⟩ = ⟨j.val - 64 - 1, by omega⟩ from dif_neg (by show ¬ (j.val - 64) % 2 = 0; omega)]
          show 64 + (j.val - 64 - 1) = _
          omega
        rw [if_neg (by show ¬ (j.val - 64) % 2 = 0; omega), if_neg h2]
        show (evn y _ * tbl S _ + odd y _ * tbl C _ : EReal) = _
        rw [evn_at, odd_at, tbl_at, tbl_at, e, e]
        have e1 : (⟨64 + 2 * ((j.val - 64) / 2), by omega⟩ : Fin 96) = twin j := Fin.ext (by rw [t1]; show 64 + 2 * ((j.val - 64) / 2) = _; omega)
        have e2 : (⟨64 + (2 * ((j.val - 64) / 2) + 1), by omega⟩ : Fin 96) = j := Fin.ext (by show 64 + (2 * ((j.val - 64) / 2) + 1) = _; omega)
        rw [e1, e2]

/-! ## Norms over the lanes, and the padded layouts -/

/-- The norm over a head's lanes, with its gain. -/
def hnorm (w : FVec Ideal S16384x8x96 .f32) (g : FVec Ideal S96 .f32) : FVec Ideal S16384x8x96 .f32 :=
  mulf (mulf w (broadcastInDim S16384x8x96 ![0, 1, 2] bcast_S16384x8x1_S16384x8x96_0_1_2 (Host.rsqrt (addf (Host.divf
      (broadcastInDim S16384x8x1 ![0, 1] bcast_S16384x8_S16384x8x1_0_1 (Host.reduceAdd (mulf w w) (constant S_ .f32 0x00000000#32) reducesTo_S16384x8x96_S16384x8_d2 h_S_))
      (broadcastInDim S16384x8x1 ![] bcast_S_S16384x8x1 (constant S_ .f32 0x42C00000#32))) (broadcastInDim S16384x8x1 ![] bcast_S_S16384x8x1 (constant S_ .f32 0x358637BD#32))))))
    (broadcastInDim S16384x8x96 ![0, 1, 2] bcast_S1x1x96_S16384x8x96_0_1_2 (broadcastInDim S1x1x96 ![2] bcast_S96_S1x1x96_2 g))
theorem hnorm_at (w : FVec Ideal S16384x8x96 .f32) (g : FVec Ideal S96 .f32) (n : Fin 16384) (h : Fin 8) (j : Fin 96) :
    (hnorm w g (ix3 n h j) : EReal) = normed (fun j => w (ix3 n h j)) (fun j => g (ix1 j)) j := by
  unfold normed
  rw [← root_d]
  unfold hnorm
  pointwise
  rfl

/-- A head's lanes padded, the heads beside each other. -/
def flat (w : FVec Ideal S16384x8x96 .f32) : FVec Ideal S16384x1024 .f32 :=
  shapeCast S16384x1024 (pad S16384x8x128 ![0, 0, 0] ![0, 0, 32] ![0, 0, 0] w zer pads_S16384x8x96_S16384x8x128_000_000_0320 h_S_) shapeCasts_S16384x8x128_S16384x1024
theorem flat_at (w : FVec Ideal S16384x8x96 .f32) (n : Fin 16384) (l : Fin 1024) :
    (flat w (ix2 n l) : EReal) = wide (fun j => w (ix3 n ⟨l.val / 128, by omega⟩ j)) ⟨l.val % 128, by omega⟩ := by
  have e : (flat w (ix2 n l) : EReal) = pad S16384x8x128 ![0, 0, 0] ![0, 0, 32] ![0, 0, 0] w zer pads_S16384x8x96_S16384x8x128_000_000_0320 h_S_
      (ix3 n ⟨l.val / 128, by omega⟩ ⟨l.val % 128, by omega⟩) := by
    unfold flat
    generalize (pad S16384x8x128 ![0, 0, 0] ![0, 0, 32] ![0, 0, 0] w zer pads_S16384x8x96_S16384x8x128_000_000_0320 h_S_ : FVec Ideal S16384x8x128 .f32) = z
    pointwise
  rw [e]; unfold wide
  pointwise
  by_cases h : l.val % 128 < 96
  · rw [dif_pos ⟨by omega, h⟩, dif_pos h]
  · rw [dif_neg (fun k => h k.2), dif_neg h]
    exact zer_at _

/-- The rotated lanes padded at their place. -/
theorem rpad_at (w : FVec Ideal S16384x32 .f32) (n : Fin 16384) (l : Fin 128) :
    ((pad S16384x128 ![0, 64] ![0, 32] ![0, 0] w zer pads_S16384x32_S16384x128_000_64320 h_S_ : FVec Ideal S16384x128 .f32) (ix2 n l) : EReal)
      = if h : 64 ≤ l.val ∧ l.val < 96 then w (ix2 n ⟨l.val - 64, by omega⟩) else 0 := by
  pointwise
  by_cases h : 64 ≤ l.val ∧ l.val < 96
  · rw [dif_pos ⟨h.1, by omega⟩, dif_pos h]
  · rw [dif_neg (fun k => h ⟨k.1, by omega⟩), dif_neg h]
    exact zer_at _

/-- A key head's lanes: its own before the shared rotated ones. -/
theorem kcat_at (a : FVec Ideal S16384x8x64 .f32) (b : FVec Ideal S16384x8x32 .f32) (n : Fin 16384) (h : Fin 8) (j : Fin 96) :
    ((concatenate S16384x8x96 2 [⟨S16384x8x64, a⟩, ⟨S16384x8x32, b⟩] concatenates_S16384x8x64_S16384x8x32_S16384x8x96_d2 : FVec Ideal S16384x8x96 .f32) (ix3 n h j) : EReal)
      = if hj : j.val < 64 then a (ix3 n h ⟨j.val, hj⟩) else b (ix3 n h ⟨j.val - 64, by omega⟩) := by
  pointwise

end

end Cert.Hd
-- ==== Proof.HeadsIdeal.Block.lean ====
/- The blocks a tile is handed, read in the arguments. -/
module

public import proofs.«01_k».proof.Proof.HeadsIdeal.Turn

@[expose] public section

noncomputable section

namespace Cert.Hd

open Cert.HeadsIdeal Cert.HeadsIdeal.Gen Cert.HeadsIdeal.Own Idealize.ShloMosaic Idealize.ShloMosaic.TcCoe Idealize.SL.Sem
open Cert.Dn (mrow)

/-- A token's row of the rotation tables. -/
def place (n : Fin 16384) : Fin 4608 := if h : n.val < 8192 then ⟨n.val % 512, by omega⟩ else ⟨512 + (n.val - 8192) % 4096, by omega⟩

theorem idx0 : ∀ t : Fin cfg0.N, win0_0.index t = ![(grid0.coords t 0).val, 0] := (by decide +kernel : ∀ t : Fin grid0.N, _)
theorem idx1 : ∀ t : Fin cfg0.N, win0_1.index t = ![if (grid0.coords t 0).val < 16 then 0 else 1 + ((grid0.coords t 0).val - 16) / 8, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![if (grid0.coords t 0).val < 16 then 0 else 1 + ((grid0.coords t 0).val - 16) % 8, 0] := (by decide +kernel : ∀ t : Fin grid0.N, _)
theorem idx13 : ∀ t : Fin cfg0.N, win0_13.index t = ![if (grid0.coords t 0).val < 16 then 0 else 1 + ((grid0.coords t 0).val - 16) % 8, 0] := (by decide +kernel : ∀ t : Fin grid0.N, _)
theorem idx14 : ∀ t : Fin cfg0.N, win0_14.index t = ![(grid0.coords t 0).val, 0] := (by decide +kernel : ∀ t : Fin grid0.N, _)
theorem idx15 : ∀ t : Fin cfg0.N, win0_15.index t = ![(grid0.coords t 0).val, 0] := (by decide +kernel : ∀ t : Fin grid0.N, _)
theorem idx16 : ∀ t : Fin cfg0.N, win0_16.index t = ![(grid0.coords t 0).val, 0] := (by decide +kernel : ∀ t : Fin grid0.N, _)
theorem idx17 : ∀ t : Fin cfg0.N, win0_17.index t = ![(grid0.coords t 0).val, 0] := (by decide +kernel : ∀ t : Fin grid0.N, _)
theorem idx18 : ∀ t : Fin cfg0.N, win0_18.index t = ![(grid0.coords t 0).val, 0] := (by decide +kernel : ∀ t : Fin grid0.N, _)
theorem idx19 : ∀ t : Fin cfg0.N, win0_19.index t = ![(grid0.coords t 0).val, 0] := (by decide +kernel : ∀ t : Fin grid0.N, _)
theorem idx20 : ∀ t : Fin cfg0.N, win0_20.index t = ![(grid0.coords t 0).val, 0] := (by decide +kernel : ∀ t : Fin grid0.N, _)

variable (m : (ℓ : Loc nD τ sig) → Buf (Elt Ideal) ℓ) (c : Dev nD)

/-- The arguments. -/
def argX : FVec Ideal S16384x1024 .f32 := m ((c : Thread nD τ).loc main_arg0)
def argM : FVec Ideal S8x8x1024 .f32 := m ((c : Thread nD τ).loc main_arg1)
def argG : FVec Ideal S1024 .f32 := m ((c : Thread nD τ).loc main_arg2)
def argW : FVec Ideal S1024x2464 .f32 := m ((c : Thread nD τ).loc main_arg3)
def argGkv : FVec Ideal S128 .f32 := m ((c : Thread nD τ).loc main_arg4)
def argGqn : FVec Ideal S256 .f32 := m ((c : Thread nD τ).loc main_arg5)
def argUq : FVec Ideal S256x8x96 .f32 := m ((c : Thread nD τ).loc main_arg6)
def argUk : FVec Ideal S128x8x64 .f32 := m ((c : Thread nD τ).loc main_arg7)
def argUv : FVec Ideal S128x8x64 .f32 := m ((c : Thread nD τ).loc main_arg8)
def argGq : FVec Ideal S96 .f32 := m ((c : Thread nD τ).loc main_arg9)
def argGk : FVec Ideal S96 .f32 := m ((c : Thread nD τ).loc main_arg10)
def argC : FVec Ideal S4096x16 .f32 := m ((c : Thread nD τ).loc main_arg11)
def argS : FVec Ideal S4096x16 .f32 := m ((c : Thread nD τ).loc main_arg12)

theorem after_app (a b : List (HloOp τ sig (Elt Ideal))) (F : Valuation τ sig (Elt Ideal)) : StableHlo.after (a ++ b) F = StableHlo.after b (StableHlo.after a F) := by
  induction a generalizing F with
  | nil => rfl
  | cons op l ih => exact ih _

/-- The buffers when the first weights' four parts are laid out. -/
def early : Valuation τ sig (Elt Ideal) := StableHlo.after (List.flatten [hostOps0, hostOps0_1, hostOps0_2, hostOps0_3]) (fun b => m (c, b))

set_option maxHeartbeats 800000 in
theorem V_w1 : (V m c main_v14 : S1024x2688.Idx → EReal) = StableHlo.after hostOps0_4 (early m c) (Proc.devRef .tc main_v14) := by
  have e : V m c main_v14 = StableHlo.after ((List.flatten [hostOps0, hostOps0_1, hostOps0_2, hostOps0_3] ++ hostOps0_4) ++ List.flatten [hostOps0_5, hostOps0_6, hostOps0_7, hostOps0_8, hostOps0_9, hostOps0_10, hostOps0_11, hostOps0_12, hostOps0_13, hostOps0_14, hostOps0_15, hostOps0_16, hostOps0_17]) (fun b => m (c, b)) (Proc.devRef .tc main_v14) := rfl
  rw [e, after_app, after_app]
  exact StableHlo.after_of_forall_not_mem (b := Proc.devRef .tc main_v14) _ _ (List.forall_iff_forall_mem.mp (by
    simp only [hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

abbrev u12 : HloOp τ sig (Elt Ideal) := StableHlo.unary main_arg3 main_v12 ((extractStridedSlice S1024x1536 ![0, 928] · slices_S1024x2464_S1024x1536_0_928) : (⟨S1024x2464, .f32⟩ : BufTy).Contents (Elt Ideal) → (⟨S1024x1536, .f32⟩ : BufTy).Contents (Elt Ideal))
abbrev n13 : HloOp τ sig (Elt Ideal) := StableHlo.nary ![main_v3, main_v4, main_v11, main_v12] main_v13 (fun u => (concatenate S1024x2688 1 [⟨S1024x896, (u 0 : (⟨S1024x896, .f32⟩ : BufTy).Contents (Elt Ideal))⟩, ⟨S1024x128, (u 1 : (⟨S1024x128, .f32⟩ : BufTy).Contents (Elt Ideal))⟩, ⟨S1024x128, (u 2 : (⟨S1024x128, .f32⟩ : BufTy).Contents (Elt Ideal))⟩, ⟨S1024x1536, (u 3 : (⟨S1024x1536, .f32⟩ : BufTy).Contents (Elt Ideal))⟩] concatenates_S1024x896_S1024x128_S1024x128_S1024x1536_S1024x2688_d1 : (⟨S1024x2688, .f32⟩ : BufTy).Contents (Elt Ideal)))
abbrev u14 : HloOp τ sig (Elt Ideal) := StableHlo.unary main_v13 main_v14 (fun x : (⟨S1024x2688, .f32⟩ : BufTy).Contents (Elt Ideal) => (truncf (F := Ideal) (φ := .f32) .bf16 x bitsLt_bf16_f32 : (⟨S1024x2688, .bf16⟩ : BufTy).Contents (Elt Ideal)))
abbrev c14 : HloOp τ sig (Elt Ideal) := StableHlo.nullary main_c_1 (constantI S_ 32 0#32)

theorem cast_w1 (F : Valuation τ sig (Elt Ideal)) : (StableHlo.after [u14, c14] F (Proc.devRef .tc main_v14) : S1024x2688.Idx → EReal) = (F (Proc.devRef .tc main_v13) : S1024x2688.Idx → EReal) := by
  simp only [u14, c14]
  entry_read
  rfl
theorem cat_w1 (F : Valuation τ sig (Elt Ideal)) : (StableHlo.after [n13] F (Proc.devRef .tc main_v13) : S1024x2688.Idx → EReal)
    = (concatenate S1024x2688 1 [⟨S1024x896, (F (Proc.devRef .tc main_v3) : S1024x896.Idx → EReal)⟩, ⟨S1024x128, (F (Proc.devRef .tc main_v4) : S1024x128.Idx → EReal)⟩,
    ⟨S1024x128, (F (Proc.devRef .tc main_v11) : S1024x128.Idx → EReal)⟩, ⟨S1024x1536, (F (Proc.devRef .tc main_v12) : S1024x1536.Idx → EReal)⟩]
    concatenates_S1024x896_S1024x128_S1024x128_S1024x1536_S1024x2688_d1 : S1024x2688.Idx → EReal) :=
  by
  show (n13).result F (Proc.devRef .tc main_v13) = _
  exact StableHlo.nary_result ![main_v3, main_v4, main_v11, main_v12] main_v13 _ _ _ F

theorem join_w1 (F : Valuation τ sig (Elt Ideal)) (i : S1024x2688.Idx) : (StableHlo.after hostOps0_4 F (Proc.devRef .tc main_v14) : S1024x2688.Idx → EReal) i
    = (concatenate S1024x2688 1 [⟨S1024x896, (F (Proc.devRef .tc main_v3) : S1024x896.Idx → EReal)⟩, ⟨S1024x128, (F (Proc.devRef .tc main_v4) : S1024x128.Idx → EReal)⟩,
    ⟨S1024x128, (F (Proc.devRef .tc main_v11) : S1024x128.Idx → EReal)⟩, ⟨S1024x1536, extractStridedSlice S1024x1536 ![0, 928] (F (Proc.devRef .tc main_arg3) : S1024x2464.Idx → EReal) slices_S1024x2464_S1024x1536_0_928⟩]
    concatenates_S1024x896_S1024x128_S1024x128_S1024x1536_S1024x2688_d1 : S1024x2688.Idx → EReal) i := by
  have e3 : (StableHlo.after [u12] F (Proc.devRef .tc main_v3) : S1024x896.Idx → EReal) = F (Proc.devRef .tc main_v3) := by simp only [u12]; entry_read; rfl
  have e4 : (StableHlo.after [u12] F (Proc.devRef .tc main_v4) : S1024x128.Idx → EReal) = F (Proc.devRef .tc main_v4) := by simp only [u12]; entry_read; rfl
  have e11 : (StableHlo.after [u12] F (Proc.devRef .tc main_v11) : S1024x128.Idx → EReal) = F (Proc.devRef .tc main_v11) := by simp only [u12]; entry_read; rfl
  have e12 : (StableHlo.after [u12] F (Proc.devRef .tc main_v12) : S1024x1536.Idx → EReal)
      = extractStridedSlice S1024x1536 ![0, 928] (F (Proc.devRef .tc main_arg3) : S1024x2464.Idx → EReal) slices_S1024x2464_S1024x1536_0_928 := by
    simp only [u12]; entry_read; rfl
  rw [show (hostOps0_4 : List (HloOp τ sig (Elt Ideal))) = ([u12] ++ [n13]) ++ [u14, c14] from rfl, after_app, after_app, cast_w1, cat_w1, e3, e4, e11, e12]

theorem early_v3 : (early m c (Proc.devRef .tc main_v3) : S1024x896.Idx → EReal) = extractStridedSlice S1024x896 ![0, 0] (argW m c) slices_S1024x2464_S1024x896_0_0 := by
  simp only [early, hostOps0, hostOps0_1, hostOps0_2, hostOps0_3, List.flatten_cons, List.flatten_nil, List.append_nil, List.cons_append, List.nil_append]
  entry_read
  rfl
theorem early_v4 : (early m c (Proc.devRef .tc main_v4) : S1024x128.Idx → EReal) = padCols (krCols (argW m c)) := by
  simp only [early, hostOps0, hostOps0_1, hostOps0_2, hostOps0_3, List.flatten_cons, List.flatten_nil, List.append_nil, List.cons_append, List.nil_append]
  entry_read
  rfl
theorem early_v11 : (early m c (Proc.devRef .tc main_v11) : S1024x128.Idx → EReal) = padCols (krTwin (krCols (argW m c))) := by
  simp only [early, hostOps0, hostOps0_1, hostOps0_2, hostOps0_3, List.flatten_cons, List.flatten_nil, List.append_nil, List.cons_append, List.nil_append]
  entry_read
  rfl
theorem early_W : (early m c (Proc.devRef .tc main_arg3) : S1024x2464.Idx → EReal) = argW m c := by
  simp only [early, hostOps0, hostOps0_1, hostOps0_2, hostOps0_3, List.flatten_cons, List.flatten_nil, List.append_nil, List.cons_append, List.nil_append]
  entry_read
  rfl
theorem entry_W1 (i : S1024x2688.Idx) : (V m c main_v14 : S1024x2688.Idx → EReal) i = w1Tab (argW m c) i := by
  rw [V_w1, join_w1, early_v3, early_v4, early_v11, early_W]
  rfl

set_option maxRecDepth 30000 in
theorem entry_Uq (i : S256x1024.Idx) : (V m c main_v17 : S256x1024.Idx → EReal) i = uqTab (argUq m c) i := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl
set_option maxRecDepth 30000 in
theorem entry_Uqs (i : S256x1024.Idx) : (V m c main_v26 : S256x1024.Idx → EReal) i = uqTab (uqTwin (argUq m c)) i := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl
set_option maxRecDepth 30000 in
theorem entry_Uk (i : S128x1024.Idx) : (V m c main_v29 : S128x1024.Idx → EReal) i = ukTab (argUk m c) i := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl
set_option maxRecDepth 30000 in
theorem entry_Uv (i : S128x512.Idx) : (V m c main_v31 : S128x512.Idx → EReal) i = uvTab (argUv m c) i := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl
set_option maxRecDepth 30000 in
theorem entry_C (i : S4608x128.Idx) : (V m c main_v42 : S4608x128.Idx → EReal) i = cosTab (argC m c) i := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl
set_option maxRecDepth 30000 in
theorem entry_S (i : S4608x128.Idx) : (V m c main_v44 : S4608x128.Idx → EReal) i = sinTab (argS m c) i := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl
set_option maxRecDepth 30000 in
theorem entry_Gq (i : S8x128.Idx) : (V m c main_v57 : S8x128.Idx → EReal) i = gTab (argGq m c) i := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl
set_option maxRecDepth 30000 in
theorem entry_Gk (i : S8x128.Idx) : (V m c main_v67 : S8x128.Idx → EReal) i = gTab (argGk m c) i := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  rfl
theorem row_G (g : FVec Ideal S1024 .f32) (l : Fin 1024) : (broadcastInDim S1x1024 ![1] bcast_S1024_S1x1024_1 g : FVec Ideal S1x1024 .f32) (ix2 0 l) = g (ix1 l) := by
  pointwise
set_option maxRecDepth 30000 in
theorem entry_G (l : Fin 1024) : (V m c main_v45 : S1x1024.Idx → EReal) (ix2 0 l) = argG m c (ix1 l) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  exact row_G _ l
theorem row_Gkv (g : FVec Ideal S128 .f32) (l : Fin 128) : (broadcastInDim S1x128 ![1] bcast_S128_S1x128_1 g : FVec Ideal S1x128 .f32) (ix2 0 l) = g (ix1 l) := by
  pointwise
set_option maxRecDepth 30000 in
theorem entry_Gkv (l : Fin 128) : (V m c main_v46 : S1x128.Idx → EReal) (ix2 0 l) = argGkv m c (ix1 l) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  exact row_Gkv _ l
theorem row_Gqn (g : FVec Ideal S256 .f32) (l : Fin 256) : (broadcastInDim S1x256 ![1] bcast_S256_S1x256_1 g : FVec Ideal S1x256 .f32) (ix2 0 l) = g (ix1 l) := by
  pointwise
set_option maxRecDepth 30000 in
theorem entry_Gqn (l : Fin 256) : (V m c main_v47 : S1x256.Idx → EReal) (ix2 0 l) = argGqn m c (ix1 l) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append, List.nil_append]
  entry_read
  exact row_Gqn _ l
theorem entry_X (i : S16384x1024.Idx) : (V m c main_arg0 : S16384x1024.Idx → EReal) i = argX m c i := congrFun (V_arg0 m c) i
theorem entry_M (i : S8x8x1024.Idx) : (V m c main_arg1 : S8x8x1024.Idx → EReal) i = argM m c i := congrFun (V_arg1 m c) i

section
variable (t : Fin cfg0.N)
theorem blk_G (k : Fin 1024) : (iblk m c 2 t (ix2 0 k) : EReal) = argG m c (ix1 k) := by
  rw [← entry_G]
  blk_ext [iblk, idx2 t]
theorem blk_W1 (k : Fin 1024) (l : Fin 2688) : (iblk m c 3 t (ix2 k l) : EReal) = w1Tab (argW m c) (ix2 k l) := by
  rw [← entry_W1]
  blk_ext [iblk, idx3 t]
theorem blk_Gkv (k : Fin 128) : (iblk m c 4 t (ix2 0 k) : EReal) = argGkv m c (ix1 k) := by
  rw [← entry_Gkv]
  blk_ext [iblk, idx4 t]
theorem blk_Gqn (k : Fin 256) : (iblk m c 5 t (ix2 0 k) : EReal) = argGqn m c (ix1 k) := by
  rw [← entry_Gqn]
  blk_ext [iblk, idx5 t]
theorem blk_Uq (k : Fin 256) (l : Fin 1024) : (iblk m c 6 t (ix2 k l) : EReal) = uqTab (argUq m c) (ix2 k l) := by
  rw [← entry_Uq]
  blk_ext [iblk, idx6 t]
theorem blk_Uqs (k : Fin 256) (l : Fin 1024) : (iblk m c 7 t (ix2 k l) : EReal) = uqTab (uqTwin (argUq m c)) (ix2 k l) := by
  rw [← entry_Uqs]
  blk_ext [iblk, idx7 t]
theorem blk_Gq (k : Fin 8) (l : Fin 128) : (iblk m c 8 t (ix2 k l) : EReal) = gTab (argGq m c) (ix2 k l) := by
  rw [← entry_Gq]
  blk_ext [iblk, idx8 t]
theorem blk_Uk (k : Fin 128) (l : Fin 1024) : (iblk m c 9 t (ix2 k l) : EReal) = ukTab (argUk m c) (ix2 k l) := by
  rw [← entry_Uk]
  blk_ext [iblk, idx9 t]
theorem blk_Gk (k : Fin 8) (l : Fin 128) : (iblk m c 10 t (ix2 k l) : EReal) = gTab (argGk m c) (ix2 k l) := by
  rw [← entry_Gk]
  blk_ext [iblk, idx10 t]
theorem blk_Uv (k : Fin 128) (l : Fin 512) : (iblk m c 11 t (ix2 k l) : EReal) = uvTab (argUv m c) (ix2 k l) := by
  rw [← entry_Uv]
  blk_ext [iblk, idx11 t]
end

variable (t : Fin cfg0.N) (n : Fin 16384) (r : Fin 512) (hn : n.val = (grid0.coords t 0).val * 512 + r.val)
include hn

theorem blk_X (k : Fin 1024) : (iblk m c 0 t (ix2 r k) : EReal) = argX m c (ix2 n k) := by
  rw [← entry_X]
  blk_ext [iblk, idx0 t]
theorem blk_M (p : Fin 8) (k : Fin 1024) : (iblk m c 1 t (ix3 0 p k) : EReal) = argM m c (ix3 (mrow n) p k) := by
  have h : (mrow n).val = if (grid0.coords t 0).val < 16 then 0 else 1 + ((grid0.coords t 0).val - 16) / 8 := by
    show (if n.val < 8192 then 0 else 1 + (n.val - 8192) / 4096) = _
    split <;> split <;> omega
  rw [← entry_M]
  blk_ext [iblk, idx1 t]
omit m c in
theorem place_eq : (place n).val = (if (grid0.coords t 0).val < 16 then 0 else 1 + ((grid0.coords t 0).val - 16) % 8) * 512 + r.val := by
  unfold place
  split <;> split <;> dsimp only <;> omega
theorem blk_C (l : Fin 128) : (iblk m c 12 t (ix2 r l) : EReal) = cosTab (argC m c) (ix2 (place n) l) := by
  have h := place_eq t n r hn
  rw [← entry_C]
  blk_ext [iblk, idx12 t]
theorem blk_S (l : Fin 128) : (iblk m c 13 t (ix2 r l) : EReal) = sinTab (argS m c) (ix2 (place n) l) := by
  have h := place_eq t n r hn
  rw [← entry_S]
  blk_ext [iblk, idx13 t]
omit hn in
theorem cos_place (l : Fin 128) : (cosTab (argC m c) (ix2 (place n) l) : EReal) = cosAt n (fun p i => argC m c (ix2 p i)) l := by
  by_cases h : n.val < 8192
  · rw [show place n = ⟨n.val % 512, by omega⟩ from dif_pos h, cosTab_at]
    unfold cosAt
    rw [dif_neg (by dsimp only; omega), dif_neg (by omega)]
  · rw [show place n = ⟨512 + (n.val - 8192) % 4096, by omega⟩ from dif_neg h, cosTab_at]
    unfold cosAt
    by_cases hl : 64 ≤ l.val ∧ l.val < 96
    · rw [dif_pos (⟨Nat.le_add_right _ _, hl⟩ : 512 ≤ 512 + (n.val - 8192) % 4096 ∧ 64 ≤ l.val ∧ l.val < 96), dif_pos (⟨by omega, hl⟩ : 8192 ≤ n.val ∧ 64 ≤ l.val ∧ l.val < 96)]
      have e : ∀ hp, (⟨512 + (n.val - 8192) % 4096 - 512, hp⟩ : Fin 4096) = ⟨(n.val - 8192) % 4096, by omega⟩ := fun hp => Fin.ext (by dsimp only; omega)
      simp only [e]
    · rw [dif_neg (fun hh => hl hh.2), dif_neg (fun hh => hl hh.2)]
omit hn in
theorem sin_place (l : Fin 128) : (sinTab (argS m c) (ix2 (place n) l) : EReal) = sinAt n (fun p i => argS m c (ix2 p i)) l := by
  by_cases h : n.val < 8192
  · rw [show place n = ⟨n.val % 512, by omega⟩ from dif_pos h, sinTab_at]
    unfold sinAt
    rw [dif_neg (by dsimp only; omega), dif_neg (by omega)]
  · rw [show place n = ⟨512 + (n.val - 8192) % 4096, by omega⟩ from dif_neg h, sinTab_at]
    unfold sinAt
    by_cases hl : 64 ≤ l.val ∧ l.val < 96
    · rw [dif_pos (⟨Nat.le_add_right _ _, hl⟩ : 512 ≤ 512 + (n.val - 8192) % 4096 ∧ 64 ≤ l.val ∧ l.val < 96), dif_pos (⟨by omega, hl⟩ : 8192 ≤ n.val ∧ 64 ≤ l.val ∧ l.val < 96)]
      have e : ∀ hp, (⟨512 + (n.val - 8192) % 4096 - 512, hp⟩ : Fin 4096) = ⟨(n.val - 8192) % 4096, by omega⟩ := fun hp => Fin.ext (by dsimp only; omega)
      simp only [e]
    · rw [dif_neg (fun hh => hl hh.2), dif_neg (fun hh => hl hh.2)]
end Cert.Hd
-- ==== Proof.HeadsIdeal.Out.lean ====
/- The blocks a tile computes, at a token's row. -/
module

public import proofs.«01_k».proof.Proof.HeadsIdeal.Block
public import proofs.«01_k».proof.Proof.HeadsIdeal.Token
public import proofs.«01_k».proof.Proof.Merge.Out

@[expose] public section

noncomputable section

namespace Cert.Hd

open Cert.HeadsIdeal Cert.HeadsIdeal.Gen Cert.HeadsIdeal.Own Idealize.ShloMosaic Idealize.ShloMosaic.TcCoe Idealize.SL.Sem
open Cert.Dn (mrow)
open Cert.Mg (z2 ld_mod)

/-- Columns from an offset on, of a whole height. -/
theorem ld_cols {a b w : Nat} {e} (X : Vec Ideal ⟨2, ![a, b]⟩ e) (o : Nat) (inb) (k : Fin a) (l : Fin w) (c : Fin b) (hc : c.val = o + l.val) :
    (View.ld X (Rect.unit (s := ⟨2, ![a, b]⟩) ![0, o] (⟨2, ![a, w]⟩ : Shape).size inb) : Vec Ideal ⟨2, ![a, w]⟩ e) (ix2 k l) = X (ix2 k c) :=
  View.ld_unit_apply_of X _ _ _ _ _ fun a => match a with
    | ⟨0, _⟩ => (Nat.zero_add _).symm
    | ⟨1, _⟩ => hc

/-- A row of the gains. -/
theorem ld_gain (X : Vec Ideal S8x128 .f32) (o : Nat) (inb) (p : Fin 8) (hp : p.val = o) (l : Fin 128) :
    (View.ld X (Rect.unit (s := S8x128) ![o, 0] S1x128.size inb) : Vec Ideal S1x128 .f32) (ix2 0 l) = X (ix2 p l) :=
  View.ld_unit_apply_of X _ _ _ _ _ fun a => match a with
    | ⟨0, _⟩ => hp
    | ⟨1, _⟩ => (Nat.zero_add _).symm

variable (m : (ℓ : Loc nD τ sig) → Buf (Elt Ideal) ℓ) (c : Dev nD)

/-- The token's projections, and its normalised rows. -/
def prj (n : Fin 16384) : Fin 2464 → EReal := pr (argX m c) (argM m c) (argG m c) (argW m c) n
def qrow (n : Fin 16384) : Fin 256 → EReal := qnm (prj m c n) (argGqn m c)
def crow (n : Fin 16384) : Fin 128 → EReal := ckn (prj m c n) (argGkv m c)

theorem prj_eq (n : Fin 16384) (j : Fin 2464) : prj m c n j = ∑ k, xr (argX m c) (argM m c) (argG m c) n k * argW m c (ix2 k j) := rfl

variable (t : Fin cfg0.N) (n : Fin 16384) (r : Fin 512) (hn : n.val = (grid0.coords t 0).val * 512 + r.val)
include hn

theorem mod_at (k : Fin 1024) : (modRows (iblk m c 0 t) (iblk m c 1 t) (iblk m c 2 t) (ix2 r k) : EReal) = xr (argX m c) (argM m c) (argG m c) n k := by
  unfold modRows
  rw [pay2_apply, View.ld_unit_zero z2, View.ld_unit_zero z2, ld_mod _ 1 _ 1 rfl, ld_mod _ 0 _ 0 rfl]
  unfold xr Mg.xmid
  have h : (fun k => (iblk m c 0 t (ix2 r k) : EReal)) = fun k => argX m c (ix2 n k) := funext fun k => blk_X m c t n r hn k
  rw [h, blk_G, blk_M m c t n r hn, blk_M m c t n r hn]

theorem u_at (l : Fin 512) : (k0_pay3 (View.ld (iblk m c 0 t) at0) (View.ld (iblk m c 2 t) at1) (View.ld (iblk m c 1 t) at2) (View.ld (iblk m c 1 t) at3) (View.ld (iblk m c 3 t) at4) (ix2 r l) : EReal) = prj m c n ⟨0 + l.val, by omega⟩ := by
  rw [pay3_apply]
  rw [prj_eq]
  refine Finset.sum_congr rfl fun k _ => ?_
  rw [ld_cols _ 0 _ k l ⟨0 + l.val, by omega⟩ rfl, blk_W1, w1_left _ _ _ (by show 0 + l.val < 896; omega)]
  exact congrArg (· * _) (mod_at m c t n r hn k)

theorem q_at (l : Fin 256) : (qRows (iblk m c 0 t) (iblk m c 1 t) (iblk m c 2 t) (iblk m c 3 t) (ix2 r l) : EReal) = prj m c n ⟨512 + l.val, by omega⟩ := by
  unfold qRows
  rw [pay4_apply]
  rw [prj_eq]
  refine Finset.sum_congr rfl fun k _ => ?_
  rw [ld_cols _ 512 _ k l ⟨512 + l.val, by omega⟩ rfl, blk_W1, w1_left _ _ _ (by show 512 + l.val < 896; omega)]
  exact congrArg (· * _) (mod_at m c t n r hn k)

theorem y_at (l : Fin 1536) : (k0_pay7 (modRows (iblk m c 0 t) (iblk m c 1 t) (iblk m c 2 t)) (View.ld (iblk m c 3 t) at10) (ix2 r l) : EReal)
    = prj m c n ⟨928 + l.val, by omega⟩ := by
  rw [pay7_apply, prj_eq]
  refine Finset.sum_congr rfl fun k _ => ?_
  rw [ld_cols _ 1152 _ k l ⟨1152 + l.val, by omega⟩ rfl, blk_W1, w1_right _ _ _ l rfl, mod_at m c t n r hn]

theorem c_sum (l : Fin 128) : (∑ k, (modRows (iblk m c 0 t) (iblk m c 1 t) (iblk m c 2 t) (ix2 r k) : EReal)
    * ((View.ld (iblk m c 3 t) at7 : Vec Ideal S1024x128 .bf16) (ix2 k l) : EReal)) = prj m c n ⟨768 + l.val, by omega⟩ := by
  rw [prj_eq]
  refine Finset.sum_congr rfl fun k _ => ?_
  rw [ld_cols _ 768 _ k l ⟨768 + l.val, by omega⟩ rfl, blk_W1, w1_left _ _ _ (by show 768 + l.val < 896; omega), mod_at m c t n r hn]

theorem c_at (l : Fin 128) : (cRows (iblk m c 0 t) (iblk m c 1 t) (iblk m c 2 t) (iblk m c 3 t) (iblk m c 4 t) (ix2 r l) : EReal) = crow m c n l := by
  unfold cRows
  rw [pay8_apply, View.ld_unit_zero z2, blk_Gkv]
  simp only [c_sum m c t n r hn]
  rfl

theorem kr_at (l : Fin 128) : (krRows (iblk m c 0 t) (iblk m c 1 t) (iblk m c 2 t) (iblk m c 3 t) (ix2 r l) : EReal) = wide (krt (prj m c n)) l := by
  unfold krRows
  rw [pay5_apply]
  rw [Finset.sum_congr rfl fun k _ => by
    rw [ld_cols _ 896 _ k l ⟨896 + l.val, by omega⟩ rfl, blk_W1, w1_kr _ _ _ l rfl, padCols_at, mod_at m c t n r hn], sum_mul_wide]
  exact congrArg (wide · l) (funext fun j => kr_sum _ _ (prj m c n) (fun _ => rfl) j)

theorem ks_at (l : Fin 128) : (krSwap (iblk m c 0 t) (iblk m c 1 t) (iblk m c 2 t) (iblk m c 3 t) (ix2 r l) : EReal)
    = wide (fun j => krt (prj m c n) (twin j)) l := by
  unfold krSwap
  rw [pay6_apply]
  rw [Finset.sum_congr rfl fun k _ => by
    rw [ld_cols _ 1024 _ k l ⟨1024 + l.val, by omega⟩ rfl, blk_W1, w1_ks _ _ _ l rfl, padCols_at, mod_at m c t n r hn], sum_mul_wide]
  refine congrArg (wide · l) (funext fun j => ?_)
  exact (Finset.sum_congr rfl fun k _ => by rw [krTwin_at]).trans (kr_sum _ _ (prj m c n) (fun _ => rfl) (twin j))

theorem qn_at (l : Fin 256) : (qNormed (iblk m c 0 t) (iblk m c 1 t) (iblk m c 2 t) (iblk m c 3 t) (iblk m c 5 t) (ix2 r l) : EReal) = qrow m c n l := by
  unfold qNormed
  rw [pay11_apply, View.ld_unit_zero z2, blk_Gqn]
  simp only [q_at m c t n r hn]
  rfl

theorem cn_at (l : Fin 128) : (cNormed (iblk m c 0 t) (iblk m c 1 t) (iblk m c 2 t) (iblk m c 3 t) (iblk m c 4 t) (ix2 r l) : EReal) = crow m c n l := by
  unfold cNormed
  rw [pay12_apply]
  exact c_at m c t n r hn l

theorem v_at (x : Vec Ideal S128x512 .bf16) (hx : ∀ k l, (x (ix2 k l) : EReal) = uvTab (argUv m c) (ix2 k l)) (l : Fin 512) :
    (k0_pay13 (cRows (iblk m c 0 t) (iblk m c 1 t) (iblk m c 2 t) (iblk m c 3 t) (iblk m c 4 t)) (View.ld x at15) (ix2 r l) : EReal)
    = vout (crow m c n) (argUv m c) l := by
  rw [pay13_apply, View.ld_unit_zero z2]
  refine Finset.sum_congr rfl fun k _ => ?_
  rw [hx, uvTab_at, c_at m c t n r hn]

theorem gcq_at (l : Fin 128) : (gainCq (iblk m c 8 t) (iblk m c 12 t) (ix2 r l) : EReal)
    = cosAt n (fun p i => argC m c (ix2 p i)) l * (wide (fun j => argGq m c (ix1 j)) l * sca) := by
  unfold gainCq
  rw [pay16_apply, View.ld_unit_zero z2, ld_gain _ 0 _ 0 rfl, blk_C m c t n r hn, blk_Gq, gTab_at0, cos_place]
  rfl
theorem gsq_at (l : Fin 128) : (gainSq (iblk m c 8 t) (iblk m c 13 t) (ix2 r l) : EReal)
    = sinAt n (fun p i => argS m c (ix2 p i)) l * (wide (fun j => argGq m c (ix1 (twin j))) l * sca) := by
  unfold gainSq
  rw [pay17_apply, View.ld_unit_zero z2, ld_gain _ 1 _ 1 rfl, blk_S m c t n r hn, blk_Gq, gTab_at1, sin_place]
  rfl
theorem gck_at (l : Fin 128) : (gainCk (iblk m c 10 t) (iblk m c 12 t) (ix2 r l) : EReal)
    = cosAt n (fun p i => argC m c (ix2 p i)) l * (wide (fun j => argGk m c (ix1 j)) l * 1) := by
  unfold gainCk
  rw [pay18_apply, View.ld_unit_zero z2, ld_gain _ 0 _ 0 rfl, blk_C m c t n r hn, blk_Gk, gTab_at0, cos_place, mul_one]
theorem gsk_at (l : Fin 128) : (gainSk (iblk m c 10 t) (iblk m c 13 t) (ix2 r l) : EReal)
    = sinAt n (fun p i => argS m c (ix2 p i)) l * (wide (fun j => argGk m c (ix1 (twin j))) l * 1) := by
  unfold gainSk sinRows gainRow
  rw [pay20_apply, View.ld_unit_zero z2, ld_gain _ 1 _ 1 rfl, blk_S m c t n r hn, blk_Gk, gTab_at1, sin_place, mul_one]

/-- A query head, from its pair's columns. -/
theorem qhead (w w' : Vec Ideal S256x256 .bf16) (h : Fin 8) (p : Fin 128 → Fin 256) (l : Fin 128)
    (hw : ∀ k l, (w (ix2 k (p l)) : EReal) = iblk m c 6 t (ix2 k (lane h l))) (hw' : ∀ k l, (w' (ix2 k (p l)) : EReal) = iblk m c 7 t (ix2 k (lane h l))) :
    qfin (qNormed (iblk m c 0 t) (iblk m c 1 t) (iblk m c 2 t) (iblk m c 3 t) (iblk m c 5 t)) w w' (gainCq (iblk m c 8 t) (iblk m c 12 t)) (gainSq (iblk m c 8 t) (iblk m c 13 t)) r l p
      = qout (qrow m c n) (argUq m c) (argGq m c) (argC m c) (argS m c) n h l := by
  unfold qfin qout
  refine fin_eq _ _ (qraw (qrow m c n) (argUq m c) h) _ sca_nonneg sca_ne_top n _ _ (fun l => ?_) (fun l hl => ?_) l (gcq_at m c t n r hn l) (gsq_at m c t n r hn l)
  · rw [Finset.sum_congr rfl fun k _ => by rw [hw, blk_Uq, uqTab_at, qn_at m c t n r hn], sum_mul_wide]
    rfl
  · rw [Finset.sum_congr rfl fun k _ => by rw [hw', blk_Uqs, uqTab_at, qn_at m c t n r hn], sum_mul_wide, wide_of_lt _ l hl.2]
    exact Finset.sum_congr rfl fun k _ => by rw [uqTwin_at]

/-- A key head, from its pair's columns. -/
theorem khead (v : Vec Ideal S128x256 .bf16) (h : Fin 8) (p : Fin 128 → Fin 256) (l : Fin 128)
    (hv : ∀ k l, (v (ix2 k (p l)) : EReal) = iblk m c 9 t (ix2 k (lane h l))) :
    kfin (cNormed (iblk m c 0 t) (iblk m c 1 t) (iblk m c 2 t) (iblk m c 3 t) (iblk m c 4 t)) v (gainCk (iblk m c 10 t) (iblk m c 12 t)) (gainSk (iblk m c 10 t) (iblk m c 13 t))
        (krRows (iblk m c 0 t) (iblk m c 1 t) (iblk m c 2 t) (iblk m c 3 t)) (krSwap (iblk m c 0 t) (iblk m c 1 t) (iblk m c 2 t) (iblk m c 3 t)) r l p
      = kout (prj m c n) (crow m c n) (argUk m c) (argGk m c) (argC m c) (argS m c) n h l := by
  unfold kfin kout
  refine (fin_eq _ _ (kraw (prj m c n) (crow m c n) (argUk m c) h) _ zero_le_one (EReal.coe_ne_top 1) n _ _ (fun l => ?_) (fun l hl => ?_) l (gck_at m c t n r hn l) (gsk_at m c t n r hn l)).trans ?_
  · rw [Finset.sum_congr rfl fun k _ => by rw [hv, blk_Uk, cn_at m c t n r hn], kr_at m c t n r hn, key_at]
  · rw [ks_at m c t n r hn]
    exact key_twin _ _ _ _ _ hl
  · exact congrArg (wide · l) (funext fun j => mul_one _)

end Cert.Hd
-- ==== Proof.HeadsIdeal.Whole.lean ====
/- The projections' result arrays from their blocks. -/
module

public import proofs.«01_k».proof.Proof.HeadsIdeal.Out

@[expose] public section

noncomputable section

namespace Cert.Hd

open Cert.HeadsIdeal Cert.HeadsIdeal.Gen Cert.HeadsIdeal.Own Idealize.ShloMosaic Idealize.ShloMosaic.TcCoe Idealize.SL.Sem
open Cert.Mg (z2)

section
variable (X : FVec Ideal S16384x1024 .f32) (M : FVec Ideal S8x8x1024 .f32) (g : FVec Ideal S1024 .f32) (W : FVec Ideal S1024x2464 .f32)
  (gkv : FVec Ideal S128 .f32) (gqn : FVec Ideal S256 .f32) (Uq : FVec Ideal S256x8x96 .f32) (Uk Uv : FVec Ideal S128x8x64 .f32)
  (gq gk : FVec Ideal S96 .f32) (C S : FVec Ideal S4096x16 .f32)

/-- The seven results. -/
def res0 : FVec Ideal S16384x512 .f32 := fun i => pr X M g W (i 0) ⟨0 + (i 1).val, by have := (i 1).isLt; change _ < 512 at this; omega⟩
def res1 : FVec Ideal S16384x1536 .f32 := fun i => pr X M g W (i 0) ⟨928 + (i 1).val, by have := (i 1).isLt; change _ < 1536 at this; omega⟩
def res2 : FVec Ideal S16384x128 .f32 := fun i => ckn (pr X M g W (i 0)) gkv (i 1)
def res3 : FVec Ideal S16384x128 .f32 := fun i => wide (krt (pr X M g W (i 0))) (i 1)
def res4 : FVec Ideal S16384x1024 .bf16 := fun i => qout (qnm (pr X M g W (i 0)) gqn) Uq gq C S (i 0)
  ⟨(i 1).val / 128, by have := (i 1).isLt; change _ < 1024 at this; omega⟩ ⟨(i 1).val % 128, by omega⟩
def res5 : FVec Ideal S16384x1024 .bf16 := fun i => kout (pr X M g W (i 0)) (ckn (pr X M g W (i 0)) gkv) Uk gk C S (i 0)
  ⟨(i 1).val / 128, by have := (i 1).isLt; change _ < 1024 at this; omega⟩ ⟨(i 1).val % 128, by omega⟩
def res6 : FVec Ideal S16384x512 .bf16 := fun i => vout (ckn (pr X M g W (i 0)) gkv) Uv (i 1)
end

variable (m : (ℓ : Loc nD τ sig) → Buf (Elt Ideal) ℓ) (c : Dev nD)

def R0 : FVec Ideal S16384x512 .f32 := res0 (argX m c) (argM m c) (argG m c) (argW m c)
def R1 : FVec Ideal S16384x1536 .f32 := res1 (argX m c) (argM m c) (argG m c) (argW m c)
def R2 : FVec Ideal S16384x128 .f32 := res2 (argX m c) (argM m c) (argG m c) (argW m c) (argGkv m c)
def R3 : FVec Ideal S16384x128 .f32 := res3 (argX m c) (argM m c) (argG m c) (argW m c)
def R4 : FVec Ideal S16384x1024 .bf16 := res4 (argX m c) (argM m c) (argG m c) (argW m c) (argGqn m c) (argUq m c) (argGq m c) (argC m c) (argS m c)
def R5 : FVec Ideal S16384x1024 .bf16 := res5 (argX m c) (argM m c) (argG m c) (argW m c) (argGkv m c) (argUk m c) (argGk m c) (argC m c) (argS m c)
def R6 : FVec Ideal S16384x512 .bf16 := res6 (argX m c) (argM m c) (argG m c) (argW m c) (argGkv m c) (argUv m c)

section
variable (t : Fin cfg0.N) (n : Fin 16384) (r : Fin 512) (hn : n.val = (grid0.coords t 0).val * 512 + r.val)
include hn

theorem left14_at (l : Fin 512) : (left14 (iblk m c 0 t) (iblk m c 1 t) (iblk m c 2 t) (iblk m c 3 t) (ix2 r l) : EReal) = R0 m c (ix2 n l) := by
  unfold left14
  rw [View.canon_unit_zero z2]
  exact u_at m c t n r hn l

theorem left15_at (l : Fin 1536) : (left15 (iblk m c 0 t) (iblk m c 1 t) (iblk m c 2 t) (iblk m c 3 t) (ix2 r l) : EReal) = R1 m c (ix2 n l) := by
  unfold left15
  rw [View.canon_unit_zero z2]
  exact y_at m c t n r hn l

theorem left16_at (l : Fin 128) : (left16 (iblk m c 0 t) (iblk m c 1 t) (iblk m c 2 t) (iblk m c 3 t) (iblk m c 4 t) (ix2 r l) : EReal) = R2 m c (ix2 n l) := by
  unfold left16
  rw [View.canon_unit_zero z2]
  exact c_at m c t n r hn l

theorem left17_at (l : Fin 128) : (left17 (iblk m c 0 t) (iblk m c 1 t) (iblk m c 2 t) (iblk m c 3 t) (ix2 r l) : EReal) = R3 m c (ix2 n l) := by
  unfold left17
  rw [View.canon_unit_zero z2]
  exact kr_at m c t n r hn l

theorem left20_at (l : Fin 512) : (left20 (iblk m c 0 t) (iblk m c 1 t) (iblk m c 2 t) (iblk m c 3 t) (iblk m c 4 t) (iblk m c 11 t) (ix2 r l) : EReal) = R6 m c (ix2 n l) := by
  unfold left20
  rw [View.canon_unit_zero z2]
  exact v_at m c t n r hn (iblk m c 11 t) (blk_Uv m c t) l
end

/-- A query block's lane, and a key block's. -/
def qblk (t : Fin cfg0.N) (y : S512x1024.Idx) : EReal := R4 m c (ix2 ⟨(grid0.coords t 0).val * 512 + (y 0).val, by
  have := (y 0).isLt; change _ < 512 at this; have h := (grid0.coords t 0).isLt; change _ < 32 at h; omega⟩ (y 1))
def kblk (t : Fin cfg0.N) (y : S512x1024.Idx) : EReal := R5 m c (ix2 ⟨(grid0.coords t 0).val * 512 + (y 0).val, by
  have := (y 0).isLt; change _ < 512 at this; have h := (grid0.coords t 0).isLt; change _ < 32 at h; omega⟩ (y 1))

theorem row_lt (t : Fin cfg0.N) (r : Fin 512) : (grid0.coords t 0).val * 512 + r.val < 16384 := by
  have h := (grid0.coords t 0).isLt; change _ < 32 at h; omega

theorem qblk_at (t : Fin cfg0.N) (h : Fin 8) (r : Fin 512) (l : Fin 128) (y : S512x1024.Idx) (h0 : (y 0).val = r.val) (h1 : (y 1).val = h.val * 128 + l.val) :
    qout (qrow m c ⟨_, row_lt t r⟩) (argUq m c) (argGq m c) (argC m c) (argS m c) ⟨_, row_lt t r⟩ h l = qblk m c t y := by
  have e : (⟨_, row_lt t r⟩ : Fin 16384) = ⟨(grid0.coords t 0).val * 512 + (y 0).val, by rw [h0]; exact row_lt t r⟩ := Fin.ext (by show _ * 512 + r.val = _ * 512 + (y 0).val; rw [h0])
  rw [e]
  have e1 : h = ⟨(y 1).val / 128, by omega⟩ := Fin.ext (by show h.val = (y 1).val / 128; omega)
  have e2 : l = ⟨(y 1).val % 128, by omega⟩ := Fin.ext (by show l.val = (y 1).val % 128; omega)
  exact congr (congrArg _ e1) e2

theorem kblk_at (t : Fin cfg0.N) (h : Fin 8) (r : Fin 512) (l : Fin 128) (y : S512x1024.Idx) (h0 : (y 0).val = r.val) (h1 : (y 1).val = h.val * 128 + l.val) :
    kout (prj m c ⟨_, row_lt t r⟩) (crow m c ⟨_, row_lt t r⟩) (argUk m c) (argGk m c) (argC m c) (argS m c) ⟨_, row_lt t r⟩ h l = kblk m c t y := by
  have e : (⟨_, row_lt t r⟩ : Fin 16384) = ⟨(grid0.coords t 0).val * 512 + (y 0).val, by rw [h0]; exact row_lt t r⟩ := Fin.ext (by show _ * 512 + r.val = _ * 512 + (y 0).val; rw [h0])
  rw [e]
  have e1 : h = ⟨(y 1).val / 128, by omega⟩ := Fin.ext (by show h.val = (y 1).val / 128; omega)
  have e2 : l = ⟨(y 1).val % 128, by omega⟩ := Fin.ext (by show l.val = (y 1).val % 128; omega)
  exact congr (congrArg _ e1) e2

/-- Where a head's piece lies. -/
theorem piece0 (o : Nat) (inb) (r : Fin 512) (l : Fin 128) :
    ((Rect.unit (s := S512x1024) ![0, o] S512x128.size inb).emb (ix2 r l) 0).val = r.val := by
  rw [Rect.emb_apply]
  simp
theorem piece1 (o : Nat) (inb) (r : Fin 512) (l : Fin 128) :
    ((Rect.unit (s := S512x1024) ![0, o] S512x128.size inb).emb (ix2 r l) 1).val = o + l.val := by
  rw [Rect.emb_apply]
  simp

theorem left18_eq (t : Fin cfg0.N) (y : S512x1024.Idx) : (left18 (iblk m c 0 t) (iblk m c 1 t) (iblk m c 2 t) (iblk m c 3 t) (iblk m c 5 t) (iblk m c 6 t) (iblk m c 7 t) (iblk m c 8 t) (iblk m c 12 t) (iblk m c 13 t) y : EReal) = qblk m c t y := by
  unfold left18
  refine View.canon_apply_of_pieces (Val := Elt Ideal) (e := .bf16) (qblk m c t) _ (fun p hp x => ?_) y (covered18 _ _ _ _ _ _ _ _ y)
  rcases List.mem_cons.1 hp with rfl | hp
  · obtain ⟨r, l, rfl⟩ : ∃ (r : Fin 512) (l : Fin 128), x = ix2 r l := ⟨x 0, x 1, eq_ix2 x⟩
    exact (q7_apply _ _ _ _ _ _ _).trans ((qhead m c t _ r rfl _ _ 7 hi l (fun k l => (ld_cols _ 768 _ _ _ _ (by show 7 * 128 + _ = 768 + _; dsimp only [lo, hi] <;> omega))) (fun k l => (ld_cols _ 768 _ _ _ _ (by show 7 * 128 + _ = 768 + _; dsimp only [lo, hi] <;> omega)))).trans (qblk_at m c t 7 r l _ (piece0 _ inb_S512x1024_S512x128_0_896 _ _) (piece1 _ inb_S512x1024_S512x128_0_896 _ _)))
  rcases List.mem_cons.1 hp with rfl | hp
  · obtain ⟨r, l, rfl⟩ : ∃ (r : Fin 512) (l : Fin 128), x = ix2 r l := ⟨x 0, x 1, eq_ix2 x⟩
    exact (q6_apply _ _ _ _ _ _ _).trans ((qhead m c t _ r rfl _ _ 6 lo l (fun k l => (ld_cols _ 768 _ _ _ _ (by show 6 * 128 + _ = 768 + _; dsimp only [lo, hi] <;> omega))) (fun k l => (ld_cols _ 768 _ _ _ _ (by show 6 * 128 + _ = 768 + _; dsimp only [lo, hi] <;> omega)))).trans (qblk_at m c t 6 r l _ (piece0 _ inb_S512x1024_S512x128_0_768 _ _) (piece1 _ inb_S512x1024_S512x128_0_768 _ _)))
  rcases List.mem_cons.1 hp with rfl | hp
  · obtain ⟨r, l, rfl⟩ : ∃ (r : Fin 512) (l : Fin 128), x = ix2 r l := ⟨x 0, x 1, eq_ix2 x⟩
    exact (q5_apply _ _ _ _ _ _ _).trans ((qhead m c t _ r rfl _ _ 5 hi l (fun k l => (ld_cols _ 512 _ _ _ _ (by show 5 * 128 + _ = 512 + _; dsimp only [lo, hi] <;> omega))) (fun k l => (ld_cols _ 512 _ _ _ _ (by show 5 * 128 + _ = 512 + _; dsimp only [lo, hi] <;> omega)))).trans (qblk_at m c t 5 r l _ (piece0 _ inb_S512x1024_S512x128_0_640 _ _) (piece1 _ inb_S512x1024_S512x128_0_640 _ _)))
  rcases List.mem_cons.1 hp with rfl | hp
  · obtain ⟨r, l, rfl⟩ : ∃ (r : Fin 512) (l : Fin 128), x = ix2 r l := ⟨x 0, x 1, eq_ix2 x⟩
    exact (q4_apply _ _ _ _ _ _ _).trans ((qhead m c t _ r rfl _ _ 4 lo l (fun k l => (ld_cols _ 512 _ _ _ _ (by show 4 * 128 + _ = 512 + _; dsimp only [lo, hi] <;> omega))) (fun k l => (ld_cols _ 512 _ _ _ _ (by show 4 * 128 + _ = 512 + _; dsimp only [lo, hi] <;> omega)))).trans (qblk_at m c t 4 r l _ (piece0 _ inb_S512x1024_S512x128_0_512 _ _) (piece1 _ inb_S512x1024_S512x128_0_512 _ _)))
  rcases List.mem_cons.1 hp with rfl | hp
  · obtain ⟨r, l, rfl⟩ : ∃ (r : Fin 512) (l : Fin 128), x = ix2 r l := ⟨x 0, x 1, eq_ix2 x⟩
    exact (q3_apply _ _ _ _ _ _ _).trans ((qhead m c t _ r rfl _ _ 3 hi l (fun k l => (ld_cols _ 256 _ _ _ _ (by show 3 * 128 + _ = 256 + _; dsimp only [lo, hi] <;> omega))) (fun k l => (ld_cols _ 256 _ _ _ _ (by show 3 * 128 + _ = 256 + _; dsimp only [lo, hi] <;> omega)))).trans (qblk_at m c t 3 r l _ (piece0 _ inb_S512x1024_S512x128_0_384 _ _) (piece1 _ inb_S512x1024_S512x128_0_384 _ _)))
  rcases List.mem_cons.1 hp with rfl | hp
  · obtain ⟨r, l, rfl⟩ : ∃ (r : Fin 512) (l : Fin 128), x = ix2 r l := ⟨x 0, x 1, eq_ix2 x⟩
    exact (q2_apply _ _ _ _ _ _ _).trans ((qhead m c t _ r rfl _ _ 2 lo l (fun k l => (ld_cols _ 256 _ _ _ _ (by show 2 * 128 + _ = 256 + _; dsimp only [lo, hi] <;> omega))) (fun k l => (ld_cols _ 256 _ _ _ _ (by show 2 * 128 + _ = 256 + _; dsimp only [lo, hi] <;> omega)))).trans (qblk_at m c t 2 r l _ (piece0 _ inb_S512x1024_S512x128_0_256 _ _) (piece1 _ inb_S512x1024_S512x128_0_256 _ _)))
  rcases List.mem_cons.1 hp with rfl | hp
  · obtain ⟨r, l, rfl⟩ : ∃ (r : Fin 512) (l : Fin 128), x = ix2 r l := ⟨x 0, x 1, eq_ix2 x⟩
    exact (q1_apply _ _ _ _ _ _ _).trans ((qhead m c t _ r rfl _ _ 1 hi l (fun k l => (ld_cols _ 0 _ _ _ _ (by show 1 * 128 + _ = 0 + _; dsimp only [lo, hi] <;> omega))) (fun k l => (ld_cols _ 0 _ _ _ _ (by show 1 * 128 + _ = 0 + _; dsimp only [lo, hi] <;> omega)))).trans (qblk_at m c t 1 r l _ (piece0 _ inb_S512x1024_S512x128_0_128 _ _) (piece1 _ inb_S512x1024_S512x128_0_128 _ _)))
  rcases List.mem_cons.1 hp with rfl | hp
  · obtain ⟨r, l, rfl⟩ : ∃ (r : Fin 512) (l : Fin 128), x = ix2 r l := ⟨x 0, x 1, eq_ix2 x⟩
    exact (q0_apply _ _ _ _ _ _ _).trans ((qhead m c t _ r rfl _ _ 0 lo l (fun k l => (ld_cols _ 0 _ _ _ _ (by show 0 * 128 + _ = 0 + _; dsimp only [lo, hi] <;> omega))) (fun k l => (ld_cols _ 0 _ _ _ _ (by show 0 * 128 + _ = 0 + _; dsimp only [lo, hi] <;> omega)))).trans (qblk_at m c t 0 r l _ (piece0 _ inb_S512x1024_S512x128_0_0 _ _) (piece1 _ inb_S512x1024_S512x128_0_0 _ _)))
  · exact absurd hp (List.not_mem_nil)

theorem left19_eq (t : Fin cfg0.N) (y : S512x1024.Idx) : (left19 (iblk m c 0 t) (iblk m c 1 t) (iblk m c 2 t) (iblk m c 3 t) (iblk m c 4 t) (iblk m c 9 t) (iblk m c 10 t) (iblk m c 12 t) (iblk m c 13 t) y : EReal) = kblk m c t y := by
  unfold left19
  refine View.canon_apply_of_pieces (Val := Elt Ideal) (e := .bf16) (kblk m c t) _ (fun p hp x => ?_) y (covered19 _ _ _ _ _ _ _ _ y)
  rcases List.mem_cons.1 hp with rfl | hp
  · obtain ⟨r, l, rfl⟩ : ∃ (r : Fin 512) (l : Fin 128), x = ix2 r l := ⟨x 0, x 1, eq_ix2 x⟩
    exact (k7_apply _ _ _ _ _ _ _ _).trans ((khead m c t _ r rfl _ 7 hi l (fun k l => (ld_cols _ 768 _ _ _ _ (by show 7 * 128 + _ = 768 + _; dsimp only [lo, hi] <;> omega)))).trans (kblk_at m c t 7 r l _ (piece0 _ inb_S512x1024_S512x128_0_896 _ _) (piece1 _ inb_S512x1024_S512x128_0_896 _ _)))
  rcases List.mem_cons.1 hp with rfl | hp
  · obtain ⟨r, l, rfl⟩ : ∃ (r : Fin 512) (l : Fin 128), x = ix2 r l := ⟨x 0, x 1, eq_ix2 x⟩
    exact (k6_apply _ _ _ _ _ _ _ _).trans ((khead m c t _ r rfl _ 6 lo l (fun k l => (ld_cols _ 768 _ _ _ _ (by show 6 * 128 + _ = 768 + _; dsimp only [lo, hi] <;> omega)))).trans (kblk_at m c t 6 r l _ (piece0 _ inb_S512x1024_S512x128_0_768 _ _) (piece1 _ inb_S512x1024_S512x128_0_768 _ _)))
  rcases List.mem_cons.1 hp with rfl | hp
  · obtain ⟨r, l, rfl⟩ : ∃ (r : Fin 512) (l : Fin 128), x = ix2 r l := ⟨x 0, x 1, eq_ix2 x⟩
    exact (k5_apply _ _ _ _ _ _ _ _).trans ((khead m c t _ r rfl _ 5 hi l (fun k l => (ld_cols _ 512 _ _ _ _ (by show 5 * 128 + _ = 512 + _; dsimp only [lo, hi] <;> omega)))).trans (kblk_at m c t 5 r l _ (piece0 _ inb_S512x1024_S512x128_0_640 _ _) (piece1 _ inb_S512x1024_S512x128_0_640 _ _)))
  rcases List.mem_cons.1 hp with rfl | hp
  · obtain ⟨r, l, rfl⟩ : ∃ (r : Fin 512) (l : Fin 128), x = ix2 r l := ⟨x 0, x 1, eq_ix2 x⟩
    exact (k4_apply _ _ _ _ _ _ _ _).trans ((khead m c t _ r rfl _ 4 lo l (fun k l => (ld_cols _ 512 _ _ _ _ (by show 4 * 128 + _ = 512 + _; dsimp only [lo, hi] <;> omega)))).trans (kblk_at m c t 4 r l _ (piece0 _ inb_S512x1024_S512x128_0_512 _ _) (piece1 _ inb_S512x1024_S512x128_0_512 _ _)))
  rcases List.mem_cons.1 hp with rfl | hp
  · obtain ⟨r, l, rfl⟩ : ∃ (r : Fin 512) (l : Fin 128), x = ix2 r l := ⟨x 0, x 1, eq_ix2 x⟩
    exact (k3_apply _ _ _ _ _ _ _ _).trans ((khead m c t _ r rfl _ 3 hi l (fun k l => (ld_cols _ 256 _ _ _ _ (by show 3 * 128 + _ = 256 + _; dsimp only [lo, hi] <;> omega)))).trans (kblk_at m c t 3 r l _ (piece0 _ inb_S512x1024_S512x128_0_384 _ _) (piece1 _ inb_S512x1024_S512x128_0_384 _ _)))
  rcases List.mem_cons.1 hp with rfl | hp
  · obtain ⟨r, l, rfl⟩ : ∃ (r : Fin 512) (l : Fin 128), x = ix2 r l := ⟨x 0, x 1, eq_ix2 x⟩
    exact (k2_apply _ _ _ _ _ _ _ _).trans ((khead m c t _ r rfl _ 2 lo l (fun k l => (ld_cols _ 256 _ _ _ _ (by show 2 * 128 + _ = 256 + _; dsimp only [lo, hi] <;> omega)))).trans (kblk_at m c t 2 r l _ (piece0 _ inb_S512x1024_S512x128_0_256 _ _) (piece1 _ inb_S512x1024_S512x128_0_256 _ _)))
  rcases List.mem_cons.1 hp with rfl | hp
  · obtain ⟨r, l, rfl⟩ : ∃ (r : Fin 512) (l : Fin 128), x = ix2 r l := ⟨x 0, x 1, eq_ix2 x⟩
    exact (k1_apply _ _ _ _ _ _ _ _).trans ((khead m c t _ r rfl _ 1 hi l (fun k l => (ld_cols _ 0 _ _ _ _ (by show 1 * 128 + _ = 0 + _; dsimp only [lo, hi] <;> omega)))).trans (kblk_at m c t 1 r l _ (piece0 _ inb_S512x1024_S512x128_0_128 _ _) (piece1 _ inb_S512x1024_S512x128_0_128 _ _)))
  rcases List.mem_cons.1 hp with rfl | hp
  · obtain ⟨r, l, rfl⟩ : ∃ (r : Fin 512) (l : Fin 128), x = ix2 r l := ⟨x 0, x 1, eq_ix2 x⟩
    exact (k0_apply _ _ _ _ _ _ _ _ _).trans ((khead m c t _ r rfl _ 0 lo l (fun k l => (ld_cols _ 0 _ _ _ _ (by show 0 * 128 + _ = 0 + _; dsimp only [lo, hi] <;> omega)))).trans (kblk_at m c t 0 r l _ (piece0 _ inb_S512x1024_S512x128_0_0 _ _) (piece1 _ inb_S512x1024_S512x128_0_0 _ _)))
  · exact absurd hp (List.not_mem_nil)

theorem final14 : (dats m 0 c).arrAt 14 cfg0.N = R0 m c := by
  refine (dats m 0 c).arrAt_eq_of_covers 14 _ (by decide +kernel) fun t hf y => ?_
  blk_simp
  rw [after_14]
  obtain ⟨r, l, rfl⟩ : ∃ (r : Fin 512) (l : Fin 512), y = ix2 r l := ⟨y 0, y 1, eq_ix2 y⟩
  have e0 : ((win0_14.blk t).view.emb (ix2 r l) 0).val = (grid0.coords t 0).val * 512 + r.val := by blk_simp [idx14 t]
  have e1 : ((win0_14.blk t).view.emb (ix2 r l) 1).val = l.val := by blk_simp [idx14 t]
  refine (left14_at m c t ((win0_14.blk t).view.emb (ix2 r l) 0) r e0 l).trans ?_
  exact congrArg (R0 m c) (funext fun a => match a with | ⟨0, _⟩ => rfl | ⟨1, _⟩ => Fin.ext e1.symm)

theorem final15 : (dats m 0 c).arrAt 15 cfg0.N = R1 m c := by
  refine (dats m 0 c).arrAt_eq_of_covers 15 _ (by decide +kernel) fun t hf y => ?_
  blk_simp
  rw [after_15]
  obtain ⟨r, l, rfl⟩ : ∃ (r : Fin 512) (l : Fin 1536), y = ix2 r l := ⟨y 0, y 1, eq_ix2 y⟩
  have e0 : ((win0_15.blk t).view.emb (ix2 r l) 0).val = (grid0.coords t 0).val * 512 + r.val := by blk_simp [idx15 t]
  have e1 : ((win0_15.blk t).view.emb (ix2 r l) 1).val = l.val := by blk_simp [idx15 t]
  refine (left15_at m c t ((win0_15.blk t).view.emb (ix2 r l) 0) r e0 l).trans ?_
  exact congrArg (R1 m c) (funext fun a => match a with | ⟨0, _⟩ => rfl | ⟨1, _⟩ => Fin.ext e1.symm)

theorem final16 : (dats m 0 c).arrAt 16 cfg0.N = R2 m c := by
  refine (dats m 0 c).arrAt_eq_of_covers 16 _ (by decide +kernel) fun t hf y => ?_
  blk_simp
  rw [after_16]
  obtain ⟨r, l, rfl⟩ : ∃ (r : Fin 512) (l : Fin 128), y = ix2 r l := ⟨y 0, y 1, eq_ix2 y⟩
  have e0 : ((win0_16.blk t).view.emb (ix2 r l) 0).val = (grid0.coords t 0).val * 512 + r.val := by blk_simp [idx16 t]
  have e1 : ((win0_16.blk t).view.emb (ix2 r l) 1).val = l.val := by blk_simp [idx16 t]
  refine (left16_at m c t ((win0_16.blk t).view.emb (ix2 r l) 0) r e0 l).trans ?_
  exact congrArg (R2 m c) (funext fun a => match a with | ⟨0, _⟩ => rfl | ⟨1, _⟩ => Fin.ext e1.symm)

theorem final17 : (dats m 0 c).arrAt 17 cfg0.N = R3 m c := by
  refine (dats m 0 c).arrAt_eq_of_covers 17 _ (by decide +kernel) fun t hf y => ?_
  blk_simp
  rw [after_17]
  obtain ⟨r, l, rfl⟩ : ∃ (r : Fin 512) (l : Fin 128), y = ix2 r l := ⟨y 0, y 1, eq_ix2 y⟩
  have e0 : ((win0_17.blk t).view.emb (ix2 r l) 0).val = (grid0.coords t 0).val * 512 + r.val := by blk_simp [idx17 t]
  have e1 : ((win0_17.blk t).view.emb (ix2 r l) 1).val = l.val := by blk_simp [idx17 t]
  refine (left17_at m c t ((win0_17.blk t).view.emb (ix2 r l) 0) r e0 l).trans ?_
  exact congrArg (R3 m c) (funext fun a => match a with | ⟨0, _⟩ => rfl | ⟨1, _⟩ => Fin.ext e1.symm)

theorem final18 : (dats m 0 c).arrAt 18 cfg0.N = R4 m c := by
  refine (dats m 0 c).arrAt_eq_of_covers 18 _ (by decide +kernel) fun t hf y => ?_
  blk_simp
  rw [after_18]
  obtain ⟨r, l, rfl⟩ : ∃ (r : Fin 512) (l : Fin 1024), y = ix2 r l := ⟨y 0, y 1, eq_ix2 y⟩
  have e0 : ((win0_18.blk t).view.emb (ix2 r l) 0).val = (grid0.coords t 0).val * 512 + r.val := by blk_simp [idx18 t]
  have e1 : ((win0_18.blk t).view.emb (ix2 r l) 1).val = l.val := by blk_simp [idx18 t]
  refine (left18_eq m c t (ix2 r l)).trans ?_
  exact congrArg (R4 m c) (funext fun a => Fin.ext (match a with | ⟨0, _⟩ => e0.symm | ⟨1, _⟩ => e1.symm))

theorem final19 : (dats m 0 c).arrAt 19 cfg0.N = R5 m c := by
  refine (dats m 0 c).arrAt_eq_of_covers 19 _ (by decide +kernel) fun t hf y => ?_
  blk_simp
  rw [after_19]
  obtain ⟨r, l, rfl⟩ : ∃ (r : Fin 512) (l : Fin 1024), y = ix2 r l := ⟨y 0, y 1, eq_ix2 y⟩
  have e0 : ((win0_19.blk t).view.emb (ix2 r l) 0).val = (grid0.coords t 0).val * 512 + r.val := by blk_simp [idx19 t]
  have e1 : ((win0_19.blk t).view.emb (ix2 r l) 1).val = l.val := by blk_simp [idx19 t]
  refine (left19_eq m c t (ix2 r l)).trans ?_
  exact congrArg (R5 m c) (funext fun a => Fin.ext (match a with | ⟨0, _⟩ => e0.symm | ⟨1, _⟩ => e1.symm))

theorem final20 : (dats m 0 c).arrAt 20 cfg0.N = R6 m c := by
  refine (dats m 0 c).arrAt_eq_of_covers 20 _ (by decide +kernel) fun t hf y => ?_
  blk_simp
  rw [after_20]
  obtain ⟨r, l, rfl⟩ : ∃ (r : Fin 512) (l : Fin 512), y = ix2 r l := ⟨y 0, y 1, eq_ix2 y⟩
  have e0 : ((win0_20.blk t).view.emb (ix2 r l) 0).val = (grid0.coords t 0).val * 512 + r.val := by blk_simp [idx20 t]
  have e1 : ((win0_20.blk t).view.emb (ix2 r l) 1).val = l.val := by blk_simp [idx20 t]
  refine (left20_at m c t ((win0_20.blk t).view.emb (ix2 r l) 0) r e0 l).trans ?_
  exact congrArg (R6 m c) (funext fun a => match a with | ⟨0, _⟩ => rfl | ⟨1, _⟩ => Fin.ext e1.symm)

end Cert.Hd
-- ==== Proof.HeadsIdeal.Ref.lean ====
/- What the reference's seven results hold. -/
module

public import proofs.«01_k».proof.Proof.HeadsIdeal.Spin
public import proofs.«01_k».proof.Proof.HeadsIdeal.Whole
public import proofs.«01_k».proof.Proof.Merge.Ref

@[expose] public section

set_option maxRecDepth 16384

noncomputable section

namespace Cert.Hd

open Cert.HeadsRefIdeal Cert.HeadsRefIdeal.Gen Cert.HeadsRefIdeal.Read Idealize.ShloMosaic Idealize.ShloMosaic.TcCoe
open Cert.Dn (mrow rows_at)

section
variable (M : FVec Ideal S8x8x1024 .f32)

theorem mod0_at (n : Fin 16384) (l : Fin 1024) : (val_main_v7 (F := Ideal) M (ix2 n l) : EReal) = M (ix3 (mrow n) 0 l) := by
  unfold val_main_v7
  refine (rows_at _ _ n l).trans ?_
  by_cases h : n.val < 8192
  · rw [dif_pos h, val_main_v2_apply, val_main_v1_apply, val_main_v0_apply]
    refine congrArg M (funext fun a => Fin.ext ?_)
    match a with
    | ⟨0, _⟩ => show _ = (if n.val < 8192 then 0 else 1 + (n.val - 8192) / 4096); rw [if_pos h]
    | ⟨1, _⟩ => rfl
    | ⟨2, _⟩ => show (l.val % 1024) + 0 = l.val; omega
  · rw [dif_neg h, val_main_v6_apply, val_main_v5_apply, val_main_v4_apply, val_main_v3_apply]
    refine congrArg M (funext fun a => Fin.ext ?_)
    match a with
    | ⟨0, _⟩ => show _ = (if n.val < 8192 then 0 else 1 + (n.val - 8192) / 4096); rw [if_neg h]; show 1 + (((((n.val - 8192) * 1024 + l.val) / 4194304) * 1024 + (((n.val - 8192) * 1024 + l.val) % 1024)) / 1024) = _; omega
    | ⟨1, _⟩ => rfl
    | ⟨2, _⟩ => show ((((n.val - 8192) * 1024 + l.val) / 4194304) * 1024 + (((n.val - 8192) * 1024 + l.val) % 1024)) % 1024 = l.val; omega

theorem mod1_at (n : Fin 16384) (l : Fin 1024) : (val_main_v15 (F := Ideal) M (ix2 n l) : EReal) = M (ix3 (mrow n) 1 l) := by
  unfold val_main_v15
  refine (rows_at _ _ n l).trans ?_
  by_cases h : n.val < 8192
  · rw [dif_pos h, val_main_v10_apply, val_main_v9_apply, val_main_v8_apply]
    refine congrArg M (funext fun a => Fin.ext ?_)
    match a with
    | ⟨0, _⟩ => show _ = (if n.val < 8192 then 0 else 1 + (n.val - 8192) / 4096); rw [if_pos h]
    | ⟨1, _⟩ => rfl
    | ⟨2, _⟩ => show (l.val % 1024) + 0 = l.val; omega
  · rw [dif_neg h, val_main_v14_apply, val_main_v13_apply, val_main_v12_apply, val_main_v11_apply]
    refine congrArg M (funext fun a => Fin.ext ?_)
    match a with
    | ⟨0, _⟩ => show _ = (if n.val < 8192 then 0 else 1 + (n.val - 8192) / 4096); rw [if_neg h]; show 1 + (((((n.val - 8192) * 1024 + l.val) / 4194304) * 1024 + (((n.val - 8192) * 1024 + l.val) % 1024)) / 1024) = _; omega
    | ⟨1, _⟩ => rfl
    | ⟨2, _⟩ => show ((((n.val - 8192) * 1024 + l.val) / 4194304) * 1024 + (((n.val - 8192) * 1024 + l.val) % 1024)) % 1024 = l.val; omega
end

section
variable (P : FVec Ideal S16384x2464 .f32)

/-- The compressed keys' and values' norm, as the host composes it. -/
def cnorm (w : FVec Ideal S16384x128 .f32) (g : FVec Ideal S128 .f32) : FVec Ideal S16384x128 .f32 :=
  mulf (mulf w (broadcastInDim S16384x128 ![0, 1] bcast_S16384x1_S16384x128_0_1 (Host.rsqrt (addf (Host.divf
      (broadcastInDim S16384x1 ![0] bcast_S16384_S16384x1_0 (Host.reduceAdd (mulf w w) (constant S_ .f32 0x00000000#32) reducesTo_S16384x128_S16384_d1 h_S_))
      (broadcastInDim S16384x1 ![] bcast_S_S16384x1 (constant S_ .f32 0x43000000#32))) (broadcastInDim S16384x1 ![] bcast_S_S16384x1 (constant S_ .f32 0x358637BD#32))))))
    (broadcastInDim S16384x128 ![0, 1] bcast_S1x128_S16384x128_0_1 (broadcastInDim S1x128 ![1] bcast_S128_S1x128_1 g))
theorem cnorm_at (w : FVec Ideal S16384x128 .f32) (g : FVec Ideal S128 .f32) (n : Fin 16384) (j : Fin 128) :
    (cnorm w g (ix2 n j) : EReal) = w (ix2 n j) * root 0x43000000#32 (∑ i : Fin 128, w (ix2 n i) * w (ix2 n i)) * g (ix1 j) := by
  unfold cnorm
  pointwise
  rfl

/-- The compressed queries' norm, as the host composes it. -/
def qnorm (w : FVec Ideal S16384x256 .f32) (g : FVec Ideal S256 .f32) : FVec Ideal S16384x256 .f32 :=
  mulf (mulf w (broadcastInDim S16384x256 ![0, 1] bcast_S16384x1_S16384x256_0_1 (Host.rsqrt (addf (Host.divf
      (broadcastInDim S16384x1 ![0] bcast_S16384_S16384x1_0 (Host.reduceAdd (mulf w w) (constant S_ .f32 0x00000000#32) reducesTo_S16384x256_S16384_d1 h_S_))
      (broadcastInDim S16384x1 ![] bcast_S_S16384x1 (constant S_ .f32 0x43800000#32))) (broadcastInDim S16384x1 ![] bcast_S_S16384x1 (constant S_ .f32 0x358637BD#32))))))
    (broadcastInDim S16384x256 ![0, 1] bcast_S1x256_S16384x256_0_1 (broadcastInDim S1x256 ![1] bcast_S256_S1x256_1 g))
theorem qnorm_at (w : FVec Ideal S16384x256 .f32) (g : FVec Ideal S256 .f32) (n : Fin 16384) (j : Fin 256) :
    (qnorm w g (ix2 n j) : EReal) = w (ix2 n j) * root 0x43800000#32 (∑ i : Fin 256, w (ix2 n i) * w (ix2 n i)) * g (ix1 j) := by
  unfold qnorm
  pointwise
  rfl

theorem cut_u (n : Fin 16384) (j : Fin 512) :
    ((extractStridedSlice S16384x512 ![0, 0] P slices_S16384x2464_S16384x512_0_0 : FVec Ideal S16384x512 .f32) (ix2 n j) : EReal) = P (ix2 n ⟨0 + j.val, by omega⟩) := by
  pointwise
theorem cut_q (n : Fin 16384) (j : Fin 256) :
    ((extractStridedSlice S16384x256 ![0, 512] P slices_S16384x2464_S16384x256_0_512 : FVec Ideal S16384x256 .f32) (ix2 n j) : EReal) = P (ix2 n ⟨512 + j.val, by omega⟩) := by
  pointwise
theorem cut_c (n : Fin 16384) (j : Fin 128) :
    ((extractStridedSlice S16384x128 ![0, 768] P slices_S16384x2464_S16384x128_0_768 : FVec Ideal S16384x128 .f32) (ix2 n j) : EReal) = P (ix2 n ⟨768 + j.val, by omega⟩) := by
  pointwise
theorem cut_r (n : Fin 16384) (j : Fin 32) :
    ((extractStridedSlice S16384x32 ![0, 896] P slices_S16384x2464_S16384x32_0_896 : FVec Ideal S16384x32 .f32) (ix2 n j) : EReal) = P (ix2 n ⟨896 + j.val, by omega⟩) := by
  pointwise
theorem cut_z (n : Fin 16384) (j : Fin 1536) :
    ((extractStridedSlice S16384x1536 ![0, 928] P slices_S16384x2464_S16384x1536_0_928 : FVec Ideal S16384x1536 .f32) (ix2 n j) : EReal) = P (ix2 n ⟨928 + j.val, by omega⟩) := by
  pointwise

/-- A table of thirty-two lanes at each of the heads. -/
theorem each_at (w : FVec Ideal S16384x32 .f32) (n : Fin 16384) (h : Fin 8) (j : Fin 32) :
    ((broadcastInDim S16384x8x32 ![0, 1, 2] bcast_S16384x1x32_S16384x8x32_0_1_2 (broadcastInDim S16384x1x32 ![0, 2] bcast_S16384x32_S16384x1x32_0_2 w) : FVec Ideal S16384x8x32 .f32) (ix3 n h j) : EReal)
      = w (ix2 n j) := by
  pointwise

/-- The heads' sixty-four lanes side by side. -/
theorem rows64_at (w : FVec Ideal S16384x8x64 .f32) (n : Fin 16384) (l : Fin 512) :
    ((shapeCast S16384x512 w shapeCasts_S16384x8x64_S16384x512 : FVec Ideal S16384x512 .f32) (ix2 n l) : EReal) = w (ix3 n ⟨l.val / 64, by omega⟩ ⟨l.val % 64, by omega⟩) := by
  pointwise
end

variable (X : FVec Ideal S16384x1024 .f32) (M : FVec Ideal S8x8x1024 .f32) (g : FVec Ideal S1024 .f32) (W : FVec Ideal S1024x2464 .f32)
  (gkv : FVec Ideal S128 .f32) (gqn : FVec Ideal S256 .f32) (Uq : FVec Ideal S256x8x96 .f32) (Uk Uv : FVec Ideal S128x8x64 .f32)
  (gq gk : FVec Ideal S96 .f32) (C S : FVec Ideal S4096x16 .f32)

/-- The reciprocal root of a token's mean square. -/
theorem xroot_at (n : Fin 16384) (d : Fin 1024) : (val_main_v24 (F := Ideal) X (ix2 n d) : EReal) = Mg.rsq (∑ k, X (ix2 n k) * X (ix2 n k)) := by
  rw [val_main_v24_apply, val_main_v23_apply, val_main_v22_apply, val_main_v20_apply, val_main_v18_apply, val_main_v19_apply, val_main_cst_0_apply,
    val_main_v21_apply, val_main_cst_1_apply, val_main_v17_apply, val_main_cst_apply, Mg.zero_bits, zero_add]
  refine congrArg Mg.rsq (Finset.sum_congr rfl fun k _ => ?_)
  have e : idx_main_v17 (idx_main_v18 (idx_main_v24 (ix2 n d))) k = ix2 n k := by
    funext a
    match a with
    | ⟨0, _⟩ => rfl
    | ⟨1, _⟩ => rfl
  rw [e]
  rfl

theorem xr_at (n : Fin 16384) (d : Fin 1024) : (val_main_v32 (F := Ideal) X M g (ix2 n d) : EReal) = xr X M g n d := by
  rw [val_main_v32_apply, val_main_v31_apply, val_main_v28_apply, val_main_v25_apply, val_main_v30_apply]
  unfold xr Mg.xmid
  refine Mg.norm_of (x := fun k => X (ix2 n k)) (xroot_at X n d) ?_ ?_ (mod1_at M n d) (mod0_at M n d)
  · rw [val_main_v27_apply, val_main_v26_apply]
    refine congrArg g (funext fun a => ?_)
    match a with
    | ⟨0, _⟩ => rfl
  · rw [val_main_v29_apply, val_main_cst_2_apply]
    exact Ideal.ofBits_one_f32

theorem pr_at (n : Fin 16384) (j : Fin 2464) : (val_main_v33 (F := Ideal) X M g W (ix2 n j) : EReal) = pr X M g W n j := by
  rw [val_main_v33_apply]
  unfold pr
  refine Finset.sum_congr rfl fun k _ => ?_
  rw [← xr_at]
  refine congr (congrArg _ (congrArg (val_main_v32 (F := Ideal) X M g) (funext fun a => ?_))) (congrArg W (funext fun a => ?_))
  · match a with
    | ⟨0, _⟩ => rfl
    | ⟨1, _⟩ => rfl
  · match a with
    | ⟨0, _⟩ => rfl
    | ⟨1, _⟩ => rfl

theorem up_at (n : Fin 16384) (j : Fin 512) : (val_main_v34 (F := Ideal) X M g W (ix2 n j) : EReal) = pr X M g W n ⟨0 + j.val, by omega⟩ :=
  (cut_u _ n j).trans (pr_at X M g W n _)
theorem qp_at (n : Fin 16384) (j : Fin 256) : (val_main_v35 (F := Ideal) X M g W (ix2 n j) : EReal) = pr X M g W n ⟨512 + j.val, by omega⟩ :=
  (cut_q _ n j).trans (pr_at X M g W n _)
theorem cp_at (n : Fin 16384) (j : Fin 128) : (val_main_v36 (F := Ideal) X M g W (ix2 n j) : EReal) = pr X M g W n ⟨768 + j.val, by omega⟩ :=
  (cut_c _ n j).trans (pr_at X M g W n _)
theorem rp_at (n : Fin 16384) (j : Fin 32) : (val_main_v37 (F := Ideal) X M g W (ix2 n j) : EReal) = pr X M g W n ⟨896 + j.val, by omega⟩ :=
  (cut_r _ n j).trans (pr_at X M g W n _)
theorem zp_at (n : Fin 16384) (j : Fin 1536) : (val_main_v38 (F := Ideal) X M g W (ix2 n j) : EReal) = pr X M g W n ⟨928 + j.val, by omega⟩ :=
  (cut_z _ n j).trans (pr_at X M g W n _)

theorem c_eq : val_main_v51 (F := Ideal) X M g W gkv = cnorm (val_main_v36 (F := Ideal) X M g W) gkv := rfl
theorem c_ref (n : Fin 16384) (j : Fin 128) : (val_main_v51 (F := Ideal) X M g W gkv (ix2 n j) : EReal) = ckn (pr X M g W n) gkv j := by
  rw [c_eq, cnorm_at]
  unfold ckn
  simp only [cp_at]

theorem q_eq : val_main_v64 (F := Ideal) X M g W gqn = qnorm (val_main_v35 (F := Ideal) X M g W) gqn := rfl
theorem q_ref (n : Fin 16384) (j : Fin 256) : (val_main_v64 (F := Ideal) X M g W gqn (ix2 n j) : EReal) = qnm (pr X M g W n) gqn j := by
  rw [q_eq, qnorm_at]
  unfold qnm
  simp only [qp_at]

theorem qraw_ref (n : Fin 16384) (h : Fin 8) (j : Fin 96) :
    (val_main_v65 (F := Ideal) X M g W gqn Uq (ix3 n h j) : EReal) = qraw (qnm (pr X M g W n) gqn) Uq h j := by
  rw [val_main_v65_apply]
  unfold qraw
  refine Finset.sum_congr rfl fun k _ => ?_
  rw [← q_ref]
  refine congr (congrArg _ (congrArg (val_main_v64 (F := Ideal) X M g W gqn) (funext fun a => ?_))) (congrArg Uq (funext fun a => ?_))
  · match a with
    | ⟨0, _⟩ => rfl
    | ⟨1, _⟩ => rfl
  · match a with
    | ⟨0, _⟩ => rfl
    | ⟨1, _⟩ => rfl
    | ⟨2, _⟩ => rfl

theorem kdot_ref (n : Fin 16384) (h : Fin 8) (j : Fin 64) :
    (val_main_v111 (F := Ideal) X M g W gkv Uk (ix3 n h j) : EReal) = ∑ k, ckn (pr X M g W n) gkv k * Uk (ix3 k h j) := by
  rw [val_main_v111_apply]
  refine Finset.sum_congr rfl fun k _ => ?_
  rw [← c_ref]
  refine congr (congrArg _ (congrArg (val_main_v51 (F := Ideal) X M g W gkv) (funext fun a => ?_))) (congrArg Uk (funext fun a => ?_))
  · match a with
    | ⟨0, _⟩ => rfl
    | ⟨1, _⟩ => rfl
  · match a with
    | ⟨0, _⟩ => rfl
    | ⟨1, _⟩ => rfl
    | ⟨2, _⟩ => rfl

theorem vdot_ref (n : Fin 16384) (h : Fin 8) (j : Fin 64) :
    (val_main_v156 (F := Ideal) X M g W gkv Uv (ix3 n h j) : EReal) = ∑ k, ckn (pr X M g W n) gkv k * Uv (ix3 k h j) := by
  rw [val_main_v156_apply]
  refine Finset.sum_congr rfl fun k _ => ?_
  rw [← c_ref]
  refine congr (congrArg _ (congrArg (val_main_v51 (F := Ideal) X M g W gkv) (funext fun a => ?_))) (congrArg Uv (funext fun a => ?_))
  · match a with
    | ⟨0, _⟩ => rfl
    | ⟨1, _⟩ => rfl
  · match a with
    | ⟨0, _⟩ => rfl
    | ⟨1, _⟩ => rfl
    | ⟨2, _⟩ => rfl

theorem kraw_ref (n : Fin 16384) (h : Fin 8) (j : Fin 96) :
    (val_main_v112 (F := Ideal) X M g W gkv Uk (ix3 n h j) : EReal) = kraw (pr X M g W n) (ckn (pr X M g W n) gkv) Uk h j := by
  refine (kcat_at _ _ n h j).trans ?_
  unfold kraw
  by_cases hj : j.val < 64
  · rw [dif_pos hj, dif_pos hj]
    exact kdot_ref X M g W gkv Uk n h _
  · rw [dif_neg hj, dif_neg hj]
    exact (each_at _ n h _).trans (rp_at X M g W n _)

/-- The reference's scale. -/
theorem sca_ref (i : S_.Idx) : (val_main_v161 (F := Ideal) i : EReal) = sca := by
  rw [val_main_v161_apply, val_main_v160_apply, val_main_v158_apply, val_main_v159_apply, val_main_cst_15_apply, val_main_cst_16_apply, val_main_cst_17_apply]
  have h2 : (FloatOps.ofBits (F := Ideal) .f32 0x40000000#32 : EReal) = ((2 : ℝ) : EReal) := by
    show Ideal.ofBits .f32 0x40000000#32 = _
    simp [Ideal.ofBits, Ideal.ieee, -EReal.coe_mul]
    try norm_num
  have h1 : (FloatOps.ofBits (F := Ideal) .f32 0x3F800000#32 : EReal) = 1 := Ideal.ofBits_one_f32
  have h96 : (FloatOps.ofBits (F := Ideal) .f32 0x42C00000#32 : EReal) = ((96 : ℝ) : EReal) := d_eq
  rw [h2, h1, h96, Ideal.hostUnary_log_def, Ideal.hostUnary_sqrt_def, Ideal.log_coe, Ideal.sqrt_coe, if_neg (by norm_num), if_neg (by norm_num)]
  have hl : Real.log 2 ≠ 0 := (Real.log_pos (by norm_num)).ne'
  have hs : Real.sqrt 96 ≠ 0 := (Real.sqrt_pos.2 (by norm_num)).ne'
  show Ideal.div 1 ((Real.log 2 : EReal) * (Real.sqrt 96 : EReal)) = sca
  rw [← EReal.coe_mul, Ideal.div_coe (mul_ne_zero hl hs), one_mul, one_div, mul_inv, sca]

theorem qhead_eq : val_main_v78 (F := Ideal) X M g W gqn Uq gq = hnorm (val_main_v65 (F := Ideal) X M g W gqn Uq) gq := rfl
theorem qspun_eq : val_main_v108 (F := Ideal) X M g W gqn Uq gq C S = spun (val_main_v78 (F := Ideal) X M g W gqn Uq gq) C S := rfl
theorem khead_eq : val_main_v125 (F := Ideal) X M g W gkv Uk gk = hnorm (val_main_v112 (F := Ideal) X M g W gkv Uk) gk := rfl
theorem kspun_eq : val_main_v155 (F := Ideal) X M g W gkv Uk gk C S = spun (val_main_v125 (F := Ideal) X M g W gkv Uk gk) C S := rfl
theorem qflat_eq : val_main_v166 (F := Ideal) X M g W gqn Uq gq C S = flat (val_main_v164 (F := Ideal) X M g W gqn Uq gq C S) := rfl
theorem kflat_eq : val_main_v169 (F := Ideal) X M g W gkv Uk gk C S = flat (val_main_v155 (F := Ideal) X M g W gkv Uk gk C S) := rfl

theorem q_turned (n : Fin 16384) (h : Fin 8) (j : Fin 96) : (val_main_v164 (F := Ideal) X M g W gqn Uq gq C S (ix3 n h j) : EReal)
    = turned (normed (qraw (qnm (pr X M g W n) gqn) Uq h) (fun j => gq (ix1 j))) n (fun p i => C (ix2 p i)) (fun p i => S (ix2 p i)) j * sca := by
  rw [val_main_v164_apply, val_main_v163_apply, sca_ref, qspun_eq, spun_at, qhead_eq]
  simp only [hnorm_at, qraw_ref]
  rfl

theorem k_turned (n : Fin 16384) (h : Fin 8) (j : Fin 96) : (val_main_v155 (F := Ideal) X M g W gkv Uk gk C S (ix3 n h j) : EReal)
    = turned (normed (kraw (pr X M g W n) (ckn (pr X M g W n) gkv) Uk h) (fun j => gk (ix1 j))) n (fun p i => C (ix2 p i)) (fun p i => S (ix2 p i)) j := by
  rw [kspun_eq, spun_at, khead_eq]
  simp only [hnorm_at, kraw_ref]

theorem ref0_eq : val_main_v34 (F := Ideal) X M g W = res0 X M g W := by
  funext i
  obtain ⟨n, j, rfl⟩ : ∃ (n : Fin 16384) (j : Fin 512), i = ix2 n j := ⟨i 0, i 1, eq_ix2 i⟩
  exact up_at X M g W n j

theorem ref1_eq : val_main_v38 (F := Ideal) X M g W = res1 X M g W := by
  funext i
  obtain ⟨n, j, rfl⟩ : ∃ (n : Fin 16384) (j : Fin 1536), i = ix2 n j := ⟨i 0, i 1, eq_ix2 i⟩
  exact zp_at X M g W n j

theorem ref2_eq : val_main_v51 (F := Ideal) X M g W gkv = res2 X M g W gkv := by
  funext i
  obtain ⟨n, j, rfl⟩ : ∃ (n : Fin 16384) (j : Fin 128), i = ix2 n j := ⟨i 0, i 1, eq_ix2 i⟩
  exact c_ref X M g W gkv n j

theorem ref3_eq : val_main_v162 (F := Ideal) X M g W = res3 X M g W := by
  funext i
  obtain ⟨n, l, rfl⟩ : ∃ (n : Fin 16384) (l : Fin 128), i = ix2 n l := ⟨i 0, i 1, eq_ix2 i⟩
  refine (rpad_at _ n l).trans ?_
  show _ = wide (krt (pr X M g W n)) l
  by_cases h9 : l.val < 96
  · rw [wide_of_lt _ l h9]
    unfold krt
    by_cases h6 : l.val < 64
    · rw [dif_neg (by omega), dif_pos h6]
    · rw [dif_pos ⟨by omega, h9⟩, dif_neg h6]
      exact rp_at X M g W n _
  · rw [wide_of_ge _ l h9, dif_neg (by omega)]

theorem ref4_eq : val_main_v167 (F := Ideal) X M g W gqn Uq gq C S = res4 X M g W gqn Uq gq C S := by
  funext i
  obtain ⟨n, l, rfl⟩ : ∃ (n : Fin 16384) (l : Fin 1024), i = ix2 n l := ⟨i 0, i 1, eq_ix2 i⟩
  show (val_main_v166 (F := Ideal) X M g W gqn Uq gq C S (ix2 n l) : EReal)
    = qout (qnm (pr X M g W n) gqn) Uq gq C S n ⟨l.val / 128, by omega⟩ ⟨l.val % 128, by omega⟩
  rw [qflat_eq, flat_at]
  unfold qout
  simp only [q_turned]

theorem ref5_eq : val_main_v170 (F := Ideal) X M g W gkv Uk gk C S = res5 X M g W gkv Uk gk C S := by
  funext i
  obtain ⟨n, l, rfl⟩ : ∃ (n : Fin 16384) (l : Fin 1024), i = ix2 n l := ⟨i 0, i 1, eq_ix2 i⟩
  show (val_main_v169 (F := Ideal) X M g W gkv Uk gk C S (ix2 n l) : EReal)
    = kout (pr X M g W n) (ckn (pr X M g W n) gkv) Uk gk C S n ⟨l.val / 128, by omega⟩ ⟨l.val % 128, by omega⟩
  rw [kflat_eq, flat_at]
  unfold kout
  simp only [k_turned]

theorem ref6_eq : val_main_v171 (F := Ideal) X M g W gkv Uv = res6 X M g W gkv Uv := by
  funext i
  obtain ⟨n, l, rfl⟩ : ∃ (n : Fin 16384) (l : Fin 512), i = ix2 n l := ⟨i 0, i 1, eq_ix2 i⟩
  exact (rows64_at _ n l).trans (vdot_ref X M g W gkv Uv n _ _)

end Cert.Hd
-- ==== Proof.HeadsIdeal.Claims.lean ====
/- The heads' call: both programs run and leave the same seven arrays. -/
module

public import proofs.«01_k».proof.Proof.HeadsIdeal.Ref
public import proofs.«01_k».proof.Proof.Heads.Frame
public import proofs.«01_k».proof.Proof.Gen.HeadsRefIdeal.Run
public import proofs.«01_k».proof.Defs

@[expose] public section

noncomputable section

namespace Cert.Hd

open Idealize.ShloMosaic Idealize.ShloMosaic.TcCoe Idealize.SL.Sem

theorem frame : @Cert.quiescent_Heads Cert.Heads.Gen.facts := fun m g _ => Cert.Heads.Own.frame m g

theorem frame_ideal : @Cert.quiescent_HeadsIdeal Cert.HeadsIdeal.Gen.facts := fun m g _ => Cert.HeadsIdeal.Own.frame m g

/-- The reference runs, keeps its arguments and ends with every counter at zero. -/
theorem frame_ref : @Cert.quiescent_HeadsRefIdeal Cert.HeadsRefIdeal.Gen.facts := fun m g _ =>
  (θ_run Cert.HeadsRefIdeal.defs _ _).mono (fun r h => ⟨fun c => (h c).2.2.2.2.2.2.2, sem_eq_zero_of_no_sems (by decide) r.2⟩)
    (Cert.HeadsRefIdeal.Value.run (F := Ideal) m g)

/-- The constants the ideal program names are the kernel's. -/
theorem preserves : Cert.preserves_Heads_HeadsIdeal :=
  ⟨IdealRules.named_const.statement Cert.HeadsIdeal.κ "qk_scale" .f32 0x3E16C740#32 (((Real.log 2)⁻¹ * (Real.sqrt 96)⁻¹ : ℝ) : EReal) rfl,
    IdealRules.named_const.statement Cert.HeadsIdeal.κ "inv_d_qk" .f32 0x3C2AAAAB#32 ((96⁻¹ : ℝ) : EReal) rfl⟩

section
open Cert.HeadsIdeal Cert.HeadsIdeal.Gen Cert.HeadsIdeal.Own

set_option backward.isDefEq.respectTransparency.types false in
set_option maxHeartbeats 2000000 in
/-- The kernel's run ends with the seven arrays and the arguments as launched. -/
theorem run_seven (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v68_0) = R0 m c
      ∧ r.2.mem ((c.tc : Thread nD τ).loc main_v68_1) = R1 m c
      ∧ r.2.mem ((c.tc : Thread nD τ).loc main_v68_2) = R2 m c
      ∧ r.2.mem ((c.tc : Thread nD τ).loc main_v68_3) = R3 m c
      ∧ r.2.mem ((c.tc : Thread nD τ).loc main_v68_4) = R4 m c
      ∧ r.2.mem ((c.tc : Thread nD τ).loc main_v68_5) = R5 m c
      ∧ r.2.mem ((c.tc : Thread nD τ).loc main_v68_6) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c =>
    ⟨((h.1 c).1 14).trans (final14 m c),
     ((h.1 c).1 15).trans (final15 m c),
     ((h.1 c).1 16).trans (final16 m c),
     ((h.1 c).1 17).trans (final17 m c),
     ((h.1 c).1 18).trans (final18 m c),
     ((h.1 c).1 19).trans (final19 m c),
     ((h.1 c).1 20).trans (final20 m c),
     ((h.1 c).1 0).trans (((dats m 0 c).arrAt_in 0 rfl _).trans ((A_eq m c 0).trans (V_arg0 m c))),
     ((h.1 c).1 1).trans (((dats m 0 c).arrAt_in 1 rfl _).trans ((A_eq m c 1).trans (V_arg1 m c))),
     rest_kept m h.1 c main_arg2 (Pipeline.mem_restRefs_of main_arg2 (by decide) (by decide)) (V_arg2 m c),
     rest_kept m h.1 c main_arg3 (Pipeline.mem_restRefs_of main_arg3 (by decide) (by decide)) (V_arg3 m c),
     rest_kept m h.1 c main_arg4 (Pipeline.mem_restRefs_of main_arg4 (by decide) (by decide)) (V_arg4 m c),
     rest_kept m h.1 c main_arg5 (Pipeline.mem_restRefs_of main_arg5 (by decide) (by decide)) (V_arg5 m c),
     rest_kept m h.1 c main_arg6 (Pipeline.mem_restRefs_of main_arg6 (by decide) (by decide)) (V_arg6 m c),
     rest_kept m h.1 c main_arg7 (Pipeline.mem_restRefs_of main_arg7 (by decide) (by decide)) (V_arg7 m c),
     rest_kept m h.1 c main_arg8 (Pipeline.mem_restRefs_of main_arg8 (by decide) (by decide)) (V_arg8 m c),
     rest_kept m h.1 c main_arg9 (Pipeline.mem_restRefs_of main_arg9 (by decide) (by decide)) (V_arg9 m c),
     rest_kept m h.1 c main_arg10 (Pipeline.mem_restRefs_of main_arg10 (by decide) (by decide)) (V_arg10 m c),
     rest_kept m h.1 c main_arg11 (Pipeline.mem_restRefs_of main_arg11 (by decide) (by decide)) (V_arg11 m c),
     rest_kept m h.1 c main_arg12 (Pipeline.mem_restRefs_of main_arg12 (by decide) (by decide)) (V_arg12 m c)⟩)
    (run_ends m g)
end

set_option maxHeartbeats 2000000 in
/-- The kernel and the reference end with the same seven arrays. -/
theorem algebraic : @Cert.algebraic_HeadsIdeal_HeadsRefIdeal Cert.HeadsIdeal.Gen.facts Cert.HeadsRefIdeal.Gen.facts := by
  intro m g m' g' _ hagree
  refine ⟨fun c => R0 m c, fun c => R1 m c, fun c => R2 m c, fun c => R3 m c, fun c => R4 m c, fun c => R5 m c, fun c => R6 m c, run_seven m g, ?_⟩
  refine (θ_run _ _ _).mono (fun r h c => ?_) (Cert.HeadsRefIdeal.Value.run (F := Ideal) m' g')
  have a0 := (hagree c).1
  have a1 := (hagree c).2.1
  have a2 := (hagree c).2.2.1
  have a3 := (hagree c).2.2.2.1
  have a4 := (hagree c).2.2.2.2.1
  have a5 := (hagree c).2.2.2.2.2.1
  have a6 := (hagree c).2.2.2.2.2.2.1
  have a7 := (hagree c).2.2.2.2.2.2.2.1
  have a8 := (hagree c).2.2.2.2.2.2.2.2.1
  have a9 := (hagree c).2.2.2.2.2.2.2.2.2.1
  have a10 := (hagree c).2.2.2.2.2.2.2.2.2.2.1
  have a11 := (hagree c).2.2.2.2.2.2.2.2.2.2.2.1
  have a12 := (hagree c).2.2.2.2.2.2.2.2.2.2.2.2
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · refine (Cert.HeadsRefIdeal.Read.val_main_v34_eq (F := Ideal) _).trans ?_
    refine (ref0_eq _ _ _ _).trans ?_
    show res0 (m' ((c.tc : Thread Cert.HeadsRefIdeal.nD Cert.HeadsRefIdeal.τ).loc Cert.HeadsRefIdeal.main_arg0)) (m' ((c.tc : Thread Cert.HeadsRefIdeal.nD Cert.HeadsRefIdeal.τ).loc Cert.HeadsRefIdeal.main_arg1)) (m' ((c.tc : Thread Cert.HeadsRefIdeal.nD Cert.HeadsRefIdeal.τ).loc Cert.HeadsRefIdeal.main_arg2)) (m' ((c.tc : Thread Cert.HeadsRefIdeal.nD Cert.HeadsRefIdeal.τ).loc Cert.HeadsRefIdeal.main_arg3)) = R0 m c
    rw [a0, a1, a2, a3]
    rfl
  · refine (Cert.HeadsRefIdeal.Read.val_main_v38_eq (F := Ideal) _).trans ?_
    refine (ref1_eq _ _ _ _).trans ?_
    show res1 (m' ((c.tc : Thread Cert.HeadsRefIdeal.nD Cert.HeadsRefIdeal.τ).loc Cert.HeadsRefIdeal.main_arg0)) (m' ((c.tc : Thread Cert.HeadsRefIdeal.nD Cert.HeadsRefIdeal.τ).loc Cert.HeadsRefIdeal.main_arg1)) (m' ((c.tc : Thread Cert.HeadsRefIdeal.nD Cert.HeadsRefIdeal.τ).loc Cert.HeadsRefIdeal.main_arg2)) (m' ((c.tc : Thread Cert.HeadsRefIdeal.nD Cert.HeadsRefIdeal.τ).loc Cert.HeadsRefIdeal.main_arg3)) = R1 m c
    rw [a0, a1, a2, a3]
    rfl
  · refine (Cert.HeadsRefIdeal.Read.val_main_v51_eq (F := Ideal) _).trans ?_
    refine (ref2_eq _ _ _ _ _).trans ?_
    show res2 (m' ((c.tc : Thread Cert.HeadsRefIdeal.nD Cert.HeadsRefIdeal.τ).loc Cert.HeadsRefIdeal.main_arg0)) (m' ((c.tc : Thread Cert.HeadsRefIdeal.nD Cert.HeadsRefIdeal.τ).loc Cert.HeadsRefIdeal.main_arg1)) (m' ((c.tc : Thread Cert.HeadsRefIdeal.nD Cert.HeadsRefIdeal.τ).loc Cert.HeadsRefIdeal.main_arg2)) (m' ((c.tc : Thread Cert.HeadsRefIdeal.nD Cert.HeadsRefIdeal.τ).loc Cert.HeadsRefIdeal.main_arg3)) (m' ((c.tc : Thread Cert.HeadsRefIdeal.nD Cert.HeadsRefIdeal.τ).loc Cert.HeadsRefIdeal.main_arg4)) = R2 m c
    rw [a0, a1, a2, a3, a4]
    rfl
  · refine (Cert.HeadsRefIdeal.Read.val_main_v162_eq (F := Ideal) _).trans ?_
    refine (ref3_eq _ _ _ _).trans ?_
    show res3 (m' ((c.tc : Thread Cert.HeadsRefIdeal.nD Cert.HeadsRefIdeal.τ).loc Cert.HeadsRefIdeal.main_arg0)) (m' ((c.tc : Thread Cert.HeadsRefIdeal.nD Cert.HeadsRefIdeal.τ).loc Cert.HeadsRefIdeal.main_arg1)) (m' ((c.tc : Thread Cert.HeadsRefIdeal.nD Cert.HeadsRefIdeal.τ).loc Cert.HeadsRefIdeal.main_arg2)) (m' ((c.tc : Thread Cert.HeadsRefIdeal.nD Cert.HeadsRefIdeal.τ).loc Cert.HeadsRefIdeal.main_arg3)) = R3 m c
    rw [a0, a1, a2, a3]
    rfl
  · refine (Cert.HeadsRefIdeal.Read.val_main_v167_eq (F := Ideal) _).trans ?_
    refine (ref4_eq _ _ _ _ _ _ _ _ _).trans ?_
    show res4 (m' ((c.tc : Thread Cert.HeadsRefIdeal.nD Cert.HeadsRefIdeal.τ).loc Cert.HeadsRefIdeal.main_arg0)) (m' ((c.tc : Thread Cert.HeadsRefIdeal.nD Cert.HeadsRefIdeal.τ).loc Cert.HeadsRefIdeal.main_arg1)) (m' ((c.tc : Thread Cert.HeadsRefIdeal.nD Cert.HeadsRefIdeal.τ).loc Cert.HeadsRefIdeal.main_arg2)) (m' ((c.tc : Thread Cert.HeadsRefIdeal.nD Cert.HeadsRefIdeal.τ).loc Cert.HeadsRefIdeal.main_arg3)) (m' ((c.tc : Thread Cert.HeadsRefIdeal.nD Cert.HeadsRefIdeal.τ).loc Cert.HeadsRefIdeal.main_arg5)) (m' ((c.tc : Thread Cert.HeadsRefIdeal.nD Cert.HeadsRefIdeal.τ).loc Cert.HeadsRefIdeal.main_arg6)) (m' ((c.tc : Thread Cert.HeadsRefIdeal.nD Cert.HeadsRefIdeal.τ).loc Cert.HeadsRefIdeal.main_arg9)) (m' ((c.tc : Thread Cert.HeadsRefIdeal.nD Cert.HeadsRefIdeal.τ).loc Cert.HeadsRefIdeal.main_arg11)) (m' ((c.tc : Thread Cert.HeadsRefIdeal.nD Cert.HeadsRefIdeal.τ).loc Cert.HeadsRefIdeal.main_arg12)) = R4 m c
    rw [a0, a1, a2, a3, a5, a6, a9, a11, a12]
    rfl
  · refine (Cert.HeadsRefIdeal.Read.val_main_v170_eq (F := Ideal) _).trans ?_
    refine (ref5_eq _ _ _ _ _ _ _ _ _).trans ?_
    show res5 (m' ((c.tc : Thread Cert.HeadsRefIdeal.nD Cert.HeadsRefIdeal.τ).loc Cert.HeadsRefIdeal.main_arg0)) (m' ((c.tc : Thread Cert.HeadsRefIdeal.nD Cert.HeadsRefIdeal.τ).loc Cert.HeadsRefIdeal.main_arg1)) (m' ((c.tc : Thread Cert.HeadsRefIdeal.nD Cert.HeadsRefIdeal.τ).loc Cert.HeadsRefIdeal.main_arg2)) (m' ((c.tc : Thread Cert.HeadsRefIdeal.nD Cert.HeadsRefIdeal.τ).loc Cert.HeadsRefIdeal.main_arg3)) (m' ((c.tc : Thread Cert.HeadsRefIdeal.nD Cert.HeadsRefIdeal.τ).loc Cert.HeadsRefIdeal.main_arg4)) (m' ((c.tc : Thread Cert.HeadsRefIdeal.nD Cert.HeadsRefIdeal.τ).loc Cert.HeadsRefIdeal.main_arg7)) (m' ((c.tc : Thread Cert.HeadsRefIdeal.nD Cert.HeadsRefIdeal.τ).loc Cert.HeadsRefIdeal.main_arg10)) (m' ((c.tc : Thread Cert.HeadsRefIdeal.nD Cert.HeadsRefIdeal.τ).loc Cert.HeadsRefIdeal.main_arg11)) (m' ((c.tc : Thread Cert.HeadsRefIdeal.nD Cert.HeadsRefIdeal.τ).loc Cert.HeadsRefIdeal.main_arg12)) = R5 m c
    rw [a0, a1, a2, a3, a4, a7, a10, a11, a12]
    rfl
  · refine (Cert.HeadsRefIdeal.Read.val_main_v171_eq (F := Ideal) _).trans ?_
    refine (ref6_eq _ _ _ _ _ _).trans ?_
    show res6 (m' ((c.tc : Thread Cert.HeadsRefIdeal.nD Cert.HeadsRefIdeal.τ).loc Cert.HeadsRefIdeal.main_arg0)) (m' ((c.tc : Thread Cert.HeadsRefIdeal.nD Cert.HeadsRefIdeal.τ).loc Cert.HeadsRefIdeal.main_arg1)) (m' ((c.tc : Thread Cert.HeadsRefIdeal.nD Cert.HeadsRefIdeal.τ).loc Cert.HeadsRefIdeal.main_arg2)) (m' ((c.tc : Thread Cert.HeadsRefIdeal.nD Cert.HeadsRefIdeal.τ).loc Cert.HeadsRefIdeal.main_arg3)) (m' ((c.tc : Thread Cert.HeadsRefIdeal.nD Cert.HeadsRefIdeal.τ).loc Cert.HeadsRefIdeal.main_arg4)) (m' ((c.tc : Thread Cert.HeadsRefIdeal.nD Cert.HeadsRefIdeal.τ).loc Cert.HeadsRefIdeal.main_arg8)) = R6 m c
    rw [a0, a1, a2, a3, a4, a8]
    rfl

end Cert.Hd
-- ==== Proof.PromptIdeal.Block.lean ====
/-  The attention among the prompt's own tokens: the kernel's body on one batch of 256 tokens, what its operand arrays hold
    when it starts, and the array its blocks are blocks of. -/
module

public import proofs.«01_k».proof.Proof.Gen.PromptIdeal.Value
public import proofs.«01_k».proof.Proof.Whole

@[expose] public section

noncomputable section

namespace Cert.Ctx

open Cert.PromptIdeal Cert.PromptIdeal.Gen Idealize.ShloMosaic Idealize.ShloMosaic.TcCoe Idealize.SL.Sem
open Cert.Attn (soft one_group negInf scl scale_eq pack_apply packv_apply sum_pad sum_coe Finite ld2)

/-- One head's result for the batch's 256 queries: one group of keys, each with its values' 128 lanes. -/
def head (q k v : Vec Ideal S256x128 .bf16) : FVec Ideal S256x128 .f32 := k0_pay3 q k v

/-- The body's output block is its four stores, each of two heads chosen between by the lane. -/
theorem out_eq (x0 x1 : Vec Ideal S256x1024 .bf16) (x2 : Vec Ideal S256x512 .bf16) :
    out0_3 x0 x1 x2 = View.canon
      [⟨r0_10, truncf .bf16 (select k0_pay2 (head (View.ld x0 r0_9) (View.ld x1 r0_9) (View.ld x2 r0_10))
          (head (View.ld x0 r0_11) (View.ld x1 r0_11) (View.ld x2 r0_10))) bitsLt_bf16_f32⟩,
       ⟨r0_7, truncf .bf16 (select k0_pay2 (head (View.ld x0 r0_6) (View.ld x1 r0_6) (View.ld x2 r0_7))
          (head (View.ld x0 r0_8) (View.ld x1 r0_8) (View.ld x2 r0_7))) bitsLt_bf16_f32⟩,
       ⟨r0_4, truncf .bf16 (select k0_pay2 (head (View.ld x0 r0_3) (View.ld x1 r0_3) (View.ld x2 r0_4))
          (head (View.ld x0 r0_5) (View.ld x1 r0_5) (View.ld x2 r0_4))) bitsLt_bf16_f32⟩,
       ⟨r0_1, truncf .bf16 (select k0_pay2 (head (View.ld x0 r0_0) (View.ld x1 r0_0) (View.ld x2 r0_1))
          (head (View.ld x0 r0_2) (View.ld x1 r0_2) (View.ld x2 r0_1))) bitsLt_bf16_f32⟩] := rfl

/-- When the scores are reals, one head's result is the softmax-weighted sum over its keys. -/
theorem head_apply (q k v : Vec Ideal S256x128 .bf16) (r : Fin 256) (l : Fin 128) (s : Fin 256 → ℝ)
    (h : ∀ x : Fin 256, (∑ d : Fin 128, (q (ix2 r d) : EReal) * (k (ix2 x d) : EReal)) = (s x : EReal)) :
    head q k v (ix2 r l) = soft (fun x => s x * Real.log 2) (fun x => v (ix2 x l)) := by
  rw [← one_group s (fun x => v (ix2 x l)) _ rfl]
  unfold head
  unfold_payloads
  pointwise
  simp only [negInf, ← h]
  rfl

/-- The lane mask: the first 64 lanes are the pair's first head. -/
theorem mask_eq (r : Fin 256) (l : Fin 128) : (k0_pay2 (ix2 r l)) = if l.val < 64 then 1#1 else 0#1 := by
  unfold_payloads
  pointwise
  revert l
  decide +kernel

theorem rows_apply (A : FVec Ideal S32x256x8x96 .f32) (R : Fin 8192) (h : Fin 8) (d : Fin 96) :
    shapeCast S8192x8x96 A shapeCasts_S32x256x8x96_S8192x8x96 (ix3 R h d)
      = A (ix4 ⟨R.val / 256, by omega⟩ ⟨R.val % 256, by omega⟩ h d) := by
  pointwise

theorem rowsv_apply (A : FVec Ideal S32x256x8x64 .f32) (R : Fin 8192) (C : Fin 512) :
    shapeCast S8192x512 A shapeCasts_S32x256x8x64_S8192x512 (ix2 R C)
      = A (ix4 ⟨R.val / 256, by omega⟩ ⟨R.val % 256, by omega⟩ ⟨C.val / 64, by omega⟩ ⟨C.val % 64, by omega⟩) := by
  pointwise

/-- The score of a query against a key: the dot product over the square root of the width. -/
def score (Q K : S32x256x8x96.Idx → EReal) (b : Fin 32) (s : Fin 256) (h : Fin 8) (x : Fin 256) : ℝ :=
  (∑ d : Fin 96, (Q (ix4 b s h d)).toReal * (K (ix4 b x h d)).toReal) / Real.sqrt 96

/-- The attention of query `s` of batch `b`, head `h`, at its value lane `e`. -/
def attn (Q K : S32x256x8x96.Idx → EReal) (V : S32x256x8x64.Idx → EReal) (b : Fin 32) (s : Fin 256) (h : Fin 8) (e : Fin 64) : EReal :=
  soft (fun x : Fin 256 => score Q K b s h x) (fun x : Fin 256 => V (ix4 b x h e))

/-- The kernel's scaled, padded dot product is the score in powers of two. -/
theorem dot_eq (Q K : S32x256x8x96.Idx → EReal) (hQ : Finite Q) (hK : Finite K) (b : Fin 32) (s : Fin 256) (h : Fin 8) (x : Fin 256)
    (q k : Fin 128 → EReal)
    (hq : ∀ d : Fin 128, q d = if hd : d.val < 96 then Q (ix4 b s h ⟨d.val, hd⟩) * ((scl : ℝ) : EReal) else 0)
    (hk : ∀ d : Fin 128, k d = if hd : d.val < 96 then K (ix4 b x h ⟨d.val, hd⟩) else 0) :
    (∑ d, q d * k d) = ((score Q K b s h x / Real.log 2 : ℝ) : EReal) := by
  rw [sum_pad _ (fun d => (((Q (ix4 b s h d)).toReal * scl * (K (ix4 b x h d)).toReal : ℝ) : EReal))]
  · rw [sum_coe]
    congr 1
    have h2 : Real.log 2 ≠ 0 := (Real.log_pos (by norm_num)).ne'
    have h96 : Real.sqrt 96 ≠ 0 := (Real.sqrt_pos.mpr (by norm_num)).ne'
    rw [score, scl, div_div, Finset.sum_div]
    exact Finset.sum_congr rfl fun d _ => by field_simp
  · intro d
    rw [hq, hk]
    by_cases hd : d.val < 96
    · rw [dif_pos hd, dif_pos hd, dif_pos hd, hQ, hK, EReal.coe_mul, EReal.coe_mul, EReal.toReal_coe, EReal.toReal_coe]
    · rw [dif_neg hd, dif_neg hd, dif_neg hd, mul_zero]

/-- One head's result, its operands read off the arrays: the attention. -/
theorem head_attn (Q K : S32x256x8x96.Idx → EReal) (V : S32x256x8x64.Idx → EReal) (hQ : Finite Q) (hK : Finite K)
    (b : Fin 32) (s : Fin 256) (h : Fin 8) (e : Fin 64) (q k v : Vec Ideal S256x128 .bf16) (r : Fin 256) (l : Fin 128)
    (hq : ∀ d : Fin 128, (q (ix2 r d) : EReal) = if hd : d.val < 96 then Q (ix4 b s h ⟨d.val, hd⟩) * ((scl : ℝ) : EReal) else 0)
    (hk : ∀ (x : Fin 256) (d : Fin 128), (k (ix2 x d) : EReal) = if hd : d.val < 96 then K (ix4 b x h ⟨d.val, hd⟩) else 0)
    (hv : ∀ x : Fin 256, (v (ix2 x l) : EReal) = V (ix4 b x h e)) :
    head q k v (ix2 r l) = attn Q K V b s h e := by
  rw [head_apply q k v r l _ (fun x => dot_eq Q K hQ hK b s h x _ _ hq (hk x))]
  have h2 : Real.log 2 ≠ 0 := (Real.log_pos (by norm_num)).ne'
  unfold attn
  congr 1
  · funext x
    exact div_mul_cancel₀ _ h2
  · funext x
    exact hv x

variable (m : (ℓ : Loc nD τ sig) → Buf (Elt Ideal) ℓ) (c : Dev nD)

/-- The prompt's queries, keys and values. -/
def argQ : FVec Ideal S32x256x8x96 .f32 := m ((c : Thread nD τ).loc main_arg0)
def argK : FVec Ideal S32x256x8x96 .f32 := m ((c : Thread nD τ).loc main_arg1)
def argV : FVec Ideal S32x256x8x64 .f32 := m ((c : Thread nD τ).loc main_arg2)

theorem entry_q (b : Fin 32) (s : Fin 256) (h : Fin 8) (d : Fin 128) (R : Fin 16384) (C : Fin 1024)
    (hR : R.val = b.val * 256 + s.val) (hC : C.val = h.val * 128 + d.val) :
    (V m c main_v13 : S16384x1024.Idx → EReal) (ix2 R C)
      = if hd : d.val < 96 then argQ m c (ix4 b s h ⟨d.val, hd⟩) * ((scl : ℝ) : EReal) else 0 := by
  entry_read
  refine (pack_apply _ _ _ R C).trans ?_
  by_cases hd : d.val < 96
  · rw [dif_pos ⟨by omega, by omega⟩, dif_pos (by omega), dif_pos hd]
    refine congrArg₂ (fun x y : EReal => x * y) ((rows_apply (argQ m c) _ _ _).trans ?_) (scale_eq _)
    refine congrArg (argQ m c) ?_
    refine congr (congr (congr (congrArg ix4 ?_) ?_) ?_) ?_ <;> apply Fin.ext <;> simp only [] <;> omega
  · rw [dif_neg (by omega), dif_neg hd]
    exact Ideal.ofBits_zero_f32

theorem entry_k (b : Fin 32) (s : Fin 256) (h : Fin 8) (d : Fin 128) (R : Fin 16384) (C : Fin 1024)
    (hR : R.val = b.val * 256 + s.val) (hC : C.val = h.val * 128 + d.val) :
    (V m c main_v19 : S16384x1024.Idx → EReal) (ix2 R C)
      = if hd : d.val < 96 then argK m c (ix4 b s h ⟨d.val, hd⟩) else 0 := by
  entry_read
  refine (pack_apply _ _ _ R C).trans ?_
  by_cases hd : d.val < 96
  · rw [dif_pos ⟨by omega, by omega⟩, dif_pos (by omega), dif_pos hd]
    refine (rows_apply (argK m c) _ _ _).trans ?_
    refine congrArg (argK m c) ?_
    refine congr (congr (congr (congrArg ix4 ?_) ?_) ?_) ?_ <;> apply Fin.ext <;> simp only [] <;> omega
  · rw [dif_neg (by omega), dif_neg hd]
    exact Ideal.ofBits_zero_f32

theorem entry_v (b : Fin 32) (s : Fin 256) (h : Fin 8) (d : Fin 64) (R : Fin 16384) (C : Fin 512)
    (hR : R.val = b.val * 256 + s.val) (hC : C.val = h.val * 64 + d.val) :
    (V m c main_v23 : S16384x512.Idx → EReal) (ix2 R C) = argV m c (ix4 b s h d) := by
  entry_read
  refine (packv_apply _ _ R C).trans ?_
  rw [dif_pos (by omega)]
  refine (rowsv_apply (argV m c) _ _).trans ?_
  refine congrArg (argV m c) ?_
  refine congr (congr (congr (congrArg ix4 ?_) ?_) ?_) ?_ <;> apply Fin.ext <;> simp only [] <;> omega

theorem idx0 : ∀ t : Fin cfg0.N, win0_0.index t = ![(grid0.coords t 0).val, 0] :=
  (by decide +kernel : ∀ t : Fin grid0.N, _)
theorem idx1 : ∀ t : Fin cfg0.N, win0_1.index t = ![(grid0.coords t 0).val, 0] :=
  (by decide +kernel : ∀ t : Fin grid0.N, _)
theorem idx2 : ∀ t : Fin cfg0.N, win0_2.index t = ![(grid0.coords t 0).val, 0] :=
  (by decide +kernel : ∀ t : Fin grid0.N, _)
theorem idx3 : ∀ t : Fin cfg0.N, win0_3.index t = ![(grid0.coords t 0).val, 0] :=
  (by decide +kernel : ∀ t : Fin grid0.N, _)

/-- The result array. -/
def G : S8192x512.Idx → EReal := fun i =>
  attn (argQ m c) (argK m c) (argV m c) ⟨(i 0).val / 256, by have : (i 0).val < 8192 := (i 0).isLt; omega⟩
    ⟨(i 0).val % 256, by omega⟩ ⟨(i 1).val / 64, by have : (i 1).val < 512 := (i 1).isLt; omega⟩ ⟨(i 1).val % 64, by omega⟩

theorem blk_q (t : Fin cfg0.N) (b : Fin 32) (r : Fin 256) (h : Fin 8) (C : Fin 1024) (d : Fin 128)
    (hb : (grid0.coords t 0).val = b.val) (hh : h.val * 128 + d.val = C.val) :
    (iblk m c 0 t (ix2 r C) : EReal) = if hd : d.val < 96 then argQ m c (ix4 b r h ⟨d.val, hd⟩) * ((scl : ℝ) : EReal) else 0 := by
  rw [← entry_q m c b r h d ⟨b.val * 256 + r.val, by omega⟩ ⟨h.val * 128 + d.val, by omega⟩ rfl rfl]
  blk_ext [iblk, idx0 t]

theorem blk_k (t : Fin cfg0.N) (b : Fin 32) (r : Fin 256) (h : Fin 8) (C : Fin 1024) (d : Fin 128)
    (hb : (grid0.coords t 0).val = b.val) (hh : h.val * 128 + d.val = C.val) :
    (iblk m c 1 t (ix2 r C) : EReal) = if hd : d.val < 96 then argK m c (ix4 b r h ⟨d.val, hd⟩) else 0 := by
  rw [← entry_k m c b r h d ⟨b.val * 256 + r.val, by omega⟩ ⟨h.val * 128 + d.val, by omega⟩ rfl rfl]
  blk_ext [iblk, idx1 t]

theorem blk_v (t : Fin cfg0.N) (b : Fin 32) (r : Fin 256) (h : Fin 8) (C : Fin 512) (e : Fin 64)
    (hb : (grid0.coords t 0).val = b.val) (hh : h.val * 64 + e.val = C.val) :
    (iblk m c 2 t (ix2 r C) : EReal) = argV m c (ix4 b r h e) := by
  rw [← entry_v m c b r h e ⟨b.val * 256 + r.val, by omega⟩ ⟨h.val * 64 + e.val, by omega⟩ rfl rfl]
  blk_ext [iblk, idx2 t]

end Cert.Ctx
-- ==== Proof.PromptIdeal.Whole.lean ====
/-  The prompt attention's whole result array. -/
module

public import proofs.«01_k».proof.Proof.PromptIdeal.Block

@[expose] public section

noncomputable section

namespace Cert.Ctx

open Cert.PromptIdeal Cert.PromptIdeal.Gen Idealize.ShloMosaic Idealize.ShloMosaic.TcCoe Idealize.SL.Sem
open Cert.Attn (Finite ld2)

/-- The attention at equal positions. -/
theorem attn_congr (Q K : S32x256x8x96.Idx → EReal) (V : S32x256x8x64.Idx → EReal) {b b' : Fin 32} {s s' : Fin 256} {h h' : Fin 8}
    {e e' : Fin 64} (hb : b.val = b'.val) (hs : s.val = s'.val) (hh : h.val = h'.val) (he : e.val = e'.val) :
    attn Q K V b s h e = attn Q K V b' s' h' e' := by
  rw [Fin.ext hb, Fin.ext hs, Fin.ext hh, Fin.ext he]

variable (m : (ℓ : Loc nD τ sig) → Buf (Elt Ideal) ℓ) (c : Dev nD)

/-- The block's element, by the grid point's batch. -/
def Gb (t : Fin cfg0.N) (y : S256x512.Idx) : EReal :=
  attn (argQ m c) (argK m c) (argV m c) (grid0.coords t 0) (y 0)
    ⟨(y 1).val / 64, by have : (y 1).val < 512 := (y 1).isLt; omega⟩ ⟨(y 1).val % 64, by omega⟩

/-- A pair of heads: its queries and keys at two runs of 128 lanes, its values and result at one. -/
theorem pair (hQ : Finite (argQ m c)) (hK : Finite (argK m c)) (t : Fin cfg0.N) (o a b : Nat) (ha : a = 2 * o) (hb : b = 2 * o + 128)
    (ho : o % 128 = 0) (ho' : o < 512)
    (ia : ∀ k, (![0, a] : Fin 2 → Nat) k + S256x128.size k ≤ S256x1024.size k)
    (ib : ∀ k, (![0, b] : Fin 2 → Nat) k + S256x128.size k ≤ S256x1024.size k)
    (io : ∀ k, (![0, o] : Fin 2 → Nat) k + S256x128.size k ≤ S256x512.size k) (r : Fin 256) (l : Fin 128) :
    (truncf .bf16 (select k0_pay2
        (head (View.ld (iblk m c 0 t) (Rect.unit (s := S256x1024) ![0, a] S256x128.size ia))
          (View.ld (iblk m c 1 t) (Rect.unit (s := S256x1024) ![0, a] S256x128.size ia))
          (View.ld (iblk m c 2 t) (Rect.unit (s := S256x512) ![0, o] S256x128.size io)))
        (head (View.ld (iblk m c 0 t) (Rect.unit (s := S256x1024) ![0, b] S256x128.size ib))
          (View.ld (iblk m c 1 t) (Rect.unit (s := S256x1024) ![0, b] S256x128.size ib))
          (View.ld (iblk m c 2 t) (Rect.unit (s := S256x512) ![0, o] S256x128.size io)))) bitsLt_bf16_f32
      : Vec Ideal S256x128 .bf16) (ix2 r l) = Gb m c t ((Rect.unit (s := S256x512) ![0, o] S256x128.size io).emb (ix2 r l)) := by
  have hr : (((Rect.unit (s := S256x512) ![0, o] S256x128.size io).emb (ix2 r l)) 0).val = r.val :=
    (ValueKit.rect_emb_unit_val _ _ _ _ _).trans (Nat.zero_add _)
  have hl : (((Rect.unit (s := S256x512) ![0, o] S256x128.size io).emb (ix2 r l)) 1).val = o + l.val :=
    ValueKit.rect_emb_unit_val _ _ _ _ _
  obtain ⟨B, hB⟩ : ∃ B : Fin 32, (grid0.coords t 0).val = B.val := ⟨grid0.coords t 0, rfl⟩
  have ho2 : o + 128 ≤ 512 := by omega
  refine Eq.trans ?_ (attn_congr (argQ m c) (argK m c) (argV m c) (b := B) (s := r) (h := ⟨(o + l.val) / 64, by omega⟩)
    (e := ⟨(o + l.val) % 64, by omega⟩) hB.symm hr.symm (congrArg (· / 64) hl.symm) (congrArg (· % 64) hl.symm))
  show (if (k0_pay2 (ix2 r l)) = 1#1 then head _ _ _ (ix2 r l) else head _ _ _ (ix2 r l)) = _
  rw [mask_eq]
  by_cases h64 : l.val < 64
  · rw [if_pos h64, if_pos rfl]
    refine head_attn _ _ _ hQ hK B r ⟨(o + l.val) / 64, by omega⟩ ⟨(o + l.val) % 64, by omega⟩ _ _ _ r l (fun d => ?_) (fun x d => ?_) (fun x => ?_)
    · exact (ld2 (iblk m c 0 t) 0 a _ r d r ⟨a + d.val, by omega⟩ (by omega) rfl).trans
        (blk_q m c t B r ⟨(o + l.val) / 64, by omega⟩ ⟨a + d.val, by omega⟩ d hB (by show (o + l.val) / 64 * 128 + d.val = a + d.val; omega))
    · exact (ld2 (iblk m c 1 t) 0 a _ x d x ⟨a + d.val, by omega⟩ (by omega) rfl).trans
        (blk_k m c t B x ⟨(o + l.val) / 64, by omega⟩ ⟨a + d.val, by omega⟩ d hB (by show (o + l.val) / 64 * 128 + d.val = a + d.val; omega))
    · exact (ld2 (iblk m c 2 t) 0 o _ x l x ⟨o + l.val, by omega⟩ (by omega) rfl).trans
        (blk_v m c t B x ⟨(o + l.val) / 64, by omega⟩ ⟨o + l.val, by omega⟩ ⟨(o + l.val) % 64, by omega⟩ hB
          (by show (o + l.val) / 64 * 64 + (o + l.val) % 64 = o + l.val; omega))
  · rw [if_neg h64, if_neg (by decide)]
    refine head_attn _ _ _ hQ hK B r ⟨(o + l.val) / 64, by omega⟩ ⟨(o + l.val) % 64, by omega⟩ _ _ _ r l (fun d => ?_) (fun x d => ?_) (fun x => ?_)
    · exact (ld2 (iblk m c 0 t) 0 b _ r d r ⟨b + d.val, by omega⟩ (by omega) rfl).trans
        (blk_q m c t B r ⟨(o + l.val) / 64, by omega⟩ ⟨b + d.val, by omega⟩ d hB (by show (o + l.val) / 64 * 128 + d.val = b + d.val; omega))
    · exact (ld2 (iblk m c 1 t) 0 b _ x d x ⟨b + d.val, by omega⟩ (by omega) rfl).trans
        (blk_k m c t B x ⟨(o + l.val) / 64, by omega⟩ ⟨b + d.val, by omega⟩ d hB (by show (o + l.val) / 64 * 128 + d.val = b + d.val; omega))
    · exact (ld2 (iblk m c 2 t) 0 o _ x l x ⟨o + l.val, by omega⟩ (by omega) rfl).trans
        (blk_v m c t B x ⟨(o + l.val) / 64, by omega⟩ ⟨o + l.val, by omega⟩ ⟨(o + l.val) % 64, by omega⟩ hB
          (by show (o + l.val) / 64 * 64 + (o + l.val) % 64 = o + l.val; omega))

/-- The whole result array. -/
theorem final (hQ : Finite (argQ m c)) (hK : Finite (argK m c)) : (dats m 0 c).arrAt 3 cfg0.N = G m c := by
  refine (dats m 0 c).arrAt_eq_of_covers 3 _ (by decide +kernel) fun t hf y => ?_
  blk_simp
  rw [after0_3, out_eq]
  refine (View.canon_apply_of_pieces (Gb m c t) _ ?_ y (cover0_3 _ _ _ _ y)).trans ?_
  · intro p hp x
    rcases List.mem_cons.1 hp with rfl | hp
    · rw [eq_ix2 x]; exact pair m c hQ hK t 384 768 896 rfl rfl rfl (by omega) _ _ _ _ _
    · rcases List.mem_cons.1 hp with rfl | hp
      · rw [eq_ix2 x]; exact pair m c hQ hK t 256 512 640 rfl rfl rfl (by omega) _ _ _ _ _
      · rcases List.mem_cons.1 hp with rfl | hp
        · rw [eq_ix2 x]; exact pair m c hQ hK t 128 256 384 rfl rfl rfl (by omega) _ _ _ _ _
        · rcases List.mem_cons.1 hp with rfl | hp
          · rw [eq_ix2 x]; exact pair m c hQ hK t 0 0 128 rfl rfl rfl (by omega) _ _ _ _ _
          · cases hp
  · have h0 : (y 0).val < 256 := (y 0).isLt
    have e0 : ((win0_3.blk t).view.emb y 0).val = (grid0.coords t 0).val * 256 + (y 0).val := by
      blk_simp [idx3 t]
    have e1 : ((win0_3.blk t).view.emb y 1).val = (y 1).val := by
      blk_simp [idx3 t]
    unfold Gb G
    refine attn_congr _ _ _ ?_ ?_ ?_ ?_
    · show _ = ((win0_3.blk t).view.emb y 0).val / 256; rw [e0]; omega
    · show (y 0).val = ((win0_3.blk t).view.emb y 0).val % 256; rw [e0]; omega
    · show _ = ((win0_3.blk t).view.emb y 1).val / 64; rw [e1]
    · show _ = ((win0_3.blk t).view.emb y 1).val % 64; rw [e1]

end Cert.Ctx
-- ==== Proof.PromptIdeal.Ref.lean ====
/-  The reference of the prompt's attention: every element is the same softmax-weighted sum. -/
module

public import proofs.«01_k».proof.Proof.Gen.PromptRefIdeal.Read
public import proofs.«01_k».proof.Proof.Ref
public import proofs.«01_k».proof.Proof.PromptIdeal.Block

@[expose] public section

noncomputable section

namespace Cert.Ctx.Ref

open Cert.PromptRefIdeal Cert.PromptRefIdeal.Gen Cert.PromptRefIdeal.Read Idealize.ShloMosaic Idealize.ShloMosaic.TcCoe Idealize.SL.Sem
open Cert.Attn (bits_96 sum_coe negInf normalised Finite)
open Cert.Attn.Ref (hostMax4)

variable (Q K : (⟨S32x256x8x96, .f32⟩ : BufTy).Contents (Elt Ideal)) (V : (⟨S32x256x8x64, .f32⟩ : BufTy).Contents (Elt Ideal))

theorem v0_at (b : Fin 32) (h : Fin 8) (s x : Fin 256) :
    (val_main_v0 (F := Ideal) Q K (ix4 b h s x) : EReal) = ∑ d : Fin 96, (Q (ix4 b s h d) : EReal) * K (ix4 b x h d) := by
  unfold val_main_v0
  pointwise

theorem v6_at (b : Fin 32) (h : Fin 8) (s : Fin 256) :
    (val_main_v6 (F := Ideal) Q K (ix3 b h s) : EReal)
      = max (Ideal.ofBits .f32 0xFF800000#32) (Finset.univ.fold max (Ideal.ofBits .f32 0xFF800000#32) fun x : Fin 256 => (val_main_v3 (F := Ideal) Q K (ix4 b h s x) : EReal)) := by
  rw [val_main_v6_apply, val_main_v5_apply, val_main_cst_1_apply]
  unfold val_main_v4
  generalize val_main_v3 (F := Ideal) Q K = S
  exact congrArg (max (Ideal.ofBits .f32 0xFF800000#32)) (hostMax4 S _ _ _ b h s)

theorem v10_at (b : Fin 32) (h : Fin 8) (s x : Fin 256) :
    (val_main_v10 (F := Ideal) Q K (ix4 b h s x) : EReal)
      = Ideal.exp ((val_main_v3 (F := Ideal) Q K (ix4 b h s x) : EReal) - (val_main_v6 (F := Ideal) Q K (ix3 b h s) : EReal)) := by
  unfold val_main_v10 val_main_v9 val_main_v8 val_main_v7
  generalize val_main_v3 (F := Ideal) Q K = S
  generalize val_main_v6 (F := Ideal) Q K = T
  pointwise

theorem v14_at (b : Fin 32) (h : Fin 8) (s x : Fin 256) :
    (val_main_v14 (F := Ideal) Q K (ix4 b h s x) : EReal)
      = Ideal.div (val_main_v10 (F := Ideal) Q K (ix4 b h s x) : EReal) (Ideal.ofBits .f32 0#32 + ∑ j : Fin 256, (val_main_v10 (F := Ideal) Q K (ix4 b h s j) : EReal)) := by
  unfold val_main_v14 val_main_v13 val_main_v12 val_main_v11 val_main_cst_2
  generalize val_main_v10 (F := Ideal) Q K = S
  pointwise

theorem v15_at (b : Fin 32) (h : Fin 8) (e : Fin 64) (s : Fin 256) :
    (val_main_v15 (F := Ideal) Q K V (ix4 b h e s) : EReal)
      = ∑ x : Fin 256, (V (ix4 b x h e) : EReal) * (val_main_v14 (F := Ideal) Q K (ix4 b h s x) : EReal) := by
  unfold val_main_v15
  generalize val_main_v14 (F := Ideal) Q K = S
  pointwise

theorem v18_at (R : Fin 8192) (C : Fin 512) :
    (val_main_v18 (F := Ideal) Q K V (ix2 R C) : EReal)
      = (val_main_v15 (F := Ideal) Q K V (ix4 ⟨R.val / 256, by omega⟩ ⟨C.val / 64, by omega⟩ ⟨C.val % 64, by omega⟩ ⟨R.val % 256, by omega⟩) : EReal) := by
  unfold val_main_v18 val_main_v17 val_main_v16
  generalize val_main_v15 (F := Ideal) Q K V = S
  pointwise

/-- The score of the reference is the real score. -/
theorem v3_at (hQ : Finite Q) (hK : Finite K) (b : Fin 32) (h : Fin 8) (s x : Fin 256) :
    (val_main_v3 (F := Ideal) Q K (ix4 b h s x) : EReal) = ((score Q K b s h x : ℝ) : EReal) := by
  have h96 : Real.sqrt 96 ≠ 0 := (Real.sqrt_pos.mpr (by norm_num)).ne'
  rw [val_main_v3_apply, val_main_v2_apply, val_main_v1_apply, val_main_cst_apply]
  show Ideal.div (val_main_v0 (F := Ideal) Q K (ix4 b h s x)) (Ideal.sqrt (Ideal.ofBits .f32 1119879168#32)) = _
  rw [bits_96, Ideal.sqrt_coe, if_neg (by norm_num), v0_at, Ideal.div_coe h96]
  have e : score Q K b s h x = (∑ d : Fin 96, (Q (ix4 b s h d)).toReal * (K (ix4 b x h d)).toReal) * (1 / Real.sqrt 96) :=
    div_eq_mul_one_div _ _
  rw [e, EReal.coe_mul, ← sum_coe]
  congr 1
  exact Finset.sum_congr rfl fun d _ => by rw [EReal.coe_mul, ← hQ, ← hK]

/-- The reference's element is the attention. -/
theorem value (hQ : Finite Q) (hK : Finite K) (R : Fin 8192) (C : Fin 512) :
    (val_main_v18 (F := Ideal) Q K V (ix2 R C) : EReal)
      = attn Q K V ⟨R.val / 256, by omega⟩ ⟨R.val % 256, by omega⟩ ⟨C.val / 64, by omega⟩ ⟨C.val % 64, by omega⟩ := by
  rw [v18_at, v15_at]
  have z0 : Ideal.ofBits .f32 0#32 = 0 := by simp [Ideal.ofBits, Ideal.ieee]
  simp only [v14_at, v10_at, v6_at, v3_at Q K hQ hK, z0, zero_add]
  rw [show Ideal.ofBits .f32 0xFF800000#32 = ⊥ from negInf]
  rw [normalised _ _ _ (max_eq_right bot_le)]
  rfl

end Cert.Ctx.Ref
-- ==== Proof.PromptIdeal.Claims.lean ====
/-  The claims about the prompt's attention: from finite queries and keys the kernel and the reference end with the same array. -/
module

public import proofs.«01_k».proof.Defs
public import proofs.«01_k».proof.Proof.Claims
public import proofs.«01_k».proof.Proof.PromptIdeal.Whole
public import proofs.«01_k».proof.Proof.PromptIdeal.Ref

@[expose] public section

noncomputable section

namespace Cert.Ctx

open Idealize.ShloMosaic Idealize.ShloMosaic.TcCoe Idealize.SL.Sem
open Cert.Attn (Finite finite_of)

theorem preFacts : Cert.Pre_finite_prompt.Facts where
  bcast_S_S32x256x8x96 := by decide

open Cert.PromptIdeal in
theorem finite_args [Cert.Pre_finite_prompt.Facts] (m : (ℓ : Loc nD τ sig) → Buf (Elt Ideal) ℓ) (h : Cert.Pre_PromptIdeal_finite_prompt m)
    (c : Dev nD) : Finite (argQ m c) ∧ Finite (argK m c) :=
  ⟨finite_of _ _ (h c).1, finite_of _ _ (h c).2⟩

open Cert.PromptIdeal in
/-- The reference's result is the same array. -/
theorem ref_eq (m : (ℓ : Loc nD τ sig) → Buf (Elt Ideal) ℓ) (c : Dev nD) (hQ : Finite (argQ m c)) (hK : Finite (argK m c)) :
    Cert.PromptRefIdeal.Read.val_main_v18 (F := Ideal) (argQ m c) (argK m c) (argV m c) = G m c := by
  funext i
  obtain ⟨R, C, rfl⟩ : ∃ (R : Fin 8192) (C : Fin 512), i = ix2 R C := ⟨i 0, i 1, eq_ix2 i⟩
  exact Ref.value _ _ _ hQ hK R C

/-- The kernel and the reference end with the same array. -/
theorem algebraic : @Cert.algebraic_PromptIdeal_PromptRefIdeal_pre_finite_prompt Cert.PromptIdeal.Gen.facts Cert.PromptRefIdeal.Gen.facts preFacts := by
  intro m g m' g' hpre hagree
  have hfin := @finite_args preFacts m hpre
  refine ⟨fun c => G m c, ?_, ?_⟩
  · refine (θ_run _ _ _).mono (fun r h c => ?_) (Cert.PromptIdeal.Value.run_blocks m g)
    exact ⟨(h c).1.trans (final m c (hfin c).1 (hfin c).2), (h c).2⟩
  · refine (θ_run _ _ _).mono (fun r h c => ?_) (Cert.PromptRefIdeal.Value.run (F := Ideal) m' g')
    refine ⟨(h c).1.trans ?_, (h c).2⟩
    refine (Cert.PromptRefIdeal.Read.val_main_v18_eq (F := Ideal) _ _ _).trans ?_
    rw [(hagree c).1, (hagree c).2.1, (hagree c).2.2.1]
    exact ref_eq m c (hfin c).1 (hfin c).2

/-- The reference runs, keeps its arguments and ends with every counter at zero. -/
theorem frame_ref : @Cert.quiescent_PromptRefIdeal Cert.PromptRefIdeal.Gen.facts := fun m g _ =>
  (θ_run Cert.PromptRefIdeal.defs _ _).mono (fun r h => ⟨fun c => (h c).2, sem_eq_zero_of_no_sems (by decide) r.2⟩)
    (Cert.PromptRefIdeal.Value.run (F := Ideal) m g)

end Cert.Ctx
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Dense
public import proofs.«01_k».proof.Proof.Gen.Dense.Frame
public import proofs.«01_k».proof.Proof.Gen.DenseIdeal
public import proofs.«01_k».proof.Proof.Gen.DenseIdeal.Frame
public import proofs.«01_k».proof.Proof.Gen.DenseIdeal.Value
public import proofs.«01_k».proof.Proof.Gen.DenseRefIdeal
public import proofs.«01_k».proof.Proof.Gen.DenseRefIdeal.Run
public import proofs.«01_k».proof.Proof.Gen.DenseRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsRefIdeal
public import proofs.«01_k».proof.Proof.Gen.HeadsRefIdeal.Run
public import proofs.«01_k».proof.Proof.Gen.HeadsRefIdeal.Read
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptIdeal.Value
public import proofs.«01_k».proof.Proof.Gen.PromptRefIdeal
public import proofs.«01_k».proof.Proof.Gen.PromptRefIdeal.Run
public import proofs.«01_k».proof.Proof.Gen.PromptRefIdeal.Read
public import proofs.«01_k».proof.Proof.Claims
public import proofs.«01_k».proof.Proof.MoE.Claims
public import proofs.«01_k».proof.Proof.Dense.Claims
public import proofs.«01_k».proof.Proof.Merge.Claims
public import proofs.«01_k».proof.Proof.HeadsIdeal.Claims
public import proofs.«01_k».proof.Proof.PromptIdeal.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsRefIdeal.Gen.facts, Cert.Dense.Gen.facts, Cert.DenseIdeal.Gen.facts, Cert.DenseRefIdeal.Gen.facts, Cert.Merge.Gen.facts, Cert.MergeIdeal.Gen.facts, Cert.MergeRefIdeal.Gen.facts,
    Cert.Heads.Gen.facts, Cert.HeadsIdeal.Gen.facts, Cert.HeadsRefIdeal.Gen.facts, Cert.Prompt.Gen.facts, Cert.PromptIdeal.Gen.facts, Cert.PromptRefIdeal.Gen.facts,
    Cert.Attn.preFacts, Cert.MoE.preFacts, Cert.Ctx.preFacts,
    fun m ρ _ => Cert.Kernel.Gen.frame m ρ, fun m ρ _ => Cert.KernelIdeal.Gen.frame m ρ, fun m ρ _ => Cert.KernelIdeal.Gen.frame m ρ,
    fun m ρ _ => Cert.Attn.frame_ref m ρ trivial, fun m ρ _ => Cert.Attn.frame_ref m ρ trivial,
    Cert.MoE.frame, Cert.MoE.frame_ideal, Cert.MoE.frame_ref, Cert.MoE.frame_ref_pre,
    Cert.Dn.frame, Cert.Dn.frame_ideal, Cert.Dn.frame_ref, Cert.Mg.frame, Cert.Mg.frame_ideal, Cert.Mg.frame_ref,
    Cert.Hd.frame, Cert.Hd.frame_ideal, Cert.Hd.frame_ref,
    fun m ρ _ => Cert.Prompt.Gen.frame m ρ, fun m ρ _ => Cert.PromptIdeal.Gen.frame m ρ, fun m ρ _ => Cert.PromptIdeal.Gen.frame m ρ,
    fun m ρ _ => Cert.Ctx.frame_ref m ρ trivial, fun m ρ _ => Cert.Ctx.frame_ref m ρ trivial,
    trivial, Cert.Attn.algebraic, trivial, Cert.MoE.algebraic, trivial, Cert.Dn.algebraic, trivial, Cert.Mg.algebraic, Cert.Hd.preserves, Cert.Hd.algebraic,
    trivial, Cert.Ctx.algebraic⟩

end Cert.Proof

end
